-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)) (v3 : (c : Dev Cert.Kernel2Ideal.nD) → Buf (Elt Ideal) ((c.tc : Thread Cert.Kernel2Ideal.nD Cert.Kernel2Ideal.τ).loc Cert.Kernel2Ideal.main_v10_3)) (v4 : (c : Dev Cert.Kernel2Ideal.nD) → Buf (Elt Ideal) ((c.tc : Thread Cert.Kernel2Ideal.nD Cert.Kernel2Ideal.τ).loc Cert.Kernel2Ideal.main_v10_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_v10_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_v19) = v2 c
          ∧ r.2.mem ((c.tc : Thread Cert.Reference2Ideal.nD Cert.Reference2Ideal.τ).loc Cert.Reference2Ideal.main_v20) = v3 c
          ∧ r.2.mem ((c.tc : Thread Cert.Reference2Ideal.nD Cert.Reference2Ideal.τ).loc Cert.Reference2Ideal.main_v21) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_v43) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_v19) = v2 c
          ∧ r.2.mem ((c.tc : Thread Cert.Reference6Ideal.nD Cert.Reference6Ideal.τ).loc Cert.Reference6Ideal.main_v20) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S2176x1024 : Shape := ⟨2, ![2176, 1024]⟩
abbrev S2048x1024 : Shape := ⟨2, ![2048, 1024]⟩
abbrev S1024 : Shape := ⟨1, ![1024]⟩
abbrev S_ : Shape := ⟨0, ![]⟩

class Facts : Prop where
  bcast_S_S2176x1024 : S_.BroadcastsInDim S2176x1024 (![] : Fin 0 → Fin S2176x1024.rank)
  reducesTo_S2176x1024_S_d0_1 : S2176x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S2176x1024 1) : IVec S_ 1 :=
  let main_c_5 : IVec S_ 1 := constantI S_ 1 1#1
  let main_v17 : IVec S_ 1 := (fun x v => Host.reduce IntOp.andi x v reducesTo_S2176x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2176x1024 .f32) (main_arg1 : FVec F S2048x1024 .f32) (main_arg2 : FVec F S2176x1024 .f32) (main_arg3 : FVec F S2176x1024 .f32) (main_arg4 : FVec F S1024 .f32) : IVec S_ 1 :=
  let main_v0 : FVec F S2176x1024 .f32 := Host.absf main_arg0
  let main_cst : FVec F S_ .f32 := constant S_ .f32 0x7F800000#32
  let main_v1 : FVec F S2176x1024 .f32 := broadcastInDim S2176x1024 ![] bcast_S_S2176x1024 main_cst
  let main_v2 : IVec S2176x1024 1 := cmpf .olt main_v0 main_v1
  let main_c : IVec S_ 1 := constantI S_ 1 1#1
  let main_v3 : IVec S_ 1 := (fun x v => Host.reduce IntOp.andi x v reducesTo_S2176x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2176x1024 .f32 := Host.absf main_arg2
  let main_cst_2 : FVec F S_ .f32 := constant S_ .f32 0x7F800000#32
  let main_v10 : FVec F S2176x1024 .f32 := broadcastInDim S2176x1024 ![] bcast_S_S2176x1024 main_cst_2
  let main_v11 : IVec S2176x1024 1 := cmpf .olt main_v9 main_v10
  let main_c_3 : IVec S_ 1 := constantI S_ 1 1#1
  let main_v12 : IVec S_ 1 := (fun x v => Host.reduce IntOp.andi x v reducesTo_S2176x1024_S_d0_1 h_S_) main_v11 main_c_3
  let main_v13 : IVec S_ 1 := andi main_v8 main_v12
  let main_v14 : FVec F S2176x1024 .f32 := Host.absf main_arg3
  let main_cst_4 : FVec F S_ .f32 := constant S_ .f32 0x7F800000#32
  let main_v15 : FVec F S2176x1024 .f32 := broadcastInDim S2176x1024 ![] bcast_S_S2176x1024 main_cst_4
  let main_v16 : IVec S2176x1024 1 := cmpf .olt main_v14 main_v15
  fn_part1 (F := F) main_arg4 main_v13 main_v16
-- ==== Pre_finite2.lean ====
abbrev S2176x1024 : Shape := ⟨2, ![2176, 1024]⟩
abbrev S1024x2816 : Shape := ⟨2, ![1024, 2816]⟩
abbrev S2816x1024 : Shape := ⟨2, ![2816, 1024]⟩
abbrev S_ : Shape := ⟨0, ![]⟩

class Facts : Prop where
  bcast_S_S2176x1024 : S_.BroadcastsInDim S2176x1024 (![] : Fin 0 → Fin S2176x1024.rank)
  reducesTo_S2176x1024_S_d0_1 : S2176x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2176x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S2176x1024 .f32 := Host.absf main_arg4
  let main_cst_6 : FVec F S_ .f32 := constant S_ .f32 0x7F800000#32
  let main_v20 : FVec F S2176x1024 .f32 := broadcastInDim S2176x1024 ![] bcast_S_S2176x1024 main_cst_6
  let main_v21 : IVec S2176x1024 1 := cmpf .olt main_v19 main_v20
  let main_c_7 : IVec S_ 1 := constantI S_ 1 1#1
  let main_v22 : IVec S_ 1 := (fun x v => Host.reduce IntOp.andi x v reducesTo_S2176x1024_S_d0_1 h_S_) main_v21 main_c_7
  let main_v23 : IVec S_ 1 := andi main_v18 main_v22
  main_v23

def fn {F : FTy → Type} [FloatOps F] (main_arg0 : FVec F S2176x1024 .f32) (main_arg1 : FVec F S1024x2816 .f32) (main_arg2 : FVec F S1024x2816 .f32) (main_arg3 : FVec F S2816x1024 .f32) (main_arg4 : FVec F S2176x1024 .f32) : IVec S_ 1 :=
  let main_v0 : FVec F S2176x1024 .f32 := Host.absf main_arg0
  let main_cst : FVec F S_ .f32 := constant S_ .f32 0x7F800000#32
  let main_v1 : FVec F S2176x1024 .f32 := broadcastInDim S2176x1024 ![] bcast_S_S2176x1024 main_cst
  let main_v2 : IVec S2176x1024 1 := cmpf .olt main_v0 main_v1
  let main_c : IVec S_ 1 := constantI S_ 1 1#1
  let main_v3 : IVec S_ 1 := (fun x v => Host.reduce IntOp.andi x v reducesTo_S2176x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite3.lean ====
abbrev S2176x1024 : Shape := ⟨2, ![2176, 1024]⟩
abbrev S1024 : Shape := ⟨1, ![1024]⟩
abbrev S1024x2816 : Shape := ⟨2, ![1024, 2816]⟩
abbrev S2176x2816 : Shape := ⟨2, ![2176, 2816]⟩
abbrev S_ : Shape := ⟨0, ![]⟩

class Facts : Prop where
  bcast_S_S2176x1024 : S_.BroadcastsInDim S2176x1024 (![] : Fin 0 → Fin S2176x1024.rank)
  reducesTo_S2176x1024_S_d0_1 : S2176x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2176x2816 : S_.BroadcastsInDim S2176x2816 (![] : Fin 0 → Fin S2176x2816.rank)
  reducesTo_S2176x2816_S_d0_1 : S2176x2816.ReducesTo [0, 1] S_

variable [Facts]

def fn_part1 {F : FTy → Type} [FloatOps F] (main_arg4 : FVec F S2176x2816 .f32) (main_arg5 : FVec F S2176x2816 .f32) (main_arg6 : FVec F S2176x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2176x2816 .f32 := Host.absf main_arg4
  let main_cst_6 : FVec F S_ .f32 := constant S_ .f32 0x7F800000#32
  let main_v20 : FVec F S2176x2816 .f32 := broadcastInDim S2176x2816 ![] bcast_S_S2176x2816 main_cst_6
  let main_v21 : IVec S2176x2816 1 := cmpf .olt main_v19 main_v20
  let main_c_7 : IVec S_ 1 := constantI S_ 1 1#1
  let main_v22 : IVec S_ 1 := (fun x v => Host.reduce IntOp.andi x v reducesTo_S2176x2816_S_d0_1 h_S_) main_v21 main_c_7
  let main_v23 : IVec S_ 1 := andi main_v18 main_v22
  let main_v24 : FVec F S2176x2816 .f32 := Host.absf main_arg5
  let main_cst_8 : FVec F S_ .f32 := constant S_ .f32 0x7F800000#32
  let main_v25 : FVec F S2176x2816 .f32 := broadcastInDim S2176x2816 ![] bcast_S_S2176x2816 main_cst_8
  let main_v26 : IVec S2176x2816 1 := cmpf .olt main_v24 main_v25
  let main_c_9 : IVec S_ 1 := constantI S_ 1 1#1
  let main_v27 : IVec S_ 1 := (fun x v => Host.reduce IntOp.andi x v reducesTo_S2176x2816_S_d0_1 h_S_) main_v26 main_c_9
  let main_v28 : IVec S_ 1 := andi main_v23 main_v27
  let main_v29 : FVec F S2176x1024 .f32 := Host.absf main_arg6
  let main_cst_10 : FVec F S_ .f32 := constant S_ .f32 0x7F800000#32
  let main_v30 : FVec F S2176x1024 .f32 := broadcastInDim S2176x1024 ![] bcast_S_S2176x1024 main_cst_10
  let main_v31 : IVec S2176x1024 1 := cmpf .olt main_v29 main_v30
  let main_c_11 : IVec S_ 1 := constantI S_ 1 1#1
  let main_v32 : IVec S_ 1 := (fun x v => Host.reduce IntOp.andi x v reducesTo_S2176x1024_S_d0_1 h_S_) main_v31 main_c_11
  let main_v33 : IVec S_ 1 := andi main_v28 main_v32
  main_v33

def fn {F : FTy → Type} [FloatOps F] (main_arg0 : FVec F S2176x1024 .f32) (main_arg1 : FVec F S1024 .f32) (main_arg2 : FVec F S1024x2816 .f32) (main_arg3 : FVec F S1024x2816 .f32) (main_arg4 : FVec F S2176x2816 .f32) (main_arg5 : FVec F S2176x2816 .f32) (main_arg6 : FVec F S2176x1024 .f32) : IVec S_ 1 :=
  let main_v0 : FVec F S2176x1024 .f32 := Host.absf main_arg0
  let main_cst : FVec F S_ .f32 := constant S_ .f32 0x7F800000#32
  let main_v1 : FVec F S2176x1024 .f32 := broadcastInDim S2176x1024 ![] bcast_S_S2176x1024 main_cst
  let main_v2 : IVec S2176x1024 1 := cmpf .olt main_v0 main_v1
  let main_c : IVec S_ 1 := constantI S_ 1 1#1
  let main_v3 : IVec S_ 1 := (fun x v => Host.reduce IntOp.andi x v reducesTo_S2176x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Kernel.lean ====
abbrev S2176x1024 : Shape := ⟨2, ![2176, 1024]⟩
abbrev S2048x1024 : Shape := ⟨2, ![2048, 1024]⟩
abbrev S1024 : Shape := ⟨1, ![1024]⟩
abbrev S_ : Shape := ⟨0, ![]⟩
abbrev S2176x2560 : Shape := ⟨2, ![2176, 2560]⟩
abbrev S2176x4608 : Shape := ⟨2, ![2176, 4608]⟩
abbrev S8x128 : Shape := ⟨2, ![8, 128]⟩
abbrev S1x1024 : Shape := ⟨2, ![1, 1024]⟩
abbrev S544x1024 : Shape := ⟨2, ![544, 1024]⟩
abbrev S512x1024 : Shape := ⟨2, ![512, 1024]⟩
abbrev S544x512 : Shape := ⟨2, ![544, 512]⟩
abbrev S272x1024 : Shape := ⟨2, ![272, 1024]⟩
abbrev S272 : Shape := ⟨1, ![272]⟩
abbrev S272x1 : Shape := ⟨2, ![272, 1]⟩

abbrev nBuf : Space → Nat
  | .hbm => 20
  | .vmem => 16
  | .smem => 0
  | _ => 0

abbrev bufTy : (tb : Table) → Fin (tcTables nBuf tb) → BufTy
  | .hbm, ⟨0, _⟩ => ⟨S2176x1024, .f32⟩
  | .hbm, ⟨1, _⟩ => ⟨S2048x1024, .f32⟩
  | .hbm, ⟨2, _⟩ => ⟨S2176x1024, .f32⟩
  | .hbm, ⟨3, _⟩ => ⟨S2176x1024, .f32⟩
  | .hbm, ⟨4, _⟩ => ⟨S1024, .f32⟩
  | .hbm, ⟨5, _⟩ => ⟨S_, .f32⟩
  | .hbm, ⟨6, _⟩ => ⟨S2176x1024, .f32⟩
  | .hbm, ⟨7, _⟩ => ⟨S_, .f32⟩
  | .hbm, ⟨8, _⟩ => ⟨S2176x2560, .f32⟩
  | .hbm, ⟨9, _⟩ => ⟨S2176x4608, .f32⟩
  | .hbm, ⟨10, _⟩ => ⟨S2176x4608, .bf16⟩
  | .hbm, ⟨11, _⟩ => ⟨S_, .f32⟩
  | .hbm, ⟨12, _⟩ => ⟨S8x128, .f32⟩
  | .hbm, ⟨13, _⟩ => ⟨S2176x1024, .bf16⟩
  | .hbm, ⟨14, _⟩ => ⟨S2048x1024, .bf16⟩
  | .hbm, ⟨15, _⟩ => ⟨S1x1024, .f32⟩
  | .hbm, ⟨16, _⟩ => ⟨S2176x1024, .f32⟩
  | .hbm, ⟨17, _⟩ => ⟨S2176x1024, .f32⟩
  | .hbm, ⟨18, _⟩ => ⟨S2176x1024, .bf16⟩
  | .hbm, ⟨19, _⟩ => ⟨S1x1024, .f32⟩
  | .local _ .vmem, ⟨0, _⟩ => ⟨S544x1024, .bf16⟩
  | .local _ .vmem, ⟨1, _⟩ => ⟨S544x1024, .bf16⟩
  | .local _ .vmem, ⟨2, _⟩ => ⟨S2048x1024, .bf16⟩
  | .local _ .vmem, ⟨3, _⟩ => ⟨S544x1024, .bf16⟩
  | .local _ .vmem, ⟨4, _⟩ => ⟨S544x1024, .bf16⟩
  | .local _ .vmem, ⟨5, _⟩ => ⟨S544x1024, .f32⟩
  | .local _ .vmem, ⟨6, _⟩ => ⟨S544x1024, .f32⟩
  | .local _ .vmem, ⟨7, _⟩ => ⟨S1x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .f32⟩
  | .local _ .vmem, ⟨12, _⟩ => ⟨S544x1024, .bf16⟩
  | .local _ .vmem, ⟨13, _⟩ => ⟨S544x1024, .bf16⟩
  | .local _ .vmem, ⟨14, _⟩ => ⟨S1x1024, .f32⟩
  | .local _ .vmem, ⟨15, _⟩ => ⟨S544x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1 : BitVec 32 := 0#32
  let c2_i32 : BitVec 32 := 2#32
  let v3 : BitVec 32 := Scalar.addi c0_i32_1 c2_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c512_i32 : BitVec 32 := 512#32
  let v170 : BitVec 32 := Scalar.muli arg12 c512_i32
  v170
def k0_off1 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c512_i32 : BitVec 32 := 512#32
  let v170 : BitVec 32 := Scalar.muli arg12 c512_i32
  let v171 : BitVec 32 := v170
  let v174 : Index := Scalar.indexCast v171
  let c0_72 : Index := 0#32
  ![v174.toNat, 0]
def k0_off2 (k0_t1 : Fin k0_t1_loop.trips) : Fin 2 → Nat :=
  let c0_74 : Index := 0#32
  let c0_i32_1 : BitVec 32 := 0#32
  let c1_i32 : BitVec 32 := 1#32
  let arg12 : BitVec 32 := Scf.iv c0_i32_1 c1_i32 k0_t1
  let c512_i32 : BitVec 32 := 512#32
  let v170 : BitVec 32 := Scalar.muli arg12 c512_i32
  let v171 : BitVec 32 := v170
  let v178 : Index := Scalar.indexCast v171
  ![0, v178.toNat]
def k0_off3 (k0_t1 : Fin k0_t1_loop.trips) : Fin 2 → Nat :=
  let c1024_i32 : BitVec 32 := 1024#32
  let c0_i32_1 : BitVec 32 := 0#32
  let c1_i32 : BitVec 32 := 1#32
  let arg12 : BitVec 32 := Scf.iv c0_i32_1 c1_i32 k0_t1
  let c512_i32 : BitVec 32 := 512#32
  let v170 : BitVec 32 := Scalar.muli arg12 c512_i32
  let v171 : BitVec 32 := v170
  let v182 : BitVec 32 := Scalar.addi c1024_i32 v171
  let v183 : Index := Scalar.indexCast v182
  let c0_77 : Index := 0#32
  ![v183.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S2176x1024 : Shape := ⟨2, ![2176, 1024]⟩
abbrev S2048x1024 : Shape := ⟨2, ![2048, 1024]⟩
abbrev S1024 : Shape := ⟨1, ![1024]⟩
abbrev S1x1024 : Shape := ⟨2, ![1, 1024]⟩
abbrev S2176 : Shape := ⟨1, ![2176]⟩
abbrev S2176x1 : Shape := ⟨2, ![2176, 1]⟩
abbrev S2176x2048 : Shape := ⟨2, ![2176, 2048]⟩

abbrev nBuf : Space → Nat
  | .hbm => 10
  | .vmem => 9
  | .smem => 0
  | _ => 0

abbrev bufTy : (tb : Table) → Fin (tcTables nBuf tb) → BufTy
  | .hbm, ⟨0, _⟩ => ⟨S2176x1024, .f32⟩
  | .hbm, ⟨1, _⟩ => ⟨S2048x1024, .f32⟩
  | .hbm, ⟨2, _⟩ => ⟨S2176x1024, .f32⟩
  | .hbm, ⟨3, _⟩ => ⟨S2176x1024, .f32⟩
  | .hbm, ⟨4, _⟩ => ⟨S1024, .f32⟩
  | .hbm, ⟨5, _⟩ => ⟨S1x1024, .f32⟩
  | .hbm, ⟨6, _⟩ => ⟨S2176x1024, .f32⟩
  | .hbm, ⟨7, _⟩ => ⟨S2176x1024, .f32⟩
  | .hbm, ⟨8, _⟩ => ⟨S2176x1024, .bf16⟩
  | .hbm, ⟨9, _⟩ => ⟨S1x1024, .f32⟩
  | .local _ .vmem, ⟨0, _⟩ => ⟨S2176x1024, .f32⟩
  | .local _ .vmem, ⟨1, _⟩ => ⟨S2048x1024, .f32⟩
  | .local _ .vmem, ⟨2, _⟩ => ⟨S2176x1024, .f32⟩
  | .local _ .vmem, ⟨3, _⟩ => ⟨S2176x1024, .f32⟩
  | .local _ .vmem, ⟨4, _⟩ => ⟨S1x1024, .f32⟩
  | .local _ .vmem, ⟨5, _⟩ => ⟨S2176x1024, .f32⟩
  | .local _ .vmem, ⟨6, _⟩ => ⟨S2176x1024, .f32⟩
  | .local _ .vmem, ⟨7, _⟩ => ⟨S2176x1024, .bf16⟩
  | .local _ .vmem, ⟨8, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "gelu_c" => some ((8943 / 200000 : ℝ) : EReal)
  | _ => none

abbrev grid0 : Pipeline.Grid := .none

abbrev stage0_0 : Fin 1 → Memref sig .tc .vmem S2176x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2176x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2176x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2176x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2176x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2176x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Kernel2.lean ====
abbrev S2176x1024 : Shape := ⟨2, ![2176, 1024]⟩
abbrev S1024x2816 : Shape := ⟨2, ![1024, 2816]⟩
abbrev S2816x1024 : Shape := ⟨2, ![2816, 1024]⟩
abbrev S2176x2816 : Shape := ⟨2, ![2176, 2816]⟩
abbrev S_ : Shape := ⟨0, ![]⟩
abbrev S256x1024 : Shape := ⟨2, ![256, 1024]⟩
abbrev S2176x256 : Shape := ⟨2, ![2176, 256]⟩
abbrev S4 : Shape := ⟨1, ![4]⟩
abbrev S1 : Shape := ⟨1, ![1]⟩
abbrev S544x1024 : Shape := ⟨2, ![544, 1024]⟩
abbrev S544x256 : Shape := ⟨2, ![544, 256]⟩

abbrev nBuf : Space → Nat
  | .hbm => 28
  | .vmem => 20
  | .smem => 0
  | _ => 0

abbrev bufTy : (tb : Table) → Fin (tcTables nBuf tb) → BufTy
  | .hbm, ⟨0, _⟩ => ⟨S2176x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2176x1024, .f32⟩
  | .hbm, ⟨5, _⟩ => ⟨S2176x2816, .f32⟩
  | .hbm, ⟨6, _⟩ => ⟨S2176x2816, .f32⟩
  | .hbm, ⟨7, _⟩ => ⟨S2176x2816, .f32⟩
  | .hbm, ⟨8, _⟩ => ⟨S2176x2816, .f32⟩
  | .hbm, ⟨9, _⟩ => ⟨S_, .f32⟩
  | .hbm, ⟨10, _⟩ => ⟨S2176x2816, .f32⟩
  | .hbm, ⟨11, _⟩ => ⟨S2176x2816, .f32⟩
  | .hbm, ⟨12, _⟩ => ⟨S_, .f32⟩
  | .hbm, ⟨13, _⟩ => ⟨S2176x2816, .f32⟩
  | .hbm, ⟨14, _⟩ => ⟨S2176x2816, .f32⟩
  | .hbm, ⟨15, _⟩ => ⟨S2176x2816, .f32⟩
  | .hbm, ⟨16, _⟩ => ⟨S2176x2816, .f32⟩
  | .hbm, ⟨17, _⟩ => ⟨S2176x1024, .bf16⟩
  | .hbm, ⟨18, _⟩ => ⟨S2816x1024, .bf16⟩
  | .hbm, ⟨19, _⟩ => ⟨S2176x2816, .bf16⟩
  | .hbm, ⟨20, _⟩ => ⟨S2176x2816, .bf16⟩
  | .hbm, ⟨21, _⟩ => ⟨S2176x2816, .bf16⟩
  | .hbm, ⟨22, _⟩ => ⟨S2176x1024, .bf16⟩
  | .hbm, ⟨23, _⟩ => ⟨S2176x2816, .bf16⟩
  | .hbm, ⟨24, _⟩ => ⟨S2176x2816, .bf16⟩
  | .hbm, ⟨25, _⟩ => ⟨S2816x1024, .bf16⟩
  | .hbm, ⟨26, _⟩ => ⟨S2816x1024, .bf16⟩
  | .hbm, ⟨27, _⟩ => ⟨S2816x1024, .bf16⟩
  | .local _ .vmem, ⟨0, _⟩ => ⟨S256x1024, .bf16⟩
  | .local _ .vmem, ⟨1, _⟩ => ⟨S256x1024, .bf16⟩
  | .local _ .vmem, ⟨2, _⟩ => ⟨S2176x256, .bf16⟩
  | .local _ .vmem, ⟨3, _⟩ => ⟨S2176x256, .bf16⟩
  | .local _ .vmem, ⟨4, _⟩ => ⟨S2176x256, .bf16⟩
  | .local _ .vmem, ⟨5, _⟩ => ⟨S2176x256, .bf16⟩
  | .local _ .vmem, ⟨6, _⟩ => ⟨S2176x256, .bf16⟩
  | .local _ .vmem, ⟨7, _⟩ => ⟨S2176x256, .bf16⟩
  | .local _ .vmem, ⟨8, _⟩ => ⟨S2176x256, .bf16⟩
  | .local _ .vmem, ⟨9, _⟩ => ⟨S2176x256, .bf16⟩
  | .local _ .vmem, ⟨10, _⟩ => ⟨S2176x256, .bf16⟩
  | .local _ .vmem, ⟨11, _⟩ => ⟨S2176x256, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S2176x1024, .bf16⟩
  | .local _ .vmem, ⟨19, _⟩ => ⟨S2176x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_v10_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let false_32 : BitVec 1 := 0#1
  let c1632_i32 : BitVec 32 := 1632#32
  let false_31 : BitVec 1 := 0#1
  let c1088_i32 : BitVec 32 := 1088#32
  let v_false : BitVec 1 := 0#1
  let c544_i32 : BitVec 32 := 544#32
  let c0_i32_30 : BitVec 32 := 0#32
  let v33 : BitVec 32 := Scalar.select v_false c544_i32 c0_i32_30
  let v34 : BitVec 32 := Scalar.select false_31 c1088_i32 v33
  let v35 : BitVec 32 := Scalar.select false_32 c1632_i32 v34
  v35
def k0_off1 (v_false : BitVec 1) : Fin 2 → Nat :=
  let false_32 : BitVec 1 := 0#1
  let c1632_i32 : BitVec 32 := 1632#32
  let false_31 : BitVec 1 := 0#1
  let c1088_i32 : BitVec 32 := 1088#32
  let c544_i32 : BitVec 32 := 544#32
  let c0_i32_30 : BitVec 32 := 0#32
  let v33 : BitVec 32 := Scalar.select v_false c544_i32 c0_i32_30
  let v34 : BitVec 32 := Scalar.select false_31 c1088_i32 v33
  let v35 : BitVec 32 := Scalar.select false_32 c1632_i32 v34
  let v36 : BitVec 32 := v35
  let c0_i32_34 : BitVec 32 := 0#32
  ![v36.toNat, 0]
def k0_mult2 : BitVec 32 :=
  let false_40 : BitVec 1 := 0#1
  let c1632_i32_41 : BitVec 32 := 1632#32
  let false_38 : BitVec 1 := 0#1
  let c1088_i32_39 : BitVec 32 := 1088#32
  let v_true : BitVec 1 := 1#1
  let c544_i32_36 : BitVec 32 := 544#32
  let c0_i32_37 : BitVec 32 := 0#32
  let v41 : BitVec 32 := Scalar.select v_true c544_i32_36 c0_i32_37
  let v42 : BitVec 32 := Scalar.select false_38 c1088_i32_39 v41
  let v43 : BitVec 32 := Scalar.select false_40 c1632_i32_41 v42
  v43
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_mult3 : BitVec 32 :=
  let false_32 : BitVec 1 := 0#1
  let c1632_i32 : BitVec 32 := 1632#32
  let false_31 : BitVec 1 := 0#1
  let c1088_i32 : BitVec 32 := 1088#32
  let v_false : BitVec 1 := 0#1
  let c544_i32 : BitVec 32 := 544#32
  let c0_i32_30 : BitVec 32 := 0#32
  let v33 : BitVec 32 := Scalar.select v_false c544_i32 c0_i32_30
  let v34 : BitVec 32 := Scalar.select false_31 c1088_i32 v33
  let v35 : BitVec 32 := Scalar.select false_32 c1632_i32 v34
  v35
def k0_off2 (v_false : BitVec 1) : Fin 2 → Nat :=
  let false_32 : BitVec 1 := 0#1
  let c1632_i32 : BitVec 32 := 1632#32
  let false_31 : BitVec 1 := 0#1
  let c1088_i32 : BitVec 32 := 1088#32
  let c544_i32 : BitVec 32 := 544#32
  let c0_i32_30 : BitVec 32 := 0#32
  let v33 : BitVec 32 := Scalar.select v_false c544_i32 c0_i32_30
  let v34 : BitVec 32 := Scalar.select false_31 c1088_i32 v33
  let v35 : BitVec 32 := Scalar.select false_32 c1632_i32 v34
  let v36 : BitVec 32 := v35
  let c0_i32_34 : BitVec 32 := 0#32
  ![v36.toNat, 0]
def k0_mult4 : BitVec 32 :=
  let false_40 : BitVec 1 := 0#1
  let c1632_i32_41 : BitVec 32 := 1632#32
  let false_38 : BitVec 1 := 0#1
  let c1088_i32_39 : BitVec 32 := 1088#32
  let v_true : BitVec 1 := 1#1
  let c544_i32_36 : BitVec 32 := 544#32
  let c0_i32_37 : BitVec 32 := 0#32
  let v41 : BitVec 32 := Scalar.select v_true c544_i32_36 c0_i32_37
  let v42 : BitVec 32 := Scalar.select false_38 c1088_i32_39 v41
  let v43 : BitVec 32 := Scalar.select false_40 c1632_i32_41 v42
  v43
@[reducible] def k0_t1_loop : Scf.Loop 32 :=
  let c0_i32_3 : BitVec 32 := 0#32
  let c4_i32 : BitVec 32 := 4#32
  let v6 : BitVec 32 := Scalar.addi c0_i32_3 c4_i32
  let c1_i32 : BitVec 32 := 1#32
  ⟨c0_i32_3, v6, c1_i32⟩
def k0_mult5 (k0_t1 : Fin k0_t1_loop.trips) : BitVec 32 :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  v33
def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v52 : BitVec 32 := Scalar.extui v0
  let c0_i32_37 : BitVec 32 := 0#32
  let v53 : BitVec 1 := Scalar.cmpi .ne v52 c0_i32_37
  v53

def k0_mult6 (k0_t1 : Fin k0_t1_loop.trips) : BitVec 32 :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let c0_i32_31 : BitVec 32 := 0#32
  let v36 : BitVec 1 := Scalar.cmpi .sgt v34 c0_i32_31
  let v37 : BitVec 32 := Scalar.extui v36
  let c0_i32_32 : BitVec 32 := 0#32
  let v38 : BitVec 1 := Scalar.cmpi .slt v34 c0_i32_32
  let v39 : BitVec 32 := Scalar.extui v38
  let v40 : BitVec 32 := Scalar.subi v37 v39
  let c544_i32_30 : BitVec 32 := 544#32
  let c0_i32_33 : BitVec 32 := 0#32
  let v41 : BitVec 1 := Scalar.cmpi .sgt c544_i32_30 c0_i32_33
  let v42 : BitVec 32 := Scalar.extui v41
  let c0_i32_34 : BitVec 32 := 0#32
  let v43 : BitVec 1 := Scalar.cmpi .slt c544_i32_30 c0_i32_34
  let v44 : BitVec 32 := Scalar.extui v43
  let v45 : BitVec 32 := Scalar.subi v42 v44
  let v46 : BitVec 1 := Scalar.cmpi .ne v40 v45
  let v47 : BitVec 32 := Scalar.remsi v34 c544_i32_30
  let c0_i32_35 : BitVec 32 := 0#32
  let v48 : BitVec 1 := Scalar.cmpi .ne v47 c0_i32_35
  let v49 : BitVec 1 := Scalar.andi v46 v48
  let v35 : BitVec 32 := Scalar.divsi v34 c544_i32_30
  let c1_i32_36 : BitVec 32 := 1#32
  let v50 : BitVec 32 := Scalar.subi v35 c1_i32_36
  let v51 : BitVec 32 := Scalar.select v49 v50 v35
  let c3_i32_55 : BitVec 32 := 3#32
  let v94 : BitVec 1 := Scalar.cmpi .eq v51 c3_i32_55
  let c1632_i32 : BitVec 32 := 1632#32
  let c2_i32_54 : BitVec 32 := 2#32
  let v92 : BitVec 1 := Scalar.cmpi .eq v51 c2_i32_54
  let c1088_i32 : BitVec 32 := 1088#32
  let c1_i32_51 : BitVec 32 := 1#32
  let v90 : BitVec 1 := Scalar.cmpi .eq v51 c1_i32_51
  let c544_i32_52 : BitVec 32 := 544#32
  let c0_i32_53 : BitVec 32 := 0#32
  let v91 : BitVec 32 := Scalar.select v90 c544_i32_52 c0_i32_53
  let v93 : BitVec 32 := Scalar.select v92 c1088_i32 v91
  let v95 : BitVec 32 := Scalar.select v94 c1632_i32 v93
  v95
def k0_off3 (k0_t1 : Fin k0_t1_loop.trips) : Fin 1 → Nat :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let c0_i32_31 : BitVec 32 := 0#32
  let v36 : BitVec 1 := Scalar.cmpi .sgt v34 c0_i32_31
  let v37 : BitVec 32 := Scalar.extui v36
  let c0_i32_32 : BitVec 32 := 0#32
  let v38 : BitVec 1 := Scalar.cmpi .slt v34 c0_i32_32
  let v39 : BitVec 32 := Scalar.extui v38
  let v40 : BitVec 32 := Scalar.subi v37 v39
  let c544_i32_30 : BitVec 32 := 544#32
  let c0_i32_33 : BitVec 32 := 0#32
  let v41 : BitVec 1 := Scalar.cmpi .sgt c544_i32_30 c0_i32_33
  let v42 : BitVec 32 := Scalar.extui v41
  let c0_i32_34 : BitVec 32 := 0#32
  let v43 : BitVec 1 := Scalar.cmpi .slt c544_i32_30 c0_i32_34
  let v44 : BitVec 32 := Scalar.extui v43
  let v45 : BitVec 32 := Scalar.subi v42 v44
  let v46 : BitVec 1 := Scalar.cmpi .ne v40 v45
  let v47 : BitVec 32 := Scalar.remsi v34 c544_i32_30
  let c0_i32_35 : BitVec 32 := 0#32
  let v48 : BitVec 1 := Scalar.cmpi .ne v47 c0_i32_35
  let v49 : BitVec 1 := Scalar.andi v46 v48
  let v35 : BitVec 32 := Scalar.divsi v34 c544_i32_30
  let c1_i32_36 : BitVec 32 := 1#32
  let v50 : BitVec 32 := Scalar.subi v35 c1_i32_36
  let v51 : BitVec 32 := Scalar.select v49 v50 v35
  ![v51.toNat]
def k0_off4 (k0_t1 : Fin k0_t1_loop.trips) : Fin 2 → Nat :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let c0_i32_31 : BitVec 32 := 0#32
  let v36 : BitVec 1 := Scalar.cmpi .sgt v34 c0_i32_31
  let v37 : BitVec 32 := Scalar.extui v36
  let c0_i32_32 : BitVec 32 := 0#32
  let v38 : BitVec 1 := Scalar.cmpi .slt v34 c0_i32_32
  let v39 : BitVec 32 := Scalar.extui v38
  let v40 : BitVec 32 := Scalar.subi v37 v39
  let c544_i32_30 : BitVec 32 := 544#32
  let c0_i32_33 : BitVec 32 := 0#32
  let v41 : BitVec 1 := Scalar.cmpi .sgt c544_i32_30 c0_i32_33
  let v42 : BitVec 32 := Scalar.extui v41
  let c0_i32_34 : BitVec 32 := 0#32
  let v43 : BitVec 1 := Scalar.cmpi .slt c544_i32_30 c0_i32_34
  let v44 : BitVec 32 := Scalar.extui v43
  let v45 : BitVec 32 := Scalar.subi v42 v44
  let v46 : BitVec 1 := Scalar.cmpi .ne v40 v45
  let v47 : BitVec 32 := Scalar.remsi v34 c544_i32_30
  let c0_i32_35 : BitVec 32 := 0#32
  let v48 : BitVec 1 := Scalar.cmpi .ne v47 c0_i32_35
  let v49 : BitVec 1 := Scalar.andi v46 v48
  let v35 : BitVec 32 := Scalar.divsi v34 c544_i32_30
  let c1_i32_36 : BitVec 32 := 1#32
  let v50 : BitVec 32 := Scalar.subi v35 c1_i32_36
  let v51 : BitVec 32 := Scalar.select v49 v50 v35
  let c3_i32_55 : BitVec 32 := 3#32
  let v94 : BitVec 1 := Scalar.cmpi .eq v51 c3_i32_55
  let c1632_i32 : BitVec 32 := 1632#32
  let c2_i32_54 : BitVec 32 := 2#32
  let v92 : BitVec 1 := Scalar.cmpi .eq v51 c2_i32_54
  let c1088_i32 : BitVec 32 := 1088#32
  let c1_i32_51 : BitVec 32 := 1#32
  let v90 : BitVec 1 := Scalar.cmpi .eq v51 c1_i32_51
  let c544_i32_52 : BitVec 32 := 544#32
  let c0_i32_53 : BitVec 32 := 0#32
  let v91 : BitVec 32 := Scalar.select v90 c544_i32_52 c0_i32_53
  let v93 : BitVec 32 := Scalar.select v92 c1088_i32 v91
  let v95 : BitVec 32 := Scalar.select v94 c1632_i32 v93
  let v96 : BitVec 32 := v95
  let c0_i32_56 : BitVec 32 := 0#32
  ![v96.toNat, 0]
def k0_cond4 (k0_t1 : Fin k0_t1_loop.trips) : BitVec 1 :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let c0_i32_31 : BitVec 32 := 0#32
  let v36 : BitVec 1 := Scalar.cmpi .sgt v34 c0_i32_31
  let v37 : BitVec 32 := Scalar.extui v36
  let c0_i32_32 : BitVec 32 := 0#32
  let v38 : BitVec 1 := Scalar.cmpi .slt v34 c0_i32_32
  let v39 : BitVec 32 := Scalar.extui v38
  let v40 : BitVec 32 := Scalar.subi v37 v39
  let c544_i32_30 : BitVec 32 := 544#32
  let c0_i32_33 : BitVec 32 := 0#32
  let v41 : BitVec 1 := Scalar.cmpi .sgt c544_i32_30 c0_i32_33
  let v42 : BitVec 32 := Scalar.extui v41
  let c0_i32_34 : BitVec 32 := 0#32
  let v43 : BitVec 1 := Scalar.cmpi .slt c544_i32_30 c0_i32_34
  let v44 : BitVec 32 := Scalar.extui v43
  let v45 : BitVec 32 := Scalar.subi v42 v44
  let v46 : BitVec 1 := Scalar.cmpi .ne v40 v45
  let v47 : BitVec 32 := Scalar.remsi v34 c544_i32_30
  let c0_i32_35 : BitVec 32 := 0#32
  let v48 : BitVec 1 := Scalar.cmpi .ne v47 c0_i32_35
  let v49 : BitVec 1 := Scalar.andi v46 v48
  let v35 : BitVec 32 := Scalar.divsi v34 c544_i32_30
  let c1_i32_36 : BitVec 32 := 1#32
  let v50 : BitVec 32 := Scalar.subi v35 c1_i32_36
  let v51 : BitVec 32 := Scalar.select v49 v50 v35
  let c2_i32_58 : BitVec 32 := 2#32
  let v101 : BitVec 32 := Scalar.addi v51 c2_i32_58
  let c4_i32_59 : BitVec 32 := 4#32
  let v102 : BitVec 1 := Scalar.cmpi .slt v101 c4_i32_59
  let v103 : BitVec 32 := Scalar.extui v102
  let c0_i32_60 : BitVec 32 := 0#32
  let v104 : BitVec 1 := Scalar.cmpi .ne v103 c0_i32_60
  v104

def k0_mult7 (k0_t1 : Fin k0_t1_loop.trips) : BitVec 32 :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let c0_i32_31 : BitVec 32 := 0#32
  let v36 : BitVec 1 := Scalar.cmpi .sgt v34 c0_i32_31
  let v37 : BitVec 32 := Scalar.extui v36
  let c0_i32_32 : BitVec 32 := 0#32
  let v38 : BitVec 1 := Scalar.cmpi .slt v34 c0_i32_32
  let v39 : BitVec 32 := Scalar.extui v38
  let v40 : BitVec 32 := Scalar.subi v37 v39
  let c544_i32_30 : BitVec 32 := 544#32
  let c0_i32_33 : BitVec 32 := 0#32
  let v41 : BitVec 1 := Scalar.cmpi .sgt c544_i32_30 c0_i32_33
  let v42 : BitVec 32 := Scalar.extui v41
  let c0_i32_34 : BitVec 32 := 0#32
  let v43 : BitVec 1 := Scalar.cmpi .slt c544_i32_30 c0_i32_34
  let v44 : BitVec 32 := Scalar.extui v43
  let v45 : BitVec 32 := Scalar.subi v42 v44
  let v46 : BitVec 1 := Scalar.cmpi .ne v40 v45
  let v47 : BitVec 32 := Scalar.remsi v34 c544_i32_30
  let c0_i32_35 : BitVec 32 := 0#32
  let v48 : BitVec 1 := Scalar.cmpi .ne v47 c0_i32_35
  let v49 : BitVec 1 := Scalar.andi v46 v48
  let v35 : BitVec 32 := Scalar.divsi v34 c544_i32_30
  let c1_i32_36 : BitVec 32 := 1#32
  let v50 : BitVec 32 := Scalar.subi v35 c1_i32_36
  let v51 : BitVec 32 := Scalar.select v49 v50 v35
  let c2_i32_61 : BitVec 32 := 2#32
  let v105 : BitVec 32 := Scalar.addi v51 c2_i32_61
  let c3_i32_67 : BitVec 32 := 3#32
  let v110 : BitVec 1 := Scalar.cmpi .eq v105 c3_i32_67
  let c1632_i32_68 : BitVec 32 := 1632#32
  let c2_i32_65 : BitVec 32 := 2#32
  let v108 : BitVec 1 := Scalar.cmpi .eq v105 c2_i32_65
  let c1088_i32_66 : BitVec 32 := 1088#32
  let c1_i32_62 : BitVec 32 := 1#32
  let v106 : BitVec 1 := Scalar.cmpi .eq v105 c1_i32_62
  let c544_i32_63 : BitVec 32 := 544#32
  let c0_i32_64 : BitVec 32 := 0#32
  let v107 : BitVec 32 := Scalar.select v106 c544_i32_63 c0_i32_64
  let v109 : BitVec 32 := Scalar.select v108 c1088_i32_66 v107
  let v111 : BitVec 32 := Scalar.select v110 c1632_i32_68 v109
  v111
def k0_off5 (k0_t1 : Fin k0_t1_loop.trips) : Fin 1 → Nat :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let c0_i32_31 : BitVec 32 := 0#32
  let v36 : BitVec 1 := Scalar.cmpi .sgt v34 c0_i32_31
  let v37 : BitVec 32 := Scalar.extui v36
  let c0_i32_32 : BitVec 32 := 0#32
  let v38 : BitVec 1 := Scalar.cmpi .slt v34 c0_i32_32
  let v39 : BitVec 32 := Scalar.extui v38
  let v40 : BitVec 32 := Scalar.subi v37 v39
  let c544_i32_30 : BitVec 32 := 544#32
  let c0_i32_33 : BitVec 32 := 0#32
  let v41 : BitVec 1 := Scalar.cmpi .sgt c544_i32_30 c0_i32_33
  let v42 : BitVec 32 := Scalar.extui v41
  let c0_i32_34 : BitVec 32 := 0#32
  let v43 : BitVec 1 := Scalar.cmpi .slt c544_i32_30 c0_i32_34
  let v44 : BitVec 32 := Scalar.extui v43
  let v45 : BitVec 32 := Scalar.subi v42 v44
  let v46 : BitVec 1 := Scalar.cmpi .ne v40 v45
  let v47 : BitVec 32 := Scalar.remsi v34 c544_i32_30
  let c0_i32_35 : BitVec 32 := 0#32
  let v48 : BitVec 1 := Scalar.cmpi .ne v47 c0_i32_35
  let v49 : BitVec 1 := Scalar.andi v46 v48
  let v35 : BitVec 32 := Scalar.divsi v34 c544_i32_30
  let c1_i32_36 : BitVec 32 := 1#32
  let v50 : BitVec 32 := Scalar.subi v35 c1_i32_36
  let v51 : BitVec 32 := Scalar.select v49 v50 v35
  let c2_i32_61 : BitVec 32 := 2#32
  let v105 : BitVec 32 := Scalar.addi v51 c2_i32_61
  ![v105.toNat]
def k0_off6 (k0_t1 : Fin k0_t1_loop.trips) : Fin 2 → Nat :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let c0_i32_31 : BitVec 32 := 0#32
  let v36 : BitVec 1 := Scalar.cmpi .sgt v34 c0_i32_31
  let v37 : BitVec 32 := Scalar.extui v36
  let c0_i32_32 : BitVec 32 := 0#32
  let v38 : BitVec 1 := Scalar.cmpi .slt v34 c0_i32_32
  let v39 : BitVec 32 := Scalar.extui v38
  let v40 : BitVec 32 := Scalar.subi v37 v39
  let c544_i32_30 : BitVec 32 := 544#32
  let c0_i32_33 : BitVec 32 := 0#32
  let v41 : BitVec 1 := Scalar.cmpi .sgt c544_i32_30 c0_i32_33
  let v42 : BitVec 32 := Scalar.extui v41
  let c0_i32_34 : BitVec 32 := 0#32
  let v43 : BitVec 1 := Scalar.cmpi .slt c544_i32_30 c0_i32_34
  let v44 : BitVec 32 := Scalar.extui v43
  let v45 : BitVec 32 := Scalar.subi v42 v44
  let v46 : BitVec 1 := Scalar.cmpi .ne v40 v45
  let v47 : BitVec 32 := Scalar.remsi v34 c544_i32_30
  let c0_i32_35 : BitVec 32 := 0#32
  let v48 : BitVec 1 := Scalar.cmpi .ne v47 c0_i32_35
  let v49 : BitVec 1 := Scalar.andi v46 v48
  let v35 : BitVec 32 := Scalar.divsi v34 c544_i32_30
  let c1_i32_36 : BitVec 32 := 1#32
  let v50 : BitVec 32 := Scalar.subi v35 c1_i32_36
  let v51 : BitVec 32 := Scalar.select v49 v50 v35
  let c2_i32_61 : BitVec 32 := 2#32
  let v105 : BitVec 32 := Scalar.addi v51 c2_i32_61
  let c3_i32_67 : BitVec 32 := 3#32
  let v110 : BitVec 1 := Scalar.cmpi .eq v105 c3_i32_67
  let c1632_i32_68 : BitVec 32 := 1632#32
  let c2_i32_65 : BitVec 32 := 2#32
  let v108 : BitVec 1 := Scalar.cmpi .eq v105 c2_i32_65
  let c1088_i32_66 : BitVec 32 := 1088#32
  let c1_i32_62 : BitVec 32 := 1#32
  let v106 : BitVec 1 := Scalar.cmpi .eq v105 c1_i32_62
  let c544_i32_63 : BitVec 32 := 544#32
  let c0_i32_64 : BitVec 32 := 0#32
  let v107 : BitVec 32 := Scalar.select v106 c544_i32_63 c0_i32_64
  let v109 : BitVec 32 := Scalar.select v108 c1088_i32_66 v107
  let v111 : BitVec 32 := Scalar.select v110 c1632_i32_68 v109
  let v112 : BitVec 32 := v111
  let c0_i32_69 : BitVec 32 := 0#32
  ![v112.toNat, 0]
def k0_off7 (k0_t1 : Fin k0_t1_loop.trips) : Fin 2 → Nat :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let v54 : Index := Scalar.indexCast v34
  let c0_38 : Index := 0#32
  ![v54.toNat, 0]
def k0_off8 (k0_t1 : Fin k0_t1_loop.trips) : Fin 2 → Nat :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let v59 : Index := Scalar.indexCast v34
  let c0_42 : Index := 0#32
  ![v59.toNat, 0]
def k0_cond5 (i : grid0.Coords) : BitVec 1 :=
  let arg0 : BitVec 32 := BitVec.ofNat 32 (i 0).val
  let c0_i32_1 : BitVec 32 := 0#32
  let v3 : BitVec 1 := Scalar.cmpi .eq arg0 c0_i32_1
  let v7 : BitVec 32 := Scalar.extui v3
  let c0_i32_6 : BitVec 32 := 0#32
  let v8 : BitVec 1 := Scalar.cmpi .ne v7 c0_i32_6
  v8

def k0_mult8 : BitVec 32 :=
  let c0_i32_5 : BitVec 32 := 0#32
  let c3_i32_33 : BitVec 32 := 3#32
  let v37 : BitVec 1 := Scalar.cmpi .eq c0_i32_5 c3_i32_33
  let c1632_i32 : BitVec 32 := 1632#32
  let c2_i32_32 : BitVec 32 := 2#32
  let v35 : BitVec 1 := Scalar.cmpi .eq c0_i32_5 c2_i32_32
  let c1088_i32 : BitVec 32 := 1088#32
  let c1_i32_30 : BitVec 32 := 1#32
  let v33 : BitVec 1 := Scalar.cmpi .eq c0_i32_5 c1_i32_30
  let c544_i32 : BitVec 32 := 544#32
  let c0_i32_31 : BitVec 32 := 0#32
  let v34 : BitVec 32 := Scalar.select v33 c544_i32 c0_i32_31
  let v36 : BitVec 32 := Scalar.select v35 c1088_i32 v34
  let v38 : BitVec 32 := Scalar.select v37 c1632_i32 v36
  v38
def k0_off9 : Fin 2 → Nat :=
  let c0_i32_5 : BitVec 32 := 0#32
  let c3_i32_33 : BitVec 32 := 3#32
  let v37 : BitVec 1 := Scalar.cmpi .eq c0_i32_5 c3_i32_33
  let c1632_i32 : BitVec 32 := 1632#32
  let c2_i32_32 : BitVec 32 := 2#32
  let v35 : BitVec 1 := Scalar.cmpi .eq c0_i32_5 c2_i32_32
  let c1088_i32 : BitVec 32 := 1088#32
  let c1_i32_30 : BitVec 32 := 1#32
  let v33 : BitVec 1 := Scalar.cmpi .eq c0_i32_5 c1_i32_30
  let c544_i32 : BitVec 32 := 544#32
  let c0_i32_31 : BitVec 32 := 0#32
  let v34 : BitVec 32 := Scalar.select v33 c544_i32 c0_i32_31
  let v36 : BitVec 32 := Scalar.select v35 c1088_i32 v34
  let v38 : BitVec 32 := Scalar.select v37 c1632_i32 v36
  let v39 : BitVec 32 := v38
  let c0_i32_34 : BitVec 32 := 0#32
  ![v39.toNat, 0]
def k0_cond6 : BitVec 1 :=
  let c0_i32_5 : BitVec 32 := 0#32
  let c2_i32_36 : BitVec 32 := 2#32
  let v44 : BitVec 32 := Scalar.addi c0_i32_5 c2_i32_36
  let c4_i32_37 : BitVec 32 := 4#32
  let v45 : BitVec 1 := Scalar.cmpi .slt v44 c4_i32_37
  let v46 : BitVec 32 := Scalar.extui v45
  let c0_i32_38 : BitVec 32 := 0#32
  let v47 : BitVec 1 := Scalar.cmpi .ne v46 c0_i32_38
  v47

def k0_mult9 : BitVec 32 :=
  let c0_i32_5 : BitVec 32 := 0#32
  let c2_i32_39 : BitVec 32 := 2#32
  let v48 : BitVec 32 := Scalar.addi c0_i32_5 c2_i32_39
  let c3_i32_45 : BitVec 32 := 3#32
  let v53 : BitVec 1 := Scalar.cmpi .eq v48 c3_i32_45
  let c1632_i32_46 : BitVec 32 := 1632#32
  let c2_i32_43 : BitVec 32 := 2#32
  let v51 : BitVec 1 := Scalar.cmpi .eq v48 c2_i32_43
  let c1088_i32_44 : BitVec 32 := 1088#32
  let c1_i32_40 : BitVec 32 := 1#32
  let v49 : BitVec 1 := Scalar.cmpi .eq v48 c1_i32_40
  let c544_i32_41 : BitVec 32 := 544#32
  let c0_i32_42 : BitVec 32 := 0#32
  let v50 : BitVec 32 := Scalar.select v49 c544_i32_41 c0_i32_42
  let v52 : BitVec 32 := Scalar.select v51 c1088_i32_44 v50
  let v54 : BitVec 32 := Scalar.select v53 c1632_i32_46 v52
  v54
def k0_off10 : Fin 1 → Nat :=
  let c0_i32_5 : BitVec 32 := 0#32
  let c2_i32_39 : BitVec 32 := 2#32
  let v48 : BitVec 32 := Scalar.addi c0_i32_5 c2_i32_39
  ![v48.toNat]
def k0_off11 : Fin 2 → Nat :=
  let c0_i32_5 : BitVec 32 := 0#32
  let c2_i32_39 : BitVec 32 := 2#32
  let v48 : BitVec 32 := Scalar.addi c0_i32_5 c2_i32_39
  let c3_i32_45 : BitVec 32 := 3#32
  let v53 : BitVec 1 := Scalar.cmpi .eq v48 c3_i32_45
  let c1632_i32_46 : BitVec 32 := 1632#32
  let c2_i32_43 : BitVec 32 := 2#32
  let v51 : BitVec 1 := Scalar.cmpi .eq v48 c2_i32_43
  let c1088_i32_44 : BitVec 32 := 1088#32
  let c1_i32_40 : BitVec 32 := 1#32
  let v49 : BitVec 1 := Scalar.cmpi .eq v48 c1_i32_40
  let c544_i32_41 : BitVec 32 := 544#32
  let c0_i32_42 : BitVec 32 := 0#32
  let v50 : BitVec 32 := Scalar.select v49 c544_i32_41 c0_i32_42
  let v52 : BitVec 32 := Scalar.select v51 c1088_i32_44 v50
  let v54 : BitVec 32 := Scalar.select v53 c1632_i32_46 v52
  let v55 : BitVec 32 := v54
  let c0_i32_47 : BitVec 32 := 0#32
  ![v55.toNat, 0]
def k0_cond7 (i : grid0.Coords) : BitVec 1 :=
  let arg0 : BitVec 32 := BitVec.ofNat 32 (i 0).val
  let c0_i32_1 : BitVec 32 := 0#32
  let v3 : BitVec 1 := Scalar.cmpi .eq arg0 c0_i32_1
  let v9 : BitVec 32 := Scalar.extui v3
  let c0_i32_8 : BitVec 32 := 0#32
  let v10 : BitVec 1 := Scalar.cmpi .ne v9 c0_i32_8
  v10

def k0_mult10 : BitVec 32 :=
  let c1_i32_7 : BitVec 32 := 1#32
  let c3_i32_33 : BitVec 32 := 3#32
  let v37 : BitVec 1 := Scalar.cmpi .eq c1_i32_7 c3_i32_33
  let c1632_i32 : BitVec 32 := 1632#32
  let c2_i32_32 : BitVec 32 := 2#32
  let v35 : BitVec 1 := Scalar.cmpi .eq c1_i32_7 c2_i32_32
  let c1088_i32 : BitVec 32 := 1088#32
  let c1_i32_30 : BitVec 32 := 1#32
  let v33 : BitVec 1 := Scalar.cmpi .eq c1_i32_7 c1_i32_30
  let c544_i32 : BitVec 32 := 544#32
  let c0_i32_31 : BitVec 32 := 0#32
  let v34 : BitVec 32 := Scalar.select v33 c544_i32 c0_i32_31
  let v36 : BitVec 32 := Scalar.select v35 c1088_i32 v34
  let v38 : BitVec 32 := Scalar.select v37 c1632_i32 v36
  v38
def k0_off12 : Fin 2 → Nat :=
  let c1_i32_7 : BitVec 32 := 1#32
  let c3_i32_33 : BitVec 32 := 3#32
  let v37 : BitVec 1 := Scalar.cmpi .eq c1_i32_7 c3_i32_33
  let c1632_i32 : BitVec 32 := 1632#32
  let c2_i32_32 : BitVec 32 := 2#32
  let v35 : BitVec 1 := Scalar.cmpi .eq c1_i32_7 c2_i32_32
  let c1088_i32 : BitVec 32 := 1088#32
  let c1_i32_30 : BitVec 32 := 1#32
  let v33 : BitVec 1 := Scalar.cmpi .eq c1_i32_7 c1_i32_30
  let c544_i32 : BitVec 32 := 544#32
  let c0_i32_31 : BitVec 32 := 0#32
  let v34 : BitVec 32 := Scalar.select v33 c544_i32 c0_i32_31
  let v36 : BitVec 32 := Scalar.select v35 c1088_i32 v34
  let v38 : BitVec 32 := Scalar.select v37 c1632_i32 v36
  let v39 : BitVec 32 := v38
  let c0_i32_34 : BitVec 32 := 0#32
  ![v39.toNat, 0]
def k0_cond8 : BitVec 1 :=
  let c1_i32_7 : BitVec 32 := 1#32
  let c2_i32_36 : BitVec 32 := 2#32
  let v44 : BitVec 32 := Scalar.addi c1_i32_7 c2_i32_36
  let c4_i32_37 : BitVec 32 := 4#32
  let v45 : BitVec 1 := Scalar.cmpi .slt v44 c4_i32_37
  let v46 : BitVec 32 := Scalar.extui v45
  let c0_i32_38 : BitVec 32 := 0#32
  let v47 : BitVec 1 := Scalar.cmpi .ne v46 c0_i32_38
  v47

def k0_mult11 : BitVec 32 :=
  let c1_i32_7 : BitVec 32 := 1#32
  let c2_i32_39 : BitVec 32 := 2#32
  let v48 : BitVec 32 := Scalar.addi c1_i32_7 c2_i32_39
  let c3_i32_45 : BitVec 32 := 3#32
  let v53 : BitVec 1 := Scalar.cmpi .eq v48 c3_i32_45
  let c1632_i32_46 : BitVec 32 := 1632#32
  let c2_i32_43 : BitVec 32 := 2#32
  let v51 : BitVec 1 := Scalar.cmpi .eq v48 c2_i32_43
  let c1088_i32_44 : BitVec 32 := 1088#32
  let c1_i32_40 : BitVec 32 := 1#32
  let v49 : BitVec 1 := Scalar.cmpi .eq v48 c1_i32_40
  let c544_i32_41 : BitVec 32 := 544#32
  let c0_i32_42 : BitVec 32 := 0#32
  let v50 : BitVec 32 := Scalar.select v49 c544_i32_41 c0_i32_42
  let v52 : BitVec 32 := Scalar.select v51 c1088_i32_44 v50
  let v54 : BitVec 32 := Scalar.select v53 c1632_i32_46 v52
  v54
def k0_off13 : Fin 1 → Nat :=
  let c1_i32_7 : BitVec 32 := 1#32
  let c2_i32_39 : BitVec 32 := 2#32
  let v48 : BitVec 32 := Scalar.addi c1_i32_7 c2_i32_39
  ![v48.toNat]
def k0_off14 : Fin 2 → Nat :=
  let c1_i32_7 : BitVec 32 := 1#32
  let c2_i32_39 : BitVec 32 := 2#32
  let v48 : BitVec 32 := Scalar.addi c1_i32_7 c2_i32_39
  let c3_i32_45 : BitVec 32 := 3#32
  let v53 : BitVec 1 := Scalar.cmpi .eq v48 c3_i32_45
  let c1632_i32_46 : BitVec 32 := 1632#32
  let c2_i32_43 : BitVec 32 := 2#32
  let v51 : BitVec 1 := Scalar.cmpi .eq v48 c2_i32_43
  let c1088_i32_44 : BitVec 32 := 1088#32
  let c1_i32_40 : BitVec 32 := 1#32
  let v49 : BitVec 1 := Scalar.cmpi .eq v48 c1_i32_40
  let c544_i32_41 : BitVec 32 := 544#32
  let c0_i32_42 : BitVec 32 := 0#32
  let v50 : BitVec 32 := Scalar.select v49 c544_i32_41 c0_i32_42
  let v52 : BitVec 32 := Scalar.select v51 c1088_i32_44 v50
  let v54 : BitVec 32 := Scalar.select v53 c1632_i32_46 v52
  let v55 : BitVec 32 := v54
  let c0_i32_47 : BitVec 32 := 0#32
  ![v55.toNat, 0]
def k0_cond9 (i : grid0.Coords) : BitVec 1 :=
  let arg0 : BitVec 32 := BitVec.ofNat 32 (i 0).val
  let c0_i32_1 : BitVec 32 := 0#32
  let v3 : BitVec 1 := Scalar.cmpi .eq arg0 c0_i32_1
  let v11 : BitVec 32 := Scalar.extui v3
  let c0_i32_9 : BitVec 32 := 0#32
  let v12 : BitVec 1 := Scalar.cmpi .ne v11 c0_i32_9
  v12

def k0_mult12 : BitVec 32 :=
  let c2_i32 : BitVec 32 := 2#32
  let c3_i32_33 : BitVec 32 := 3#32
  let v37 : BitVec 1 := Scalar.cmpi .eq c2_i32 c3_i32_33
  let c1632_i32 : BitVec 32 := 1632#32
  let c2_i32_32 : BitVec 32 := 2#32
  let v35 : BitVec 1 := Scalar.cmpi .eq c2_i32 c2_i32_32
  let c1088_i32 : BitVec 32 := 1088#32
  let c1_i32_30 : BitVec 32 := 1#32
  let v33 : BitVec 1 := Scalar.cmpi .eq c2_i32 c1_i32_30
  let c544_i32 : BitVec 32 := 544#32
  let c0_i32_31 : BitVec 32 := 0#32
  let v34 : BitVec 32 := Scalar.select v33 c544_i32 c0_i32_31
  let v36 : BitVec 32 := Scalar.select v35 c1088_i32 v34
  let v38 : BitVec 32 := Scalar.select v37 c1632_i32 v36
  v38
def k0_off15 : Fin 2 → Nat :=
  let c2_i32 : BitVec 32 := 2#32
  let c3_i32_33 : BitVec 32 := 3#32
  let v37 : BitVec 1 := Scalar.cmpi .eq c2_i32 c3_i32_33
  let c1632_i32 : BitVec 32 := 1632#32
  let c2_i32_32 : BitVec 32 := 2#32
  let v35 : BitVec 1 := Scalar.cmpi .eq c2_i32 c2_i32_32
  let c1088_i32 : BitVec 32 := 1088#32
  let c1_i32_30 : BitVec 32 := 1#32
  let v33 : BitVec 1 := Scalar.cmpi .eq c2_i32 c1_i32_30
  let c544_i32 : BitVec 32 := 544#32
  let c0_i32_31 : BitVec 32 := 0#32
  let v34 : BitVec 32 := Scalar.select v33 c544_i32 c0_i32_31
  let v36 : BitVec 32 := Scalar.select v35 c1088_i32 v34
  let v38 : BitVec 32 := Scalar.select v37 c1632_i32 v36
  let v39 : BitVec 32 := v38
  let c0_i32_34 : BitVec 32 := 0#32
  ![v39.toNat, 0]
def k0_cond10 : BitVec 1 :=
  let c2_i32 : BitVec 32 := 2#32
  let c2_i32_36 : BitVec 32 := 2#32
  let v44 : BitVec 32 := Scalar.addi c2_i32 c2_i32_36
  let c4_i32_37 : BitVec 32 := 4#32
  let v45 : BitVec 1 := Scalar.cmpi .slt v44 c4_i32_37
  let v46 : BitVec 32 := Scalar.extui v45
  let c0_i32_38 : BitVec 32 := 0#32
  let v47 : BitVec 1 := Scalar.cmpi .ne v46 c0_i32_38
  v47

def k0_mult13 : BitVec 32 :=
  let c2_i32 : BitVec 32 := 2#32
  let c2_i32_39 : BitVec 32 := 2#32
  let v48 : BitVec 32 := Scalar.addi c2_i32 c2_i32_39
  let c3_i32_45 : BitVec 32 := 3#32
  let v53 : BitVec 1 := Scalar.cmpi .eq v48 c3_i32_45
  let c1632_i32_46 : BitVec 32 := 1632#32
  let c2_i32_43 : BitVec 32 := 2#32
  let v51 : BitVec 1 := Scalar.cmpi .eq v48 c2_i32_43
  let c1088_i32_44 : BitVec 32 := 1088#32
  let c1_i32_40 : BitVec 32 := 1#32
  let v49 : BitVec 1 := Scalar.cmpi .eq v48 c1_i32_40
  let c544_i32_41 : BitVec 32 := 544#32
  let c0_i32_42 : BitVec 32 := 0#32
  let v50 : BitVec 32 := Scalar.select v49 c544_i32_41 c0_i32_42
  let v52 : BitVec 32 := Scalar.select v51 c1088_i32_44 v50
  let v54 : BitVec 32 := Scalar.select v53 c1632_i32_46 v52
  v54
def k0_off16 : Fin 1 → Nat :=
  let c2_i32 : BitVec 32 := 2#32
  let c2_i32_39 : BitVec 32 := 2#32
  let v48 : BitVec 32 := Scalar.addi c2_i32 c2_i32_39
  ![v48.toNat]
def k0_off17 : Fin 2 → Nat :=
  let c2_i32 : BitVec 32 := 2#32
  let c2_i32_39 : BitVec 32 := 2#32
  let v48 : BitVec 32 := Scalar.addi c2_i32 c2_i32_39
  let c3_i32_45 : BitVec 32 := 3#32
  let v53 : BitVec 1 := Scalar.cmpi .eq v48 c3_i32_45
  let c1632_i32_46 : BitVec 32 := 1632#32
  let c2_i32_43 : BitVec 32 := 2#32
  let v51 : BitVec 1 := Scalar.cmpi .eq v48 c2_i32_43
  let c1088_i32_44 : BitVec 32 := 1088#32
  let c1_i32_40 : BitVec 32 := 1#32
  let v49 : BitVec 1 := Scalar.cmpi .eq v48 c1_i32_40
  let c544_i32_41 : BitVec 32 := 544#32
  let c0_i32_42 : BitVec 32 := 0#32
  let v50 : BitVec 32 := Scalar.select v49 c544_i32_41 c0_i32_42
  let v52 : BitVec 32 := Scalar.select v51 c1088_i32_44 v50
  let v54 : BitVec 32 := Scalar.select v53 c1632_i32_46 v52
  let v55 : BitVec 32 := v54
  let c0_i32_47 : BitVec 32 := 0#32
  ![v55.toNat, 0]
def k0_cond11 (i : grid0.Coords) : BitVec 1 :=
  let arg0 : BitVec 32 := BitVec.ofNat 32 (i 0).val
  let c0_i32_1 : BitVec 32 := 0#32
  let v3 : BitVec 1 := Scalar.cmpi .eq arg0 c0_i32_1
  let v13 : BitVec 32 := Scalar.extui v3
  let c0_i32_10 : BitVec 32 := 0#32
  let v14 : BitVec 1 := Scalar.cmpi .ne v13 c0_i32_10
  v14

def k0_mult14 : BitVec 32 :=
  let c3_i32 : BitVec 32 := 3#32
  let c3_i32_33 : BitVec 32 := 3#32
  let v37 : BitVec 1 := Scalar.cmpi .eq c3_i32 c3_i32_33
  let c1632_i32 : BitVec 32 := 1632#32
  let c2_i32_32 : BitVec 32 := 2#32
  let v35 : BitVec 1 := Scalar.cmpi .eq c3_i32 c2_i32_32
  let c1088_i32 : BitVec 32 := 1088#32
  let c1_i32_30 : BitVec 32 := 1#32
  let v33 : BitVec 1 := Scalar.cmpi .eq c3_i32 c1_i32_30
  let c544_i32 : BitVec 32 := 544#32
  let c0_i32_31 : BitVec 32 := 0#32
  let v34 : BitVec 32 := Scalar.select v33 c544_i32 c0_i32_31
  let v36 : BitVec 32 := Scalar.select v35 c1088_i32 v34
  let v38 : BitVec 32 := Scalar.select v37 c1632_i32 v36
  v38
def k0_off18 : Fin 2 → Nat :=
  let c3_i32 : BitVec 32 := 3#32
  let c3_i32_33 : BitVec 32 := 3#32
  let v37 : BitVec 1 := Scalar.cmpi .eq c3_i32 c3_i32_33
  let c1632_i32 : BitVec 32 := 1632#32
  let c2_i32_32 : BitVec 32 := 2#32
  let v35 : BitVec 1 := Scalar.cmpi .eq c3_i32 c2_i32_32
  let c1088_i32 : BitVec 32 := 1088#32
  let c1_i32_30 : BitVec 32 := 1#32
  let v33 : BitVec 1 := Scalar.cmpi .eq c3_i32 c1_i32_30
  let c544_i32 : BitVec 32 := 544#32
  let c0_i32_31 : BitVec 32 := 0#32
  let v34 : BitVec 32 := Scalar.select v33 c544_i32 c0_i32_31
  let v36 : BitVec 32 := Scalar.select v35 c1088_i32 v34
  let v38 : BitVec 32 := Scalar.select v37 c1632_i32 v36
  let v39 : BitVec 32 := v38
  let c0_i32_34 : BitVec 32 := 0#32
  ![v39.toNat, 0]
def k0_cond12 : BitVec 1 :=
  let c3_i32 : BitVec 32 := 3#32
  let c2_i32_36 : BitVec 32 := 2#32
  let v44 : BitVec 32 := Scalar.addi c3_i32 c2_i32_36
  let c4_i32_37 : BitVec 32 := 4#32
  let v45 : BitVec 1 := Scalar.cmpi .slt v44 c4_i32_37
  let v46 : BitVec 32 := Scalar.extui v45
  let c0_i32_38 : BitVec 32 := 0#32
  let v47 : BitVec 1 := Scalar.cmpi .ne v46 c0_i32_38
  v47

def k0_mult15 : BitVec 32 :=
  let c3_i32 : BitVec 32 := 3#32
  let c2_i32_39 : BitVec 32 := 2#32
  let v48 : BitVec 32 := Scalar.addi c3_i32 c2_i32_39
  let c3_i32_45 : BitVec 32 := 3#32
  let v53 : BitVec 1 := Scalar.cmpi .eq v48 c3_i32_45
  let c1632_i32_46 : BitVec 32 := 1632#32
  let c2_i32_43 : BitVec 32 := 2#32
  let v51 : BitVec 1 := Scalar.cmpi .eq v48 c2_i32_43
  let c1088_i32_44 : BitVec 32 := 1088#32
  let c1_i32_40 : BitVec 32 := 1#32
  let v49 : BitVec 1 := Scalar.cmpi .eq v48 c1_i32_40
  let c544_i32_41 : BitVec 32 := 544#32
  let c0_i32_42 : BitVec 32 := 0#32
  let v50 : BitVec 32 := Scalar.select v49 c544_i32_41 c0_i32_42
  let v52 : BitVec 32 := Scalar.select v51 c1088_i32_44 v50
  let v54 : BitVec 32 := Scalar.select v53 c1632_i32_46 v52
  v54
def k0_off19 : Fin 1 → Nat :=
  let c3_i32 : BitVec 32 := 3#32
  let c2_i32_39 : BitVec 32 := 2#32
  let v48 : BitVec 32 := Scalar.addi c3_i32 c2_i32_39
  ![v48.toNat]
def k0_off20 : Fin 2 → Nat :=
  let c3_i32 : BitVec 32 := 3#32
  let c2_i32_39 : BitVec 32 := 2#32
  let v48 : BitVec 32 := Scalar.addi c3_i32 c2_i32_39
  let c3_i32_45 : BitVec 32 := 3#32
  let v53 : BitVec 1 := Scalar.cmpi .eq v48 c3_i32_45
  let c1632_i32_46 : BitVec 32 := 1632#32
  let c2_i32_43 : BitVec 32 := 2#32
  let v51 : BitVec 1 := Scalar.cmpi .eq v48 c2_i32_43
  let c1088_i32_44 : BitVec 32 := 1088#32
  let c1_i32_40 : BitVec 32 := 1#32
  let v49 : BitVec 1 := Scalar.cmpi .eq v48 c1_i32_40
  let c544_i32_41 : BitVec 32 := 544#32
  let c0_i32_42 : BitVec 32 := 0#32
  let v50 : BitVec 32 := Scalar.select v49 c544_i32_41 c0_i32_42
  let v52 : BitVec 32 := Scalar.select v51 c1088_i32_44 v50
  let v54 : BitVec 32 := Scalar.select v53 c1632_i32_46 v52
  let v55 : BitVec 32 := v54
  let c0_i32_47 : BitVec 32 := 0#32
  ![v55.toNat, 0]
def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2176x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S2176x1024 : Shape := ⟨2, ![2176, 1024]⟩
abbrev S1024x2816 : Shape := ⟨2, ![1024, 2816]⟩
abbrev S2816x1024 : Shape := ⟨2, ![2816, 1024]⟩
abbrev S2176x2816 : Shape := ⟨2, ![2176, 2816]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2176x1024, .f32⟩
  | .hbm, ⟨5, _⟩ => ⟨S2176x2816, .f32⟩
  | .hbm, ⟨6, _⟩ => ⟨S2176x2816, .f32⟩
  | .hbm, ⟨7, _⟩ => ⟨S2176x2816, .f32⟩
  | .hbm, ⟨8, _⟩ => ⟨S2176x2816, .f32⟩
  | .hbm, ⟨9, _⟩ => ⟨S_, .f32⟩
  | .hbm, ⟨10, _⟩ => ⟨S2176x2816, .f32⟩
  | .hbm, ⟨11, _⟩ => ⟨S2176x2816, .f32⟩
  | .hbm, ⟨12, _⟩ => ⟨S_, .f32⟩
  | .hbm, ⟨13, _⟩ => ⟨S2176x2816, .f32⟩
  | .hbm, ⟨14, _⟩ => ⟨S2176x2816, .f32⟩
  | .hbm, ⟨15, _⟩ => ⟨S_, .f32⟩
  | .hbm, ⟨16, _⟩ => ⟨S2176x2816, .f32⟩
  | .hbm, ⟨17, _⟩ => ⟨S2176x2816, .f32⟩
  | .hbm, ⟨18, _⟩ => ⟨S2176x2816, .f32⟩
  | .hbm, ⟨19, _⟩ => ⟨S2176x2816, .f32⟩
  | .hbm, ⟨20, _⟩ => ⟨S2176x2816, .f32⟩
  | .hbm, ⟨21, _⟩ => ⟨S2176x1024, .f32⟩
  | .hbm, ⟨22, _⟩ => ⟨S1024x2816, .f32⟩
  | .hbm, ⟨23, _⟩ => ⟨S2816x1024, .f32⟩
  | .hbm, ⟨24, _⟩ => ⟨S2176x2816, .f32⟩
  | .hbm, ⟨25, _⟩ => ⟨S2176x2816, .f32⟩
  | .hbm, ⟨26, _⟩ => ⟨S2176x2816, .f32⟩
  | .hbm, ⟨27, _⟩ => ⟨S2176x2816, .f32⟩
  | .hbm, ⟨28, _⟩ => ⟨S2176x2816, .f32⟩
  | .hbm, ⟨29, _⟩ => ⟨S2176x2816, .f32⟩
  | .hbm, ⟨30, _⟩ => ⟨S2176x2816, .f32⟩
  | .hbm, ⟨31, _⟩ => ⟨S2816x1024, .f32⟩
  | .hbm, ⟨32, _⟩ => ⟨S1024x2816, .f32⟩
  | .hbm, ⟨33, _⟩ => ⟨S2816x1024, .f32⟩
  | .hbm, ⟨34, _⟩ => ⟨S2816x1024, .f32⟩
  | .hbm, ⟨35, _⟩ => ⟨S1024x2816, .f32⟩
  | .hbm, ⟨36, _⟩ => ⟨S2816x1024, .f32⟩
  | .hbm, ⟨37, _⟩ => ⟨S2176x2816, .bf16⟩
  | .hbm, ⟨38, _⟩ => ⟨S2176x2816, .bf16⟩
  | .hbm, ⟨39, _⟩ => ⟨S2816x1024, .bf16⟩
  | .hbm, ⟨40, _⟩ => ⟨S2816x1024, .bf16⟩
  | .hbm, ⟨41, _⟩ => ⟨S2816x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]
-- ==== Kernel3.lean ====
abbrev S2176x1024 : Shape := ⟨2, ![2176, 1024]⟩
abbrev S1024 : Shape := ⟨1, ![1024]⟩
abbrev S1024x2816 : Shape := ⟨2, ![1024, 2816]⟩
abbrev S2176x2816 : Shape := ⟨2, ![2176, 2816]⟩
abbrev S2816x1024 : Shape := ⟨2, ![2816, 1024]⟩
abbrev S1x1024 : Shape := ⟨2, ![1, 1024]⟩
abbrev S544x2816 : Shape := ⟨2, ![544, 2816]⟩
abbrev S544x1024 : Shape := ⟨2, ![544, 1024]⟩
abbrev S11 : Shape := ⟨1, ![11]⟩
abbrev S1 : Shape := ⟨1, ![1]⟩
abbrev S_ : Shape := ⟨0, ![]⟩
abbrev S256x1024 : Shape := ⟨2, ![256, 1024]⟩
abbrev S544x256 : Shape := ⟨2, ![544, 256]⟩
abbrev S272x1024 : Shape := ⟨2, ![272, 1024]⟩
abbrev S272 : Shape := ⟨1, ![272]⟩
abbrev S272x1 : Shape := ⟨2, ![272, 1]⟩

abbrev nBuf : Space → Nat
  | .hbm => 17
  | .vmem => 17
  | .smem => 0
  | _ => 0

abbrev bufTy : (tb : Table) → Fin (tcTables nBuf tb) → BufTy
  | .hbm, ⟨0, _⟩ => ⟨S2176x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2176x2816, .f32⟩
  | .hbm, ⟨5, _⟩ => ⟨S2176x2816, .f32⟩
  | .hbm, ⟨6, _⟩ => ⟨S2176x1024, .f32⟩
  | .hbm, ⟨7, _⟩ => ⟨S2176x2816, .bf16⟩
  | .hbm, ⟨8, _⟩ => ⟨S2176x2816, .bf16⟩
  | .hbm, ⟨9, _⟩ => ⟨S2816x1024, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S1x1024, .f32⟩
  | .hbm, ⟨14, _⟩ => ⟨S2176x1024, .f32⟩
  | .hbm, ⟨15, _⟩ => ⟨S2176x1024, .bf16⟩
  | .hbm, ⟨16, _⟩ => ⟨S1x1024, .f32⟩
  | .local _ .vmem, ⟨0, _⟩ => ⟨S544x2816, .bf16⟩
  | .local _ .vmem, ⟨1, _⟩ => ⟨S544x2816, .bf16⟩
  | .local _ .vmem, ⟨2, _⟩ => ⟨S544x2816, .bf16⟩
  | .local _ .vmem, ⟨3, _⟩ => ⟨S544x2816, .bf16⟩
  | .local _ .vmem, ⟨4, _⟩ => ⟨S544x1024, .f32⟩
  | .local _ .vmem, ⟨5, _⟩ => ⟨S544x1024, .f32⟩
  | .local _ .vmem, ⟨6, _⟩ => ⟨S1x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .bf16⟩
  | .local _ .vmem, ⟨12, _⟩ => ⟨S544x1024, .bf16⟩
  | .local _ .vmem, ⟨13, _⟩ => ⟨S1x1024, .f32⟩
  | .local _ .vmem, ⟨14, _⟩ => ⟨S544x1024, .f32⟩
  | .local _ .vmem, ⟨15, _⟩ => ⟨S2816x1024, .bf16⟩
  | .local _ .vmem, ⟨16, _⟩ => ⟨S2816x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let false_60 : BitVec 1 := 0#1
  let c2560_i32 : BitVec 32 := 2560#32
  let false_59 : BitVec 1 := 0#1
  let c2304_i32 : BitVec 32 := 2304#32
  let false_58 : BitVec 1 := 0#1
  let c2048_i32 : BitVec 32 := 2048#32
  let false_57 : BitVec 1 := 0#1
  let c1792_i32 : BitVec 32 := 1792#32
  let false_56 : BitVec 1 := 0#1
  let c1536_i32 : BitVec 32 := 1536#32
  let false_55 : BitVec 1 := 0#1
  let c1280_i32 : BitVec 32 := 1280#32
  let false_54 : BitVec 1 := 0#1
  let c1024_i32 : BitVec 32 := 1024#32
  let false_53 : BitVec 1 := 0#1
  let c768_i32 : BitVec 32 := 768#32
  let false_52 : BitVec 1 := 0#1
  let c512_i32 : BitVec 32 := 512#32
  let v_false : BitVec 1 := 0#1
  let c256_i32 : BitVec 32 := 256#32
  let c0_i32_51 : BitVec 32 := 0#32
  let v90 : BitVec 32 := Scalar.select v_false c256_i32 c0_i32_51
  let v91 : BitVec 32 := Scalar.select false_52 c512_i32 v90
  let v92 : BitVec 32 := Scalar.select false_53 c768_i32 v91
  let v93 : BitVec 32 := Scalar.select false_54 c1024_i32 v92
  let v94 : BitVec 32 := Scalar.select false_55 c1280_i32 v93
  let v95 : BitVec 32 := Scalar.select false_56 c1536_i32 v94
  let v96 : BitVec 32 := Scalar.select false_57 c1792_i32 v95
  let v97 : BitVec 32 := Scalar.select false_58 c2048_i32 v96
  let v98 : BitVec 32 := Scalar.select false_59 c2304_i32 v97
  let v99 : BitVec 32 := Scalar.select false_60 c2560_i32 v98
  v99
def k0_off1 (v_false : BitVec 1) : Fin 2 → Nat :=
  let false_60 : BitVec 1 := 0#1
  let c2560_i32 : BitVec 32 := 2560#32
  let false_59 : BitVec 1 := 0#1
  let c2304_i32 : BitVec 32 := 2304#32
  let false_58 : BitVec 1 := 0#1
  let c2048_i32 : BitVec 32 := 2048#32
  let false_57 : BitVec 1 := 0#1
  let c1792_i32 : BitVec 32 := 1792#32
  let false_56 : BitVec 1 := 0#1
  let c1536_i32 : BitVec 32 := 1536#32
  let false_55 : BitVec 1 := 0#1
  let c1280_i32 : BitVec 32 := 1280#32
  let false_54 : BitVec 1 := 0#1
  let c1024_i32 : BitVec 32 := 1024#32
  let false_53 : BitVec 1 := 0#1
  let c768_i32 : BitVec 32 := 768#32
  let false_52 : BitVec 1 := 0#1
  let c512_i32 : BitVec 32 := 512#32
  let c256_i32 : BitVec 32 := 256#32
  let c0_i32_51 : BitVec 32 := 0#32
  let v90 : BitVec 32 := Scalar.select v_false c256_i32 c0_i32_51
  let v91 : BitVec 32 := Scalar.select false_52 c512_i32 v90
  let v92 : BitVec 32 := Scalar.select false_53 c768_i32 v91
  let v93 : BitVec 32 := Scalar.select false_54 c1024_i32 v92
  let v94 : BitVec 32 := Scalar.select false_55 c1280_i32 v93
  let v95 : BitVec 32 := Scalar.select false_56 c1536_i32 v94
  let v96 : BitVec 32 := Scalar.select false_57 c1792_i32 v95
  let v97 : BitVec 32 := Scalar.select false_58 c2048_i32 v96
  let v98 : BitVec 32 := Scalar.select false_59 c2304_i32 v97
  let v99 : BitVec 32 := Scalar.select false_60 c2560_i32 v98
  let v100 : BitVec 32 := v99
  let c0_i32_62 : BitVec 32 := 0#32
  ![v100.toNat, 0]
def k0_mult2 : BitVec 32 :=
  let false_82 : BitVec 1 := 0#1
  let c2560_i32_83 : BitVec 32 := 2560#32
  let false_80 : BitVec 1 := 0#1
  let c2304_i32_81 : BitVec 32 := 2304#32
  let false_78 : BitVec 1 := 0#1
  let c2048_i32_79 : BitVec 32 := 2048#32
  let false_76 : BitVec 1 := 0#1
  let c1792_i32_77 : BitVec 32 := 1792#32
  let false_74 : BitVec 1 := 0#1
  let c1536_i32_75 : BitVec 32 := 1536#32
  let false_72 : BitVec 1 := 0#1
  let c1280_i32_73 : BitVec 32 := 1280#32
  let false_70 : BitVec 1 := 0#1
  let c1024_i32_71 : BitVec 32 := 1024#32
  let false_68 : BitVec 1 := 0#1
  let c768_i32_69 : BitVec 32 := 768#32
  let false_66 : BitVec 1 := 0#1
  let c512_i32_67 : BitVec 32 := 512#32
  let v_true : BitVec 1 := 1#1
  let c256_i32_64 : BitVec 32 := 256#32
  let c0_i32_65 : BitVec 32 := 0#32
  let v105 : BitVec 32 := Scalar.select v_true c256_i32_64 c0_i32_65
  let v106 : BitVec 32 := Scalar.select false_66 c512_i32_67 v105
  let v107 : BitVec 32 := Scalar.select false_68 c768_i32_69 v106
  let v108 : BitVec 32 := Scalar.select false_70 c1024_i32_71 v107
  let v109 : BitVec 32 := Scalar.select false_72 c1280_i32_73 v108
  let v110 : BitVec 32 := Scalar.select false_74 c1536_i32_75 v109
  let v111 : BitVec 32 := Scalar.select false_76 c1792_i32_77 v110
  let v112 : BitVec 32 := Scalar.select false_78 c2048_i32_79 v111
  let v113 : BitVec 32 := Scalar.select false_80 c2304_i32_81 v112
  let v114 : BitVec 32 := Scalar.select false_82 c2560_i32_83 v113
  v114
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_mult3 : BitVec 32 :=
  let false_60 : BitVec 1 := 0#1
  let c2560_i32 : BitVec 32 := 2560#32
  let false_59 : BitVec 1 := 0#1
  let c2304_i32 : BitVec 32 := 2304#32
  let false_58 : BitVec 1 := 0#1
  let c2048_i32 : BitVec 32 := 2048#32
  let false_57 : BitVec 1 := 0#1
  let c1792_i32 : BitVec 32 := 1792#32
  let false_56 : BitVec 1 := 0#1
  let c1536_i32 : BitVec 32 := 1536#32
  let false_55 : BitVec 1 := 0#1
  let c1280_i32 : BitVec 32 := 1280#32
  let false_54 : BitVec 1 := 0#1
  let c1024_i32 : BitVec 32 := 1024#32
  let false_53 : BitVec 1 := 0#1
  let c768_i32 : BitVec 32 := 768#32
  let false_52 : BitVec 1 := 0#1
  let c512_i32 : BitVec 32 := 512#32
  let v_false : BitVec 1 := 0#1
  let c256_i32 : BitVec 32 := 256#32
  let c0_i32_51 : BitVec 32 := 0#32
  let v90 : BitVec 32 := Scalar.select v_false c256_i32 c0_i32_51
  let v91 : BitVec 32 := Scalar.select false_52 c512_i32 v90
  let v92 : BitVec 32 := Scalar.select false_53 c768_i32 v91
  let v93 : BitVec 32 := Scalar.select false_54 c1024_i32 v92
  let v94 : BitVec 32 := Scalar.select false_55 c1280_i32 v93
  let v95 : BitVec 32 := Scalar.select false_56 c1536_i32 v94
  let v96 : BitVec 32 := Scalar.select false_57 c1792_i32 v95
  let v97 : BitVec 32 := Scalar.select false_58 c2048_i32 v96
  let v98 : BitVec 32 := Scalar.select false_59 c2304_i32 v97
  let v99 : BitVec 32 := Scalar.select false_60 c2560_i32 v98
  v99
def k0_off2 (v_false : BitVec 1) : Fin 2 → Nat :=
  let false_60 : BitVec 1 := 0#1
  let c2560_i32 : BitVec 32 := 2560#32
  let false_59 : BitVec 1 := 0#1
  let c2304_i32 : BitVec 32 := 2304#32
  let false_58 : BitVec 1 := 0#1
  let c2048_i32 : BitVec 32 := 2048#32
  let false_57 : BitVec 1 := 0#1
  let c1792_i32 : BitVec 32 := 1792#32
  let false_56 : BitVec 1 := 0#1
  let c1536_i32 : BitVec 32 := 1536#32
  let false_55 : BitVec 1 := 0#1
  let c1280_i32 : BitVec 32 := 1280#32
  let false_54 : BitVec 1 := 0#1
  let c1024_i32 : BitVec 32 := 1024#32
  let false_53 : BitVec 1 := 0#1
  let c768_i32 : BitVec 32 := 768#32
  let false_52 : BitVec 1 := 0#1
  let c512_i32 : BitVec 32 := 512#32
  let c256_i32 : BitVec 32 := 256#32
  let c0_i32_51 : BitVec 32 := 0#32
  let v90 : BitVec 32 := Scalar.select v_false c256_i32 c0_i32_51
  let v91 : BitVec 32 := Scalar.select false_52 c512_i32 v90
  let v92 : BitVec 32 := Scalar.select false_53 c768_i32 v91
  let v93 : BitVec 32 := Scalar.select false_54 c1024_i32 v92
  let v94 : BitVec 32 := Scalar.select false_55 c1280_i32 v93
  let v95 : BitVec 32 := Scalar.select false_56 c1536_i32 v94
  let v96 : BitVec 32 := Scalar.select false_57 c1792_i32 v95
  let v97 : BitVec 32 := Scalar.select false_58 c2048_i32 v96
  let v98 : BitVec 32 := Scalar.select false_59 c2304_i32 v97
  let v99 : BitVec 32 := Scalar.select false_60 c2560_i32 v98
  let v100 : BitVec 32 := v99
  let c0_i32_62 : BitVec 32 := 0#32
  ![v100.toNat, 0]
def k0_mult4 : BitVec 32 :=
  let false_82 : BitVec 1 := 0#1
  let c2560_i32_83 : BitVec 32 := 2560#32
  let false_80 : BitVec 1 := 0#1
  let c2304_i32_81 : BitVec 32 := 2304#32
  let false_78 : BitVec 1 := 0#1
  let c2048_i32_79 : BitVec 32 := 2048#32
  let false_76 : BitVec 1 := 0#1
  let c1792_i32_77 : BitVec 32 := 1792#32
  let false_74 : BitVec 1 := 0#1
  let c1536_i32_75 : BitVec 32 := 1536#32
  let false_72 : BitVec 1 := 0#1
  let c1280_i32_73 : BitVec 32 := 1280#32
  let false_70 : BitVec 1 := 0#1
  let c1024_i32_71 : BitVec 32 := 1024#32
  let false_68 : BitVec 1 := 0#1
  let c768_i32_69 : BitVec 32 := 768#32
  let false_66 : BitVec 1 := 0#1
  let c512_i32_67 : BitVec 32 := 512#32
  let v_true : BitVec 1 := 1#1
  let c256_i32_64 : BitVec 32 := 256#32
  let c0_i32_65 : BitVec 32 := 0#32
  let v105 : BitVec 32 := Scalar.select v_true c256_i32_64 c0_i32_65
  let v106 : BitVec 32 := Scalar.select false_66 c512_i32_67 v105
  let v107 : BitVec 32 := Scalar.select false_68 c768_i32_69 v106
  let v108 : BitVec 32 := Scalar.select false_70 c1024_i32_71 v107
  let v109 : BitVec 32 := Scalar.select false_72 c1280_i32_73 v108
  let v110 : BitVec 32 := Scalar.select false_74 c1536_i32_75 v109
  let v111 : BitVec 32 := Scalar.select false_76 c1792_i32_77 v110
  let v112 : BitVec 32 := Scalar.select false_78 c2048_i32_79 v111
  let v113 : BitVec 32 := Scalar.select false_80 c2304_i32_81 v112
  let v114 : BitVec 32 := Scalar.select false_82 c2560_i32_83 v113
  v114
@[reducible] def k0_t1_loop : Scf.Loop 32 :=
  let c0_i32_6 : BitVec 32 := 0#32
  let c11_i32 : BitVec 32 := 11#32
  let v13 : BitVec 32 := Scalar.addi c0_i32_6 c11_i32
  let c1_i32 : BitVec 32 := 1#32
  ⟨c0_i32_6, v13, c1_i32⟩
def k0_mult5 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c256_i32 : BitVec 32 := 256#32
  let v90 : BitVec 32 := Scalar.muli arg16 c256_i32
  v90
def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v109 : BitVec 32 := Scalar.extui v0
  let c0_i32_58 : BitVec 32 := 0#32
  let v110 : BitVec 1 := Scalar.cmpi .ne v109 c0_i32_58
  v110

def k0_mult6 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c256_i32 : BitVec 32 := 256#32
  let v90 : BitVec 32 := Scalar.muli arg16 c256_i32
  let v91 : BitVec 32 := v90
  let c0_i32_52 : BitVec 32 := 0#32
  let v93 : BitVec 1 := Scalar.cmpi .sgt v91 c0_i32_52
  let v94 : BitVec 32 := Scalar.extui v93
  let c0_i32_53 : BitVec 32 := 0#32
  let v95 : BitVec 1 := Scalar.cmpi .slt v91 c0_i32_53
  let v96 : BitVec 32 := Scalar.extui v95
  let v97 : BitVec 32 := Scalar.subi v94 v96
  let c256_i32_51 : BitVec 32 := 256#32
  let c0_i32_54 : BitVec 32 := 0#32
  let v98 : BitVec 1 := Scalar.cmpi .sgt c256_i32_51 c0_i32_54
  let v99 : BitVec 32 := Scalar.extui v98
  let c0_i32_55 : BitVec 32 := 0#32
  let v100 : BitVec 1 := Scalar.cmpi .slt c256_i32_51 c0_i32_55
  let v101 : BitVec 32 := Scalar.extui v100
  let v102 : BitVec 32 := Scalar.subi v99 v101
  let v103 : BitVec 1 := Scalar.cmpi .ne v97 v102
  let v104 : BitVec 32 := Scalar.remsi v91 c256_i32_51
  let c0_i32_56 : BitVec 32 := 0#32
  let v105 : BitVec 1 := Scalar.cmpi .ne v104 c0_i32_56
  let v106 : BitVec 1 := Scalar.andi v103 v105
  let v92 : BitVec 32 := Scalar.divsi v91 c256_i32_51
  let c1_i32_57 : BitVec 32 := 1#32
  let v107 : BitVec 32 := Scalar.subi v92 c1_i32_57
  let v108 : BitVec 32 := Scalar.select v106 v107 v92
  let c10_i32 : BitVec 32 := 10#32
  let v166 : BitVec 1 := Scalar.cmpi .eq v108 c10_i32
  let c2560_i32 : BitVec 32 := 2560#32
  let c9_i32 : BitVec 32 := 9#32
  let v164 : BitVec 1 := Scalar.cmpi .eq v108 c9_i32
  let c2304_i32 : BitVec 32 := 2304#32
  let c8_i32 : BitVec 32 := 8#32
  let v162 : BitVec 1 := Scalar.cmpi .eq v108 c8_i32
  let c2048_i32 : BitVec 32 := 2048#32
  let c7_i32 : BitVec 32 := 7#32
  let v160 : BitVec 1 := Scalar.cmpi .eq v108 c7_i32
  let c1792_i32 : BitVec 32 := 1792#32
  let c6_i32 : BitVec 32 := 6#32
  let v158 : BitVec 1 := Scalar.cmpi .eq v108 c6_i32
  let c1536_i32 : BitVec 32 := 1536#32
  let c5_i32 : BitVec 32 := 5#32
  let v156 : BitVec 1 := Scalar.cmpi .eq v108 c5_i32
  let c1280_i32 : BitVec 32 := 1280#32
  let c4_i32 : BitVec 32 := 4#32
  let v154 : BitVec 1 := Scalar.cmpi .eq v108 c4_i32
  let c1024_i32 : BitVec 32 := 1024#32
  let c3_i32 : BitVec 32 := 3#32
  let v152 : BitVec 1 := Scalar.cmpi .eq v108 c3_i32
  let c768_i32 : BitVec 32 := 768#32
  let c2_i32 : BitVec 32 := 2#32
  let v150 : BitVec 1 := Scalar.cmpi .eq v108 c2_i32
  let c512_i32 : BitVec 32 := 512#32
  let c1_i32_77 : BitVec 32 := 1#32
  let v148 : BitVec 1 := Scalar.cmpi .eq v108 c1_i32_77
  let c256_i32_78 : BitVec 32 := 256#32
  let c0_i32_79 : BitVec 32 := 0#32
  let v149 : BitVec 32 := Scalar.select v148 c256_i32_78 c0_i32_79
  let v151 : BitVec 32 := Scalar.select v150 c512_i32 v149
  let v153 : BitVec 32 := Scalar.select v152 c768_i32 v151
  let v155 : BitVec 32 := Scalar.select v154 c1024_i32 v153
  let v157 : BitVec 32 := Scalar.select v156 c1280_i32 v155
  let v159 : BitVec 32 := Scalar.select v158 c1536_i32 v157
  let v161 : BitVec 32 := Scalar.select v160 c1792_i32 v159
  let v163 : BitVec 32 := Scalar.select v162 c2048_i32 v161
  let v165 : BitVec 32 := Scalar.select v164 c2304_i32 v163
  let v167 : BitVec 32 := Scalar.select v166 c2560_i32 v165
  v167
def k0_off3 (k0_t1 : Fin k0_t1_loop.trips) : Fin 1 → Nat :=
  let c0_i32_6 : BitVec 32 := 0#32
  let c1_i32 : BitVec 32 := 1#32
  let arg16 : BitVec 32 := Scf.iv c0_i32_6 c1_i32 k0_t1
  let c256_i32 : BitVec 32 := 256#32
  let v90 : BitVec 32 := Scalar.muli arg16 c256_i32
  let v91 : BitVec 32 := v90
  let c0_i32_52 : BitVec 32 := 0#32
  let v93 : BitVec 1 := Scalar.cmpi .sgt v91 c0_i32_52
  let v94 : BitVec 32 := Scalar.extui v93
  let c0_i32_53 : BitVec 32 := 0#32
  let v95 : BitVec 1 := Scalar.cmpi .slt v91 c0_i32_53
  let v96 : BitVec 32 := Scalar.extui v95
  let v97 : BitVec 32 := Scalar.subi v94 v96
  let c256_i32_51 : BitVec 32 := 256#32
  let c0_i32_54 : BitVec 32 := 0#32
  let v98 : BitVec 1 := Scalar.cmpi .sgt c256_i32_51 c0_i32_54
  let v99 : BitVec 32 := Scalar.extui v98
  let c0_i32_55 : BitVec 32 := 0#32
  let v100 : BitVec 1 := Scalar.cmpi .slt c256_i32_51 c0_i32_55
  let v101 : BitVec 32 := Scalar.extui v100
  let v102 : BitVec 32 := Scalar.subi v99 v101
  let v103 : BitVec 1 := Scalar.cmpi .ne v97 v102
  let v104 : BitVec 32 := Scalar.remsi v91 c256_i32_51
  let c0_i32_56 : BitVec 32 := 0#32
  let v105 : BitVec 1 := Scalar.cmpi .ne v104 c0_i32_56
  let v106 : BitVec 1 := Scalar.andi v103 v105
  let v92 : BitVec 32 := Scalar.divsi v91 c256_i32_51
  let c1_i32_57 : BitVec 32 := 1#32
  let v107 : BitVec 32 := Scalar.subi v92 c1_i32_57
  let v108 : BitVec 32 := Scalar.select v106 v107 v92
  ![v108.toNat]
def k0_off4 (k0_t1 : Fin k0_t1_loop.trips) : Fin 2 → Nat :=
  let c0_i32_6 : BitVec 32 := 0#32
  let c1_i32 : BitVec 32 := 1#32
  let arg16 : BitVec 32 := Scf.iv c0_i32_6 c1_i32 k0_t1
  let c256_i32 : BitVec 32 := 256#32
  let v90 : BitVec 32 := Scalar.muli arg16 c256_i32
  let v91 : BitVec 32 := v90
  let c0_i32_52 : BitVec 32 := 0#32
  let v93 : BitVec 1 := Scalar.cmpi .sgt v91 c0_i32_52
  let v94 : BitVec 32 := Scalar.extui v93
  let c0_i32_53 : BitVec 32 := 0#32
  let v95 : BitVec 1 := Scalar.cmpi .slt v91 c0_i32_53
  let v96 : BitVec 32 := Scalar.extui v95
  let v97 : BitVec 32 := Scalar.subi v94 v96
  let c256_i32_51 : BitVec 32 := 256#32
  let c0_i32_54 : BitVec 32 := 0#32
  let v98 : BitVec 1 := Scalar.cmpi .sgt c256_i32_51 c0_i32_54
  let v99 : BitVec 32 := Scalar.extui v98
  let c0_i32_55 : BitVec 32 := 0#32
  let v100 : BitVec 1 := Scalar.cmpi .slt c256_i32_51 c0_i32_55
  let v101 : BitVec 32 := Scalar.extui v100
  let v102 : BitVec 32 := Scalar.subi v99 v101
  let v103 : BitVec 1 := Scalar.cmpi .ne v97 v102
  let v104 : BitVec 32 := Scalar.remsi v91 c256_i32_51
  let c0_i32_56 : BitVec 32 := 0#32
  let v105 : BitVec 1 := Scalar.cmpi .ne v104 c0_i32_56
  let v106 : BitVec 1 := Scalar.andi v103 v105
  let v92 : BitVec 32 := Scalar.divsi v91 c256_i32_51
  let c1_i32_57 : BitVec 32 := 1#32
  let v107 : BitVec 32 := Scalar.subi v92 c1_i32_57
  let v108 : BitVec 32 := Scalar.select v106 v107 v92
  let c10_i32 : BitVec 32 := 10#32
  let v166 : BitVec 1 := Scalar.cmpi .eq v108 c10_i32
  let c2560_i32 : BitVec 32 := 2560#32
  let c9_i32 : BitVec 32 := 9#32
  let v164 : BitVec 1 := Scalar.cmpi .eq v108 c9_i32
  let c2304_i32 : BitVec 32 := 2304#32
  let c8_i32 : BitVec 32 := 8#32
  let v162 : BitVec 1 := Scalar.cmpi .eq v108 c8_i32
  let c2048_i32 : BitVec 32 := 2048#32
  let c7_i32 : BitVec 32 := 7#32
  let v160 : BitVec 1 := Scalar.cmpi .eq v108 c7_i32
  let c1792_i32 : BitVec 32 := 1792#32
  let c6_i32 : BitVec 32 := 6#32
  let v158 : BitVec 1 := Scalar.cmpi .eq v108 c6_i32
  let c1536_i32 : BitVec 32 := 1536#32
  let c5_i32 : BitVec 32 := 5#32
  let v156 : BitVec 1 := Scalar.cmpi .eq v108 c5_i32
  let c1280_i32 : BitVec 32 := 1280#32
  let c4_i32 : BitVec 32 := 4#32
  let v154 : BitVec 1 := Scalar.cmpi .eq v108 c4_i32
  let c1024_i32 : BitVec 32 := 1024#32
  let c3_i32 : BitVec 32 := 3#32
  let v152 : BitVec 1 := Scalar.cmpi .eq v108 c3_i32
  let c768_i32 : BitVec 32 := 768#32
  let c2_i32 : BitVec 32 := 2#32
  let v150 : BitVec 1 := Scalar.cmpi .eq v108 c2_i32
  let c512_i32 : BitVec 32 := 512#32
  let c1_i32_77 : BitVec 32 := 1#32
  let v148 : BitVec 1 := Scalar.cmpi .eq v108 c1_i32_77
  let c256_i32_78 : BitVec 32 := 256#32
  let c0_i32_79 : BitVec 32 := 0#32
  let v149 : BitVec 32 := Scalar.select v148 c256_i32_78 c0_i32_79
  let v151 : BitVec 32 := Scalar.select v150 c512_i32 v149
  let v153 : BitVec 32 := Scalar.select v152 c768_i32 v151
  let v155 : BitVec 32 := Scalar.select v154 c1024_i32 v153
  let v157 : BitVec 32 := Scalar.select v156 c1280_i32 v155
  let v159 : BitVec 32 := Scalar.select v158 c1536_i32 v157
  let v161 : BitVec 32 := Scalar.select v160 c1792_i32 v159
  let v163 : BitVec 32 := Scalar.select v162 c2048_i32 v161
  let v165 : BitVec 32 := Scalar.select v164 c2304_i32 v163
  let v167 : BitVec 32 := Scalar.select v166 c2560_i32 v165
  let v168 : BitVec 32 := v167
  let c0_i32_80 : BitVec 32 := 0#32
  ![v168.toNat, 0]
def k0_cond5 (k0_t1 : Fin k0_t1_loop.trips) : BitVec 1 :=
  let c0_i32_6 : BitVec 32 := 0#32
  let c1_i32 : BitVec 32 := 1#32
  let arg16 : BitVec 32 := Scf.iv c0_i32_6 c1_i32 k0_t1
  let c256_i32 : BitVec 32 := 256#32
  let v90 : BitVec 32 := Scalar.muli arg16 c256_i32
  let v91 : BitVec 32 := v90
  let c0_i32_52 : BitVec 32 := 0#32
  let v93 : BitVec 1 := Scalar.cmpi .sgt v91 c0_i32_52
  let v94 : BitVec 32 := Scalar.extui v93
  let c0_i32_53 : BitVec 32 := 0#32
  let v95 : BitVec 1 := Scalar.cmpi .slt v91 c0_i32_53
  let v96 : BitVec 32 := Scalar.extui v95
  let v97 : BitVec 32 := Scalar.subi v94 v96
  let c256_i32_51 : BitVec 32 := 256#32
  let c0_i32_54 : BitVec 32 := 0#32
  let v98 : BitVec 1 := Scalar.cmpi .sgt c256_i32_51 c0_i32_54
  let v99 : BitVec 32 := Scalar.extui v98
  let c0_i32_55 : BitVec 32 := 0#32
  let v100 : BitVec 1 := Scalar.cmpi .slt c256_i32_51 c0_i32_55
  let v101 : BitVec 32 := Scalar.extui v100
  let v102 : BitVec 32 := Scalar.subi v99 v101
  let v103 : BitVec 1 := Scalar.cmpi .ne v97 v102
  let v104 : BitVec 32 := Scalar.remsi v91 c256_i32_51
  let c0_i32_56 : BitVec 32 := 0#32
  let v105 : BitVec 1 := Scalar.cmpi .ne v104 c0_i32_56
  let v106 : BitVec 1 := Scalar.andi v103 v105
  let v92 : BitVec 32 := Scalar.divsi v91 c256_i32_51
  let c1_i32_57 : BitVec 32 := 1#32
  let v107 : BitVec 32 := Scalar.subi v92 c1_i32_57
  let v108 : BitVec 32 := Scalar.select v106 v107 v92
  let c2_i32_82 : BitVec 32 := 2#32
  let v173 : BitVec 32 := Scalar.addi v108 c2_i32_82
  let c11_i32_83 : BitVec 32 := 11#32
  let v174 : BitVec 1 := Scalar.cmpi .slt v173 c11_i32_83
  let v175 : BitVec 32 := Scalar.extui v174
  let c0_i32_84 : BitVec 32 := 0#32
  let v176 : BitVec 1 := Scalar.cmpi .ne v175 c0_i32_84
  v176

def k0_mult7 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c256_i32 : BitVec 32 := 256#32
  let v90 : BitVec 32 := Scalar.muli arg16 c256_i32
  let v91 : BitVec 32 := v90
  let c0_i32_52 : BitVec 32 := 0#32
  let v93 : BitVec 1 := Scalar.cmpi .sgt v91 c0_i32_52
  let v94 : BitVec 32 := Scalar.extui v93
  let c0_i32_53 : BitVec 32 := 0#32
  let v95 : BitVec 1 := Scalar.cmpi .slt v91 c0_i32_53
  let v96 : BitVec 32 := Scalar.extui v95
  let v97 : BitVec 32 := Scalar.subi v94 v96
  let c256_i32_51 : BitVec 32 := 256#32
  let c0_i32_54 : BitVec 32 := 0#32
  let v98 : BitVec 1 := Scalar.cmpi .sgt c256_i32_51 c0_i32_54
  let v99 : BitVec 32 := Scalar.extui v98
  let c0_i32_55 : BitVec 32 := 0#32
  let v100 : BitVec 1 := Scalar.cmpi .slt c256_i32_51 c0_i32_55
  let v101 : BitVec 32 := Scalar.extui v100
  let v102 : BitVec 32 := Scalar.subi v99 v101
  let v103 : BitVec 1 := Scalar.cmpi .ne v97 v102
  let v104 : BitVec 32 := Scalar.remsi v91 c256_i32_51
  let c0_i32_56 : BitVec 32 := 0#32
  let v105 : BitVec 1 := Scalar.cmpi .ne v104 c0_i32_56
  let v106 : BitVec 1 := Scalar.andi v103 v105
  let v92 : BitVec 32 := Scalar.divsi v91 c256_i32_51
  let c1_i32_57 : BitVec 32 := 1#32
  let v107 : BitVec 32 := Scalar.subi v92 c1_i32_57
  let v108 : BitVec 32 := Scalar.select v106 v107 v92
  let c2_i32_85 : BitVec 32 := 2#32
  let v177 : BitVec 32 := Scalar.addi v108 c2_i32_85
  let c10_i32_105 : BitVec 32 := 10#32
  let v196 : BitVec 1 := Scalar.cmpi .eq v177 c10_i32_105
  let c2560_i32_106 : BitVec 32 := 2560#32
  let c9_i32_103 : BitVec 32 := 9#32
  let v194 : BitVec 1 := Scalar.cmpi .eq v177 c9_i32_103
  let c2304_i32_104 : BitVec 32 := 2304#32
  let c8_i32_101 : BitVec 32 := 8#32
  let v192 : BitVec 1 := Scalar.cmpi .eq v177 c8_i32_101
  let c2048_i32_102 : BitVec 32 := 2048#32
  let c7_i32_99 : BitVec 32 := 7#32
  let v190 : BitVec 1 := Scalar.cmpi .eq v177 c7_i32_99
  let c1792_i32_100 : BitVec 32 := 1792#32
  let c6_i32_97 : BitVec 32 := 6#32
  let v188 : BitVec 1 := Scalar.cmpi .eq v177 c6_i32_97
  let c1536_i32_98 : BitVec 32 := 1536#32
  let c5_i32_95 : BitVec 32 := 5#32
  let v186 : BitVec 1 := Scalar.cmpi .eq v177 c5_i32_95
  let c1280_i32_96 : BitVec 32 := 1280#32
  let c4_i32_93 : BitVec 32 := 4#32
  let v184 : BitVec 1 := Scalar.cmpi .eq v177 c4_i32_93
  let c1024_i32_94 : BitVec 32 := 1024#32
  let c3_i32_91 : BitVec 32 := 3#32
  let v182 : BitVec 1 := Scalar.cmpi .eq v177 c3_i32_91
  let c768_i32_92 : BitVec 32 := 768#32
  let c2_i32_89 : BitVec 32 := 2#32
  let v180 : BitVec 1 := Scalar.cmpi .eq v177 c2_i32_89
  let c512_i32_90 : BitVec 32 := 512#32
  let c1_i32_86 : BitVec 32 := 1#32
  let v178 : BitVec 1 := Scalar.cmpi .eq v177 c1_i32_86
  let c256_i32_87 : BitVec 32 := 256#32
  let c0_i32_88 : BitVec 32 := 0#32
  let v179 : BitVec 32 := Scalar.select v178 c256_i32_87 c0_i32_88
  let v181 : BitVec 32 := Scalar.select v180 c512_i32_90 v179
  let v183 : BitVec 32 := Scalar.select v182 c768_i32_92 v181
  let v185 : BitVec 32 := Scalar.select v184 c1024_i32_94 v183
  let v187 : BitVec 32 := Scalar.select v186 c1280_i32_96 v185
  let v189 : BitVec 32 := Scalar.select v188 c1536_i32_98 v187
  let v191 : BitVec 32 := Scalar.select v190 c1792_i32_100 v189
  let v193 : BitVec 32 := Scalar.select v192 c2048_i32_102 v191
  let v195 : BitVec 32 := Scalar.select v194 c2304_i32_104 v193
  let v197 : BitVec 32 := Scalar.select v196 c2560_i32_106 v195
  v197
def k0_off5 (k0_t1 : Fin k0_t1_loop.trips) : Fin 1 → Nat :=
  let c0_i32_6 : BitVec 32 := 0#32
  let c1_i32 : BitVec 32 := 1#32
  let arg16 : BitVec 32 := Scf.iv c0_i32_6 c1_i32 k0_t1
  let c256_i32 : BitVec 32 := 256#32
  let v90 : BitVec 32 := Scalar.muli arg16 c256_i32
  let v91 : BitVec 32 := v90
  let c0_i32_52 : BitVec 32 := 0#32
  let v93 : BitVec 1 := Scalar.cmpi .sgt v91 c0_i32_52
  let v94 : BitVec 32 := Scalar.extui v93
  let c0_i32_53 : BitVec 32 := 0#32
  let v95 : BitVec 1 := Scalar.cmpi .slt v91 c0_i32_53
  let v96 : BitVec 32 := Scalar.extui v95
  let v97 : BitVec 32 := Scalar.subi v94 v96
  let c256_i32_51 : BitVec 32 := 256#32
  let c0_i32_54 : BitVec 32 := 0#32
  let v98 : BitVec 1 := Scalar.cmpi .sgt c256_i32_51 c0_i32_54
  let v99 : BitVec 32 := Scalar.extui v98
  let c0_i32_55 : BitVec 32 := 0#32
  let v100 : BitVec 1 := Scalar.cmpi .slt c256_i32_51 c0_i32_55
  let v101 : BitVec 32 := Scalar.extui v100
  let v102 : BitVec 32 := Scalar.subi v99 v101
  let v103 : BitVec 1 := Scalar.cmpi .ne v97 v102
  let v104 : BitVec 32 := Scalar.remsi v91 c256_i32_51
  let c0_i32_56 : BitVec 32 := 0#32
  let v105 : BitVec 1 := Scalar.cmpi .ne v104 c0_i32_56
  let v106 : BitVec 1 := Scalar.andi v103 v105
  let v92 : BitVec 32 := Scalar.divsi v91 c256_i32_51
  let c1_i32_57 : BitVec 32 := 1#32
  let v107 : BitVec 32 := Scalar.subi v92 c1_i32_57
  let v108 : BitVec 32 := Scalar.select v106 v107 v92
  let c2_i32_85 : BitVec 32 := 2#32
  let v177 : BitVec 32 := Scalar.addi v108 c2_i32_85
  ![v177.toNat]
def k0_off6 (k0_t1 : Fin k0_t1_loop.trips) : Fin 2 → Nat :=
  let c0_i32_6 : BitVec 32 := 0#32
  let c1_i32 : BitVec 32 := 1#32
  let arg16 : BitVec 32 := Scf.iv c0_i32_6 c1_i32 k0_t1
  let c256_i32 : BitVec 32 := 256#32
  let v90 : BitVec 32 := Scalar.muli arg16 c256_i32
  let v91 : BitVec 32 := v90
  let c0_i32_52 : BitVec 32 := 0#32
  let v93 : BitVec 1 := Scalar.cmpi .sgt v91 c0_i32_52
  let v94 : BitVec 32 := Scalar.extui v93
  let c0_i32_53 : BitVec 32 := 0#32
  let v95 : BitVec 1 := Scalar.cmpi .slt v91 c0_i32_53
  let v96 : BitVec 32 := Scalar.extui v95
  let v97 : BitVec 32 := Scalar.subi v94 v96
  let c256_i32_51 : BitVec 32 := 256#32
  let c0_i32_54 : BitVec 32 := 0#32
  let v98 : BitVec 1 := Scalar.cmpi .sgt c256_i32_51 c0_i32_54
  let v99 : BitVec 32 := Scalar.extui v98
  let c0_i32_55 : BitVec 32 := 0#32
  let v100 : BitVec 1 := Scalar.cmpi .slt c256_i32_51 c0_i32_55
  let v101 : BitVec 32 := Scalar.extui v100
  let v102 : BitVec 32 := Scalar.subi v99 v101
  let v103 : BitVec 1 := Scalar.cmpi .ne v97 v102
  let v104 : BitVec 32 := Scalar.remsi v91 c256_i32_51
  let c0_i32_56 : BitVec 32 := 0#32
  let v105 : BitVec 1 := Scalar.cmpi .ne v104 c0_i32_56
  let v106 : BitVec 1 := Scalar.andi v103 v105
  let v92 : BitVec 32 := Scalar.divsi v91 c256_i32_51
  let c1_i32_57 : BitVec 32 := 1#32
  let v107 : BitVec 32 := Scalar.subi v92 c1_i32_57
  let v108 : BitVec 32 := Scalar.select v106 v107 v92
  let c2_i32_85 : BitVec 32 := 2#32
  let v177 : BitVec 32 := Scalar.addi v108 c2_i32_85
  let c10_i32_105 : BitVec 32 := 10#32
  let v196 : BitVec 1 := Scalar.cmpi .eq v177 c10_i32_105
  let c2560_i32_106 : BitVec 32 := 2560#32
  let c9_i32_103 : BitVec 32 := 9#32
  let v194 : BitVec 1 := Scalar.cmpi .eq v177 c9_i32_103
  let c2304_i32_104 : BitVec 32 := 2304#32
  let c8_i32_101 : BitVec 32 := 8#32
  let v192 : BitVec 1 := Scalar.cmpi .eq v177 c8_i32_101
  let c2048_i32_102 : BitVec 32 := 2048#32
  let c7_i32_99 : BitVec 32 := 7#32
  let v190 : BitVec 1 := Scalar.cmpi .eq v177 c7_i32_99
  let c1792_i32_100 : BitVec 32 := 1792#32
  let c6_i32_97 : BitVec 32 := 6#32
  let v188 : BitVec 1 := Scalar.cmpi .eq v177 c6_i32_97
  let c1536_i32_98 : BitVec 32 := 1536#32
  let c5_i32_95 : BitVec 32 := 5#32
  let v186 : BitVec 1 := Scalar.cmpi .eq v177 c5_i32_95
  let c1280_i32_96 : BitVec 32 := 1280#32
  let c4_i32_93 : BitVec 32 := 4#32
  let v184 : BitVec 1 := Scalar.cmpi .eq v177 c4_i32_93
  let c1024_i32_94 : BitVec 32 := 1024#32
  let c3_i32_91 : BitVec 32 := 3#32
  let v182 : BitVec 1 := Scalar.cmpi .eq v177 c3_i32_91
  let c768_i32_92 : BitVec 32 := 768#32
  let c2_i32_89 : BitVec 32 := 2#32
  let v180 : BitVec 1 := Scalar.cmpi .eq v177 c2_i32_89
  let c512_i32_90 : BitVec 32 := 512#32
  let c1_i32_86 : BitVec 32 := 1#32
  let v178 : BitVec 1 := Scalar.cmpi .eq v177 c1_i32_86
  let c256_i32_87 : BitVec 32 := 256#32
  let c0_i32_88 : BitVec 32 := 0#32
  let v179 : BitVec 32 := Scalar.select v178 c256_i32_87 c0_i32_88
  let v181 : BitVec 32 := Scalar.select v180 c512_i32_90 v179
  let v183 : BitVec 32 := Scalar.select v182 c768_i32_92 v181
  let v185 : BitVec 32 := Scalar.select v184 c1024_i32_94 v183
  let v187 : BitVec 32 := Scalar.select v186 c1280_i32_96 v185
  let v189 : BitVec 32 := Scalar.select v188 c1536_i32_98 v187
  let v191 : BitVec 32 := Scalar.select v190 c1792_i32_100 v189
  let v193 : BitVec 32 := Scalar.select v192 c2048_i32_102 v191
  let v195 : BitVec 32 := Scalar.select v194 c2304_i32_104 v193
  let v197 : BitVec 32 := Scalar.select v196 c2560_i32_106 v195
  let v198 : BitVec 32 := v197
  let c0_i32_107 : BitVec 32 := 0#32
  ![v198.toNat, 0]
def k0_cond6 (i : grid0.Coords) : BitVec 1 :=
  let arg0 : BitVec 32 := BitVec.ofNat 32 (i 0).val
  let c0_i32_1 : BitVec 32 := 0#32
  let v3 : BitVec 1 := Scalar.cmpi .eq arg0 c0_i32_1
  let v128 : BitVec 32 := Scalar.extui v3
  let c0_i32_66 : BitVec 32 := 0#32
  let v129 : BitVec 1 := Scalar.cmpi .ne v128 c0_i32_66
  v129

def k0_mult8 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c256_i32 : BitVec 32 := 256#32
  let v90 : BitVec 32 := Scalar.muli arg16 c256_i32
  let v91 : BitVec 32 := v90
  let c0_i32_60 : BitVec 32 := 0#32
  let v112 : BitVec 1 := Scalar.cmpi .sgt v91 c0_i32_60
  let v113 : BitVec 32 := Scalar.extui v112
  let c0_i32_61 : BitVec 32 := 0#32
  let v114 : BitVec 1 := Scalar.cmpi .slt v91 c0_i32_61
  let v115 : BitVec 32 := Scalar.extui v114
  let v116 : BitVec 32 := Scalar.subi v113 v115
  let c256_i32_59 : BitVec 32 := 256#32
  let c0_i32_62 : BitVec 32 := 0#32
  let v117 : BitVec 1 := Scalar.cmpi .sgt c256_i32_59 c0_i32_62
  let v118 : BitVec 32 := Scalar.extui v117
  let c0_i32_63 : BitVec 32 := 0#32
  let v119 : BitVec 1 := Scalar.cmpi .slt c256_i32_59 c0_i32_63
  let v120 : BitVec 32 := Scalar.extui v119
  let v121 : BitVec 32 := Scalar.subi v118 v120
  let v122 : BitVec 1 := Scalar.cmpi .ne v116 v121
  let v123 : BitVec 32 := Scalar.remsi v91 c256_i32_59
  let c0_i32_64 : BitVec 32 := 0#32
  let v124 : BitVec 1 := Scalar.cmpi .ne v123 c0_i32_64
  let v125 : BitVec 1 := Scalar.andi v122 v124
  let v111 : BitVec 32 := Scalar.divsi v91 c256_i32_59
  let c1_i32_65 : BitVec 32 := 1#32
  let v126 : BitVec 32 := Scalar.subi v111 c1_i32_65
  let v127 : BitVec 32 := Scalar.select v125 v126 v111
  let c10_i32 : BitVec 32 := 10#32
  let v166 : BitVec 1 := Scalar.cmpi .eq v127 c10_i32
  let c2560_i32 : BitVec 32 := 2560#32
  let c9_i32 : BitVec 32 := 9#32
  let v164 : BitVec 1 := Scalar.cmpi .eq v127 c9_i32
  let c2304_i32 : BitVec 32 := 2304#32
  let c8_i32 : BitVec 32 := 8#32
  let v162 : BitVec 1 := Scalar.cmpi .eq v127 c8_i32
  let c2048_i32 : BitVec 32 := 2048#32
  let c7_i32 : BitVec 32 := 7#32
  let v160 : BitVec 1 := Scalar.cmpi .eq v127 c7_i32
  let c1792_i32 : BitVec 32 := 1792#32
  let c6_i32 : BitVec 32 := 6#32
  let v158 : BitVec 1 := Scalar.cmpi .eq v127 c6_i32
  let c1536_i32 : BitVec 32 := 1536#32
  let c5_i32 : BitVec 32 := 5#32
  let v156 : BitVec 1 := Scalar.cmpi .eq v127 c5_i32
  let c1280_i32 : BitVec 32 := 1280#32
  let c4_i32 : BitVec 32 := 4#32
  let v154 : BitVec 1 := Scalar.cmpi .eq v127 c4_i32
  let c1024_i32 : BitVec 32 := 1024#32
  let c3_i32 : BitVec 32 := 3#32
  let v152 : BitVec 1 := Scalar.cmpi .eq v127 c3_i32
  let c768_i32 : BitVec 32 := 768#32
  let c2_i32 : BitVec 32 := 2#32
  let v150 : BitVec 1 := Scalar.cmpi .eq v127 c2_i32
  let c512_i32 : BitVec 32 := 512#32
  let c1_i32_77 : BitVec 32 := 1#32
  let v148 : BitVec 1 := Scalar.cmpi .eq v127 c1_i32_77
  let c256_i32_78 : BitVec 32 := 256#32
  let c0_i32_79 : BitVec 32 := 0#32
  let v149 : BitVec 32 := Scalar.select v148 c256_i32_78 c0_i32_79
  let v151 : BitVec 32 := Scalar.select v150 c512_i32 v149
  let v153 : BitVec 32 := Scalar.select v152 c768_i32 v151
  let v155 : BitVec 32 := Scalar.select v154 c1024_i32 v153
  let v157 : BitVec 32 := Scalar.select v156 c1280_i32 v155
  let v159 : BitVec 32 := Scalar.select v158 c1536_i32 v157
  let v161 : BitVec 32 := Scalar.select v160 c1792_i32 v159
  let v163 : BitVec 32 := Scalar.select v162 c2048_i32 v161
  let v165 : BitVec 32 := Scalar.select v164 c2304_i32 v163
  let v167 : BitVec 32 := Scalar.select v166 c2560_i32 v165
  v167
def k0_off7 (k0_t1 : Fin k0_t1_loop.trips) : Fin 1 → Nat :=
  let c0_i32_6 : BitVec 32 := 0#32
  let c1_i32 : BitVec 32 := 1#32
  let arg16 : BitVec 32 := Scf.iv c0_i32_6 c1_i32 k0_t1
  let c256_i32 : BitVec 32 := 256#32
  let v90 : BitVec 32 := Scalar.muli arg16 c256_i32
  let v91 : BitVec 32 := v90
  let c0_i32_60 : BitVec 32 := 0#32
  let v112 : BitVec 1 := Scalar.cmpi .sgt v91 c0_i32_60
  let v113 : BitVec 32 := Scalar.extui v112
  let c0_i32_61 : BitVec 32 := 0#32
  let v114 : BitVec 1 := Scalar.cmpi .slt v91 c0_i32_61
  let v115 : BitVec 32 := Scalar.extui v114
  let v116 : BitVec 32 := Scalar.subi v113 v115
  let c256_i32_59 : BitVec 32 := 256#32
  let c0_i32_62 : BitVec 32 := 0#32
  let v117 : BitVec 1 := Scalar.cmpi .sgt c256_i32_59 c0_i32_62
  let v118 : BitVec 32 := Scalar.extui v117
  let c0_i32_63 : BitVec 32 := 0#32
  let v119 : BitVec 1 := Scalar.cmpi .slt c256_i32_59 c0_i32_63
  let v120 : BitVec 32 := Scalar.extui v119
  let v121 : BitVec 32 := Scalar.subi v118 v120
  let v122 : BitVec 1 := Scalar.cmpi .ne v116 v121
  let v123 : BitVec 32 := Scalar.remsi v91 c256_i32_59
  let c0_i32_64 : BitVec 32 := 0#32
  let v124 : BitVec 1 := Scalar.cmpi .ne v123 c0_i32_64
  let v125 : BitVec 1 := Scalar.andi v122 v124
  let v111 : BitVec 32 := Scalar.divsi v91 c256_i32_59
  let c1_i32_65 : BitVec 32 := 1#32
  let v126 : BitVec 32 := Scalar.subi v111 c1_i32_65
  let v127 : BitVec 32 := Scalar.select v125 v126 v111
  ![v127.toNat]
def k0_off8 (k0_t1 : Fin k0_t1_loop.trips) : Fin 2 → Nat :=
  let c0_i32_6 : BitVec 32 := 0#32
  let c1_i32 : BitVec 32 := 1#32
  let arg16 : BitVec 32 := Scf.iv c0_i32_6 c1_i32 k0_t1
  let c256_i32 : BitVec 32 := 256#32
  let v90 : BitVec 32 := Scalar.muli arg16 c256_i32
  let v91 : BitVec 32 := v90
  let c0_i32_60 : BitVec 32 := 0#32
  let v112 : BitVec 1 := Scalar.cmpi .sgt v91 c0_i32_60
  let v113 : BitVec 32 := Scalar.extui v112
  let c0_i32_61 : BitVec 32 := 0#32
  let v114 : BitVec 1 := Scalar.cmpi .slt v91 c0_i32_61
  let v115 : BitVec 32 := Scalar.extui v114
  let v116 : BitVec 32 := Scalar.subi v113 v115
  let c256_i32_59 : BitVec 32 := 256#32
  let c0_i32_62 : BitVec 32 := 0#32
  let v117 : BitVec 1 := Scalar.cmpi .sgt c256_i32_59 c0_i32_62
  let v118 : BitVec 32 := Scalar.extui v117
  let c0_i32_63 : BitVec 32 := 0#32
  let v119 : BitVec 1 := Scalar.cmpi .slt c256_i32_59 c0_i32_63
  let v120 : BitVec 32 := Scalar.extui v119
  let v121 : BitVec 32 := Scalar.subi v118 v120
  let v122 : BitVec 1 := Scalar.cmpi .ne v116 v121
  let v123 : BitVec 32 := Scalar.remsi v91 c256_i32_59
  let c0_i32_64 : BitVec 32 := 0#32
  let v124 : BitVec 1 := Scalar.cmpi .ne v123 c0_i32_64
  let v125 : BitVec 1 := Scalar.andi v122 v124
  let v111 : BitVec 32 := Scalar.divsi v91 c256_i32_59
  let c1_i32_65 : BitVec 32 := 1#32
  let v126 : BitVec 32 := Scalar.subi v111 c1_i32_65
  let v127 : BitVec 32 := Scalar.select v125 v126 v111
  let c10_i32 : BitVec 32 := 10#32
  let v166 : BitVec 1 := Scalar.cmpi .eq v127 c10_i32
  let c2560_i32 : BitVec 32 := 2560#32
  let c9_i32 : BitVec 32 := 9#32
  let v164 : BitVec 1 := Scalar.cmpi .eq v127 c9_i32
  let c2304_i32 : BitVec 32 := 2304#32
  let c8_i32 : BitVec 32 := 8#32
  let v162 : BitVec 1 := Scalar.cmpi .eq v127 c8_i32
  let c2048_i32 : BitVec 32 := 2048#32
  let c7_i32 : BitVec 32 := 7#32
  let v160 : BitVec 1 := Scalar.cmpi .eq v127 c7_i32
  let c1792_i32 : BitVec 32 := 1792#32
  let c6_i32 : BitVec 32 := 6#32
  let v158 : BitVec 1 := Scalar.cmpi .eq v127 c6_i32
  let c1536_i32 : BitVec 32 := 1536#32
  let c5_i32 : BitVec 32 := 5#32
  let v156 : BitVec 1 := Scalar.cmpi .eq v127 c5_i32
  let c1280_i32 : BitVec 32 := 1280#32
  let c4_i32 : BitVec 32 := 4#32
  let v154 : BitVec 1 := Scalar.cmpi .eq v127 c4_i32
  let c1024_i32 : BitVec 32 := 1024#32
  let c3_i32 : BitVec 32 := 3#32
  let v152 : BitVec 1 := Scalar.cmpi .eq v127 c3_i32
  let c768_i32 : BitVec 32 := 768#32
  let c2_i32 : BitVec 32 := 2#32
  let v150 : BitVec 1 := Scalar.cmpi .eq v127 c2_i32
  let c512_i32 : BitVec 32 := 512#32
  let c1_i32_77 : BitVec 32 := 1#32
  let v148 : BitVec 1 := Scalar.cmpi .eq v127 c1_i32_77
  let c256_i32_78 : BitVec 32 := 256#32
  let c0_i32_79 : BitVec 32 := 0#32
  let v149 : BitVec 32 := Scalar.select v148 c256_i32_78 c0_i32_79
  let v151 : BitVec 32 := Scalar.select v150 c512_i32 v149
  let v153 : BitVec 32 := Scalar.select v152 c768_i32 v151
  let v155 : BitVec 32 := Scalar.select v154 c1024_i32 v153
  let v157 : BitVec 32 := Scalar.select v156 c1280_i32 v155
  let v159 : BitVec 32 := Scalar.select v158 c1536_i32 v157
  let v161 : BitVec 32 := Scalar.select v160 c1792_i32 v159
  let v163 : BitVec 32 := Scalar.select v162 c2048_i32 v161
  let v165 : BitVec 32 := Scalar.select v164 c2304_i32 v163
  let v167 : BitVec 32 := Scalar.select v166 c2560_i32 v165
  let v168 : BitVec 32 := v167
  let c0_i32_80 : BitVec 32 := 0#32
  ![v168.toNat, 0]
def k0_cond7 (k0_t1 : Fin k0_t1_loop.trips) : BitVec 1 :=
  let c0_i32_6 : BitVec 32 := 0#32
  let c1_i32 : BitVec 32 := 1#32
  let arg16 : BitVec 32 := Scf.iv c0_i32_6 c1_i32 k0_t1
  let c256_i32 : BitVec 32 := 256#32
  let v90 : BitVec 32 := Scalar.muli arg16 c256_i32
  let v91 : BitVec 32 := v90
  let c0_i32_60 : BitVec 32 := 0#32
  let v112 : BitVec 1 := Scalar.cmpi .sgt v91 c0_i32_60
  let v113 : BitVec 32 := Scalar.extui v112
  let c0_i32_61 : BitVec 32 := 0#32
  let v114 : BitVec 1 := Scalar.cmpi .slt v91 c0_i32_61
  let v115 : BitVec 32 := Scalar.extui v114
  let v116 : BitVec 32 := Scalar.subi v113 v115
  let c256_i32_59 : BitVec 32 := 256#32
  let c0_i32_62 : BitVec 32 := 0#32
  let v117 : BitVec 1 := Scalar.cmpi .sgt c256_i32_59 c0_i32_62
  let v118 : BitVec 32 := Scalar.extui v117
  let c0_i32_63 : BitVec 32 := 0#32
  let v119 : BitVec 1 := Scalar.cmpi .slt c256_i32_59 c0_i32_63
  let v120 : BitVec 32 := Scalar.extui v119
  let v121 : BitVec 32 := Scalar.subi v118 v120
  let v122 : BitVec 1 := Scalar.cmpi .ne v116 v121
  let v123 : BitVec 32 := Scalar.remsi v91 c256_i32_59
  let c0_i32_64 : BitVec 32 := 0#32
  let v124 : BitVec 1 := Scalar.cmpi .ne v123 c0_i32_64
  let v125 : BitVec 1 := Scalar.andi v122 v124
  let v111 : BitVec 32 := Scalar.divsi v91 c256_i32_59
  let c1_i32_65 : BitVec 32 := 1#32
  let v126 : BitVec 32 := Scalar.subi v111 c1_i32_65
  let v127 : BitVec 32 := Scalar.select v125 v126 v111
  let c2_i32_82 : BitVec 32 := 2#32
  let v173 : BitVec 32 := Scalar.addi v127 c2_i32_82
  let c11_i32_83 : BitVec 32 := 11#32
  let v174 : BitVec 1 := Scalar.cmpi .slt v173 c11_i32_83
  let v175 : BitVec 32 := Scalar.extui v174
  let c0_i32_84 : BitVec 32 := 0#32
  let v176 : BitVec 1 := Scalar.cmpi .ne v175 c0_i32_84
  v176

def k0_mult9 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c256_i32 : BitVec 32 := 256#32
  let v90 : BitVec 32 := Scalar.muli arg16 c256_i32
  let v91 : BitVec 32 := v90
  let c0_i32_60 : BitVec 32 := 0#32
  let v112 : BitVec 1 := Scalar.cmpi .sgt v91 c0_i32_60
  let v113 : BitVec 32 := Scalar.extui v112
  let c0_i32_61 : BitVec 32 := 0#32
  let v114 : BitVec 1 := Scalar.cmpi .slt v91 c0_i32_61
  let v115 : BitVec 32 := Scalar.extui v114
  let v116 : BitVec 32 := Scalar.subi v113 v115
  let c256_i32_59 : BitVec 32 := 256#32
  let c0_i32_62 : BitVec 32 := 0#32
  let v117 : BitVec 1 := Scalar.cmpi .sgt c256_i32_59 c0_i32_62
  let v118 : BitVec 32 := Scalar.extui v117
  let c0_i32_63 : BitVec 32 := 0#32
  let v119 : BitVec 1 := Scalar.cmpi .slt c256_i32_59 c0_i32_63
  let v120 : BitVec 32 := Scalar.extui v119
  let v121 : BitVec 32 := Scalar.subi v118 v120
  let v122 : BitVec 1 := Scalar.cmpi .ne v116 v121
  let v123 : BitVec 32 := Scalar.remsi v91 c256_i32_59
  let c0_i32_64 : BitVec 32 := 0#32
  let v124 : BitVec 1 := Scalar.cmpi .ne v123 c0_i32_64
  let v125 : BitVec 1 := Scalar.andi v122 v124
  let v111 : BitVec 32 := Scalar.divsi v91 c256_i32_59
  let c1_i32_65 : BitVec 32 := 1#32
  let v126 : BitVec 32 := Scalar.subi v111 c1_i32_65
  let v127 : BitVec 32 := Scalar.select v125 v126 v111
  let c2_i32_85 : BitVec 32 := 2#32
  let v177 : BitVec 32 := Scalar.addi v127 c2_i32_85
  let c10_i32_105 : BitVec 32 := 10#32
  let v196 : BitVec 1 := Scalar.cmpi .eq v177 c10_i32_105
  let c2560_i32_106 : BitVec 32 := 2560#32
  let c9_i32_103 : BitVec 32 := 9#32
  let v194 : BitVec 1 := Scalar.cmpi .eq v177 c9_i32_103
  let c2304_i32_104 : BitVec 32 := 2304#32
  let c8_i32_101 : BitVec 32 := 8#32
  let v192 : BitVec 1 := Scalar.cmpi .eq v177 c8_i32_101
  let c2048_i32_102 : BitVec 32 := 2048#32
  let c7_i32_99 : BitVec 32 := 7#32
  let v190 : BitVec 1 := Scalar.cmpi .eq v177 c7_i32_99
  let c1792_i32_100 : BitVec 32 := 1792#32
  let c6_i32_97 : BitVec 32 := 6#32
  let v188 : BitVec 1 := Scalar.cmpi .eq v177 c6_i32_97
  let c1536_i32_98 : BitVec 32 := 1536#32
  let c5_i32_95 : BitVec 32 := 5#32
  let v186 : BitVec 1 := Scalar.cmpi .eq v177 c5_i32_95
  let c1280_i32_96 : BitVec 32 := 1280#32
  let c4_i32_93 : BitVec 32 := 4#32
  let v184 : BitVec 1 := Scalar.cmpi .eq v177 c4_i32_93
  let c1024_i32_94 : BitVec 32 := 1024#32
  let c3_i32_91 : BitVec 32 := 3#32
  let v182 : BitVec 1 := Scalar.cmpi .eq v177 c3_i32_91
  let c768_i32_92 : BitVec 32 := 768#32
  let c2_i32_89 : BitVec 32 := 2#32
  let v180 : BitVec 1 := Scalar.cmpi .eq v177 c2_i32_89
  let c512_i32_90 : BitVec 32 := 512#32
  let c1_i32_86 : BitVec 32 := 1#32
  let v178 : BitVec 1 := Scalar.cmpi .eq v177 c1_i32_86
  let c256_i32_87 : BitVec 32 := 256#32
  let c0_i32_88 : BitVec 32 := 0#32
  let v179 : BitVec 32 := Scalar.select v178 c256_i32_87 c0_i32_88
  let v181 : BitVec 32 := Scalar.select v180 c512_i32_90 v179
  let v183 : BitVec 32 := Scalar.select v182 c768_i32_92 v181
  let v185 : BitVec 32 := Scalar.select v184 c1024_i32_94 v183
  let v187 : BitVec 32 := Scalar.select v186 c1280_i32_96 v185
  let v189 : BitVec 32 := Scalar.select v188 c1536_i32_98 v187
  let v191 : BitVec 32 := Scalar.select v190 c1792_i32_100 v189
  let v193 : BitVec 32 := Scalar.select v192 c2048_i32_102 v191
  let v195 : BitVec 32 := Scalar.select v194 c2304_i32_104 v193
  let v197 : BitVec 32 := Scalar.select v196 c2560_i32_106 v195
  v197
def k0_off9 (k0_t1 : Fin k0_t1_loop.trips) : Fin 1 → Nat :=
  let c0_i32_6 : BitVec 32 := 0#32
  let c1_i32 : BitVec 32 := 1#32
  let arg16 : BitVec 32 := Scf.iv c0_i32_6 c1_i32 k0_t1
  let c256_i32 : BitVec 32 := 256#32
  let v90 : BitVec 32 := Scalar.muli arg16 c256_i32
  let v91 : BitVec 32 := v90
  let c0_i32_60 : BitVec 32 := 0#32
  let v112 : BitVec 1 := Scalar.cmpi .sgt v91 c0_i32_60
  let v113 : BitVec 32 := Scalar.extui v112
  let c0_i32_61 : BitVec 32 := 0#32
  let v114 : BitVec 1 := Scalar.cmpi .slt v91 c0_i32_61
  let v115 : BitVec 32 := Scalar.extui v114
  let v116 : BitVec 32 := Scalar.subi v113 v115
  let c256_i32_59 : BitVec 32 := 256#32
  let c0_i32_62 : BitVec 32 := 0#32
  let v117 : BitVec 1 := Scalar.cmpi .sgt c256_i32_59 c0_i32_62
  let v118 : BitVec 32 := Scalar.extui v117
  let c0_i32_63 : BitVec 32 := 0#32
  let v119 : BitVec 1 := Scalar.cmpi .slt c256_i32_59 c0_i32_63
  let v120 : BitVec 32 := Scalar.extui v119
  let v121 : BitVec 32 := Scalar.subi v118 v120
  let v122 : BitVec 1 := Scalar.cmpi .ne v116 v121
  let v123 : BitVec 32 := Scalar.remsi v91 c256_i32_59
  let c0_i32_64 : BitVec 32 := 0#32
  let v124 : BitVec 1 := Scalar.cmpi .ne v123 c0_i32_64
  let v125 : BitVec 1 := Scalar.andi v122 v124
  let v111 : BitVec 32 := Scalar.divsi v91 c256_i32_59
  let c1_i32_65 : BitVec 32 := 1#32
  let v126 : BitVec 32 := Scalar.subi v111 c1_i32_65
  let v127 : BitVec 32 := Scalar.select v125 v126 v111
  let c2_i32_85 : BitVec 32 := 2#32
  let v177 : BitVec 32 := Scalar.addi v127 c2_i32_85
  ![v177.toNat]
def k0_off10 (k0_t1 : Fin k0_t1_loop.trips) : Fin 2 → Nat :=
  let c0_i32_6 : BitVec 32 := 0#32
  let c1_i32 : BitVec 32 := 1#32
  let arg16 : BitVec 32 := Scf.iv c0_i32_6 c1_i32 k0_t1
  let c256_i32 : BitVec 32 := 256#32
  let v90 : BitVec 32 := Scalar.muli arg16 c256_i32
  let v91 : BitVec 32 := v90
  let c0_i32_60 : BitVec 32 := 0#32
  let v112 : BitVec 1 := Scalar.cmpi .sgt v91 c0_i32_60
  let v113 : BitVec 32 := Scalar.extui v112
  let c0_i32_61 : BitVec 32 := 0#32
  let v114 : BitVec 1 := Scalar.cmpi .slt v91 c0_i32_61
  let v115 : BitVec 32 := Scalar.extui v114
  let v116 : BitVec 32 := Scalar.subi v113 v115
  let c256_i32_59 : BitVec 32 := 256#32
  let c0_i32_62 : BitVec 32 := 0#32
  let v117 : BitVec 1 := Scalar.cmpi .sgt c256_i32_59 c0_i32_62
  let v118 : BitVec 32 := Scalar.extui v117
  let c0_i32_63 : BitVec 32 := 0#32
  let v119 : BitVec 1 := Scalar.cmpi .slt c256_i32_59 c0_i32_63
  let v120 : BitVec 32 := Scalar.extui v119
  let v121 : BitVec 32 := Scalar.subi v118 v120
  let v122 : BitVec 1 := Scalar.cmpi .ne v116 v121
  let v123 : BitVec 32 := Scalar.remsi v91 c256_i32_59
  let c0_i32_64 : BitVec 32 := 0#32
  let v124 : BitVec 1 := Scalar.cmpi .ne v123 c0_i32_64
  let v125 : BitVec 1 := Scalar.andi v122 v124
  let v111 : BitVec 32 := Scalar.divsi v91 c256_i32_59
  let c1_i32_65 : BitVec 32 := 1#32
  let v126 : BitVec 32 := Scalar.subi v111 c1_i32_65
  let v127 : BitVec 32 := Scalar.select v125 v126 v111
  let c2_i32_85 : BitVec 32 := 2#32
  let v177 : BitVec 32 := Scalar.addi v127 c2_i32_85
  let c10_i32_105 : BitVec 32 := 10#32
  let v196 : BitVec 1 := Scalar.cmpi .eq v177 c10_i32_105
  let c2560_i32_106 : BitVec 32 := 2560#32
  let c9_i32_103 : BitVec 32 := 9#32
  let v194 : BitVec 1 := Scalar.cmpi .eq v177 c9_i32_103
  let c2304_i32_104 : BitVec 32 := 2304#32
  let c8_i32_101 : BitVec 32 := 8#32
  let v192 : BitVec 1 := Scalar.cmpi .eq v177 c8_i32_101
  let c2048_i32_102 : BitVec 32 := 2048#32
  let c7_i32_99 : BitVec 32 := 7#32
  let v190 : BitVec 1 := Scalar.cmpi .eq v177 c7_i32_99
  let c1792_i32_100 : BitVec 32 := 1792#32
  let c6_i32_97 : BitVec 32 := 6#32
  let v188 : BitVec 1 := Scalar.cmpi .eq v177 c6_i32_97
  let c1536_i32_98 : BitVec 32 := 1536#32
  let c5_i32_95 : BitVec 32 := 5#32
  let v186 : BitVec 1 := Scalar.cmpi .eq v177 c5_i32_95
  let c1280_i32_96 : BitVec 32 := 1280#32
  let c4_i32_93 : BitVec 32 := 4#32
  let v184 : BitVec 1 := Scalar.cmpi .eq v177 c4_i32_93
  let c1024_i32_94 : BitVec 32 := 1024#32
  let c3_i32_91 : BitVec 32 := 3#32
  let v182 : BitVec 1 := Scalar.cmpi .eq v177 c3_i32_91
  let c768_i32_92 : BitVec 32 := 768#32
  let c2_i32_89 : BitVec 32 := 2#32
  let v180 : BitVec 1 := Scalar.cmpi .eq v177 c2_i32_89
  let c512_i32_90 : BitVec 32 := 512#32
  let c1_i32_86 : BitVec 32 := 1#32
  let v178 : BitVec 1 := Scalar.cmpi .eq v177 c1_i32_86
  let c256_i32_87 : BitVec 32 := 256#32
  let c0_i32_88 : BitVec 32 := 0#32
  let v179 : BitVec 32 := Scalar.select v178 c256_i32_87 c0_i32_88
  let v181 : BitVec 32 := Scalar.select v180 c512_i32_90 v179
  let v183 : BitVec 32 := Scalar.select v182 c768_i32_92 v181
  let v185 : BitVec 32 := Scalar.select v184 c1024_i32_94 v183
  let v187 : BitVec 32 := Scalar.select v186 c1280_i32_96 v185
  let v189 : BitVec 32 := Scalar.select v188 c1536_i32_98 v187
  let v191 : BitVec 32 := Scalar.select v190 c1792_i32_100 v189
  let v193 : BitVec 32 := Scalar.select v192 c2048_i32_102 v191
  let v195 : BitVec 32 := Scalar.select v194 c2304_i32_104 v193
  let v197 : BitVec 32 := Scalar.select v196 c2560_i32_106 v195
  let v198 : BitVec 32 := v197
  let c0_i32_107 : BitVec 32 := 0#32
  ![v198.toNat, 0]
def k0_off11 (k0_t1 : Fin k0_t1_loop.trips) : Fin 2 → Nat :=
  let c0_69 : Index := 0#32
  let c0_i32_6 : BitVec 32 := 0#32
  let c1_i32 : BitVec 32 := 1#32
  let arg16 : BitVec 32 := Scf.iv c0_i32_6 c1_i32 k0_t1
  let c256_i32 : BitVec 32 := 256#32
  let v90 : BitVec 32 := Scalar.muli arg16 c256_i32
  let v91 : BitVec 32 := v90
  let v131 : Index := Scalar.indexCast v91
  ![0, v131.toNat]
def k0_off12 (k0_t1 : Fin k0_t1_loop.trips) : Fin 2 → Nat :=
  let c0_i32_6 : BitVec 32 := 0#32
  let c1_i32 : BitVec 32 := 1#32
  let arg16 : BitVec 32 := Scf.iv c0_i32_6 c1_i32 k0_t1
  let c256_i32 : BitVec 32 := 256#32
  let v90 : BitVec 32 := Scalar.muli arg16 c256_i32
  let v91 : BitVec 32 := v90
  let v134 : Index := Scalar.indexCast v91
  let c0_70 : Index := 0#32
  ![v134.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S2176x1024 : Shape := ⟨2, ![2176, 1024]⟩
abbrev S1024 : Shape := ⟨1, ![1024]⟩
abbrev S1024x2816 : Shape := ⟨2, ![1024, 2816]⟩
abbrev S2176x2816 : Shape := ⟨2, ![2176, 2816]⟩
abbrev S_ : Shape := ⟨0, ![]⟩
abbrev S2176 : Shape := ⟨1, ![2176]⟩
abbrev S2176x1 : Shape := ⟨2, ![2176, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2176x2816, .f32⟩
  | .hbm, ⟨5, _⟩ => ⟨S2176x2816, .f32⟩
  | .hbm, ⟨6, _⟩ => ⟨S2176x1024, .f32⟩
  | .hbm, ⟨7, _⟩ => ⟨S2176x1024, .f32⟩
  | .hbm, ⟨8, _⟩ => ⟨S_, .f32⟩
  | .hbm, ⟨9, _⟩ => ⟨S2176, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S_, .f32⟩
  | .hbm, ⟨15, _⟩ => ⟨S2176x1, .f32⟩
  | .hbm, ⟨16, _⟩ => ⟨S2176x1, .f32⟩
  | .hbm, ⟨17, _⟩ => ⟨S2176x1, .f32⟩
  | .hbm, ⟨18, _⟩ => ⟨S2176x1, .f32⟩
  | .hbm, ⟨19, _⟩ => ⟨S_, .f32⟩
  | .hbm, ⟨20, _⟩ => ⟨S2176x1, .f32⟩
  | .hbm, ⟨21, _⟩ => ⟨S2176x1, .f32⟩
  | .hbm, ⟨22, _⟩ => ⟨S2176x1024, .f32⟩
  | .hbm, ⟨23, _⟩ => ⟨S2176x1024, .f32⟩
  | .hbm, ⟨24, _⟩ => ⟨S1x1024, .f32⟩
  | .hbm, ⟨25, _⟩ => ⟨S2176x1024, .f32⟩
  | .hbm, ⟨26, _⟩ => ⟨S2176x1024, .f32⟩
  | .hbm, ⟨27, _⟩ => ⟨S2176x2816, .f32⟩
  | .hbm, ⟨28, _⟩ => ⟨S2176x2816, .f32⟩
  | .hbm, ⟨29, _⟩ => ⟨S2176x1024, .f32⟩
  | .hbm, ⟨30, _⟩ => ⟨S2176x1024, .f32⟩
  | .hbm, ⟨31, _⟩ => ⟨S2176x1024, .f32⟩
  | .hbm, ⟨32, _⟩ => ⟨S2176x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2176x1024, .f32⟩
  | .hbm, ⟨37, _⟩ => ⟨S2176x1024, .f32⟩
  | .hbm, ⟨38, _⟩ => ⟨S_, .f32⟩
  | .hbm, ⟨39, _⟩ => ⟨S1024, .f32⟩
  | .hbm, ⟨40, _⟩ => ⟨S2176x1024, .f32⟩
  | .hbm, ⟨41, _⟩ => ⟨S_, .f32⟩
  | .hbm, ⟨42, _⟩ => ⟨S2176, .f32⟩
  | .hbm, ⟨43, _⟩ => ⟨S2176x1, .f32⟩
  | .hbm, ⟨44, _⟩ => ⟨S2176x1024, .f32⟩
  | .hbm, ⟨45, _⟩ => ⟨S2176x1024, .f32⟩
  | .hbm, ⟨46, _⟩ => ⟨S2176x1024, .f32⟩
  | .hbm, ⟨47, _⟩ => ⟨S2176x1, .f32⟩
  | .hbm, ⟨48, _⟩ => ⟨S_, .f32⟩
  | .hbm, ⟨49, _⟩ => ⟨S2176x1, .f32⟩
  | .hbm, ⟨50, _⟩ => ⟨S2176x1, .f32⟩
  | .hbm, ⟨51, _⟩ => ⟨S_, .f32⟩
  | .hbm, ⟨52, _⟩ => ⟨S2176, .f32⟩
  | .hbm, ⟨53, _⟩ => ⟨S2176x1024, .f32⟩
  | .hbm, ⟨54, _⟩ => ⟨S2176x1024, .f32⟩
  | .hbm, ⟨55, _⟩ => ⟨S2176x1024, .f32⟩
  | .hbm, ⟨56, _⟩ => ⟨S2176x1024, .f32⟩
  | .hbm, ⟨57, _⟩ => ⟨S2176x1024, .f32⟩
  | .hbm, ⟨58, _⟩ => ⟨S2176x1024, .bf16⟩
  | .hbm, ⟨59, _⟩ => ⟨S1x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel4.lean ====
abbrev S2176x2048 : Shape := ⟨2, ![2176, 2048]⟩
abbrev S2048x1024 : Shape := ⟨2, ![2048, 1024]⟩
abbrev S2176x1024 : Shape := ⟨2, ![2176, 1024]⟩
abbrev S2176x256 : Shape := ⟨2, ![2176, 256]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2176x2048, .f32⟩
  | .hbm, ⟨1, _⟩ => ⟨S2048x1024, .f32⟩
  | .hbm, ⟨2, _⟩ => ⟨S2176x1024, .f32⟩
  | .hbm, ⟨3, _⟩ => ⟨S2176x2048, .bf16⟩
  | .hbm, ⟨4, _⟩ => ⟨S2176x1024, .bf16⟩
  | .hbm, ⟨5, _⟩ => ⟨S2048x1024, .bf16⟩
  | .local _ .vmem, ⟨0, _⟩ => ⟨S2176x256, .bf16⟩
  | .local _ .vmem, ⟨1, _⟩ => ⟨S2176x256, .bf16⟩
  | .local _ .vmem, ⟨2, _⟩ => ⟨S2176x1024, .bf16⟩
  | .local _ .vmem, ⟨3, _⟩ => ⟨S256x1024, .bf16⟩
  | .local _ .vmem, ⟨4, _⟩ => ⟨S256x1024, .bf16⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2176x2048 : Shape := ⟨2, ![2176, 2048]⟩
abbrev S2048x1024 : Shape := ⟨2, ![2048, 1024]⟩
abbrev S2176x1024 : Shape := ⟨2, ![2176, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2048x1024, .f32⟩
  | .hbm, ⟨2, _⟩ => ⟨S2176x1024, .f32⟩
  | .hbm, ⟨3, _⟩ => ⟨S2176x1024, .f32⟩
  | .hbm, ⟨4, _⟩ => ⟨S1024x2048, .f32⟩
  | .hbm, ⟨5, _⟩ => ⟨S2048x1024, .f32⟩
  | .hbm, ⟨6, _⟩ => ⟨S2048x1024, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S2176x1024 : Shape := ⟨2, ![2176, 1024]⟩
abbrev S1024 : Shape := ⟨1, ![1024]⟩
abbrev S2048x1024 : Shape := ⟨2, ![2048, 1024]⟩
abbrev S_ : Shape := ⟨0, ![]⟩
abbrev S2176x2560 : Shape := ⟨2, ![2176, 2560]⟩
abbrev S2176x4608 : Shape := ⟨2, ![2176, 4608]⟩
abbrev S1x1024 : Shape := ⟨2, ![1, 1024]⟩
abbrev S2176x2048 : Shape := ⟨2, ![2176, 2048]⟩
abbrev S544x1024 : Shape := ⟨2, ![544, 1024]⟩
abbrev S544x2048 : Shape := ⟨2, ![544, 2048]⟩
abbrev S272x1024 : Shape := ⟨2, ![272, 1024]⟩
abbrev S272 : Shape := ⟨1, ![272]⟩
abbrev S272x1 : Shape := ⟨2, ![272, 1]⟩
abbrev S544x512 : Shape := ⟨2, ![544, 512]⟩
abbrev S2048x512 : Shape := ⟨2, ![2048, 512]⟩

abbrev nBuf : Space → Nat
  | .hbm => 17
  | .vmem => 14
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x1024, .f32⟩
  | .hbm, ⟨3, _⟩ => ⟨S1024, .f32⟩
  | .hbm, ⟨4, _⟩ => ⟨S2048x1024, .f32⟩
  | .hbm, ⟨5, _⟩ => ⟨S2176x1024, .f32⟩
  | .hbm, ⟨6, _⟩ => ⟨S_, .f32⟩
  | .hbm, ⟨7, _⟩ => ⟨S2176x1024, .f32⟩
  | .hbm, ⟨8, _⟩ => ⟨S_, .f32⟩
  | .hbm, ⟨9, _⟩ => ⟨S2176x2560, .f32⟩
  | .hbm, ⟨10, _⟩ => ⟨S2176x4608, .f32⟩
  | .hbm, ⟨11, _⟩ => ⟨S2176x4608, .bf16⟩
  | .hbm, ⟨12, _⟩ => ⟨S2176x1024, .bf16⟩
  | .hbm, ⟨13, _⟩ => ⟨S1x1024, .f32⟩
  | .hbm, ⟨14, _⟩ => ⟨S2048x1024, .bf16⟩
  | .hbm, ⟨15, _⟩ => ⟨S2176x1024, .f32⟩
  | .hbm, ⟨16, _⟩ => ⟨S2176x2048, .bf16⟩
  | .local _ .vmem, ⟨0, _⟩ => ⟨S544x1024, .bf16⟩
  | .local _ .vmem, ⟨1, _⟩ => ⟨S544x1024, .bf16⟩
  | .local _ .vmem, ⟨2, _⟩ => ⟨S544x1024, .bf16⟩
  | .local _ .vmem, ⟨3, _⟩ => ⟨S544x1024, .bf16⟩
  | .local _ .vmem, ⟨4, _⟩ => ⟨S544x1024, .f32⟩
  | .local _ .vmem, ⟨5, _⟩ => ⟨S544x1024, .f32⟩
  | .local _ .vmem, ⟨6, _⟩ => ⟨S1x1024, .f32⟩
  | .local _ .vmem, ⟨7, _⟩ => ⟨S2048x1024, .bf16⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .f32⟩
  | .local _ .vmem, ⟨12, _⟩ => ⟨S544x2048, .bf16⟩
  | .local _ .vmem, ⟨13, _⟩ => ⟨S544x2048, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c2_i32 : BitVec 32 := 2#32
  let v71 : BitVec 32 := Scalar.addi c0_i32 c2_i32
  let c1_i32 : BitVec 32 := 1#32
  ⟨c0_i32, v71, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v72 : BitVec 32 := Scalar.muli arg9 c512_i32
  v72
def k0_off1 (k0_t1 : Fin k0_t1_loop.trips) : Fin 2 → Nat :=
  let c0_31 : Index := 0#32
  let c0_i32 : BitVec 32 := 0#32
  let c1_i32 : BitVec 32 := 1#32
  let arg9 : BitVec 32 := Scf.iv c0_i32 c1_i32 k0_t1
  let c512_i32 : BitVec 32 := 512#32
  let v72 : BitVec 32 := Scalar.muli arg9 c512_i32
  let v73 : BitVec 32 := v72
  let v74 : Index := Scalar.indexCast v73
  ![0, v74.toNat]
def k0_off2 (k0_t1 : Fin k0_t1_loop.trips) : Fin 2 → Nat :=
  let c0_34 : Index := 0#32
  let c0_i32 : BitVec 32 := 0#32
  let c1_i32 : BitVec 32 := 1#32
  let arg9 : BitVec 32 := Scf.iv c0_i32 c1_i32 k0_t1
  let c512_i32 : BitVec 32 := 512#32
  let v72 : BitVec 32 := Scalar.muli arg9 c512_i32
  let v73 : BitVec 32 := v72
  let v78 : Index := Scalar.indexCast v73
  ![0, v78.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S2176x1024 : Shape := ⟨2, ![2176, 1024]⟩
abbrev S1024 : Shape := ⟨1, ![1024]⟩
abbrev S2048x1024 : Shape := ⟨2, ![2048, 1024]⟩
abbrev S_ : Shape := ⟨0, ![]⟩
abbrev S2176 : Shape := ⟨1, ![2176]⟩
abbrev S2176x1 : Shape := ⟨2, ![2176, 1]⟩
abbrev S1x1024 : Shape := ⟨2, ![1, 1024]⟩
abbrev S2176x2048 : Shape := ⟨2, ![2176, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x1024, .f32⟩
  | .hbm, ⟨3, _⟩ => ⟨S1024, .f32⟩
  | .hbm, ⟨4, _⟩ => ⟨S2048x1024, .f32⟩
  | .hbm, ⟨5, _⟩ => ⟨S2176x1024, .f32⟩
  | .hbm, ⟨6, _⟩ => ⟨S2176x1024, .f32⟩
  | .hbm, ⟨7, _⟩ => ⟨S2176x1024, .f32⟩
  | .hbm, ⟨8, _⟩ => ⟨S_, .f32⟩
  | .hbm, ⟨9, _⟩ => ⟨S2176x1024, .f32⟩
  | .hbm, ⟨10, _⟩ => ⟨S2176x1024, .f32⟩
  | .hbm, ⟨11, _⟩ => ⟨S2176x1024, .f32⟩
  | .hbm, ⟨12, _⟩ => ⟨S_, .f32⟩
  | .hbm, ⟨13, _⟩ => ⟨S2176x1024, .f32⟩
  | .hbm, ⟨14, _⟩ => ⟨S2176x1024, .f32⟩
  | .hbm, ⟨15, _⟩ => ⟨S2176x1024, .f32⟩
  | .hbm, ⟨16, _⟩ => ⟨S_, .f32⟩
  | .hbm, ⟨17, _⟩ => ⟨S2176x1024, .f32⟩
  | .hbm, ⟨18, _⟩ => ⟨S2176x1024, .f32⟩
  | .hbm, ⟨19, _⟩ => ⟨S_, .f32⟩
  | .hbm, ⟨20, _⟩ => ⟨S2176x1024, .f32⟩
  | .hbm, ⟨21, _⟩ => ⟨S2176x1024, .f32⟩
  | .hbm, ⟨22, _⟩ => ⟨S2176x1024, .f32⟩
  | .hbm, ⟨23, _⟩ => ⟨S2176x1024, .f32⟩
  | .hbm, ⟨24, _⟩ => ⟨S2176x1024, .f32⟩
  | .hbm, ⟨25, _⟩ => ⟨S_, .f32⟩
  | .hbm, ⟨26, _⟩ => ⟨S2176, .f32⟩
  | .hbm, ⟨27, _⟩ => ⟨S2176x1, .f32⟩
  | .hbm, ⟨28, _⟩ => ⟨S_, .f32⟩
  | .hbm, ⟨29, _⟩ => ⟨S2176x1, .f32⟩
  | .hbm, ⟨30, _⟩ => ⟨S2176x1, .f32⟩
  | .hbm, ⟨31, _⟩ => ⟨S_, .f32⟩
  | .hbm, ⟨32, _⟩ => ⟨S2176x1, .f32⟩
  | .hbm, ⟨33, _⟩ => ⟨S2176x1, .f32⟩
  | .hbm, ⟨34, _⟩ => ⟨S2176x1, .f32⟩
  | .hbm, ⟨35, _⟩ => ⟨S2176x1024, .f32⟩
  | .hbm, ⟨36, _⟩ => ⟨S2176x1024, .f32⟩
  | .hbm, ⟨37, _⟩ => ⟨S1x1024, .f32⟩
  | .hbm, ⟨38, _⟩ => ⟨S2176x1024, .f32⟩
  | .hbm, ⟨39, _⟩ => ⟨S2176x1024, .f32⟩
  | .hbm, ⟨40, _⟩ => ⟨S2176x2048, .f32⟩
  | .hbm, ⟨41, _⟩ => ⟨S2176x1024, .f32⟩
  | .hbm, ⟨42, _⟩ => ⟨S2176x1024, .f32⟩
  | .hbm, ⟨43, _⟩ => ⟨S2176x2048, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel6.lean ====
abbrev S2176x1024 : Shape := ⟨2, ![2176, 1024]⟩
abbrev S1024 : Shape := ⟨1, ![1024]⟩
abbrev S1024x2816 : Shape := ⟨2, ![1024, 2816]⟩
abbrev S1x1024 : Shape := ⟨2, ![1, 1024]⟩
abbrev S2816x1024 : Shape := ⟨2, ![2816, 1024]⟩
abbrev S2176x2816 : Shape := ⟨2, ![2176, 2816]⟩
abbrev S544x1024 : Shape := ⟨2, ![544, 1024]⟩
abbrev S544x2816 : Shape := ⟨2, ![544, 2816]⟩
abbrev S11 : Shape := ⟨1, ![11]⟩
abbrev S1 : Shape := ⟨1, ![1]⟩
abbrev S_ : Shape := ⟨0, ![]⟩
abbrev S256x1024 : Shape := ⟨2, ![256, 1024]⟩
abbrev S272x1024 : Shape := ⟨2, ![272, 1024]⟩
abbrev S272 : Shape := ⟨1, ![272]⟩
abbrev S272x1 : Shape := ⟨2, ![272, 1]⟩
abbrev S544x256 : Shape := ⟨2, ![544, 256]⟩

abbrev nBuf : Space → Nat
  | .hbm => 13
  | .vmem => 13
  | .smem => 0
  | _ => 0

abbrev bufTy : (tb : Table) → Fin (tcTables nBuf tb) → BufTy
  | .hbm, ⟨0, _⟩ => ⟨S2176x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S1x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2176x2816, .bf16⟩
  | .hbm, ⟨10, _⟩ => ⟨S2176x2816, .bf16⟩
  | .hbm, ⟨11, _⟩ => ⟨S2176x2816, .bf16⟩
  | .hbm, ⟨12, _⟩ => ⟨S2176x1024, .bf16⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x2816, .bf16⟩
  | .local _ .vmem, ⟨4, _⟩ => ⟨S544x2816, .bf16⟩
  | .local _ .vmem, ⟨5, _⟩ => ⟨S544x2816, .bf16⟩
  | .local _ .vmem, ⟨6, _⟩ => ⟨S544x2816, .bf16⟩
  | .local _ .vmem, ⟨7, _⟩ => ⟨S544x2816, .bf16⟩
  | .local _ .vmem, ⟨8, _⟩ => ⟨S544x2816, .bf16⟩
  | .local _ .vmem, ⟨9, _⟩ => ⟨S544x1024, .bf16⟩
  | .local _ .vmem, ⟨10, _⟩ => ⟨S544x1024, .bf16⟩
  | .local _ .vmem, ⟨11, _⟩ => ⟨S2816x1024, .bf16⟩
  | .local _ .vmem, ⟨12, _⟩ => ⟨S2816x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let false_29 : BitVec 1 := 0#1
  let c2560_i32 : BitVec 32 := 2560#32
  let false_28 : BitVec 1 := 0#1
  let c2304_i32 : BitVec 32 := 2304#32
  let false_27 : BitVec 1 := 0#1
  let c2048_i32 : BitVec 32 := 2048#32
  let false_26 : BitVec 1 := 0#1
  let c1792_i32 : BitVec 32 := 1792#32
  let false_25 : BitVec 1 := 0#1
  let c1536_i32 : BitVec 32 := 1536#32
  let false_24 : BitVec 1 := 0#1
  let c1280_i32 : BitVec 32 := 1280#32
  let false_23 : BitVec 1 := 0#1
  let c1024_i32 : BitVec 32 := 1024#32
  let false_22 : BitVec 1 := 0#1
  let c768_i32 : BitVec 32 := 768#32
  let false_21 : BitVec 1 := 0#1
  let c512_i32 : BitVec 32 := 512#32
  let v_false : BitVec 1 := 0#1
  let c256_i32 : BitVec 32 := 256#32
  let c0_i32_20 : BitVec 32 := 0#32
  let v41 : BitVec 32 := Scalar.select v_false c256_i32 c0_i32_20
  let v42 : BitVec 32 := Scalar.select false_21 c512_i32 v41
  let v43 : BitVec 32 := Scalar.select false_22 c768_i32 v42
  let v44 : BitVec 32 := Scalar.select false_23 c1024_i32 v43
  let v45 : BitVec 32 := Scalar.select false_24 c1280_i32 v44
  let v46 : BitVec 32 := Scalar.select false_25 c1536_i32 v45
  let v47 : BitVec 32 := Scalar.select false_26 c1792_i32 v46
  let v48 : BitVec 32 := Scalar.select false_27 c2048_i32 v47
  let v49 : BitVec 32 := Scalar.select false_28 c2304_i32 v48
  let v50 : BitVec 32 := Scalar.select false_29 c2560_i32 v49
  v50
def k0_off1 (v_false : BitVec 1) : Fin 2 → Nat :=
  let false_29 : BitVec 1 := 0#1
  let c2560_i32 : BitVec 32 := 2560#32
  let false_28 : BitVec 1 := 0#1
  let c2304_i32 : BitVec 32 := 2304#32
  let false_27 : BitVec 1 := 0#1
  let c2048_i32 : BitVec 32 := 2048#32
  let false_26 : BitVec 1 := 0#1
  let c1792_i32 : BitVec 32 := 1792#32
  let false_25 : BitVec 1 := 0#1
  let c1536_i32 : BitVec 32 := 1536#32
  let false_24 : BitVec 1 := 0#1
  let c1280_i32 : BitVec 32 := 1280#32
  let false_23 : BitVec 1 := 0#1
  let c1024_i32 : BitVec 32 := 1024#32
  let false_22 : BitVec 1 := 0#1
  let c768_i32 : BitVec 32 := 768#32
  let false_21 : BitVec 1 := 0#1
  let c512_i32 : BitVec 32 := 512#32
  let c256_i32 : BitVec 32 := 256#32
  let c0_i32_20 : BitVec 32 := 0#32
  let v41 : BitVec 32 := Scalar.select v_false c256_i32 c0_i32_20
  let v42 : BitVec 32 := Scalar.select false_21 c512_i32 v41
  let v43 : BitVec 32 := Scalar.select false_22 c768_i32 v42
  let v44 : BitVec 32 := Scalar.select false_23 c1024_i32 v43
  let v45 : BitVec 32 := Scalar.select false_24 c1280_i32 v44
  let v46 : BitVec 32 := Scalar.select false_25 c1536_i32 v45
  let v47 : BitVec 32 := Scalar.select false_26 c1792_i32 v46
  let v48 : BitVec 32 := Scalar.select false_27 c2048_i32 v47
  let v49 : BitVec 32 := Scalar.select false_28 c2304_i32 v48
  let v50 : BitVec 32 := Scalar.select false_29 c2560_i32 v49
  let v51 : BitVec 32 := v50
  let c0_i32_31 : BitVec 32 := 0#32
  ![v51.toNat, 0]
def k0_mult2 : BitVec 32 :=
  let false_51 : BitVec 1 := 0#1
  let c2560_i32_52 : BitVec 32 := 2560#32
  let false_49 : BitVec 1 := 0#1
  let c2304_i32_50 : BitVec 32 := 2304#32
  let false_47 : BitVec 1 := 0#1
  let c2048_i32_48 : BitVec 32 := 2048#32
  let false_45 : BitVec 1 := 0#1
  let c1792_i32_46 : BitVec 32 := 1792#32
  let false_43 : BitVec 1 := 0#1
  let c1536_i32_44 : BitVec 32 := 1536#32
  let false_41 : BitVec 1 := 0#1
  let c1280_i32_42 : BitVec 32 := 1280#32
  let false_39 : BitVec 1 := 0#1
  let c1024_i32_40 : BitVec 32 := 1024#32
  let false_37 : BitVec 1 := 0#1
  let c768_i32_38 : BitVec 32 := 768#32
  let false_35 : BitVec 1 := 0#1
  let c512_i32_36 : BitVec 32 := 512#32
  let v_true : BitVec 1 := 1#1
  let c256_i32_33 : BitVec 32 := 256#32
  let c0_i32_34 : BitVec 32 := 0#32
  let v56 : BitVec 32 := Scalar.select v_true c256_i32_33 c0_i32_34
  let v57 : BitVec 32 := Scalar.select false_35 c512_i32_36 v56
  let v58 : BitVec 32 := Scalar.select false_37 c768_i32_38 v57
  let v59 : BitVec 32 := Scalar.select false_39 c1024_i32_40 v58
  let v60 : BitVec 32 := Scalar.select false_41 c1280_i32_42 v59
  let v61 : BitVec 32 := Scalar.select false_43 c1536_i32_44 v60
  let v62 : BitVec 32 := Scalar.select false_45 c1792_i32_46 v61
  let v63 : BitVec 32 := Scalar.select false_47 c2048_i32_48 v62
  let v64 : BitVec 32 := Scalar.select false_49 c2304_i32_50 v63
  let v65 : BitVec 32 := Scalar.select false_51 c2560_i32_52 v64
  v65
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_mult3 : BitVec 32 :=
  let false_29 : BitVec 1 := 0#1
  let c2560_i32 : BitVec 32 := 2560#32
  let false_28 : BitVec 1 := 0#1
  let c2304_i32 : BitVec 32 := 2304#32
  let false_27 : BitVec 1 := 0#1
  let c2048_i32 : BitVec 32 := 2048#32
  let false_26 : BitVec 1 := 0#1
  let c1792_i32 : BitVec 32 := 1792#32
  let false_25 : BitVec 1 := 0#1
  let c1536_i32 : BitVec 32 := 1536#32
  let false_24 : BitVec 1 := 0#1
  let c1280_i32 : BitVec 32 := 1280#32
  let false_23 : BitVec 1 := 0#1
  let c1024_i32 : BitVec 32 := 1024#32
  let false_22 : BitVec 1 := 0#1
  let c768_i32 : BitVec 32 := 768#32
  let false_21 : BitVec 1 := 0#1
  let c512_i32 : BitVec 32 := 512#32
  let v_false : BitVec 1 := 0#1
  let c256_i32 : BitVec 32 := 256#32
  let c0_i32_20 : BitVec 32 := 0#32
  let v41 : BitVec 32 := Scalar.select v_false c256_i32 c0_i32_20
  let v42 : BitVec 32 := Scalar.select false_21 c512_i32 v41
  let v43 : BitVec 32 := Scalar.select false_22 c768_i32 v42
  let v44 : BitVec 32 := Scalar.select false_23 c1024_i32 v43
  let v45 : BitVec 32 := Scalar.select false_24 c1280_i32 v44
  let v46 : BitVec 32 := Scalar.select false_25 c1536_i32 v45
  let v47 : BitVec 32 := Scalar.select false_26 c1792_i32 v46
  let v48 : BitVec 32 := Scalar.select false_27 c2048_i32 v47
  let v49 : BitVec 32 := Scalar.select false_28 c2304_i32 v48
  let v50 : BitVec 32 := Scalar.select false_29 c2560_i32 v49
  v50
def k0_off2 (v_false : BitVec 1) : Fin 2 → Nat :=
  let false_29 : BitVec 1 := 0#1
  let c2560_i32 : BitVec 32 := 2560#32
  let false_28 : BitVec 1 := 0#1
  let c2304_i32 : BitVec 32 := 2304#32
  let false_27 : BitVec 1 := 0#1
  let c2048_i32 : BitVec 32 := 2048#32
  let false_26 : BitVec 1 := 0#1
  let c1792_i32 : BitVec 32 := 1792#32
  let false_25 : BitVec 1 := 0#1
  let c1536_i32 : BitVec 32 := 1536#32
  let false_24 : BitVec 1 := 0#1
  let c1280_i32 : BitVec 32 := 1280#32
  let false_23 : BitVec 1 := 0#1
  let c1024_i32 : BitVec 32 := 1024#32
  let false_22 : BitVec 1 := 0#1
  let c768_i32 : BitVec 32 := 768#32
  let false_21 : BitVec 1 := 0#1
  let c512_i32 : BitVec 32 := 512#32
  let c256_i32 : BitVec 32 := 256#32
  let c0_i32_20 : BitVec 32 := 0#32
  let v41 : BitVec 32 := Scalar.select v_false c256_i32 c0_i32_20
  let v42 : BitVec 32 := Scalar.select false_21 c512_i32 v41
  let v43 : BitVec 32 := Scalar.select false_22 c768_i32 v42
  let v44 : BitVec 32 := Scalar.select false_23 c1024_i32 v43
  let v45 : BitVec 32 := Scalar.select false_24 c1280_i32 v44
  let v46 : BitVec 32 := Scalar.select false_25 c1536_i32 v45
  let v47 : BitVec 32 := Scalar.select false_26 c1792_i32 v46
  let v48 : BitVec 32 := Scalar.select false_27 c2048_i32 v47
  let v49 : BitVec 32 := Scalar.select false_28 c2304_i32 v48
  let v50 : BitVec 32 := Scalar.select false_29 c2560_i32 v49
  let v51 : BitVec 32 := v50
  let c0_i32_31 : BitVec 32 := 0#32
  ![v51.toNat, 0]
def k0_mult4 : BitVec 32 :=
  let false_51 : BitVec 1 := 0#1
  let c2560_i32_52 : BitVec 32 := 2560#32
  let false_49 : BitVec 1 := 0#1
  let c2304_i32_50 : BitVec 32 := 2304#32
  let false_47 : BitVec 1 := 0#1
  let c2048_i32_48 : BitVec 32 := 2048#32
  let false_45 : BitVec 1 := 0#1
  let c1792_i32_46 : BitVec 32 := 1792#32
  let false_43 : BitVec 1 := 0#1
  let c1536_i32_44 : BitVec 32 := 1536#32
  let false_41 : BitVec 1 := 0#1
  let c1280_i32_42 : BitVec 32 := 1280#32
  let false_39 : BitVec 1 := 0#1
  let c1024_i32_40 : BitVec 32 := 1024#32
  let false_37 : BitVec 1 := 0#1
  let c768_i32_38 : BitVec 32 := 768#32
  let false_35 : BitVec 1 := 0#1
  let c512_i32_36 : BitVec 32 := 512#32
  let v_true : BitVec 1 := 1#1
  let c256_i32_33 : BitVec 32 := 256#32
  let c0_i32_34 : BitVec 32 := 0#32
  let v56 : BitVec 32 := Scalar.select v_true c256_i32_33 c0_i32_34
  let v57 : BitVec 32 := Scalar.select false_35 c512_i32_36 v56
  let v58 : BitVec 32 := Scalar.select false_37 c768_i32_38 v57
  let v59 : BitVec 32 := Scalar.select false_39 c1024_i32_40 v58
  let v60 : BitVec 32 := Scalar.select false_41 c1280_i32_42 v59
  let v61 : BitVec 32 := Scalar.select false_43 c1536_i32_44 v60
  let v62 : BitVec 32 := Scalar.select false_45 c1792_i32_46 v61
  let v63 : BitVec 32 := Scalar.select false_47 c2048_i32_48 v62
  let v64 : BitVec 32 := Scalar.select false_49 c2304_i32_50 v63
  let v65 : BitVec 32 := Scalar.select false_51 c2560_i32_52 v64
  v65
@[reducible] def k0_t1_loop : Scf.Loop 32 :=
  let c0_i32_18 : BitVec 32 := 0#32
  let c11_i32 : BitVec 32 := 11#32
  let v40 : BitVec 32 := Scalar.addi c0_i32_18 c11_i32
  let c1_i32 : BitVec 32 := 1#32
  ⟨c0_i32_18, v40, c1_i32⟩
def k0_mult5 (k0_t1 : Fin k0_t1_loop.trips) : BitVec 32 :=
  let c0_i32_18 : BitVec 32 := 0#32
  let c1_i32 : BitVec 32 := 1#32
  let arg13 : BitVec 32 := Scf.iv c0_i32_18 c1_i32 k0_t1
  let c256_i32 : BitVec 32 := 256#32
  let v41 : BitVec 32 := Scalar.muli arg13 c256_i32
  v41
def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v60 : BitVec 32 := Scalar.extui v0
  let c0_i32_27 : BitVec 32 := 0#32
  let v61 : BitVec 1 := Scalar.cmpi .ne v60 c0_i32_27
  v61

def k0_mult6 (k0_t1 : Fin k0_t1_loop.trips) : BitVec 32 :=
  let c0_i32_18 : BitVec 32 := 0#32
  let c1_i32 : BitVec 32 := 1#32
  let arg13 : BitVec 32 := Scf.iv c0_i32_18 c1_i32 k0_t1
  let c256_i32 : BitVec 32 := 256#32
  let v41 : BitVec 32 := Scalar.muli arg13 c256_i32
  let v42 : BitVec 32 := v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c256_i32_20 : BitVec 32 := 256#32
  let c0_i32_23 : BitVec 32 := 0#32
  let v49 : BitVec 1 := Scalar.cmpi .sgt c256_i32_20 c0_i32_23
  let v50 : BitVec 32 := Scalar.extui v49
  let c0_i32_24 : BitVec 32 := 0#32
  let v51 : BitVec 1 := Scalar.cmpi .slt c256_i32_20 c0_i32_24
  let v52 : BitVec 32 := Scalar.extui v51
  let v53 : BitVec 32 := Scalar.subi v50 v52
  let v54 : BitVec 1 := Scalar.cmpi .ne v48 v53
  let v55 : BitVec 32 := Scalar.remsi v42 c256_i32_20
  let c0_i32_25 : BitVec 32 := 0#32
  let v56 : BitVec 1 := Scalar.cmpi .ne v55 c0_i32_25
  let v57 : BitVec 1 := Scalar.andi v54 v56
  let v43 : BitVec 32 := Scalar.divsi v42 c256_i32_20
  let c1_i32_26 : BitVec 32 := 1#32
  let v58 : BitVec 32 := Scalar.subi v43 c1_i32_26
  let v59 : BitVec 32 := Scalar.select v57 v58 v43
  let c10_i32 : BitVec 32 := 10#32
  let v127 : BitVec 1 := Scalar.cmpi .eq v59 c10_i32
  let c2560_i32 : BitVec 32 := 2560#32
  let c9_i32 : BitVec 32 := 9#32
  let v125 : BitVec 1 := Scalar.cmpi .eq v59 c9_i32
  let c2304_i32 : BitVec 32 := 2304#32
  let c8_i32 : BitVec 32 := 8#32
  let v123 : BitVec 1 := Scalar.cmpi .eq v59 c8_i32
  let c2048_i32 : BitVec 32 := 2048#32
  let c7_i32 : BitVec 32 := 7#32
  let v121 : BitVec 1 := Scalar.cmpi .eq v59 c7_i32
  let c1792_i32 : BitVec 32 := 1792#32
  let c6_i32 : BitVec 32 := 6#32
  let v119 : BitVec 1 := Scalar.cmpi .eq v59 c6_i32
  let c1536_i32 : BitVec 32 := 1536#32
  let c5_i32 : BitVec 32 := 5#32
  let v117 : BitVec 1 := Scalar.cmpi .eq v59 c5_i32
  let c1280_i32 : BitVec 32 := 1280#32
  let c4_i32 : BitVec 32 := 4#32
  let v115 : BitVec 1 := Scalar.cmpi .eq v59 c4_i32
  let c1024_i32 : BitVec 32 := 1024#32
  let c3_i32 : BitVec 32 := 3#32
  let v113 : BitVec 1 := Scalar.cmpi .eq v59 c3_i32
  let c768_i32 : BitVec 32 := 768#32
  let c2_i32 : BitVec 32 := 2#32
  let v111 : BitVec 1 := Scalar.cmpi .eq v59 c2_i32
  let c512_i32 : BitVec 32 := 512#32
  let c1_i32_50 : BitVec 32 := 1#32
  let v109 : BitVec 1 := Scalar.cmpi .eq v59 c1_i32_50
  let c256_i32_51 : BitVec 32 := 256#32
  let c0_i32_52 : BitVec 32 := 0#32
  let v110 : BitVec 32 := Scalar.select v109 c256_i32_51 c0_i32_52
  let v112 : BitVec 32 := Scalar.select v111 c512_i32 v110
  let v114 : BitVec 32 := Scalar.select v113 c768_i32 v112
  let v116 : BitVec 32 := Scalar.select v115 c1024_i32 v114
  let v118 : BitVec 32 := Scalar.select v117 c1280_i32 v116
  let v120 : BitVec 32 := Scalar.select v119 c1536_i32 v118
  let v122 : BitVec 32 := Scalar.select v121 c1792_i32 v120
  let v124 : BitVec 32 := Scalar.select v123 c2048_i32 v122
  let v126 : BitVec 32 := Scalar.select v125 c2304_i32 v124
  let v128 : BitVec 32 := Scalar.select v127 c2560_i32 v126
  v128
def k0_off3 (k0_t1 : Fin k0_t1_loop.trips) : Fin 1 → Nat :=
  let c0_i32_18 : BitVec 32 := 0#32
  let c1_i32 : BitVec 32 := 1#32
  let arg13 : BitVec 32 := Scf.iv c0_i32_18 c1_i32 k0_t1
  let c256_i32 : BitVec 32 := 256#32
  let v41 : BitVec 32 := Scalar.muli arg13 c256_i32
  let v42 : BitVec 32 := v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c256_i32_20 : BitVec 32 := 256#32
  let c0_i32_23 : BitVec 32 := 0#32
  let v49 : BitVec 1 := Scalar.cmpi .sgt c256_i32_20 c0_i32_23
  let v50 : BitVec 32 := Scalar.extui v49
  let c0_i32_24 : BitVec 32 := 0#32
  let v51 : BitVec 1 := Scalar.cmpi .slt c256_i32_20 c0_i32_24
  let v52 : BitVec 32 := Scalar.extui v51
  let v53 : BitVec 32 := Scalar.subi v50 v52
  let v54 : BitVec 1 := Scalar.cmpi .ne v48 v53
  let v55 : BitVec 32 := Scalar.remsi v42 c256_i32_20
  let c0_i32_25 : BitVec 32 := 0#32
  let v56 : BitVec 1 := Scalar.cmpi .ne v55 c0_i32_25
  let v57 : BitVec 1 := Scalar.andi v54 v56
  let v43 : BitVec 32 := Scalar.divsi v42 c256_i32_20
  let c1_i32_26 : BitVec 32 := 1#32
  let v58 : BitVec 32 := Scalar.subi v43 c1_i32_26
  let v59 : BitVec 32 := Scalar.select v57 v58 v43
  ![v59.toNat]
def k0_off4 (k0_t1 : Fin k0_t1_loop.trips) : Fin 2 → Nat :=
  let c0_i32_18 : BitVec 32 := 0#32
  let c1_i32 : BitVec 32 := 1#32
  let arg13 : BitVec 32 := Scf.iv c0_i32_18 c1_i32 k0_t1
  let c256_i32 : BitVec 32 := 256#32
  let v41 : BitVec 32 := Scalar.muli arg13 c256_i32
  let v42 : BitVec 32 := v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c256_i32_20 : BitVec 32 := 256#32
  let c0_i32_23 : BitVec 32 := 0#32
  let v49 : BitVec 1 := Scalar.cmpi .sgt c256_i32_20 c0_i32_23
  let v50 : BitVec 32 := Scalar.extui v49
  let c0_i32_24 : BitVec 32 := 0#32
  let v51 : BitVec 1 := Scalar.cmpi .slt c256_i32_20 c0_i32_24
  let v52 : BitVec 32 := Scalar.extui v51
  let v53 : BitVec 32 := Scalar.subi v50 v52
  let v54 : BitVec 1 := Scalar.cmpi .ne v48 v53
  let v55 : BitVec 32 := Scalar.remsi v42 c256_i32_20
  let c0_i32_25 : BitVec 32 := 0#32
  let v56 : BitVec 1 := Scalar.cmpi .ne v55 c0_i32_25
  let v57 : BitVec 1 := Scalar.andi v54 v56
  let v43 : BitVec 32 := Scalar.divsi v42 c256_i32_20
  let c1_i32_26 : BitVec 32 := 1#32
  let v58 : BitVec 32 := Scalar.subi v43 c1_i32_26
  let v59 : BitVec 32 := Scalar.select v57 v58 v43
  let c10_i32 : BitVec 32 := 10#32
  let v127 : BitVec 1 := Scalar.cmpi .eq v59 c10_i32
  let c2560_i32 : BitVec 32 := 2560#32
  let c9_i32 : BitVec 32 := 9#32
  let v125 : BitVec 1 := Scalar.cmpi .eq v59 c9_i32
  let c2304_i32 : BitVec 32 := 2304#32
  let c8_i32 : BitVec 32 := 8#32
  let v123 : BitVec 1 := Scalar.cmpi .eq v59 c8_i32
  let c2048_i32 : BitVec 32 := 2048#32
  let c7_i32 : BitVec 32 := 7#32
  let v121 : BitVec 1 := Scalar.cmpi .eq v59 c7_i32
  let c1792_i32 : BitVec 32 := 1792#32
  let c6_i32 : BitVec 32 := 6#32
  let v119 : BitVec 1 := Scalar.cmpi .eq v59 c6_i32
  let c1536_i32 : BitVec 32 := 1536#32
  let c5_i32 : BitVec 32 := 5#32
  let v117 : BitVec 1 := Scalar.cmpi .eq v59 c5_i32
  let c1280_i32 : BitVec 32 := 1280#32
  let c4_i32 : BitVec 32 := 4#32
  let v115 : BitVec 1 := Scalar.cmpi .eq v59 c4_i32
  let c1024_i32 : BitVec 32 := 1024#32
  let c3_i32 : BitVec 32 := 3#32
  let v113 : BitVec 1 := Scalar.cmpi .eq v59 c3_i32
  let c768_i32 : BitVec 32 := 768#32
  let c2_i32 : BitVec 32 := 2#32
  let v111 : BitVec 1 := Scalar.cmpi .eq v59 c2_i32
  let c512_i32 : BitVec 32 := 512#32
  let c1_i32_50 : BitVec 32 := 1#32
  let v109 : BitVec 1 := Scalar.cmpi .eq v59 c1_i32_50
  let c256_i32_51 : BitVec 32 := 256#32
  let c0_i32_52 : BitVec 32 := 0#32
  let v110 : BitVec 32 := Scalar.select v109 c256_i32_51 c0_i32_52
  let v112 : BitVec 32 := Scalar.select v111 c512_i32 v110
  let v114 : BitVec 32 := Scalar.select v113 c768_i32 v112
  let v116 : BitVec 32 := Scalar.select v115 c1024_i32 v114
  let v118 : BitVec 32 := Scalar.select v117 c1280_i32 v116
  let v120 : BitVec 32 := Scalar.select v119 c1536_i32 v118
  let v122 : BitVec 32 := Scalar.select v121 c1792_i32 v120
  let v124 : BitVec 32 := Scalar.select v123 c2048_i32 v122
  let v126 : BitVec 32 := Scalar.select v125 c2304_i32 v124
  let v128 : BitVec 32 := Scalar.select v127 c2560_i32 v126
  let v129 : BitVec 32 := v128
  let c0_i32_53 : BitVec 32 := 0#32
  ![v129.toNat, 0]
def k0_cond4 (k0_t1 : Fin k0_t1_loop.trips) : BitVec 1 :=
  let c0_i32_18 : BitVec 32 := 0#32
  let c1_i32 : BitVec 32 := 1#32
  let arg13 : BitVec 32 := Scf.iv c0_i32_18 c1_i32 k0_t1
  let c256_i32 : BitVec 32 := 256#32
  let v41 : BitVec 32 := Scalar.muli arg13 c256_i32
  let v42 : BitVec 32 := v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c256_i32_20 : BitVec 32 := 256#32
  let c0_i32_23 : BitVec 32 := 0#32
  let v49 : BitVec 1 := Scalar.cmpi .sgt c256_i32_20 c0_i32_23
  let v50 : BitVec 32 := Scalar.extui v49
  let c0_i32_24 : BitVec 32 := 0#32
  let v51 : BitVec 1 := Scalar.cmpi .slt c256_i32_20 c0_i32_24
  let v52 : BitVec 32 := Scalar.extui v51
  let v53 : BitVec 32 := Scalar.subi v50 v52
  let v54 : BitVec 1 := Scalar.cmpi .ne v48 v53
  let v55 : BitVec 32 := Scalar.remsi v42 c256_i32_20
  let c0_i32_25 : BitVec 32 := 0#32
  let v56 : BitVec 1 := Scalar.cmpi .ne v55 c0_i32_25
  let v57 : BitVec 1 := Scalar.andi v54 v56
  let v43 : BitVec 32 := Scalar.divsi v42 c256_i32_20
  let c1_i32_26 : BitVec 32 := 1#32
  let v58 : BitVec 32 := Scalar.subi v43 c1_i32_26
  let v59 : BitVec 32 := Scalar.select v57 v58 v43
  let c2_i32_55 : BitVec 32 := 2#32
  let v134 : BitVec 32 := Scalar.addi v59 c2_i32_55
  let c11_i32_56 : BitVec 32 := 11#32
  let v135 : BitVec 1 := Scalar.cmpi .slt v134 c11_i32_56
  let v136 : BitVec 32 := Scalar.extui v135
  let c0_i32_57 : BitVec 32 := 0#32
  let v137 : BitVec 1 := Scalar.cmpi .ne v136 c0_i32_57
  v137

def k0_mult7 (k0_t1 : Fin k0_t1_loop.trips) : BitVec 32 :=
  let c0_i32_18 : BitVec 32 := 0#32
  let c1_i32 : BitVec 32 := 1#32
  let arg13 : BitVec 32 := Scf.iv c0_i32_18 c1_i32 k0_t1
  let c256_i32 : BitVec 32 := 256#32
  let v41 : BitVec 32 := Scalar.muli arg13 c256_i32
  let v42 : BitVec 32 := v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c256_i32_20 : BitVec 32 := 256#32
  let c0_i32_23 : BitVec 32 := 0#32
  let v49 : BitVec 1 := Scalar.cmpi .sgt c256_i32_20 c0_i32_23
  let v50 : BitVec 32 := Scalar.extui v49
  let c0_i32_24 : BitVec 32 := 0#32
  let v51 : BitVec 1 := Scalar.cmpi .slt c256_i32_20 c0_i32_24
  let v52 : BitVec 32 := Scalar.extui v51
  let v53 : BitVec 32 := Scalar.subi v50 v52
  let v54 : BitVec 1 := Scalar.cmpi .ne v48 v53
  let v55 : BitVec 32 := Scalar.remsi v42 c256_i32_20
  let c0_i32_25 : BitVec 32 := 0#32
  let v56 : BitVec 1 := Scalar.cmpi .ne v55 c0_i32_25
  let v57 : BitVec 1 := Scalar.andi v54 v56
  let v43 : BitVec 32 := Scalar.divsi v42 c256_i32_20
  let c1_i32_26 : BitVec 32 := 1#32
  let v58 : BitVec 32 := Scalar.subi v43 c1_i32_26
  let v59 : BitVec 32 := Scalar.select v57 v58 v43
  let c2_i32_58 : BitVec 32 := 2#32
  let v138 : BitVec 32 := Scalar.addi v59 c2_i32_58
  let c10_i32_78 : BitVec 32 := 10#32
  let v157 : BitVec 1 := Scalar.cmpi .eq v138 c10_i32_78
  let c2560_i32_79 : BitVec 32 := 2560#32
  let c9_i32_76 : BitVec 32 := 9#32
  let v155 : BitVec 1 := Scalar.cmpi .eq v138 c9_i32_76
  let c2304_i32_77 : BitVec 32 := 2304#32
  let c8_i32_74 : BitVec 32 := 8#32
  let v153 : BitVec 1 := Scalar.cmpi .eq v138 c8_i32_74
  let c2048_i32_75 : BitVec 32 := 2048#32
  let c7_i32_72 : BitVec 32 := 7#32
  let v151 : BitVec 1 := Scalar.cmpi .eq v138 c7_i32_72
  let c1792_i32_73 : BitVec 32 := 1792#32
  let c6_i32_70 : BitVec 32 := 6#32
  let v149 : BitVec 1 := Scalar.cmpi .eq v138 c6_i32_70
  let c1536_i32_71 : BitVec 32 := 1536#32
  let c5_i32_68 : BitVec 32 := 5#32
  let v147 : BitVec 1 := Scalar.cmpi .eq v138 c5_i32_68
  let c1280_i32_69 : BitVec 32 := 1280#32
  let c4_i32_66 : BitVec 32 := 4#32
  let v145 : BitVec 1 := Scalar.cmpi .eq v138 c4_i32_66
  let c1024_i32_67 : BitVec 32 := 1024#32
  let c3_i32_64 : BitVec 32 := 3#32
  let v143 : BitVec 1 := Scalar.cmpi .eq v138 c3_i32_64
  let c768_i32_65 : BitVec 32 := 768#32
  let c2_i32_62 : BitVec 32 := 2#32
  let v141 : BitVec 1 := Scalar.cmpi .eq v138 c2_i32_62
  let c512_i32_63 : BitVec 32 := 512#32
  let c1_i32_59 : BitVec 32 := 1#32
  let v139 : BitVec 1 := Scalar.cmpi .eq v138 c1_i32_59
  let c256_i32_60 : BitVec 32 := 256#32
  let c0_i32_61 : BitVec 32 := 0#32
  let v140 : BitVec 32 := Scalar.select v139 c256_i32_60 c0_i32_61
  let v142 : BitVec 32 := Scalar.select v141 c512_i32_63 v140
  let v144 : BitVec 32 := Scalar.select v143 c768_i32_65 v142
  let v146 : BitVec 32 := Scalar.select v145 c1024_i32_67 v144
  let v148 : BitVec 32 := Scalar.select v147 c1280_i32_69 v146
  let v150 : BitVec 32 := Scalar.select v149 c1536_i32_71 v148
  let v152 : BitVec 32 := Scalar.select v151 c1792_i32_73 v150
  let v154 : BitVec 32 := Scalar.select v153 c2048_i32_75 v152
  let v156 : BitVec 32 := Scalar.select v155 c2304_i32_77 v154
  let v158 : BitVec 32 := Scalar.select v157 c2560_i32_79 v156
  v158
def k0_off5 (k0_t1 : Fin k0_t1_loop.trips) : Fin 1 → Nat :=
  let c0_i32_18 : BitVec 32 := 0#32
  let c1_i32 : BitVec 32 := 1#32
  let arg13 : BitVec 32 := Scf.iv c0_i32_18 c1_i32 k0_t1
  let c256_i32 : BitVec 32 := 256#32
  let v41 : BitVec 32 := Scalar.muli arg13 c256_i32
  let v42 : BitVec 32 := v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c256_i32_20 : BitVec 32 := 256#32
  let c0_i32_23 : BitVec 32 := 0#32
  let v49 : BitVec 1 := Scalar.cmpi .sgt c256_i32_20 c0_i32_23
  let v50 : BitVec 32 := Scalar.extui v49
  let c0_i32_24 : BitVec 32 := 0#32
  let v51 : BitVec 1 := Scalar.cmpi .slt c256_i32_20 c0_i32_24
  let v52 : BitVec 32 := Scalar.extui v51
  let v53 : BitVec 32 := Scalar.subi v50 v52
  let v54 : BitVec 1 := Scalar.cmpi .ne v48 v53
  let v55 : BitVec 32 := Scalar.remsi v42 c256_i32_20
  let c0_i32_25 : BitVec 32 := 0#32
  let v56 : BitVec 1 := Scalar.cmpi .ne v55 c0_i32_25
  let v57 : BitVec 1 := Scalar.andi v54 v56
  let v43 : BitVec 32 := Scalar.divsi v42 c256_i32_20
  let c1_i32_26 : BitVec 32 := 1#32
  let v58 : BitVec 32 := Scalar.subi v43 c1_i32_26
  let v59 : BitVec 32 := Scalar.select v57 v58 v43
  let c2_i32_58 : BitVec 32 := 2#32
  let v138 : BitVec 32 := Scalar.addi v59 c2_i32_58
  ![v138.toNat]
def k0_off6 (k0_t1 : Fin k0_t1_loop.trips) : Fin 2 → Nat :=
  let c0_i32_18 : BitVec 32 := 0#32
  let c1_i32 : BitVec 32 := 1#32
  let arg13 : BitVec 32 := Scf.iv c0_i32_18 c1_i32 k0_t1
  let c256_i32 : BitVec 32 := 256#32
  let v41 : BitVec 32 := Scalar.muli arg13 c256_i32
  let v42 : BitVec 32 := v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c256_i32_20 : BitVec 32 := 256#32
  let c0_i32_23 : BitVec 32 := 0#32
  let v49 : BitVec 1 := Scalar.cmpi .sgt c256_i32_20 c0_i32_23
  let v50 : BitVec 32 := Scalar.extui v49
  let c0_i32_24 : BitVec 32 := 0#32
  let v51 : BitVec 1 := Scalar.cmpi .slt c256_i32_20 c0_i32_24
  let v52 : BitVec 32 := Scalar.extui v51
  let v53 : BitVec 32 := Scalar.subi v50 v52
  let v54 : BitVec 1 := Scalar.cmpi .ne v48 v53
  let v55 : BitVec 32 := Scalar.remsi v42 c256_i32_20
  let c0_i32_25 : BitVec 32 := 0#32
  let v56 : BitVec 1 := Scalar.cmpi .ne v55 c0_i32_25
  let v57 : BitVec 1 := Scalar.andi v54 v56
  let v43 : BitVec 32 := Scalar.divsi v42 c256_i32_20
  let c1_i32_26 : BitVec 32 := 1#32
  let v58 : BitVec 32 := Scalar.subi v43 c1_i32_26
  let v59 : BitVec 32 := Scalar.select v57 v58 v43
  let c2_i32_58 : BitVec 32 := 2#32
  let v138 : BitVec 32 := Scalar.addi v59 c2_i32_58
  let c10_i32_78 : BitVec 32 := 10#32
  let v157 : BitVec 1 := Scalar.cmpi .eq v138 c10_i32_78
  let c2560_i32_79 : BitVec 32 := 2560#32
  let c9_i32_76 : BitVec 32 := 9#32
  let v155 : BitVec 1 := Scalar.cmpi .eq v138 c9_i32_76
  let c2304_i32_77 : BitVec 32 := 2304#32
  let c8_i32_74 : BitVec 32 := 8#32
  let v153 : BitVec 1 := Scalar.cmpi .eq v138 c8_i32_74
  let c2048_i32_75 : BitVec 32 := 2048#32
  let c7_i32_72 : BitVec 32 := 7#32
  let v151 : BitVec 1 := Scalar.cmpi .eq v138 c7_i32_72
  let c1792_i32_73 : BitVec 32 := 1792#32
  let c6_i32_70 : BitVec 32 := 6#32
  let v149 : BitVec 1 := Scalar.cmpi .eq v138 c6_i32_70
  let c1536_i32_71 : BitVec 32 := 1536#32
  let c5_i32_68 : BitVec 32 := 5#32
  let v147 : BitVec 1 := Scalar.cmpi .eq v138 c5_i32_68
  let c1280_i32_69 : BitVec 32 := 1280#32
  let c4_i32_66 : BitVec 32 := 4#32
  let v145 : BitVec 1 := Scalar.cmpi .eq v138 c4_i32_66
  let c1024_i32_67 : BitVec 32 := 1024#32
  let c3_i32_64 : BitVec 32 := 3#32
  let v143 : BitVec 1 := Scalar.cmpi .eq v138 c3_i32_64
  let c768_i32_65 : BitVec 32 := 768#32
  let c2_i32_62 : BitVec 32 := 2#32
  let v141 : BitVec 1 := Scalar.cmpi .eq v138 c2_i32_62
  let c512_i32_63 : BitVec 32 := 512#32
  let c1_i32_59 : BitVec 32 := 1#32
  let v139 : BitVec 1 := Scalar.cmpi .eq v138 c1_i32_59
  let c256_i32_60 : BitVec 32 := 256#32
  let c0_i32_61 : BitVec 32 := 0#32
  let v140 : BitVec 32 := Scalar.select v139 c256_i32_60 c0_i32_61
  let v142 : BitVec 32 := Scalar.select v141 c512_i32_63 v140
  let v144 : BitVec 32 := Scalar.select v143 c768_i32_65 v142
  let v146 : BitVec 32 := Scalar.select v145 c1024_i32_67 v144
  let v148 : BitVec 32 := Scalar.select v147 c1280_i32_69 v146
  let v150 : BitVec 32 := Scalar.select v149 c1536_i32_71 v148
  let v152 : BitVec 32 := Scalar.select v151 c1792_i32_73 v150
  let v154 : BitVec 32 := Scalar.select v153 c2048_i32_75 v152
  let v156 : BitVec 32 := Scalar.select v155 c2304_i32_77 v154
  let v158 : BitVec 32 := Scalar.select v157 c2560_i32_79 v156
  let v159 : BitVec 32 := v158
  let c0_i32_80 : BitVec 32 := 0#32
  ![v159.toNat, 0]
def k0_cond5 (i : grid0.Coords) : BitVec 1 :=
  let arg0 : BitVec 32 := BitVec.ofNat 32 (i 0).val
  let c0_i32_1 : BitVec 32 := 0#32
  let v3 : BitVec 1 := Scalar.cmpi .eq arg0 c0_i32_1
  let v79 : BitVec 32 := Scalar.extui v3
  let c0_i32_35 : BitVec 32 := 0#32
  let v80 : BitVec 1 := Scalar.cmpi .ne v79 c0_i32_35
  v80

def k0_mult8 (k0_t1 : Fin k0_t1_loop.trips) : BitVec 32 :=
  let c0_i32_18 : BitVec 32 := 0#32
  let c1_i32 : BitVec 32 := 1#32
  let arg13 : BitVec 32 := Scf.iv c0_i32_18 c1_i32 k0_t1
  let c256_i32 : BitVec 32 := 256#32
  let v41 : BitVec 32 := Scalar.muli arg13 c256_i32
  let v42 : BitVec 32 := v41
  let c0_i32_29 : BitVec 32 := 0#32
  let v63 : BitVec 1 := Scalar.cmpi .sgt v42 c0_i32_29
  let v64 : BitVec 32 := Scalar.extui v63
  let c0_i32_30 : BitVec 32 := 0#32
  let v65 : BitVec 1 := Scalar.cmpi .slt v42 c0_i32_30
  let v66 : BitVec 32 := Scalar.extui v65
  let v67 : BitVec 32 := Scalar.subi v64 v66
  let c256_i32_28 : BitVec 32 := 256#32
  let c0_i32_31 : BitVec 32 := 0#32
  let v68 : BitVec 1 := Scalar.cmpi .sgt c256_i32_28 c0_i32_31
  let v69 : BitVec 32 := Scalar.extui v68
  let c0_i32_32 : BitVec 32 := 0#32
  let v70 : BitVec 1 := Scalar.cmpi .slt c256_i32_28 c0_i32_32
  let v71 : BitVec 32 := Scalar.extui v70
  let v72 : BitVec 32 := Scalar.subi v69 v71
  let v73 : BitVec 1 := Scalar.cmpi .ne v67 v72
  let v74 : BitVec 32 := Scalar.remsi v42 c256_i32_28
  let c0_i32_33 : BitVec 32 := 0#32
  let v75 : BitVec 1 := Scalar.cmpi .ne v74 c0_i32_33
  let v76 : BitVec 1 := Scalar.andi v73 v75
  let v62 : BitVec 32 := Scalar.divsi v42 c256_i32_28
  let c1_i32_34 : BitVec 32 := 1#32
  let v77 : BitVec 32 := Scalar.subi v62 c1_i32_34
  let v78 : BitVec 32 := Scalar.select v76 v77 v62
  let c10_i32 : BitVec 32 := 10#32
  let v127 : BitVec 1 := Scalar.cmpi .eq v78 c10_i32
  let c2560_i32 : BitVec 32 := 2560#32
  let c9_i32 : BitVec 32 := 9#32
  let v125 : BitVec 1 := Scalar.cmpi .eq v78 c9_i32
  let c2304_i32 : BitVec 32 := 2304#32
  let c8_i32 : BitVec 32 := 8#32
  let v123 : BitVec 1 := Scalar.cmpi .eq v78 c8_i32
  let c2048_i32 : BitVec 32 := 2048#32
  let c7_i32 : BitVec 32 := 7#32
  let v121 : BitVec 1 := Scalar.cmpi .eq v78 c7_i32
  let c1792_i32 : BitVec 32 := 1792#32
  let c6_i32 : BitVec 32 := 6#32
  let v119 : BitVec 1 := Scalar.cmpi .eq v78 c6_i32
  let c1536_i32 : BitVec 32 := 1536#32
  let c5_i32 : BitVec 32 := 5#32
  let v117 : BitVec 1 := Scalar.cmpi .eq v78 c5_i32
  let c1280_i32 : BitVec 32 := 1280#32
  let c4_i32 : BitVec 32 := 4#32
  let v115 : BitVec 1 := Scalar.cmpi .eq v78 c4_i32
  let c1024_i32 : BitVec 32 := 1024#32
  let c3_i32 : BitVec 32 := 3#32
  let v113 : BitVec 1 := Scalar.cmpi .eq v78 c3_i32
  let c768_i32 : BitVec 32 := 768#32
  let c2_i32 : BitVec 32 := 2#32
  let v111 : BitVec 1 := Scalar.cmpi .eq v78 c2_i32
  let c512_i32 : BitVec 32 := 512#32
  let c1_i32_50 : BitVec 32 := 1#32
  let v109 : BitVec 1 := Scalar.cmpi .eq v78 c1_i32_50
  let c256_i32_51 : BitVec 32 := 256#32
  let c0_i32_52 : BitVec 32 := 0#32
  let v110 : BitVec 32 := Scalar.select v109 c256_i32_51 c0_i32_52
  let v112 : BitVec 32 := Scalar.select v111 c512_i32 v110
  let v114 : BitVec 32 := Scalar.select v113 c768_i32 v112
  let v116 : BitVec 32 := Scalar.select v115 c1024_i32 v114
  let v118 : BitVec 32 := Scalar.select v117 c1280_i32 v116
  let v120 : BitVec 32 := Scalar.select v119 c1536_i32 v118
  let v122 : BitVec 32 := Scalar.select v121 c1792_i32 v120
  let v124 : BitVec 32 := Scalar.select v123 c2048_i32 v122
  let v126 : BitVec 32 := Scalar.select v125 c2304_i32 v124
  let v128 : BitVec 32 := Scalar.select v127 c2560_i32 v126
  v128
def k0_off7 (k0_t1 : Fin k0_t1_loop.trips) : Fin 1 → Nat :=
  let c0_i32_18 : BitVec 32 := 0#32
  let c1_i32 : BitVec 32 := 1#32
  let arg13 : BitVec 32 := Scf.iv c0_i32_18 c1_i32 k0_t1
  let c256_i32 : BitVec 32 := 256#32
  let v41 : BitVec 32 := Scalar.muli arg13 c256_i32
  let v42 : BitVec 32 := v41
  let c0_i32_29 : BitVec 32 := 0#32
  let v63 : BitVec 1 := Scalar.cmpi .sgt v42 c0_i32_29
  let v64 : BitVec 32 := Scalar.extui v63
  let c0_i32_30 : BitVec 32 := 0#32
  let v65 : BitVec 1 := Scalar.cmpi .slt v42 c0_i32_30
  let v66 : BitVec 32 := Scalar.extui v65
  let v67 : BitVec 32 := Scalar.subi v64 v66
  let c256_i32_28 : BitVec 32 := 256#32
  let c0_i32_31 : BitVec 32 := 0#32
  let v68 : BitVec 1 := Scalar.cmpi .sgt c256_i32_28 c0_i32_31
  let v69 : BitVec 32 := Scalar.extui v68
  let c0_i32_32 : BitVec 32 := 0#32
  let v70 : BitVec 1 := Scalar.cmpi .slt c256_i32_28 c0_i32_32
  let v71 : BitVec 32 := Scalar.extui v70
  let v72 : BitVec 32 := Scalar.subi v69 v71
  let v73 : BitVec 1 := Scalar.cmpi .ne v67 v72
  let v74 : BitVec 32 := Scalar.remsi v42 c256_i32_28
  let c0_i32_33 : BitVec 32 := 0#32
  let v75 : BitVec 1 := Scalar.cmpi .ne v74 c0_i32_33
  let v76 : BitVec 1 := Scalar.andi v73 v75
  let v62 : BitVec 32 := Scalar.divsi v42 c256_i32_28
  let c1_i32_34 : BitVec 32 := 1#32
  let v77 : BitVec 32 := Scalar.subi v62 c1_i32_34
  let v78 : BitVec 32 := Scalar.select v76 v77 v62
  ![v78.toNat]
def k0_off8 (k0_t1 : Fin k0_t1_loop.trips) : Fin 2 → Nat :=
  let c0_i32_18 : BitVec 32 := 0#32
  let c1_i32 : BitVec 32 := 1#32
  let arg13 : BitVec 32 := Scf.iv c0_i32_18 c1_i32 k0_t1
  let c256_i32 : BitVec 32 := 256#32
  let v41 : BitVec 32 := Scalar.muli arg13 c256_i32
  let v42 : BitVec 32 := v41
  let c0_i32_29 : BitVec 32 := 0#32
  let v63 : BitVec 1 := Scalar.cmpi .sgt v42 c0_i32_29
  let v64 : BitVec 32 := Scalar.extui v63
  let c0_i32_30 : BitVec 32 := 0#32
  let v65 : BitVec 1 := Scalar.cmpi .slt v42 c0_i32_30
  let v66 : BitVec 32 := Scalar.extui v65
  let v67 : BitVec 32 := Scalar.subi v64 v66
  let c256_i32_28 : BitVec 32 := 256#32
  let c0_i32_31 : BitVec 32 := 0#32
  let v68 : BitVec 1 := Scalar.cmpi .sgt c256_i32_28 c0_i32_31
  let v69 : BitVec 32 := Scalar.extui v68
  let c0_i32_32 : BitVec 32 := 0#32
  let v70 : BitVec 1 := Scalar.cmpi .slt c256_i32_28 c0_i32_32
  let v71 : BitVec 32 := Scalar.extui v70
  let v72 : BitVec 32 := Scalar.subi v69 v71
  let v73 : BitVec 1 := Scalar.cmpi .ne v67 v72
  let v74 : BitVec 32 := Scalar.remsi v42 c256_i32_28
  let c0_i32_33 : BitVec 32 := 0#32
  let v75 : BitVec 1 := Scalar.cmpi .ne v74 c0_i32_33
  let v76 : BitVec 1 := Scalar.andi v73 v75
  let v62 : BitVec 32 := Scalar.divsi v42 c256_i32_28
  let c1_i32_34 : BitVec 32 := 1#32
  let v77 : BitVec 32 := Scalar.subi v62 c1_i32_34
  let v78 : BitVec 32 := Scalar.select v76 v77 v62
  let c10_i32 : BitVec 32 := 10#32
  let v127 : BitVec 1 := Scalar.cmpi .eq v78 c10_i32
  let c2560_i32 : BitVec 32 := 2560#32
  let c9_i32 : BitVec 32 := 9#32
  let v125 : BitVec 1 := Scalar.cmpi .eq v78 c9_i32
  let c2304_i32 : BitVec 32 := 2304#32
  let c8_i32 : BitVec 32 := 8#32
  let v123 : BitVec 1 := Scalar.cmpi .eq v78 c8_i32
  let c2048_i32 : BitVec 32 := 2048#32
  let c7_i32 : BitVec 32 := 7#32
  let v121 : BitVec 1 := Scalar.cmpi .eq v78 c7_i32
  let c1792_i32 : BitVec 32 := 1792#32
  let c6_i32 : BitVec 32 := 6#32
  let v119 : BitVec 1 := Scalar.cmpi .eq v78 c6_i32
  let c1536_i32 : BitVec 32 := 1536#32
  let c5_i32 : BitVec 32 := 5#32
  let v117 : BitVec 1 := Scalar.cmpi .eq v78 c5_i32
  let c1280_i32 : BitVec 32 := 1280#32
  let c4_i32 : BitVec 32 := 4#32
  let v115 : BitVec 1 := Scalar.cmpi .eq v78 c4_i32
  let c1024_i32 : BitVec 32 := 1024#32
  let c3_i32 : BitVec 32 := 3#32
  let v113 : BitVec 1 := Scalar.cmpi .eq v78 c3_i32
  let c768_i32 : BitVec 32 := 768#32
  let c2_i32 : BitVec 32 := 2#32
  let v111 : BitVec 1 := Scalar.cmpi .eq v78 c2_i32
  let c512_i32 : BitVec 32 := 512#32
  let c1_i32_50 : BitVec 32 := 1#32
  let v109 : BitVec 1 := Scalar.cmpi .eq v78 c1_i32_50
  let c256_i32_51 : BitVec 32 := 256#32
  let c0_i32_52 : BitVec 32 := 0#32
  let v110 : BitVec 32 := Scalar.select v109 c256_i32_51 c0_i32_52
  let v112 : BitVec 32 := Scalar.select v111 c512_i32 v110
  let v114 : BitVec 32 := Scalar.select v113 c768_i32 v112
  let v116 : BitVec 32 := Scalar.select v115 c1024_i32 v114
  let v118 : BitVec 32 := Scalar.select v117 c1280_i32 v116
  let v120 : BitVec 32 := Scalar.select v119 c1536_i32 v118
  let v122 : BitVec 32 := Scalar.select v121 c1792_i32 v120
  let v124 : BitVec 32 := Scalar.select v123 c2048_i32 v122
  let v126 : BitVec 32 := Scalar.select v125 c2304_i32 v124
  let v128 : BitVec 32 := Scalar.select v127 c2560_i32 v126
  let v129 : BitVec 32 := v128
  let c0_i32_53 : BitVec 32 := 0#32
  ![v129.toNat, 0]
def k0_cond6 (k0_t1 : Fin k0_t1_loop.trips) : BitVec 1 :=
  let c0_i32_18 : BitVec 32 := 0#32
  let c1_i32 : BitVec 32 := 1#32
  let arg13 : BitVec 32 := Scf.iv c0_i32_18 c1_i32 k0_t1
  let c256_i32 : BitVec 32 := 256#32
  let v41 : BitVec 32 := Scalar.muli arg13 c256_i32
  let v42 : BitVec 32 := v41
  let c0_i32_29 : BitVec 32 := 0#32
  let v63 : BitVec 1 := Scalar.cmpi .sgt v42 c0_i32_29
  let v64 : BitVec 32 := Scalar.extui v63
  let c0_i32_30 : BitVec 32 := 0#32
  let v65 : BitVec 1 := Scalar.cmpi .slt v42 c0_i32_30
  let v66 : BitVec 32 := Scalar.extui v65
  let v67 : BitVec 32 := Scalar.subi v64 v66
  let c256_i32_28 : BitVec 32 := 256#32
  let c0_i32_31 : BitVec 32 := 0#32
  let v68 : BitVec 1 := Scalar.cmpi .sgt c256_i32_28 c0_i32_31
  let v69 : BitVec 32 := Scalar.extui v68
  let c0_i32_32 : BitVec 32 := 0#32
  let v70 : BitVec 1 := Scalar.cmpi .slt c256_i32_28 c0_i32_32
  let v71 : BitVec 32 := Scalar.extui v70
  let v72 : BitVec 32 := Scalar.subi v69 v71
  let v73 : BitVec 1 := Scalar.cmpi .ne v67 v72
  let v74 : BitVec 32 := Scalar.remsi v42 c256_i32_28
  let c0_i32_33 : BitVec 32 := 0#32
  let v75 : BitVec 1 := Scalar.cmpi .ne v74 c0_i32_33
  let v76 : BitVec 1 := Scalar.andi v73 v75
  let v62 : BitVec 32 := Scalar.divsi v42 c256_i32_28
  let c1_i32_34 : BitVec 32 := 1#32
  let v77 : BitVec 32 := Scalar.subi v62 c1_i32_34
  let v78 : BitVec 32 := Scalar.select v76 v77 v62
  let c2_i32_55 : BitVec 32 := 2#32
  let v134 : BitVec 32 := Scalar.addi v78 c2_i32_55
  let c11_i32_56 : BitVec 32 := 11#32
  let v135 : BitVec 1 := Scalar.cmpi .slt v134 c11_i32_56
  let v136 : BitVec 32 := Scalar.extui v135
  let c0_i32_57 : BitVec 32 := 0#32
  let v137 : BitVec 1 := Scalar.cmpi .ne v136 c0_i32_57
  v137

def k0_mult9 (k0_t1 : Fin k0_t1_loop.trips) : BitVec 32 :=
  let c0_i32_18 : BitVec 32 := 0#32
  let c1_i32 : BitVec 32 := 1#32
  let arg13 : BitVec 32 := Scf.iv c0_i32_18 c1_i32 k0_t1
  let c256_i32 : BitVec 32 := 256#32
  let v41 : BitVec 32 := Scalar.muli arg13 c256_i32
  let v42 : BitVec 32 := v41
  let c0_i32_29 : BitVec 32 := 0#32
  let v63 : BitVec 1 := Scalar.cmpi .sgt v42 c0_i32_29
  let v64 : BitVec 32 := Scalar.extui v63
  let c0_i32_30 : BitVec 32 := 0#32
  let v65 : BitVec 1 := Scalar.cmpi .slt v42 c0_i32_30
  let v66 : BitVec 32 := Scalar.extui v65
  let v67 : BitVec 32 := Scalar.subi v64 v66
  let c256_i32_28 : BitVec 32 := 256#32
  let c0_i32_31 : BitVec 32 := 0#32
  let v68 : BitVec 1 := Scalar.cmpi .sgt c256_i32_28 c0_i32_31
  let v69 : BitVec 32 := Scalar.extui v68
  let c0_i32_32 : BitVec 32 := 0#32
  let v70 : BitVec 1 := Scalar.cmpi .slt c256_i32_28 c0_i32_32
  let v71 : BitVec 32 := Scalar.extui v70
  let v72 : BitVec 32 := Scalar.subi v69 v71
  let v73 : BitVec 1 := Scalar.cmpi .ne v67 v72
  let v74 : BitVec 32 := Scalar.remsi v42 c256_i32_28
  let c0_i32_33 : BitVec 32 := 0#32
  let v75 : BitVec 1 := Scalar.cmpi .ne v74 c0_i32_33
  let v76 : BitVec 1 := Scalar.andi v73 v75
  let v62 : BitVec 32 := Scalar.divsi v42 c256_i32_28
  let c1_i32_34 : BitVec 32 := 1#32
  let v77 : BitVec 32 := Scalar.subi v62 c1_i32_34
  let v78 : BitVec 32 := Scalar.select v76 v77 v62
  let c2_i32_58 : BitVec 32 := 2#32
  let v138 : BitVec 32 := Scalar.addi v78 c2_i32_58
  let c10_i32_78 : BitVec 32 := 10#32
  let v157 : BitVec 1 := Scalar.cmpi .eq v138 c10_i32_78
  let c2560_i32_79 : BitVec 32 := 2560#32
  let c9_i32_76 : BitVec 32 := 9#32
  let v155 : BitVec 1 := Scalar.cmpi .eq v138 c9_i32_76
  let c2304_i32_77 : BitVec 32 := 2304#32
  let c8_i32_74 : BitVec 32 := 8#32
  let v153 : BitVec 1 := Scalar.cmpi .eq v138 c8_i32_74
  let c2048_i32_75 : BitVec 32 := 2048#32
  let c7_i32_72 : BitVec 32 := 7#32
  let v151 : BitVec 1 := Scalar.cmpi .eq v138 c7_i32_72
  let c1792_i32_73 : BitVec 32 := 1792#32
  let c6_i32_70 : BitVec 32 := 6#32
  let v149 : BitVec 1 := Scalar.cmpi .eq v138 c6_i32_70
  let c1536_i32_71 : BitVec 32 := 1536#32
  let c5_i32_68 : BitVec 32 := 5#32
  let v147 : BitVec 1 := Scalar.cmpi .eq v138 c5_i32_68
  let c1280_i32_69 : BitVec 32 := 1280#32
  let c4_i32_66 : BitVec 32 := 4#32
  let v145 : BitVec 1 := Scalar.cmpi .eq v138 c4_i32_66
  let c1024_i32_67 : BitVec 32 := 1024#32
  let c3_i32_64 : BitVec 32 := 3#32
  let v143 : BitVec 1 := Scalar.cmpi .eq v138 c3_i32_64
  let c768_i32_65 : BitVec 32 := 768#32
  let c2_i32_62 : BitVec 32 := 2#32
  let v141 : BitVec 1 := Scalar.cmpi .eq v138 c2_i32_62
  let c512_i32_63 : BitVec 32 := 512#32
  let c1_i32_59 : BitVec 32 := 1#32
  let v139 : BitVec 1 := Scalar.cmpi .eq v138 c1_i32_59
  let c256_i32_60 : BitVec 32 := 256#32
  let c0_i32_61 : BitVec 32 := 0#32
  let v140 : BitVec 32 := Scalar.select v139 c256_i32_60 c0_i32_61
  let v142 : BitVec 32 := Scalar.select v141 c512_i32_63 v140
  let v144 : BitVec 32 := Scalar.select v143 c768_i32_65 v142
  let v146 : BitVec 32 := Scalar.select v145 c1024_i32_67 v144
  let v148 : BitVec 32 := Scalar.select v147 c1280_i32_69 v146
  let v150 : BitVec 32 := Scalar.select v149 c1536_i32_71 v148
  let v152 : BitVec 32 := Scalar.select v151 c1792_i32_73 v150
  let v154 : BitVec 32 := Scalar.select v153 c2048_i32_75 v152
  let v156 : BitVec 32 := Scalar.select v155 c2304_i32_77 v154
  let v158 : BitVec 32 := Scalar.select v157 c2560_i32_79 v156
  v158
def k0_off9 (k0_t1 : Fin k0_t1_loop.trips) : Fin 1 → Nat :=
  let c0_i32_18 : BitVec 32 := 0#32
  let c1_i32 : BitVec 32 := 1#32
  let arg13 : BitVec 32 := Scf.iv c0_i32_18 c1_i32 k0_t1
  let c256_i32 : BitVec 32 := 256#32
  let v41 : BitVec 32 := Scalar.muli arg13 c256_i32
  let v42 : BitVec 32 := v41
  let c0_i32_29 : BitVec 32 := 0#32
  let v63 : BitVec 1 := Scalar.cmpi .sgt v42 c0_i32_29
  let v64 : BitVec 32 := Scalar.extui v63
  let c0_i32_30 : BitVec 32 := 0#32
  let v65 : BitVec 1 := Scalar.cmpi .slt v42 c0_i32_30
  let v66 : BitVec 32 := Scalar.extui v65
  let v67 : BitVec 32 := Scalar.subi v64 v66
  let c256_i32_28 : BitVec 32 := 256#32
  let c0_i32_31 : BitVec 32 := 0#32
  let v68 : BitVec 1 := Scalar.cmpi .sgt c256_i32_28 c0_i32_31
  let v69 : BitVec 32 := Scalar.extui v68
  let c0_i32_32 : BitVec 32 := 0#32
  let v70 : BitVec 1 := Scalar.cmpi .slt c256_i32_28 c0_i32_32
  let v71 : BitVec 32 := Scalar.extui v70
  let v72 : BitVec 32 := Scalar.subi v69 v71
  let v73 : BitVec 1 := Scalar.cmpi .ne v67 v72
  let v74 : BitVec 32 := Scalar.remsi v42 c256_i32_28
  let c0_i32_33 : BitVec 32 := 0#32
  let v75 : BitVec 1 := Scalar.cmpi .ne v74 c0_i32_33
  let v76 : BitVec 1 := Scalar.andi v73 v75
  let v62 : BitVec 32 := Scalar.divsi v42 c256_i32_28
  let c1_i32_34 : BitVec 32 := 1#32
  let v77 : BitVec 32 := Scalar.subi v62 c1_i32_34
  let v78 : BitVec 32 := Scalar.select v76 v77 v62
  let c2_i32_58 : BitVec 32 := 2#32
  let v138 : BitVec 32 := Scalar.addi v78 c2_i32_58
  ![v138.toNat]
def k0_off10 (k0_t1 : Fin k0_t1_loop.trips) : Fin 2 → Nat :=
  let c0_i32_18 : BitVec 32 := 0#32
  let c1_i32 : BitVec 32 := 1#32
  let arg13 : BitVec 32 := Scf.iv c0_i32_18 c1_i32 k0_t1
  let c256_i32 : BitVec 32 := 256#32
  let v41 : BitVec 32 := Scalar.muli arg13 c256_i32
  let v42 : BitVec 32 := v41
  let c0_i32_29 : BitVec 32 := 0#32
  let v63 : BitVec 1 := Scalar.cmpi .sgt v42 c0_i32_29
  let v64 : BitVec 32 := Scalar.extui v63
  let c0_i32_30 : BitVec 32 := 0#32
  let v65 : BitVec 1 := Scalar.cmpi .slt v42 c0_i32_30
  let v66 : BitVec 32 := Scalar.extui v65
  let v67 : BitVec 32 := Scalar.subi v64 v66
  let c256_i32_28 : BitVec 32 := 256#32
  let c0_i32_31 : BitVec 32 := 0#32
  let v68 : BitVec 1 := Scalar.cmpi .sgt c256_i32_28 c0_i32_31
  let v69 : BitVec 32 := Scalar.extui v68
  let c0_i32_32 : BitVec 32 := 0#32
  let v70 : BitVec 1 := Scalar.cmpi .slt c256_i32_28 c0_i32_32
  let v71 : BitVec 32 := Scalar.extui v70
  let v72 : BitVec 32 := Scalar.subi v69 v71
  let v73 : BitVec 1 := Scalar.cmpi .ne v67 v72
  let v74 : BitVec 32 := Scalar.remsi v42 c256_i32_28
  let c0_i32_33 : BitVec 32 := 0#32
  let v75 : BitVec 1 := Scalar.cmpi .ne v74 c0_i32_33
  let v76 : BitVec 1 := Scalar.andi v73 v75
  let v62 : BitVec 32 := Scalar.divsi v42 c256_i32_28
  let c1_i32_34 : BitVec 32 := 1#32
  let v77 : BitVec 32 := Scalar.subi v62 c1_i32_34
  let v78 : BitVec 32 := Scalar.select v76 v77 v62
  let c2_i32_58 : BitVec 32 := 2#32
  let v138 : BitVec 32 := Scalar.addi v78 c2_i32_58
  let c10_i32_78 : BitVec 32 := 10#32
  let v157 : BitVec 1 := Scalar.cmpi .eq v138 c10_i32_78
  let c2560_i32_79 : BitVec 32 := 2560#32
  let c9_i32_76 : BitVec 32 := 9#32
  let v155 : BitVec 1 := Scalar.cmpi .eq v138 c9_i32_76
  let c2304_i32_77 : BitVec 32 := 2304#32
  let c8_i32_74 : BitVec 32 := 8#32
  let v153 : BitVec 1 := Scalar.cmpi .eq v138 c8_i32_74
  let c2048_i32_75 : BitVec 32 := 2048#32
  let c7_i32_72 : BitVec 32 := 7#32
  let v151 : BitVec 1 := Scalar.cmpi .eq v138 c7_i32_72
  let c1792_i32_73 : BitVec 32 := 1792#32
  let c6_i32_70 : BitVec 32 := 6#32
  let v149 : BitVec 1 := Scalar.cmpi .eq v138 c6_i32_70
  let c1536_i32_71 : BitVec 32 := 1536#32
  let c5_i32_68 : BitVec 32 := 5#32
  let v147 : BitVec 1 := Scalar.cmpi .eq v138 c5_i32_68
  let c1280_i32_69 : BitVec 32 := 1280#32
  let c4_i32_66 : BitVec 32 := 4#32
  let v145 : BitVec 1 := Scalar.cmpi .eq v138 c4_i32_66
  let c1024_i32_67 : BitVec 32 := 1024#32
  let c3_i32_64 : BitVec 32 := 3#32
  let v143 : BitVec 1 := Scalar.cmpi .eq v138 c3_i32_64
  let c768_i32_65 : BitVec 32 := 768#32
  let c2_i32_62 : BitVec 32 := 2#32
  let v141 : BitVec 1 := Scalar.cmpi .eq v138 c2_i32_62
  let c512_i32_63 : BitVec 32 := 512#32
  let c1_i32_59 : BitVec 32 := 1#32
  let v139 : BitVec 1 := Scalar.cmpi .eq v138 c1_i32_59
  let c256_i32_60 : BitVec 32 := 256#32
  let c0_i32_61 : BitVec 32 := 0#32
  let v140 : BitVec 32 := Scalar.select v139 c256_i32_60 c0_i32_61
  let v142 : BitVec 32 := Scalar.select v141 c512_i32_63 v140
  let v144 : BitVec 32 := Scalar.select v143 c768_i32_65 v142
  let v146 : BitVec 32 := Scalar.select v145 c1024_i32_67 v144
  let v148 : BitVec 32 := Scalar.select v147 c1280_i32_69 v146
  let v150 : BitVec 32 := Scalar.select v149 c1536_i32_71 v148
  let v152 : BitVec 32 := Scalar.select v151 c1792_i32_73 v150
  let v154 : BitVec 32 := Scalar.select v153 c2048_i32_75 v152
  let v156 : BitVec 32 := Scalar.select v155 c2304_i32_77 v154
  let v158 : BitVec 32 := Scalar.select v157 c2560_i32_79 v156
  let v159 : BitVec 32 := v158
  let c0_i32_80 : BitVec 32 := 0#32
  ![v159.toNat, 0]
def k0_off11 (k0_t1 : Fin k0_t1_loop.trips) : Fin 2 → Nat :=
  let c0_i32_18 : BitVec 32 := 0#32
  let c1_i32 : BitVec 32 := 1#32
  let arg13 : BitVec 32 := Scf.iv c0_i32_18 c1_i32 k0_t1
  let c256_i32 : BitVec 32 := 256#32
  let v41 : BitVec 32 := Scalar.muli arg13 c256_i32
  let v42 : BitVec 32 := v41
  let v83 : Index := Scalar.indexCast v42
  let c0_38 : Index := 0#32
  ![v83.toNat, 0]
def k0_off12 (k0_t1 : Fin k0_t1_loop.trips) : Fin 2 → Nat :=
  let c0_44 : Index := 0#32
  let c0_i32_18 : BitVec 32 := 0#32
  let c1_i32 : BitVec 32 := 1#32
  let arg13 : BitVec 32 := Scf.iv c0_i32_18 c1_i32 k0_t1
  let c256_i32 : BitVec 32 := 256#32
  let v41 : BitVec 32 := Scalar.muli arg13 c256_i32
  let v42 : BitVec 32 := v41
  let v92 : Index := Scalar.indexCast v42
  ![0, v92.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S2176x1024 : Shape := ⟨2, ![2176, 1024]⟩
abbrev S1024 : Shape := ⟨1, ![1024]⟩
abbrev S1024x2816 : Shape := ⟨2, ![1024, 2816]⟩
abbrev S_ : Shape := ⟨0, ![]⟩
abbrev S2176 : Shape := ⟨1, ![2176]⟩
abbrev S2176x1 : Shape := ⟨2, ![2176, 1]⟩
abbrev S1x1024 : Shape := ⟨2, ![1, 1024]⟩
abbrev S2176x2816 : Shape := ⟨2, ![2176, 2816]⟩

abbrev nBuf : Space → Nat
  | .hbm => 36
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2176x1024, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x1024, .f32⟩
  | .hbm, ⟨16, _⟩ => ⟨S2176x1024, .f32⟩
  | .hbm, ⟨17, _⟩ => ⟨S1x1024, .f32⟩
  | .hbm, ⟨18, _⟩ => ⟨S2176x1024, .f32⟩
  | .hbm, ⟨19, _⟩ => ⟨S2176x1024, .f32⟩
  | .hbm, ⟨20, _⟩ => ⟨S2176x2816, .f32⟩
  | .hbm, ⟨21, _⟩ => ⟨S2176x2816, .f32⟩
  | .hbm, ⟨22, _⟩ => ⟨S2176x2816, .f32⟩
  | .hbm, ⟨23, _⟩ => ⟨S2176x2816, .f32⟩
  | .hbm, ⟨24, _⟩ => ⟨S_, .f32⟩
  | .hbm, ⟨25, _⟩ => ⟨S2176x2816, .f32⟩
  | .hbm, ⟨26, _⟩ => ⟨S2176x2816, .f32⟩
  | .hbm, ⟨27, _⟩ => ⟨S_, .f32⟩
  | .hbm, ⟨28, _⟩ => ⟨S2176x2816, .f32⟩
  | .hbm, ⟨29, _⟩ => ⟨S2176x2816, .f32⟩
  | .hbm, ⟨30, _⟩ => ⟨S2176x2816, .f32⟩
  | .hbm, ⟨31, _⟩ => ⟨S2176x2816, .f32⟩
  | .hbm, ⟨32, _⟩ => ⟨S2176x2816, .bf16⟩
  | .hbm, ⟨33, _⟩ => ⟨S2176x2816, .bf16⟩
  | .hbm, ⟨34, _⟩ => ⟨S2176x2816, .bf16⟩
  | .hbm, ⟨35, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Proof.UpRun.lean ====
/- One grid point of the norm and the two inner products after it, run: what it leaves in its four result blocks and in the two
   weights it keeps on the core. At the first point the weights arrive row block by row block while the point works; at every
   later point they are there already. -/
module

public import proofs.«01_k».proof.Proof.Gen.Kernel6Ideal.Frame
public import proofs.«01_k».proof.Proof.Gen.Kernel6Ideal.Loops
public import Idealize.ShloMosaic.Lib.Pipeline.Value
public import Idealize.ShloMosaic.Lib.Pointwise

@[expose] public section

set_option maxRecDepth 16384

noncomputable section

namespace Cert.Kernel6Ideal.UpRun

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The two weights left in HBM, and the two arrays on the core that they are copied to. -/
abbrev hbM0 : Memref sig .tc .hbm S2816x1024 .bf16 := Memref.whole main_v2
abbrev hbM1 : Memref sig .tc .hbm S2816x1024 .bf16 := Memref.whole main_v4
abbrev scM0 : Memref sig .tc .vmem S2816x1024 .bf16 := Memref.whole cc0_scratch0
abbrev scM1 : Memref sig .tc .vmem S2816x1024 .bf16 := Memref.whole cc0_scratch1
/-- A buffer's contents on core `c`, and the buffer held whole at them. -/
abbrev BufOf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : BufOf (F := F) c M) : sProp 𝕄 :=
  M.view.loc (c : Thread nD τ) ↦{fullShare} f

/-! ## The values, tile by tile -/

theorem cols_inb (n : ℕ) (hn : n < 11) : ∀ a : Fin 2, (![0, 256 * n] : Fin 2 → ℕ) a + (![544, 256] : Fin 2 → ℕ) a ≤ (![544, 2816] : Fin 2 → ℕ) a := by
  intro a; fin_cases a <;> simp <;> omega
theorem rows_inb (o : ℕ) (ho : o + 256 ≤ 2816) : ∀ a : Fin 2, (![o, 0] : Fin 2 → ℕ) a + (![256, 1024] : Fin 2 → ℕ) a ≤ (![2816, 1024] : Fin 2 → ℕ) a := by
  intro a; fin_cases a <;> simp <;> omega
theorem half_inb (o : ℕ) (ho : o + 272 ≤ 544) : ∀ a : Fin 2, (![o, 0] : Fin 2 → ℕ) a + (![272, 1024] : Fin 2 → ℕ) a ≤ (![544, 1024] : Fin 2 → ℕ) a := by
  intro a; fin_cases a <;> simp <;> omega

/-- Rows `o` to `o + 256` of a weight, and rows `o` to `o + 272` of a block. -/
def rows (o : ℕ) (ho : o + 256 ≤ 2816) (w : Vec F S2816x1024 .bf16) : Vec F S256x1024 .bf16 := View.ld w (Rect.unit (s := S2816x1024) ![o, 0] S256x1024.size (rows_inb o ho))
def half (o : ℕ) (ho : o + 272 ≤ 544) (x : Vec F S544x1024 .f32) : Vec F S272x1024 .f32 := View.ld x (Rect.unit (s := S544x1024) ![o, 0] S272x1024.size (half_inb o ho))

/-- The normed block, from the stream's block and the norm's weight. -/
def normOf (h : Vec F S544x1024 .f32) (w : Vec F S1x1024 .f32) : Vec F S544x1024 .bf16 :=
  View.canon [(⟨Rect.unit (s := S544x1024) ![272, 0] S272x1024.size (half_inb 272 (by decide)), k0_pay1 (k0_pay8 w) (k0_pay9 (half 272 (by decide) h))⟩ : View.Piece (Elt F) S544x1024 .bf16),
    ⟨Rect.unit (s := S544x1024) ![0, 0] S272x1024.size (half_inb 0 (by decide)), k0_pay7 (half 0 (by decide) h) w⟩]

/-- Eleven blocks of 256 columns side by side. -/
def tiles (T : (n : ℕ) → n < 11 → Vec F S544x256 .bf16) : Vec F S544x2816 .bf16 := fun y =>
  T ((y 1).val / 256) (by have h : (y 1).val < 2816 := (y 1).isLt; omega) (ix2 (y 0) ⟨(y 1).val % 256, Nat.mod_lt _ (by decide)⟩)

theorem tiles_congr (T : (n : ℕ) → n < 11 → Vec F S544x256 .bf16) {n n' : ℕ} (hn : n < 11) (hn' : n' < 11) {r r' : Fin 544} {k k' : Fin 256} (e : n = n') (er : r = r') (ek : k = k') :
    T n hn (ix2 r k) = T n' hn' (ix2 r' k') := by
  subst e er ek; rfl

/-- One of the blocks, where it lies. -/
theorem tiles_emb (T : (n : ℕ) → n < 11 → Vec F S544x256 .bf16) (n : ℕ) (hn : n < 11) (inb) (x : S544x256.Idx) :
    T n hn x = tiles T ((Rect.unit (s := S544x2816) ![0, 256 * n] S544x256.size inb).emb x) := by
  obtain ⟨r, k, rfl⟩ : ∃ (r : Fin 544) (k : Fin 256), x = ix2 r k := ⟨x 0, x 1, eq_ix2 x⟩
  have hk := k.isLt
  have e1 : ((Rect.unit (s := S544x2816) ![0, 256 * n] S544x256.size inb).emb (ix2 r k) 1).val = 256 * n + k.val := by simp [Rect.emb, Rect.unit]
  unfold tiles
  refine tiles_congr T _ _ ?_ (Fin.ext ?_) (Fin.ext ?_)
  · rw [e1]; omega
  · simp [Rect.emb, Rect.unit]
  · show k.val = _ % 256
    rw [e1]; omega

/-- The three products' blocks, from the normed block `u` and the weights `a` and `b`. -/
def gateOf (u : Vec F S544x1024 .bf16) (a : Vec F S2816x1024 .bf16) : Vec F S544x2816 .bf16 := tiles fun n hn => k0_pay4 u (rows (256 * n) (by omega) a)
def upOf (u : Vec F S544x1024 .bf16) (b : Vec F S2816x1024 .bf16) : Vec F S544x2816 .bf16 := tiles fun n hn => k0_pay5 u (rows (256 * n) (by omega) b)
def actOf (u : Vec F S544x1024 .bf16) (a b : Vec F S2816x1024 .bf16) : Vec F S544x2816 .bf16 := tiles fun n hn => k0_pay6 u (rows (256 * n) (by omega) a) u (rows (256 * n) (by omega) b)

theorem hz : (![0, 0] : Fin 2 → Nat) = fun _ => 0 := funext fun a => by fin_cases a <;> rfl

section Loads

variable {κ : Kind} {sp : Space} {S : Shape} {e : EltTy}

/-- The stores of a list write rows of `G`. -/
def Writes (G : S.Idx → Elt F e) (L : List (View.Piece (Elt F) S e)) : Prop := ∀ p ∈ L, ∀ x : p.1.shape.Idx, p.2 x = G (p.1.emb x)
theorem Writes.nil (G : S.Idx → Elt F e) : Writes G [] := fun _ h => absurd h List.not_mem_nil
theorem Writes.cons {G : S.Idx → Elt F e} {p : View.Piece (Elt F) S e} {L : List (View.Piece (Elt F) S e)} (h : ∀ x : p.1.shape.Idx, p.2 x = G (p.1.emb x)) (hL : Writes G L) : Writes G (p :: L) :=
  fun _ hq => (List.mem_cons.1 hq).elim (fun e => e ▸ h) (hL _)

/-- Such stores, when they cover the array, leave it at `G`; a load of a rectangle that one of them wrote is `G`'s. -/
theorem read_writes (v : View sig κ sp S e) (f : v.ty.Contents (Elt F)) {G : S.Idx → Elt F e} {L : List (View.Piece (Elt F) S e)} (hL : Writes G L) (hc : ∀ y, ∃ p ∈ L, y ∈ p.1.set) :
    v.read (Elt F) (v.writes (Elt F) f L) = G :=
  (View.read_writes_eq_canon v f L hc).trans (funext fun y => View.canon_apply_of_pieces G L hL y (hc y))
theorem load_writes (v : View sig κ sp S e) {G : S.Idx → Elt F e} {L : List (View.Piece (Elt F) S e)} (r : Rect S) (hL : Writes G L) (hr : ∃ p ∈ L, p.1 = r) : v.readCov L r.toLoadRect = View.ld G r :=
  (View.readCov_eq_canon' ..).trans (funext fun x => View.canon_apply_of_pieces G L hL _ (by obtain ⟨p, hp, rfl⟩ := hr; exact ⟨p, hp, p.1.idx_mem x⟩))

/-- A load of a staged block's rectangle, and of the whole of it. -/
theorem load_part (m : Memref sig .tc .vmem S e) (hm : m.IsWhole) (x : S.Idx → Elt F e) (r : Rect S) : View.readAt (Elt F) m.view r.toLoadRect (hm.unread x) = View.ld x r := by
  rw [View.readAt_eq_ld, hm.read_unread]
theorem load_all (m : Memref sig .tc .vmem S e) (hm : m.IsWhole) (x : S.Idx → Elt F e) {off : Fin S.rank → ℕ} (h : off = fun _ => 0) (inb : ∀ a, off a + S.size a ≤ S.size a) :
    View.readAt (Elt F) m.view (Rect.unit off S.size inb).toLoadRect (hm.unread x) = x := by
  rw [View.readAt_eq_ld, hm.read_unread, View.ld_unit_zero h]

end Loads

/-! ## The results' stores -/

theorem norm_canon (h : Vec F S544x1024 .f32) (w : Vec F S1x1024 .f32) {B B' : Vec F S272x1024 .f32} {C C' : Vec F S1x1024 .f32} {i i'}
    (hB : B = half 272 (by decide) h) (hC : C = w) (hB' : B' = half 0 (by decide) h) (hC' : C' = w) :
    View.canon [(⟨Rect.unit (s := S544x1024) ![272, 0] S272x1024.size i, k0_pay1 (k0_pay8 C) (k0_pay9 B)⟩ : View.Piece (Elt F) S544x1024 .bf16),
      ⟨Rect.unit (s := S544x1024) ![0, 0] S272x1024.size i', k0_pay7 B' C'⟩] = normOf h w := by
  subst hB hC hB'; subst hC'; rfl
/-- The normed block read back whole. -/
theorem norm_load {κ : Kind} {sp : Space} (v : View sig κ sp S544x1024 .bf16) {L : List (View.Piece (Elt F) S544x1024 .bf16)} {A : Vec F S544x1024 .bf16} (hL : View.canon L = A) (inb) :
    v.readCov L (Rect.unit (s := S544x1024) ![0, 0] S544x1024.size inb).toLoadRect = A := by
  rw [View.readCov_eq_canon', hL]
  exact View.ld_unit_zero (S := S544x1024) hz _ _

section Tiles

variable {u U U' : Vec F S544x1024 .bf16} {a b : Vec F S2816x1024 .bf16} {A B : Vec F S256x1024 .bf16} (n : ℕ) (hn : n < 11) (hU : U = u) (hA : A = rows (256 * n) (by omega) a) (hU' : U' = u) (hB : B = rows (256 * n) (by omega) b)

include hU hA in
theorem gate_tile (x : S544x256.Idx) : k0_pay4 U A x = gateOf u a ((Rect.unit (s := S544x2816) ![0, 256 * n] S544x256.size (cols_inb n hn)).emb x) := by
  subst hU hA
  exact tiles_emb (fun n hn => k0_pay4 U (rows (256 * n) (by omega) a)) n hn (cols_inb n hn) x
include hU' hB in
theorem up_tile (x : S544x256.Idx) : k0_pay5 U' B x = upOf u b ((Rect.unit (s := S544x2816) ![0, 256 * n] S544x256.size (cols_inb n hn)).emb x) := by
  subst hU' hB
  exact tiles_emb (fun n hn => k0_pay5 U' (rows (256 * n) (by omega) b)) n hn (cols_inb n hn) x
include hU hA hU' hB in
theorem act_tile (x : S544x256.Idx) : k0_pay6 U A U' B x = actOf u a b ((Rect.unit (s := S544x2816) ![0, 256 * n] S544x256.size (cols_inb n hn)).emb x) := by
  subst hU hA hB; subst hU'
  exact tiles_emb (fun n hn => k0_pay6 U' (rows (256 * n) (by omega) a) U' (rows (256 * n) (by omega) b)) n hn (cols_inb n hn) x

end Tiles

/-! ## Which point it is -/

theorem conds_first (i : grid0.Coords) (h : i 0 = (0 : Fin 4)) : k0_cond1 i = 1#1 ∧ k0_cond2 i = 1#1 ∧ k0_cond3 i = 1#1 ∧ k0_cond5 i = 1#1 := by
  unfold k0_cond1 k0_cond2 k0_cond3 k0_cond5
  rw [h]; decide

theorem key_later : ∀ x : Fin 4, x ≠ 0 → ¬Scalar.cmpi .ne (Scalar.extui (Scalar.cmpi .eq (BitVec.ofNat 32 x.val) 0#32) : BitVec 32) 0#32 = 1#1 := by decide

theorem conds_later (i : grid0.Coords) (h : i 0 ≠ (0 : Fin 4)) : ¬k0_cond1 i = 1#1 ∧ ¬k0_cond2 i = 1#1 ∧ ¬k0_cond3 i = 1#1 ∧ ¬k0_cond5 i = 1#1 :=
  ⟨key_later _ h, key_later _ h, key_later _ h, key_later _ h⟩

/-! ## The two runs -/

/-- The transfers' cells at zero and the weights in HBM. -/
abbrev cells (c : Dev nD) (a b : Vec F S2816x1024 .bf16) : sProp 𝕄 :=
  iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ pt c hbM0 a ∗ pt c hbM1 b)

variable (c : Dev nD) (i : grid0.Coords) (arg1 : Memref sig .tc .vmem S544x1024 .f32) (harg1 : arg1.IsWhole) (arg2 : Memref sig .tc .vmem S1x1024 .f32) (harg2 : arg2.IsWhole) (arg5 : Memref sig .tc .vmem S544x2816 .bf16) (harg5 : arg5.IsWhole) (arg6 : Memref sig .tc .vmem S544x2816 .bf16) (harg6 : arg6.IsWhole) (arg7 : Memref sig .tc .vmem S544x2816 .bf16) (harg7 : arg7.IsWhole) (arg8 : Memref sig .tc .vmem S544x1024 .bf16) (harg8 : arg8.IsWhole)
  (x0 : Vec F S544x1024 .f32) (x1 : Vec F S1x1024 .f32) (a b : Vec F S2816x1024 .bf16)

/-- The point's inputs at their blocks. -/
abbrev ins : sProp 𝕄 :=
  iprop(owns (c : Thread nD τ) arg1 fullShare x0 ∗ owns (c : Thread nD τ) arg2 fullShare x1)
/-- The point's results, before it and after it. -/
abbrev outs0 : sProp 𝕄 :=
  iprop((∃ e, owns (c : Thread nD τ) arg5 fullShare e) ∗ (∃ e, owns (c : Thread nD τ) arg6 fullShare e) ∗ (∃ e, owns (c : Thread nD τ) arg7 fullShare e) ∗ (∃ e, owns (c : Thread nD τ) arg8 fullShare e))
abbrev outs1 : sProp 𝕄 :=
  iprop(owns (c : Thread nD τ) arg5 fullShare (gateOf (normOf x0 x1) a) ∗ owns (c : Thread nD τ) arg6 fullShare (upOf (normOf x0 x1) b) ∗ owns (c : Thread nD τ) arg7 fullShare (actOf (normOf x0 x1) a b) ∗ owns (c : Thread nD τ) arg8 fullShare (normOf x0 x1))

set_option sl_exec.dmaWindow true in
set_option sl_exec.unrollTrips 11 in
set_option maxHeartbeats 16000000 in
/-- The first point: whatever the two weights' arrays on the core held, it leaves them as copies of the two in HBM, and its results. -/
theorem run_first (hi : i 0 = (0 : Fin 4)) (W : Waits sig Unit) (K : PUnit → sProp 𝕄) :
    iprop(ins (F := F) c arg1 arg2 x0 x1 ∗ outs0 (F := F) c arg5 arg6 arg7 arg8 ∗ ((∃ f, pt (F := F) c scM0 f) ∗ (∃ f, pt (F := F) c scM1 f)) ∗ cells c a b ∗ owes (c : Thread nD τ) 0 W
        ∗ ((ins (F := F) c arg1 arg2 x0 x1 ∗ outs1 c arg5 arg6 arg7 arg8 x0 x1 a b ∗ (pt c scM0 a ∗ pt c scM1 b) ∗ cells c a b ∗ ∃ W', owes (c : Thread nD τ) 0 W') -∗ K ⟨⟩))
      ⊢ wp frame (wpE (defs₀ (F := F)) Variants.none c none) Set.univ
          (cc0_gate_up i arg1 harg1 arg2 harg2 hbM0 (Memref.isWhole_whole _) hbM1 (Memref.isWhole_whole _) arg5 harg5 arg6 harg6 arg7 harg7 arg8 harg8 scM0 (Memref.isWhole_whole _) scM1 (Memref.isWhole_whole _) cc0_scratch2 cc0_scratch3) K := by
  obtain ⟨h1, h2, h3, h5⟩ := conds_first i hi
  simp only [cc0_gate_up_eq_skeleton]; unfold cc0_gate_up_skel
  simp only [k0_part1_eq_skeleton, k0_part2_eq_skeleton, k0_part3_eq_skeleton, k0_part4_eq_skeleton]
  unfold ins outs0 outs1 cells owns
  iintro ⟨⟨⟨%f0, %hf0, H0⟩, ⟨%f1, %hf1, H1⟩⟩, ⟨⟨%d2, %f2, -, H2⟩, ⟨%d3, %f3, -, H3⟩, ⟨%d4, %f4, -, H4⟩, ⟨%d5, %f5, -, H5⟩⟩, ⟨⟨%fs0, HS0⟩, ⟨%fs1, HS1⟩⟩, ⟨Hq0, Hq1, Hq2, Hq3, Hq4, Hq5, Hq6, Hq7, Hq8, Hq9, Hq10, Hr0, Hr1, Hr2, Hr3, Hr4, Hr5, Hr6, Hr7, Hr8, Hr9, Hr10, Hd, Hu⟩, HW, Hk⟩
  obtain rfl := harg1.eq_unread hf0; obtain rfl := harg2.eq_unread hf1
  sl_exec (disch := first | sl_exact h1 | sl_exact h2 | sl_exact h3 | sl_exact h5)
  sl_step
  have eS0 : ∀ L : List (View.Piece (Elt F) S2816x1024 .bf16), Writes a L → (∀ y, ∃ p ∈ L, y ∈ p.1.set) → scM0.view.writes (Elt F) fs0 L = a :=
    fun L hL hc => read_writes scM0.view fs0 hL hc
  have eS1 : ∀ L : List (View.Piece (Elt F) S2816x1024 .bf16), Writes b L → (∀ y, ∃ p ∈ L, y ∈ p.1.set) → scM1.view.writes (Elt F) fs1 L = b :=
    fun L hL hc => read_writes scM1.view fs1 hL hc
  rw [eS0, eS1]
  rotate_left
  · repeat first | exact Writes.nil _ | refine Writes.cons (fun _ => rfl) ?_
  · sl_unfold_words; exact View.cover_of_tiledL _ S256x1024.size (by sl_kernel_rfl)
  · repeat first | exact Writes.nil _ | refine Writes.cons (fun _ => rfl) ?_
  · sl_unfold_words; exact View.cover_of_tiledL _ S256x1024.size (by sl_kernel_rfl)
  have hN := norm_load arg8.view (norm_canon (i := half_inb 272 (by decide)) (i' := half_inb 0 (by decide)) x0 x1 (load_part arg1 harg1 x0 (Rect.unit (s := S544x1024) ![272, 0] S272x1024.size (half_inb 272 (by decide)))) (load_all arg2 harg2 x1 hz inb_S1x1024_S1x1024_0_0)
    (load_part arg1 harg1 x0 (Rect.unit (s := S544x1024) ![0, 0] S272x1024.size (half_inb 0 (by decide)))) (load_all arg2 harg2 x1 hz inb_S1x1024_S1x1024_0_0)) inb_S544x1024_S544x1024_0_0
  iapply Hk
  isplitl [H0 H1]
  · isplitl [H0]
    · iexists _; isplitr; swap; · iexact H0
      ipureintro; exact harg1.read_unread _
    iexists _; isplitr; swap; · iexact H1
    ipureintro; exact harg2.read_unread _
  isplitl [H2 H3 H4 H5]
  · isplitl [H2]
    · iexists _; isplitr; swap; · iexact H2
      ipureintro
      refine read_writes _ _ ?_ ?_
      rotate_left
      · exact View.cover_of_tiledL _ S544x256.size (by sl_kernel_rfl)
      refine Writes.cons (gate_tile 10 (by decide) hN ?_) (Writes.cons (gate_tile 9 (by decide) hN ?_) (Writes.cons (gate_tile 8 (by decide) hN ?_) (Writes.cons (gate_tile 7 (by decide) hN ?_) (Writes.cons (gate_tile 6 (by decide) hN ?_) (Writes.cons (gate_tile 5 (by decide) hN ?_) (Writes.cons (gate_tile 4 (by decide) hN ?_) (Writes.cons (gate_tile 3 (by decide) hN ?_) (Writes.cons (gate_tile 2 (by decide) hN ?_) (Writes.cons (gate_tile 1 (by decide) hN ?_) (Writes.cons (gate_tile 0 (by decide) hN ?_) (Writes.nil _)))))))))))
      all_goals exact load_writes _ _ (by repeat first | exact Writes.nil _ | refine Writes.cons (fun _ => rfl) ?_) (by first | exact ⟨_, .head _, rfl⟩ | exact ⟨_, .tail _ (.head _), rfl⟩ | exact ⟨_, .tail _ (.tail _ (.head _)), rfl⟩ | exact ⟨_, .tail _ (.tail _ (.tail _ (.head _))), rfl⟩)
    isplitl [H3]
    · iexists _; isplitr; swap; · iexact H3
      ipureintro
      refine read_writes _ _ ?_ ?_
      rotate_left
      · exact View.cover_of_tiledL _ S544x256.size (by sl_kernel_rfl)
      refine Writes.cons (up_tile 10 (by decide) hN ?_) (Writes.cons (up_tile 9 (by decide) hN ?_) (Writes.cons (up_tile 8 (by decide) hN ?_) (Writes.cons (up_tile 7 (by decide) hN ?_) (Writes.cons (up_tile 6 (by decide) hN ?_) (Writes.cons (up_tile 5 (by decide) hN ?_) (Writes.cons (up_tile 4 (by decide) hN ?_) (Writes.cons (up_tile 3 (by decide) hN ?_) (Writes.cons (up_tile 2 (by decide) hN ?_) (Writes.cons (up_tile 1 (by decide) hN ?_) (Writes.cons (up_tile 0 (by decide) hN ?_) (Writes.nil _)))))))))))
      all_goals exact load_writes _ _ (by repeat first | exact Writes.nil _ | refine Writes.cons (fun _ => rfl) ?_) (by first | exact ⟨_, .head _, rfl⟩ | exact ⟨_, .tail _ (.head _), rfl⟩ | exact ⟨_, .tail _ (.tail _ (.head _)), rfl⟩ | exact ⟨_, .tail _ (.tail _ (.tail _ (.head _))), rfl⟩)
    isplitl [H4]
    · iexists _; isplitr; swap; · iexact H4
      ipureintro
      refine read_writes _ _ ?_ ?_
      rotate_left
      · exact View.cover_of_tiledL _ S544x256.size (by sl_kernel_rfl)
      refine Writes.cons (act_tile 10 (by decide) hN ?_ hN ?_) (Writes.cons (act_tile 9 (by decide) hN ?_ hN ?_) (Writes.cons (act_tile 8 (by decide) hN ?_ hN ?_) (Writes.cons (act_tile 7 (by decide) hN ?_ hN ?_) (Writes.cons (act_tile 6 (by decide) hN ?_ hN ?_) (Writes.cons (act_tile 5 (by decide) hN ?_ hN ?_) (Writes.cons (act_tile 4 (by decide) hN ?_ hN ?_) (Writes.cons (act_tile 3 (by decide) hN ?_ hN ?_) (Writes.cons (act_tile 2 (by decide) hN ?_ hN ?_) (Writes.cons (act_tile 1 (by decide) hN ?_ hN ?_) (Writes.cons (act_tile 0 (by decide) hN ?_ hN ?_) (Writes.nil _)))))))))))
      all_goals exact load_writes _ _ (by repeat first | exact Writes.nil _ | refine Writes.cons (fun _ => rfl) ?_) (by first | exact ⟨_, .head _, rfl⟩ | exact ⟨_, .tail _ (.head _), rfl⟩ | exact ⟨_, .tail _ (.tail _ (.head _)), rfl⟩ | exact ⟨_, .tail _ (.tail _ (.tail _ (.head _))), rfl⟩)
    iexists _; isplitr; swap; · iexact H5
    ipureintro
    refine (View.read_writes_eq_canon _ _ _ ?_).trans ?_
    · exact View.cover_of_tiledL _ S272x1024.size (by sl_kernel_rfl)
    exact norm_canon x0 x1 (load_part arg1 harg1 x0 _) (load_all arg2 harg2 x1 hz _) (load_part arg1 harg1 x0 _) (load_all arg2 harg2 x1 hz _)
  isplitl [HS0 HS1]
  · isplitl [HS0]; · iexact HS0
    iexact HS1
  isplitl [Hq0 Hq1 Hq2 Hq3 Hq4 Hq5 Hq6 Hq7 Hq8 Hq9 Hq10 Hr0 Hr1 Hr2 Hr3 Hr4 Hr5 Hr6 Hr7 Hr8 Hr9 Hr10 Hd Hu]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hd]; · iexact Hd
    iexact Hu
  iexists _; iexact HW

set_option sl_exec.dmaWindow true in
set_option sl_exec.unrollTrips 11 in
set_option maxHeartbeats 16000000 in
/-- A later point: the two arrays on the core are the copies already, and it leaves its results. -/
theorem run_later (hi : i 0 ≠ (0 : Fin 4)) (W : Waits sig Unit) (K : PUnit → sProp 𝕄) :
    iprop(ins (F := F) c arg1 arg2 x0 x1 ∗ outs0 (F := F) c arg5 arg6 arg7 arg8 ∗ (pt c scM0 a ∗ pt c scM1 b) ∗ cells c a b ∗ owes (c : Thread nD τ) 0 W
        ∗ ((ins (F := F) c arg1 arg2 x0 x1 ∗ outs1 c arg5 arg6 arg7 arg8 x0 x1 a b ∗ (pt c scM0 a ∗ pt c scM1 b) ∗ cells c a b ∗ ∃ W', owes (c : Thread nD τ) 0 W') -∗ K ⟨⟩))
      ⊢ wp frame (wpE (defs₀ (F := F)) Variants.none c none) Set.univ
          (cc0_gate_up i arg1 harg1 arg2 harg2 hbM0 (Memref.isWhole_whole _) hbM1 (Memref.isWhole_whole _) arg5 harg5 arg6 harg6 arg7 harg7 arg8 harg8 scM0 (Memref.isWhole_whole _) scM1 (Memref.isWhole_whole _) cc0_scratch2 cc0_scratch3) K := by
  obtain ⟨h1, h2, h3, h5⟩ := conds_later i hi
  simp only [cc0_gate_up_eq_skeleton]; unfold cc0_gate_up_skel
  simp only [k0_part1_eq_skeleton, k0_part2_eq_skeleton, k0_part3_eq_skeleton, k0_part4_eq_skeleton]
  unfold ins outs0 outs1 cells owns
  iintro ⟨⟨⟨%f0, %hf0, H0⟩, ⟨%f1, %hf1, H1⟩⟩, ⟨⟨%d2, %f2, -, H2⟩, ⟨%d3, %f3, -, H3⟩, ⟨%d4, %f4, -, H4⟩, ⟨%d5, %f5, -, H5⟩⟩, ⟨HS0, HS1⟩, ⟨Hq0, Hq1, Hq2, Hq3, Hq4, Hq5, Hq6, Hq7, Hq8, Hq9, Hq10, Hr0, Hr1, Hr2, Hr3, Hr4, Hr5, Hr6, Hr7, Hr8, Hr9, Hr10, Hd, Hu⟩, HW, Hk⟩
  obtain rfl := harg1.eq_unread hf0; obtain rfl := harg2.eq_unread hf1
  sl_exec (disch := first | sl_exact h1 | sl_exact h2 | sl_exact h3 | sl_exact h5)
  sl_step
  have hN := norm_load arg8.view (norm_canon (i := half_inb 272 (by decide)) (i' := half_inb 0 (by decide)) x0 x1 (load_part arg1 harg1 x0 (Rect.unit (s := S544x1024) ![272, 0] S272x1024.size (half_inb 272 (by decide)))) (load_all arg2 harg2 x1 hz inb_S1x1024_S1x1024_0_0)
    (load_part arg1 harg1 x0 (Rect.unit (s := S544x1024) ![0, 0] S272x1024.size (half_inb 0 (by decide)))) (load_all arg2 harg2 x1 hz inb_S1x1024_S1x1024_0_0)) inb_S544x1024_S544x1024_0_0
  iapply Hk
  isplitl [H0 H1]
  · isplitl [H0]
    · iexists _; isplitr; swap; · iexact H0
      ipureintro; exact harg1.read_unread _
    iexists _; isplitr; swap; · iexact H1
    ipureintro; exact harg2.read_unread _
  isplitl [H2 H3 H4 H5]
  · isplitl [H2]
    · iexists _; isplitr; swap; · iexact H2
      ipureintro
      refine read_writes _ _ ?_ ?_
      rotate_left
      · exact View.cover_of_tiledL _ S544x256.size (by sl_kernel_rfl)
      refine Writes.cons (gate_tile 10 (by decide) hN ?_) (Writes.cons (gate_tile 9 (by decide) hN ?_) (Writes.cons (gate_tile 8 (by decide) hN ?_) (Writes.cons (gate_tile 7 (by decide) hN ?_) (Writes.cons (gate_tile 6 (by decide) hN ?_) (Writes.cons (gate_tile 5 (by decide) hN ?_) (Writes.cons (gate_tile 4 (by decide) hN ?_) (Writes.cons (gate_tile 3 (by decide) hN ?_) (Writes.cons (gate_tile 2 (by decide) hN ?_) (Writes.cons (gate_tile 1 (by decide) hN ?_) (Writes.cons (gate_tile 0 (by decide) hN ?_) (Writes.nil _)))))))))))
      all_goals exact (View.readAt_eq_ld ..).trans rfl
    isplitl [H3]
    · iexists _; isplitr; swap; · iexact H3
      ipureintro
      refine read_writes _ _ ?_ ?_
      rotate_left
      · exact View.cover_of_tiledL _ S544x256.size (by sl_kernel_rfl)
      refine Writes.cons (up_tile 10 (by decide) hN ?_) (Writes.cons (up_tile 9 (by decide) hN ?_) (Writes.cons (up_tile 8 (by decide) hN ?_) (Writes.cons (up_tile 7 (by decide) hN ?_) (Writes.cons (up_tile 6 (by decide) hN ?_) (Writes.cons (up_tile 5 (by decide) hN ?_) (Writes.cons (up_tile 4 (by decide) hN ?_) (Writes.cons (up_tile 3 (by decide) hN ?_) (Writes.cons (up_tile 2 (by decide) hN ?_) (Writes.cons (up_tile 1 (by decide) hN ?_) (Writes.cons (up_tile 0 (by decide) hN ?_) (Writes.nil _)))))))))))
      all_goals exact (View.readAt_eq_ld ..).trans rfl
    isplitl [H4]
    · iexists _; isplitr; swap; · iexact H4
      ipureintro
      refine read_writes _ _ ?_ ?_
      rotate_left
      · exact View.cover_of_tiledL _ S544x256.size (by sl_kernel_rfl)
      refine Writes.cons (act_tile 10 (by decide) hN ?_ hN ?_) (Writes.cons (act_tile 9 (by decide) hN ?_ hN ?_) (Writes.cons (act_tile 8 (by decide) hN ?_ hN ?_) (Writes.cons (act_tile 7 (by decide) hN ?_ hN ?_) (Writes.cons (act_tile 6 (by decide) hN ?_ hN ?_) (Writes.cons (act_tile 5 (by decide) hN ?_ hN ?_) (Writes.cons (act_tile 4 (by decide) hN ?_ hN ?_) (Writes.cons (act_tile 3 (by decide) hN ?_ hN ?_) (Writes.cons (act_tile 2 (by decide) hN ?_ hN ?_) (Writes.cons (act_tile 1 (by decide) hN ?_ hN ?_) (Writes.cons (act_tile 0 (by decide) hN ?_ hN ?_) (Writes.nil _)))))))))))
      all_goals exact (View.readAt_eq_ld ..).trans rfl
    iexists _; isplitr; swap; · iexact H5
    ipureintro
    refine (View.read_writes_eq_canon _ _ _ ?_).trans ?_
    · exact View.cover_of_tiledL _ S272x1024.size (by sl_kernel_rfl)
    exact norm_canon x0 x1 (load_part arg1 harg1 x0 _) (load_all arg2 harg2 x1 hz _) (load_part arg1 harg1 x0 _) (load_all arg2 harg2 x1 hz _)
  isplitl [HS0 HS1]
  · isplitl [HS0]; · iexact HS0
    iexact HS1
  isplitl [Hq0 Hq1 Hq2 Hq3 Hq4 Hq5 Hq6 Hq7 Hq8 Hq9 Hq10 Hr0 Hr1 Hr2 Hr3 Hr4 Hr5 Hr6 Hr7 Hr8 Hr9 Hr10 Hd Hu]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hd]; · iexact Hd
    iexact Hu
  iexists _; iexact HW

end Cert.Kernel6Ideal.UpRun

end
-- ==== Proof.UpFrame.lean ====
/- The whole pass of the norm and the two inner products: what each grid point leaves, the run of the program, and that it
   ends with its arguments unchanged and every semaphore at zero. -/
module

public import proofs.«01_k».proof.Proof.UpRun

@[expose] public section

set_option maxRecDepth 16384

noncomputable section

namespace Cert.Kernel6Ideal.UpFrame

open Cert.Kernel6Ideal Cert.Kernel6Ideal.Gen Cert.Kernel6Ideal.UpRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to its call, over the algebra that the body's own transfers need. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the body holds between points -/

/-- The body's transfer cells, one for each row block of each weight. -/
abbrev osem0 : Fin 22 → SemLoc sig := fun j => (![SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32] : Fin 22 → SemLoc sig) j
theorem ownSemFacts0 : Pipeline.OwnSemFacts spec0 osem0 := by decide
/-- The two arrays it reads from HBM. -/
def H0 : Finset (Ref sig .tc) := {main_v2, main_v4}
theorem H0_sub : H0 ⊆ Pipeline.restRefs sig spec0 := by decide

theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) := by
  rw [Pipeline.ownSems0_eq_of_list c osem0 [0, 1, 2, 3, 4, 5, 6, 7, 8, 9, 10, 11, 12, 13, 14, 15, 16, 17, 18, 19, 20, 21] (by decide) (by decide)]; rfl

theorem hbmPts_eq (c : Dev nD) :
    (bigSep H0 (fun b => ((c : Thread nD τ).loc b) ↦{fullShare} V m c b) : sProp 𝕄)
      = iprop(pt c hbM0 (V m c main_v2) ∗ pt c hbM1 (V m c main_v4)) := by
  rw [BI.bigSep_eq_bigSepL_of_eq [main_v2, main_v4] (by decide) (by decide)]; rfl

theorem PhiD_eq (c : Dev nD) :
    (Pipeline.ΦD osem0 spec0 H0 (V m) c : sProp 𝕄)
      = iprop(((∃ f, pt c scM0 f) ∗ (∃ f, pt c scM1 f)) ∗ (∃ r, prngReg c r)
          ∗ (semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0)
          ∗ (pt c hbM0 (V m c main_v2) ∗ pt c hbM1 (V m c main_v4))) := by
  rw [Pipeline.ΦD_eq, scopedRest0_eq, ownSems_eq, hbmPts_eq]; try rfl

/-- Before point `p`: the two weights' arrays on the core are copies of those in HBM, once a point has gone; the cells are
    at zero. -/
def inv (c : Dev nD) (p : Fin (cfg0.N + 1)) : sProp 𝕄 :=
  iprop((∃ f0 f1, ⌜p.val ≠ 0 → f0 = V m c main_v2 ∧ f1 = V m c main_v4⌝ ∗ pt c scM0 f0 ∗ pt c scM1 f1)
    ∗ (∃ r, prngReg c r) ∗ cells c (V m c main_v2) (V m c main_v4))

/-! ## The staged blocks -/

abbrev ms0 (t : Fin cfg0.N) : Memref sig .tc .vmem S544x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S544x2816 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S544x2816 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S544x2816 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S544x1024 .bf16 := win0_5.stage (cfg0.slots t 5)
abbrev hs5 (t : Fin cfg0.N) : (ms5 t).IsWhole := hstage0_5 ((cfg0.slots t 5).cast nbuf0_5)

/-- A point's normed rows. -/
def nrm (c : Dev nD) (t : Fin cfg0.N) : Vec F S544x1024 .bf16 := normOf (iblk m c 0 t) (iblk m c 1 t)

/-- The pass: the arrays as the call finds them, the inputs' blocks left in place, each result's block at what the point's run left. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => gateOf (nrm m c t) (V m c main_v2)
    | ⟨3, _⟩ => upOf (nrm m c t) (V m c main_v4)
    | ⟨4, _⟩ => actOf (nrm m c t) (V m c main_v2) (V m c main_v4)
    | ⟨5, _⟩ => nrm m c t
  Φ p := inv m c p
  q _ := fullShare
  owed _ := 0

theorem A_eq (c : Dev nD) (w : Fin cfg0.W) : (dats m 0 c).A w = V m c (Pipeline.arrRef spec0 w) := by
  dsimp only [dats]
/-- What each result's block, and each input's, is after point `t`. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = gateOf (nrm m c t) (V m c main_v2) := by dsimp only [dats]
theorem after3 (c : Dev nD) (t : Fin cfg0.N) : (dats m 0 c).after 3 t = upOf (nrm m c t) (V m c main_v4) := by dsimp only [dats]
theorem after4 (c : Dev nD) (t : Fin cfg0.N) : (dats m 0 c).after 4 t = actOf (nrm m c t) (V m c main_v2) (V m c main_v4) := by dsimp only [dats]
theorem after5 (c : Dev nD) (t : Fin cfg0.N) : (dats m 0 c).after 5 t = nrm m c t := by dsimp only [dats]
/-- Each input's staging buffer holds its block at every point. -/
theorem before0 (c : Dev nD) (t : Fin cfg0.N) (e) : (dats m 0 c).before 0 t e = iblk m c 0 t :=
  ((dats m 0 c).before_in_eq_fetched 0 rfl (fun _ => rfl) (fun _ _ _ => rfl) (fun t => by rw [after0]; unfold Dat.blockOf iblk; rw [A_eq]; try rfl) t e).trans
    (by unfold Dat.fetched Dat.blockOf iblk; rw [A_eq]; try rfl)
theorem before1 (c : Dev nD) (t : Fin cfg0.N) (e) : (dats m 0 c).before 1 t e = iblk m c 1 t :=
  ((dats m 0 c).before_in_eq_fetched 1 rfl (fun _ => rfl) (fun _ _ _ => rfl) (fun t => by rw [after1]; unfold Dat.blockOf iblk; rw [A_eq]; try rfl) t e).trans
    (by unfold Dat.fetched Dat.blockOf iblk; rw [A_eq]; try rfl)

/-- Which coordinate a point has. -/
theorem coord_val (t : Fin cfg0.N) : (grid0.coords t 0).val = t.val := by
  rcases fin_N0 t with rfl | rfl | rfl | rfl <;> rfl
theorem coords_first (t : Fin cfg0.N) : (t.val = 0 → grid0.coords t 0 = (0 : Fin 4)) ∧ (t.val ≠ 0 → grid0.coords t 0 ≠ (0 : Fin 4)) :=
  ⟨fun h => Fin.ext ((coord_val t).trans h), fun h e => h ((coord_val t).symm.trans (congrArg Fin.val e))⟩

/-! ## One point of the pass -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t))

/-- The point as run, from the arrays on the core at `f0` and `f1`: unless it is the first, copies of those in HBM. -/
theorem point (c : Dev nD) (t : Fin cfg0.N) (f0 f1) (hf : t.val ≠ 0 → f0 = V m c main_v2 ∧ f1 = V m c main_v4) (W : Waits sig Unit) (K : PUnit → sProp 𝕄) :
    iprop(ins (F := F) c (ms0 t) (ms1 t) (iblk m c 0 t) (iblk m c 1 t) ∗ outs0 (F := F) c (ms2 t) (ms3 t) (ms4 t) (ms5 t) ∗ (pt c scM0 f0 ∗ pt c scM1 f1) ∗ cells c (V m c main_v2) (V m c main_v4) ∗ owes (c : Thread nD τ) 0 W
        ∗ ((ins (F := F) c (ms0 t) (ms1 t) (iblk m c 0 t) (iblk m c 1 t) ∗ (owns (c : Thread nD τ) (ms2 t) fullShare (gateOf (nrm m c t) (V m c main_v2)) ∗ owns (c : Thread nD τ) (ms3 t) fullShare (upOf (nrm m c t) (V m c main_v4)) ∗ owns (c : Thread nD τ) (ms4 t) fullShare (actOf (nrm m c t) (V m c main_v2) (V m c main_v4)) ∗ owns (c : Thread nD τ) (ms5 t) fullShare (nrm m c t))
            ∗ (pt c scM0 (V m c main_v2) ∗ pt c scM1 (V m c main_v4)) ∗ cells c (V m c main_v2) (V m c main_v4) ∗ ∃ W', owes (c : Thread nD τ) 0 W') -∗ K ⟨⟩))
      ⊢ wp frame (wpE (defs₀ (F := F)) Variants.none c none) Set.univ (bodyAt0 t) K := by
  by_cases ht : t.val = 0
  · refine .trans ?_ (run_first c (grid0.coords t) (ms0 t) (hs0 t) (ms1 t) (hs1 t) (ms2 t) (hs2 t) (ms3 t) (hs3 t) (ms4 t) (hs4 t) (ms5 t) (hs5 t) (iblk m c 0 t) (iblk m c 1 t) (V m c main_v2) (V m c main_v4) ((coords_first t).1 ht) W K)
    iintro ⟨Hi, Ho, ⟨HS0, HS1⟩, Hc, HW, Hk⟩
    isplitl [Hi]; · iexact Hi
    isplitl [Ho]; · iexact Ho
    isplitl [HS0 HS1]
    · isplitl [HS0]; · iexists _; iexact HS0
      iexists _; iexact HS1
    isplitl [Hc]; · iexact Hc
    isplitl [HW]; · iexact HW
    iexact Hk
  · obtain ⟨rfl, rfl⟩ := hf ht
    exact run_later c (grid0.coords t) (ms0 t) (hs0 t) (ms1 t) (hs1 t) (ms2 t) (hs2 t) (ms3 t) (hs3 t) (ms4 t) (hs4 t) (ms5 t) (hs5 t) (iblk m c 0 t) (iblk m c 1 t) (V m c main_v2) (V m c main_v4) ((coords_first t).2 ht) W K

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0 m c t, before1 m c t]
  rw [after0, after1, after2, after3, after4, after5]
  rw [show (dats m 0 c).Φ t.castSucc = inv m c t.castSucc from rfl, show (dats m 0 c).Φ t.succ = inv m c t.succ from rfl]
  unfold inv Dat.owesAt Pipeline.owesWithin
  rw [show (dats m 0 c).owed t.castSucc = 0 from rfl, show (dats m 0 c).owed t.succ = 0 from rfl]
  iintro ⟨⟨⟨%f0, %f1, %hf, HS0, HS1⟩, Hg, Hc⟩, ⟨%W, -, HW⟩, ⟨%e0, H0⟩, ⟨%e1, H1⟩, ⟨%e2, H2⟩, ⟨%e3, H3⟩, ⟨%e4, H4⟩, ⟨%e5, H5⟩⟩
  iapply (point m c t f0 f1 hf W _)
  isplitl [H0 H1]
  · isplitl [H0]; · iexact H0
    iexact H1
  isplitl [H2 H3 H4 H5]
  · isplitl [H2]; · iexists _; iexact H2
    isplitl [H3]; · iexists _; iexact H3
    isplitl [H4]; · iexists _; iexact H4
    iexists _; iexact H5
  isplitl [HS0 HS1]
  · isplitl [HS0]; · iexact HS0
    iexact HS1
  isplitl [Hc]; · iexact Hc
  isplitl [HW]; · iexact HW
  iintro ⟨⟨H0, H1⟩, ⟨H2, H3, H4, H5⟩, ⟨HS0, HS1⟩, Hc, ⟨%W', HW⟩⟩
  isplitl [HS0 HS1 Hg Hc]
  · isplitl [HS0 HS1]
    · iexists _, _
      isplitr; swap
      · isplitl [HS0]; · iexact HS0
        iexact HS1
      ipureintro; exact fun _ => ⟨rfl, rfl⟩
    isplitl [Hg]; · iexact Hg
    iexact Hc
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_first (c : Dev nD) : Pipeline.ΦD osem0 spec0 H0 (V m) c ⊢ inv m c 0 := by
  rw [PhiD_eq]; unfold inv cells
  iintro ⟨⟨⟨%f0, HS0⟩, ⟨%f1, HS1⟩⟩, Hg, ⟨Hq0, Hq1, Hq2, Hq3, Hq4, Hq5, Hq6, Hq7, Hq8, Hq9, Hq10, Hr0, Hr1, Hr2, Hr3, Hr4, Hr5, Hr6, Hr7, Hr8, Hr9, Hr10⟩, ⟨Hd, Hu⟩⟩
  isplitl [HS0 HS1]
  · iexists _, _
    isplitr; swap
    · isplitl [HS0]; · iexact HS0
      iexact HS1
    ipureintro; exact fun h => absurd rfl h
  isplitl [Hg]; · iexact Hg
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hd]; · iexact Hd
  iexact Hu

theorem inv_last (c : Dev nD) : inv m c (Fin.last cfg0.N) ⊢ Pipeline.ΦD osem0 spec0 H0 (V m) c := by
  rw [PhiD_eq]; unfold inv cells
  iintro ⟨⟨%f0, %f1, -, HS0, HS1⟩, Hg, ⟨Hq0, Hq1, Hq2, Hq3, Hq4, Hq5, Hq6, Hq7, Hq8, Hq9, Hq10, Hr0, Hr1, Hr2, Hr3, Hr4, Hr5, Hr6, Hr7, Hr8, Hr9, Hr10, Hd, Hu⟩⟩
  isplitl [HS0 HS1]
  · isplitl [HS0]; · iexists _; iexact HS0
    iexists _; iexact HS1
  isplitl [Hg]; · iexact Hg
  isplitl [Hq0 Hq1 Hq2 Hq3 Hq4 Hq5 Hq6 Hq7 Hq8 Hq9 Hq10 Hr0 Hr1 Hr2 Hr3 Hr4 Hr5 Hr6 Hr7 Hr8 Hr9 Hr10]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    iexact Hr10
  isplitl [Hd]; · iexact Hd
  iexact Hu

set_option backward.isDefEq.respectTransparency.types false in
/-- The program runs: every array ends as the pass leaves it, every other unscoped buffer as the call found it, every
    semaphore at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := inv_first m) (hout := inv_last m)

/-- The program ends with its arguments unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.Kernel6Ideal.UpFrame

end
-- ==== Proof.OutReal.lean ====
/- Stage arithmetic over the reals: the gelu and the RMS norm of the recurrent half's output, their derivatives as the
   kernel writes them, and the identities the two programs' values meet at. -/
module

public import Idealize.ShloMosaic.Lib.Pointwise

@[expose] public section

noncomputable section

namespace Cert.OutReal

open Finset

/-- The slope inside the tanh, as the f32 word both programs hold, and the cubic's coefficient. -/
def g0 : ℝ := 6693141 / 8388608
def cubic : ℝ := 8943 / 200000
/-- The norm's ε, as the f32 word both programs hold. -/
def eps : ℝ := 8796093 / 8796093022208

/-- The tanh of the tanh-form gelu. -/
def th (x : ℝ) : ℝ := Real.tanh (g0 * (x + cubic * (x * x * x)))

/-- The tanh-form gelu. -/
def gelu (x : ℝ) : ℝ := 1 / 2 * x * (1 + th x)

/-- Its derivative, as the kernel writes it. -/
def geluGrad (x : ℝ) : ℝ := 1 / 2 * (1 + th x) + 1 / 2 * x * (1 - th x * th x) * (g0 * (1 + 3 * cubic * (x * x)))

/-- The mean square of a row plus ε, and the reciprocal root of it. -/
def ms (y : Fin 1024 → ℝ) : ℝ := (∑ k, y k * y k) / 1024 + eps
def rr (y : Fin 1024 → ℝ) : ℝ := (Real.sqrt (ms y))⁻¹

/-- The gradient of the row under the norm: `r (dn − n · mean (dn n))`, with `dn = d w` and `n = y r`. -/
def normGrad (y d w : Fin 1024 → ℝ) (l : Fin 1024) : ℝ :=
  rr y * (d l * w l - y l * rr y * ((∑ k, d k * w k * (y k * rr y)) / 1024))

theorem ms_pos (y : Fin 1024 → ℝ) : 0 < ms y := by
  have h : 0 ≤ ∑ k, y k * y k := Finset.sum_nonneg fun k _ => mul_self_nonneg _
  unfold ms eps; positivity

end Cert.OutReal
end
-- ==== Proof.OutHalf.lean ====
/- What each payload of the kernel's body is at an entry, over finite inputs: the gelu of the gate, the norm's row
   factors, and the four gradients. -/
module

public import proofs.«01_k».proof.Proof.OutReal
public import proofs.«01_k».proof.Proof.Gen.KernelIdeal.Skeleton
public import Idealize.ShloMosaic.Lib.Pointwise

@[expose] public section

set_option maxRecDepth 16384

noncomputable section

namespace Cert.KernelIdeal.OutHalf

open Idealize.ShloMosaic Cert.KernelIdeal Cert.KernelIdeal.Gen Cert.OutReal

/-! ## The words -/

theorem lit_half : Ideal.ofBits .f32 0x3F000000#32 = ((1 / 2 : ℝ) : EReal) := by
  simp [Ideal.ofBits, Ideal.ieee, -EReal.coe_mul]; norm_num
theorem lit_g0 : Ideal.ofBits .f32 0x3F4C422A#32 = ((g0 : ℝ) : EReal) := by
  simp [Ideal.ofBits, Ideal.ieee, -EReal.coe_mul, g0]; norm_num
theorem lit_eps : Ideal.ofBits .f32 0x358637BD#32 = ((eps : ℝ) : EReal) := by
  simp [Ideal.ofBits, Ideal.ieee, -EReal.coe_mul, eps]; norm_num
theorem lit_1024 : Ideal.ofBits .f32 0x44800000#32 = ((1024 : ℝ) : EReal) := by
  simp [Ideal.ofBits, Ideal.ieee, -EReal.coe_mul]; norm_num
theorem named_c : (Named.named κ "gelu_c" 0x3D372713#32 : Ideal .f32) = ((cubic : ℝ) : EReal) := by
  show (κ "gelu_c").getD _ = _
  simp [κ, cubic]
theorem named_3c : (Named.named κ "gelu_3c" 0x3E095D4F#32 : Ideal .f32) = ((3 * cubic : ℝ) : EReal) := by
  show (κ "gelu_3c").getD _ = _
  simp [κ, cubic, -EReal.coe_mul]; norm_num

/-- A quotient by a nonzero real. -/
theorem div_real (a b : ℝ) (h : b ≠ 0) : Ideal.div (a : EReal) (b : EReal) = ((a / b : ℝ) : EReal) := by
  rw [Ideal.div_coe h, ← EReal.coe_mul]; congr 1; ring

/-- The reciprocal root of a positive real. -/
theorem rsqrt_real (a : ℝ) (h : 0 < a) : Ideal.rsqrt (a : EReal) = (((Real.sqrt a)⁻¹ : ℝ) : EReal) := by
  rw [Ideal.rsqrt_coe, if_neg (not_lt.mpr h.le), if_neg h.ne']

/-- A sum of reals. -/
theorem coe_sum {n : ℕ} (f : Fin n → ℝ) : (∑ k, ((f k : ℝ) : EReal)) = ((∑ k, f k : ℝ) : EReal) := by
  induction (Finset.univ : Finset (Fin n)) using Finset.induction_on with
  | empty => simp
  | insert a s ha ih => rw [Finset.sum_insert ha, Finset.sum_insert ha, ih, EReal.coe_add]

theorem one_real : (1 : EReal) = ((1 : ℝ) : EReal) := rfl

variable {g h d : Fin 272 → Fin 1024 → ℝ} {w : Fin 1024 → ℝ}
variable {xg : Vec Ideal S272x1024 .bf16} {xh xd : Vec Ideal S272x1024 .f32} {xw : Vec Ideal S1x1024 .f32}
variable (hg : ∀ r l, xg (ix2 r l) = ((g r l : ℝ) : EReal)) (hh : ∀ r l, xh (ix2 r l) = ((h r l : ℝ) : EReal))
variable (hd : ∀ r l, xd (ix2 r l) = ((d r l : ℝ) : EReal)) (hw : ∀ l, xw (ix2 0 l) = ((w l : ℝ) : EReal))

/-- The gate's row times the state's, under the norm. -/
def yy (g h : Fin 272 → Fin 1024 → ℝ) (r : Fin 272) (l : Fin 1024) : ℝ := gelu (g r l) * h r l

include hg in
theorem pay5_apply (r : Fin 272) (l : Fin 1024) :
    k0_pay5 xg (ix2 r l) = ((g r l : ℝ) : EReal) := by
  pointwise [k0_pay5]
  exact hg r l
include hg in
/-- The gelu of the gate. -/
theorem pay6_apply (r : Fin 272) (l : Fin 1024) :
    k0_pay6 xg (ix2 r l) = ((gelu (g r l) : ℝ) : EReal) := by
  pointwise [k0_pay6]
  simp only [pay5_apply hg, one_real, lit_half, lit_g0, lit_eps, lit_1024, named_c, named_3c, ← EReal.coe_mul, ← EReal.coe_add, ← EReal.coe_sub, Ideal.tanh_coe, coe_sum]
  rfl
include hg hh in
theorem pay7_apply (r : Fin 272) (l : Fin 1024) :
    k0_pay7 xg xh (ix2 r l) = ((yy g h r l : ℝ) : EReal) := by
  pointwise [k0_pay7]
  simp only [pay6_apply hg, hh, one_real, lit_half, lit_g0, lit_eps, lit_1024, named_c, named_3c, ← EReal.coe_mul, ← EReal.coe_add, ← EReal.coe_sub, Ideal.tanh_coe, coe_sum]
  rfl
include hg hh in
/-- The reciprocal root of a row's mean square. -/
theorem pay8_apply (r : Fin 272) : k0_pay8 xg xh (ix2 r 0) = ((rr (yy g h r) : ℝ) : EReal) := by
  pointwise [k0_pay8]
  simp only [pay7_apply hg hh, one_real, lit_half, lit_g0, lit_eps, lit_1024, named_c, named_3c, ← EReal.coe_mul, ← EReal.coe_add, ← EReal.coe_sub, Ideal.tanh_coe, coe_sum]
  rw [div_real _ _ (by norm_num), ← EReal.coe_add]
  exact rsqrt_real _ (ms_pos _)
include hg hh in
theorem pay9_apply (r : Fin 272) (l : Fin 1024) :
    k0_pay9 xg xh (ix2 r l) = ((yy g h r l * rr (yy g h r) : ℝ) : EReal) := by
  pointwise [k0_pay9]
  simp only [pay7_apply hg hh, pay8_apply hg hh, one_real, lit_half, lit_g0, lit_eps, lit_1024, named_c, named_3c, ← EReal.coe_mul, ← EReal.coe_add, ← EReal.coe_sub, Ideal.tanh_coe, coe_sum]
include hg in
theorem pay20_apply (r : Fin 272) (l : Fin 1024) :
    k0_pay20 xg (ix2 r l) = ((g r l : ℝ) : EReal) := by
  pointwise [k0_pay20]
  exact hg r l
include hg in
/-- The gelu of the gate. -/
theorem pay21_apply (r : Fin 272) (l : Fin 1024) :
    k0_pay21 xg (ix2 r l) = ((gelu (g r l) : ℝ) : EReal) := by
  pointwise [k0_pay21]
  simp only [pay20_apply hg, one_real, lit_half, lit_g0, lit_eps, lit_1024, named_c, named_3c, ← EReal.coe_mul, ← EReal.coe_add, ← EReal.coe_sub, Ideal.tanh_coe, coe_sum]
  rfl
include hg hh in
theorem pay22_apply (r : Fin 272) (l : Fin 1024) :
    k0_pay22 xg xh (ix2 r l) = ((yy g h r l : ℝ) : EReal) := by
  pointwise [k0_pay22]
  simp only [pay21_apply hg, hh, one_real, lit_half, lit_g0, lit_eps, lit_1024, named_c, named_3c, ← EReal.coe_mul, ← EReal.coe_add, ← EReal.coe_sub, Ideal.tanh_coe, coe_sum]
  rfl
include hg hh in
/-- The reciprocal root of a row's mean square. -/
theorem pay24_apply (r : Fin 272) : k0_pay24 xg xh (ix2 r 0) = ((rr (yy g h r) : ℝ) : EReal) := by
  pointwise [k0_pay24]
  simp only [pay22_apply hg hh, one_real, lit_half, lit_g0, lit_eps, lit_1024, named_c, named_3c, ← EReal.coe_mul, ← EReal.coe_add, ← EReal.coe_sub, Ideal.tanh_coe, coe_sum]
  rw [div_real _ _ (by norm_num), ← EReal.coe_add]
  exact rsqrt_real _ (ms_pos _)
include hg hh in
theorem pay25_apply (r : Fin 272) (l : Fin 1024) :
    k0_pay25 xg xh (ix2 r l) = ((yy g h r l * rr (yy g h r) : ℝ) : EReal) := by
  pointwise [k0_pay25]
  simp only [pay22_apply hg hh, pay24_apply hg hh, one_real, lit_half, lit_g0, lit_eps, lit_1024, named_c, named_3c, ← EReal.coe_mul, ← EReal.coe_add, ← EReal.coe_sub, Ideal.tanh_coe, coe_sum]
include hw in
theorem pay10_apply (r : Fin 272) (l : Fin 1024) :
    k0_pay10 xw (ix2 r l) = ((w l : ℝ) : EReal) := by
  pointwise [k0_pay10]
  exact hw l
include hw in
theorem pay23_apply (l : Fin 1024) : k0_pay23 xw (ix2 0 l) = ((w l : ℝ) : EReal) := by
  pointwise [k0_pay23]
  exact hw l
include hg hh hd hw in
/-- The gradient of a row under the norm. -/
theorem pay11_apply (r : Fin 272) (l : Fin 1024) :
    k0_pay11 xd (k0_pay8 xg xh) (k0_pay9 xg xh) (k0_pay10 xw) (ix2 r l) = ((normGrad (yy g h r) (d r) w l : ℝ) : EReal) := by
  pointwise [k0_pay11]
  simp only [pay8_apply hg hh, pay9_apply hg hh, pay10_apply hw, hd, one_real, lit_half, lit_g0, lit_eps, lit_1024, named_c, named_3c, ← EReal.coe_mul, ← EReal.coe_add, ← EReal.coe_sub, Ideal.tanh_coe, coe_sum]
  rw [div_real _ _ (by norm_num)]
  simp only [← EReal.coe_mul, ← EReal.coe_sub]
  rfl
include hg hh hd hw in
theorem pay26_apply (r : Fin 272) (l : Fin 1024) :
    k0_pay26 xd (k0_pay23 xw) (k0_pay24 xg xh) (k0_pay25 xg xh) (ix2 r l) = ((normGrad (yy g h r) (d r) w l : ℝ) : EReal) := by
  pointwise [k0_pay26]
  simp only [pay24_apply hg hh, pay25_apply hg hh, pay23_apply hw, hd, one_real, lit_half, lit_g0, lit_eps, lit_1024, named_c, named_3c, ← EReal.coe_mul, ← EReal.coe_add, ← EReal.coe_sub, Ideal.tanh_coe, coe_sum]
  rw [div_real _ _ (by norm_num)]
  simp only [← EReal.coe_mul, ← EReal.coe_sub]
  rfl
include hg hh hd hw in
/-- The gradient of the states, first half. -/
theorem pay13_apply (r : Fin 272) (l : Fin 1024) :
    k0_pay13 (k0_pay6 xg) xd (k0_pay8 xg xh) (k0_pay9 xg xh) (k0_pay10 xw) (ix2 r l)
      = ((normGrad (yy g h r) (d r) w l * gelu (g r l) : ℝ) : EReal) := by
  pointwise [k0_pay13]
  simp only [pay11_apply hg hh hd hw, pay6_apply hg, one_real, lit_half, lit_g0, lit_eps, lit_1024, named_c, named_3c, ← EReal.coe_mul, ← EReal.coe_add, ← EReal.coe_sub, Ideal.tanh_coe, coe_sum]
include hg hh hd hw in
/-- The gradient of the states, second half. -/
theorem pay28_apply (r : Fin 272) (l : Fin 1024) :
    k0_pay28 (k0_pay21 xg) xd (k0_pay23 xw) (k0_pay24 xg xh) (k0_pay25 xg xh) (ix2 r l)
      = ((normGrad (yy g h r) (d r) w l * gelu (g r l) : ℝ) : EReal) := by
  pointwise [k0_pay28]
  simp only [pay26_apply hg hh hd hw, pay21_apply hg, one_real, lit_half, lit_g0, lit_eps, lit_1024, named_c, named_3c, ← EReal.coe_mul, ← EReal.coe_add, ← EReal.coe_sub, Ideal.tanh_coe, coe_sum]
include hg in
theorem pay15_apply (r : Fin 272) (l : Fin 1024) :
    k0_pay15 (k0_pay5 xg) (ix2 r l) = ((th (g r l) : ℝ) : EReal) := by
  pointwise [k0_pay15]
  simp only [pay5_apply hg, one_real, lit_half, lit_g0, lit_eps, lit_1024, named_c, named_3c, ← EReal.coe_mul, ← EReal.coe_add, ← EReal.coe_sub, Ideal.tanh_coe, coe_sum]
  rfl
include hg in
theorem pay30_apply (r : Fin 272) (l : Fin 1024) :
    k0_pay30 (k0_pay20 xg) (ix2 r l) = ((th (g r l) : ℝ) : EReal) := by
  pointwise [k0_pay30]
  simp only [pay20_apply hg, one_real, lit_half, lit_g0, lit_eps, lit_1024, named_c, named_3c, ← EReal.coe_mul, ← EReal.coe_add, ← EReal.coe_sub, Ideal.tanh_coe, coe_sum]
  rfl
include hg hh hd hw in
/-- The gradient of the gate, first half. -/
theorem pay19_apply (r : Fin 272) (l : Fin 1024) :
    k0_pay19 (k0_pay14 xh xd (k0_pay8 xg xh) (k0_pay9 xg xh) (k0_pay10 xw)) (k0_pay16 (k0_pay5 xg)) (k0_pay17 (k0_pay5 xg))
        (k0_pay18 (k0_pay5 xg)) (ix2 r l)
      = ((normGrad (yy g h r) (d r) w l * h r l * geluGrad (g r l) : ℝ) : EReal) := by
  pointwise [k0_pay19, k0_pay14, k0_pay16, k0_pay17, k0_pay18]
  simp only [pay11_apply hg hh hd hw, pay15_apply hg, pay5_apply hg, hh, one_real, lit_half, lit_g0, lit_eps, lit_1024, named_c, named_3c, ← EReal.coe_mul, ← EReal.coe_add, ← EReal.coe_sub, Ideal.tanh_coe, coe_sum]
  rfl
include hg hh hd hw in
/-- The gradient of the gate, second half. -/
theorem pay1_apply (r : Fin 272) (l : Fin 1024) :
    k0_pay1 (k0_pay29 xh xd (k0_pay23 xw) (k0_pay24 xg xh) (k0_pay25 xg xh)) (k0_pay31 (k0_pay20 xg)) (k0_pay32 (k0_pay20 xg))
        (k0_pay33 (k0_pay20 xg)) k0_pay34 (ix2 r l)
      = ((normGrad (yy g h r) (d r) w l * h r l * geluGrad (g r l) : ℝ) : EReal) := by
  pointwise [k0_pay1, k0_pay29, k0_pay31, k0_pay32, k0_pay33, k0_pay34]
  simp only [pay26_apply hg hh hd hw, pay30_apply hg, pay20_apply hg, hh, one_real, lit_half, lit_g0, lit_eps, lit_1024, named_c, named_3c, ← EReal.coe_mul, ← EReal.coe_add, ← EReal.coe_sub, Ideal.tanh_coe, coe_sum]
  rfl
include hg hh hd in
/-- The scale's gradient: what was held, plus the half's column sums. -/
theorem pay12_apply {a : Fin 1024 → ℝ} {xa : Vec Ideal S1x1024 .f32} (ha : ∀ l, xa (ix2 0 l) = ((a l : ℝ) : EReal)) (l : Fin 1024) :
    k0_pay12 xd (k0_pay9 xg xh) xa (ix2 0 l) = ((a l + ∑ r, d r l * (yy g h r l * rr (yy g h r)) : ℝ) : EReal) := by
  pointwise [k0_pay12]
  simp only [pay9_apply hg hh, hd, ha, one_real, lit_half, lit_g0, lit_eps, lit_1024, named_c, named_3c, ← EReal.coe_mul, ← EReal.coe_add, ← EReal.coe_sub, Ideal.tanh_coe, coe_sum]
include hg hh hd in
/-- The scale's gradient: what was held, plus the half's column sums. -/
theorem pay27_apply {a : Fin 1024 → ℝ} {xa : Vec Ideal S1x1024 .f32} (ha : ∀ l, xa (ix2 0 l) = ((a l : ℝ) : EReal)) (l : Fin 1024) :
    k0_pay27 xd (k0_pay25 xg xh) xa (ix2 0 l) = ((a l + ∑ r, d r l * (yy g h r l * rr (yy g h r)) : ℝ) : EReal) := by
  pointwise [k0_pay27]
  simp only [pay25_apply hg hh, hd, ha, one_real, lit_half, lit_g0, lit_eps, lit_1024, named_c, named_3c, ← EReal.coe_mul, ← EReal.coe_add, ← EReal.coe_sub, Ideal.tanh_coe, coe_sum]

end Cert.KernelIdeal.OutHalf
end
-- ==== Proof.GateReal.lean ====
/- The gated product over the reals: the forward quantities, their gradients as the chain rule gives them, and the
   logistic function in the form that halves a hyperbolic tangent. -/
module

public import proofs.«01_k».proof.Proof.OutHalf

@[expose] public section

noncomputable section

namespace Cert.GateReal

open Finset Idealize.ShloMosaic
open Cert.KernelIdeal.OutHalf (one_real div_real)

/-- The logistic function. -/
def sg (x : ℝ) : ℝ := 1 / (1 + Real.exp (-x))

/-- Half the hyperbolic tangent of half the argument, and a half more, is the logistic function. -/
theorem half_tanh (x : ℝ) : 1 / 2 * Real.tanh (1 / 2 * x) + 1 / 2 = sg x := by
  have h1 : Real.exp (-x) = Real.exp (-(1 / 2 * x)) * Real.exp (-(1 / 2 * x)) := by
    rw [← Real.exp_add]; congr 1; ring
  have h2 : Real.exp (1 / 2 * x) * Real.exp (-(1 / 2 * x)) = 1 := by
    rw [← Real.exp_add]; simp
  have hp := Real.exp_pos (1 / 2 * x)
  have hq := Real.exp_pos (-(1 / 2 * x))
  unfold sg
  rw [Real.tanh_eq_sinh_div_cosh, Real.sinh_eq, Real.cosh_eq, h1]
  generalize Real.exp (1 / 2 * x) = p at *
  generalize Real.exp (-(1 / 2 * x)) = q at *
  have hp' : p = 1 / q := by field_simp; linarith
  subst hp'
  field_simp
  ring

/-- The logistic function of a real. -/
theorem sg_eq (x : ℝ) : Ideal.div 1 (1 + Ideal.exp (-(x : EReal))) = ((sg x : ℝ) : EReal) := by
  rw [← EReal.coe_neg, Ideal.exp_coe, one_real, ← EReal.coe_add, div_real _ _ (by positivity)]
  rfl

/-- The derivative of `x ↦ x · sg x`. -/
def siluGrad (x : ℝ) : ℝ := sg x * (1 + x * (1 - sg x))

section

variable (U D : Fin 2176 → Fin 1024 → ℝ) (G V : Fin 1024 → Fin 2816 → ℝ) (W : Fin 2816 → Fin 1024 → ℝ)

/-- A projection of the rows `U`. -/
def proj (G : Fin 1024 → Fin 2816 → ℝ) (r : Fin 2176) (c : Fin 2816) : ℝ := ∑ k, U r k * G k c
/-- The gated product. -/
def act (r : Fin 2176) (c : Fin 2816) : ℝ := proj U G r c * sg (proj U G r c) * proj U V r c
/-- The gradient that reaches the gated product through the down projection. -/
def dact (r : Fin 2176) (c : Fin 2816) : ℝ := ∑ k, D r k * W c k
/-- The gradient of the gate before its silu, and of the value beside it. -/
def dgate (r : Fin 2176) (c : Fin 2816) : ℝ := dact D W r c * proj U V r c * siluGrad (proj U G r c)
def dvalue (r : Fin 2176) (c : Fin 2816) : ℝ := dact D W r c * (proj U G r c * sg (proj U G r c))
/-- The gradient of a weight, one row per column of `X`: the columns of `X` against the columns of `Y`. -/
def weight (X : Fin 2176 → Fin 2816 → ℝ) (Y : Fin 2176 → Fin 1024 → ℝ) (c : Fin 2816) (k : Fin 1024) : ℝ := ∑ r, X r c * Y r k

end

end Cert.GateReal
end
-- ==== Proof.UpReal.lean ====
/- The logistic function, as the kernel takes it and as the reference does, of any extended real. -/
module

public import proofs.«01_k».proof.Proof.GateReal
public import proofs.«01_k».proof.Proof.OutHalf

@[expose] public section

noncomputable section

namespace Cert.UpReal

open Idealize.ShloMosaic Cert.GateReal
open Cert.KernelIdeal.OutHalf (lit_half one_real)

/-- Half a hyperbolic tangent and a half more is the logistic function, at the two infinities as well. -/
theorem sigmoid_eq (x : EReal) : ((1 / 2 : ℝ) : EReal) * Ideal.tanh (((1 / 2 : ℝ) : EReal) * x) + ((1 / 2 : ℝ) : EReal) = Ideal.logistic x := by
  unfold Ideal.logistic
  have hp : (0 : ℝ) < 1 / 2 := by norm_num
  induction x using EReal.rec with
  | bot =>
    rw [EReal.coe_mul_bot_of_pos hp, Ideal.tanh_bot, EReal.neg_bot, Ideal.exp_top, one_real, ← EReal.coe_neg, ← EReal.coe_mul, ← EReal.coe_add, EReal.coe_add_top]
    norm_num [Ideal.div]
  | top =>
    rw [EReal.coe_mul_top_of_pos hp, Ideal.tanh_top, EReal.neg_top, Ideal.exp_bot, add_zero, one_real, ← EReal.coe_mul, ← EReal.coe_add, Ideal.div_coe one_ne_zero, ← EReal.coe_mul]
    norm_num
  | coe x => rw [sg_eq, ← EReal.coe_mul, Ideal.tanh_coe, ← EReal.coe_mul, ← EReal.coe_add, half_tanh]

end Cert.UpReal

end
-- ==== Proof.OutBlock.lean ====
/- What one grid point's run leaves in its blocks, at an entry. -/
module

public import proofs.«01_k».proof.Proof.OutHalf
public import proofs.«01_k».proof.Proof.Gen.KernelIdeal.Value
public import Idealize.ShloMosaic.Lib.Pipeline.ValueKit.Tiles

@[expose] public section

set_option maxRecDepth 16384

noncomputable section

namespace Cert.KernelIdeal.OutBlock

open Idealize.ShloMosaic Idealize.ShloMosaic.TcCoe Idealize.SL.Sem
open Cert.KernelIdeal Cert.KernelIdeal.Gen Cert.OutReal Cert.KernelIdeal.OutHalf

theorem trips_two : k0_t1_loop.trips = 2 := by decide

/-- A product tile at an entry: row `r` of the left operand against row `c` of the right one. -/
theorem pay3_apply (a : Vec Ideal S544x1024 .bf16) (b : Vec Ideal S512x1024 .bf16) (r : Fin 544) (c : Fin 512) :
    k0_pay3 a b (ix2 r c) = ∑ k : Fin 1024, a (ix2 r k) * b (ix2 c k) := by
  pointwise [k0_pay3]
theorem pay4_apply (a : Vec Ideal S544x1024 .bf16) (b : Vec Ideal S512x1024 .bf16) (r : Fin 544) (c : Fin 512) :
    k0_pay4 a b (ix2 r c) = ∑ k : Fin 1024, a (ix2 r k) * b (ix2 c k) := by
  pointwise [k0_pay4]

/-- A rectangle's entry of a block: the block at the offset entry. -/
theorem ld2 {n0 n1 m0 m1 : ℕ} {e : EltTy} (X : (⟨2, ![n0, n1]⟩ : Shape).Idx → Elt Ideal e) (off : Fin 2 → ℕ) (inb) (a : Fin m0) (b : Fin m1)
    (a' : Fin n0) (b' : Fin n1) (ha : a'.val = off 0 + a.val) (hb : b'.val = off 1 + b.val) :
    View.ld X (Rect.unit off ![m0, m1] inb) (ix2 a b) = X (ix2 a' b') :=
  View.ld_unit_apply_of X off ![m0, m1] inb (ix2 a b) (ix2 a' b') fun t => by
    match t with
    | ⟨0, _⟩ => exact ha
    | ⟨1, _⟩ => exact hb

/-- Two tiles of one block, each agreeing with `v` where it lies and covering the block together: the block is `v`. -/
theorem canon_two {n0 n1 m0 m1 : ℕ} {e : EltTy} (P Q : (⟨2, ![m0, m1]⟩ : Shape).Idx → Elt Ideal e) (a b : Fin 2 → ℕ) (ia ib)
    (v : (⟨2, ![n0, n1]⟩ : Shape).Idx → Elt Ideal e)
    (hc : ∀ (r : Fin n0) (c : Fin n1), (a 0 ≤ r.val ∧ r.val < a 0 + m0 ∧ a 1 ≤ c.val ∧ c.val < a 1 + m1)
      ∨ (b 0 ≤ r.val ∧ r.val < b 0 + m0 ∧ b 1 ≤ c.val ∧ c.val < b 1 + m1))
    (hP : ∀ (r : Fin m0) (c : Fin m1) (r' : Fin n0) (c' : Fin n1), r'.val = a 0 + r.val → c'.val = a 1 + c.val → P (ix2 r c) = v (ix2 r' c'))
    (hQ : ∀ (r : Fin m0) (c : Fin m1) (r' : Fin n0) (c' : Fin n1), r'.val = b 0 + r.val → c'.val = b 1 + c.val → Q (ix2 r c) = v (ix2 r' c')) :
    View.canon ([⟨Rect.unit a ![m0, m1] ia, P⟩, ⟨Rect.unit b ![m0, m1] ib, Q⟩] : List (View.Piece (Elt Ideal) (⟨2, ![n0, n1]⟩ : Shape) e)) = v := by
  funext y
  obtain ⟨r, c, rfl⟩ : ∃ (r : Fin n0) (c : Fin n1), y = ix2 r c := ⟨y 0, y 1, eq_ix2 y⟩
  refine View.canon_eq_of_allAt _ _ _ ?_ (View.allAt_cons_unit _ _ _ _ _ ?_ (View.allAt_cons_unit _ _ _ _ _ ?_ (View.allAt_nil _ _)))
  · rcases hc r c with ⟨h1, h2, h3, h4⟩ | ⟨h1, h2, h3, h4⟩
    · refine ⟨⟨Rect.unit a ![m0, m1] ia, P⟩, List.mem_cons_self, ?_⟩
      dsimp only
      rw [Rect.mem_set_unit]
      intro t
      match t with
      | ⟨0, _⟩ => exact ⟨h1, h2⟩
      | ⟨1, _⟩ => exact ⟨h3, h4⟩
    · refine ⟨⟨Rect.unit b ![m0, m1] ib, Q⟩, List.mem_cons_of_mem _ List.mem_cons_self, ?_⟩
      dsimp only
      rw [Rect.mem_set_unit]
      intro t
      match t with
      | ⟨0, _⟩ => exact ⟨h1, h2⟩
      | ⟨1, _⟩ => exact ⟨h3, h4⟩
  · intro x hx
    exact (congrArg P (eq_ix2 x)).trans (hP (x 0) (x 1) r c (hx 0) (hx 1))
  · intro x hx
    exact (congrArg Q (eq_ix2 x)).trans (hQ (x 0) (x 1) r c (hx 0) (hx 1))

/-- The two products of a block of rows: `d · wᵀ`, over the weight's first 1024 rows and over its last. -/
def prod (o : ℕ) (ho : o + 1024 ≤ 2048) (x0 : Vec Ideal S544x1024 .bf16) (x1 : Vec Ideal S2048x1024 .bf16) : Vec Ideal S544x1024 .f32 :=
  fun y => ∑ k : Fin 1024, x0 (ix2 (y 0) k) * x1 (ix2 ⟨(y 1).val + o, by have := (y 1).isLt; have h : (S544x1024.size 1) = 1024 := rfl; omega⟩ k)

variable (𝒱 : Variants) (c : Dev nD) (bd : Option 𝒱.V) (i : grid0.Coords)
  (arg1 : Memref sig .tc .vmem S544x1024 .bf16) (harg1 : arg1.IsWhole) (arg2 : Memref sig .tc .vmem S2048x1024 .bf16) (harg2 : arg2.IsWhole)
  (arg3 : Memref sig .tc .vmem S544x1024 .bf16) (harg3 : arg3.IsWhole) (arg4 : Memref sig .tc .vmem S544x1024 .f32) (harg4 : arg4.IsWhole)
  (arg5 : Memref sig .tc .vmem S1x1024 .f32) (harg5 : arg5.IsWhole) (arg6 : Memref sig .tc .hbm S8x128 .f32) (harg6 : arg6.IsWhole)
  (arg7 : Memref sig .tc .vmem S544x1024 .f32) (harg7 : arg7.IsWhole) (arg8 : Memref sig .tc .vmem S544x1024 .f32) (harg8 : arg8.IsWhole)
  (arg9 : Memref sig .tc .vmem S544x1024 .bf16) (harg9 : arg9.IsWhole) (arg10 : Memref sig .tc .vmem S1x1024 .f32) (harg10 : arg10.IsWhole)
  (arg11 : Memref sig .tc .vmem S544x1024 .f32) (harg11 : arg11.IsWhole)
  (x0 : Vec Ideal S544x1024 .bf16) (x1 : Vec Ideal S2048x1024 .bf16)

/-- The loop's pieces, both trips, as the block of products each buffer then holds. -/
theorem pieces : View.canon (pb_k0_t1 (F := Ideal) 𝒱 c bd i arg1 harg1 arg2 harg2 arg3 harg3 arg4 harg4 arg5 harg5 arg6 harg6 arg7 harg7 arg8 harg8 arg9 harg9 arg10 harg10 arg11 harg11 (harg1.unread x0) (harg2.unread x1) 2).1 = prod 0 (by decide) x0 x1
    ∧ View.canon (pb_k0_t1 (F := Ideal) 𝒱 c bd i arg1 harg1 arg2 harg2 arg3 harg3 arg4 harg4 arg5 harg5 arg6 harg6 arg7 harg7 arg8 harg8 arg9 harg9 arg10 harg10 arg11 harg11 (harg1.unread x0) (harg2.unread x1) 2).2 = prod 1024 (by decide) x0 x1 := by
  have e1 := pb_k0_t1_succ (F := Ideal) 𝒱 c bd i arg1 harg1 arg2 harg2 arg3 harg3 arg4 harg4 arg5 harg5 arg6 harg6 arg7 harg7 arg8 harg8 arg9 harg9 arg10 harg10 arg11 harg11 (harg1.unread x0) (harg2.unread x1) ⟨1, by decide⟩
  have e0 := pb_k0_t1_succ (F := Ideal) 𝒱 c bd i arg1 harg1 arg2 harg2 arg3 harg3 arg4 harg4 arg5 harg5 arg6 harg6 arg7 harg7 arg8 harg8 arg9 harg9 arg10 harg10 arg11 harg11 (harg1.unread x0) (harg2.unread x1) ⟨0, by decide⟩
  have ez : pb_k0_t1 (F := Ideal) 𝒱 c bd i arg1 harg1 arg2 harg2 arg3 harg3 arg4 harg4 arg5 harg5 arg6 harg6 arg7 harg7 arg8 harg8 arg9 harg9 arg10 harg10 arg11 harg11 (harg1.unread x0) (harg2.unread x1) 0 = ([], []) := rfl
  dsimp only at e0 e1
  rw [e1, e0, ez]
  unfold trip_k0_t1
  dsimp only
  simp only [View.readAt_eq_ld, harg1.read_unread, harg2.read_unread, List.append_nil, List.cons_append, List.nil_append]
  have hcov : ∀ (r : Fin 544) (c : Fin 1024),
      (k0_off2 ⟨1, by decide⟩ 0 ≤ r.val ∧ r.val < k0_off2 ⟨1, by decide⟩ 0 + 544 ∧ k0_off2 ⟨1, by decide⟩ 1 ≤ c.val ∧ c.val < k0_off2 ⟨1, by decide⟩ 1 + 512)
      ∨ (k0_off2 ⟨0, by decide⟩ 0 ≤ r.val ∧ r.val < k0_off2 ⟨0, by decide⟩ 0 + 544 ∧ k0_off2 ⟨0, by decide⟩ 1 ≤ c.val ∧ c.val < k0_off2 ⟨0, by decide⟩ 1 + 512) := by
    intro r c
    rw [k0_off2_eq, k0_off2_eq]
    simp
    omega
  constructor
  · refine canon_two _ _ _ _ _ _ _ hcov (fun r c r' c' hr hc => ?_) (fun r c r' c' hr hc => ?_)
    · rw [pay3_apply]
      refine Finset.sum_congr rfl fun k _ => ?_
      rw [k0_off2_eq] at hr hc
      have hr' : r'.val = r.val := by simpa using hr
      have hc' : c'.val = 512 + c.val := by simpa using hc
      rw [ld2 (m0 := 544) (m1 := 1024) x0 _ _ r k r' k (by simp [hr']) (by simp), ld2 (m0 := 512) (m1 := 1024) x1 _ _ c k ⟨c'.val + 0, by omega⟩ k
        (by rw [k0_off1_eq]; simp [hc'] <;> omega) (by rw [k0_off1_eq]; simp)]
      rfl
    · rw [pay3_apply]
      refine Finset.sum_congr rfl fun k _ => ?_
      rw [k0_off2_eq] at hr hc
      have hr' : r'.val = r.val := by simpa using hr
      have hc' : c'.val = c.val := by simpa using hc
      rw [ld2 (m0 := 544) (m1 := 1024) x0 _ _ r k r' k (by simp [hr']) (by simp), ld2 (m0 := 512) (m1 := 1024) x1 _ _ c k ⟨c'.val + 0, by omega⟩ k
        (by rw [k0_off1_eq]; simp [hc'] <;> omega) (by rw [k0_off1_eq]; simp)]
      rfl
  · refine canon_two _ _ _ _ _ _ _ hcov (fun r c r' c' hr hc => ?_) (fun r c r' c' hr hc => ?_)
    · rw [pay4_apply]
      refine Finset.sum_congr rfl fun k _ => ?_
      rw [k0_off2_eq] at hr hc
      have hr' : r'.val = r.val := by simpa using hr
      have hc' : c'.val = 512 + c.val := by simpa using hc
      rw [ld2 (m0 := 544) (m1 := 1024) x0 _ _ r k r' k (by simp [hr']) (by simp), ld2 (m0 := 512) (m1 := 1024) x1 _ _ c k ⟨c'.val + 1024, by omega⟩ k
        (by rw [k0_off3_eq]; simp [hc'] <;> omega) (by rw [k0_off3_eq]; simp)]
      rfl
    · rw [pay4_apply]
      refine Finset.sum_congr rfl fun k _ => ?_
      rw [k0_off2_eq] at hr hc
      have hr' : r'.val = r.val := by simpa using hr
      have hc' : c'.val = c.val := by simpa using hc
      rw [ld2 (m0 := 544) (m1 := 1024) x0 _ _ r k r' k (by simp [hr']) (by simp), ld2 (m0 := 512) (m1 := 1024) x1 _ _ c k ⟨c'.val + 1024, by omega⟩ k
        (by rw [k0_off3_eq]; simp [hc'] <;> omega) (by rw [k0_off3_eq]; simp)]
      rfl

end Cert.KernelIdeal.OutBlock
end
-- ==== Proof.OutSide.lean ====
/- The mixer's output: what the forward call's payloads are at an entry, and what one grid point leaves in its two blocks. -/
module

public import proofs.«01_k».proof.Proof.OutBlock
public import proofs.«01_k».proof.Proof.Gen.Kernel5Ideal.Value
public import Idealize.ShloMosaic.Lib.Pointwise

@[expose] public section

set_option maxRecDepth 16384

noncomputable section

namespace Cert.Kernel5Ideal.OutSide

open Idealize.ShloMosaic Idealize.ShloMosaic.TcCoe Idealize.SL.Sem
open Cert.Kernel5Ideal Cert.Kernel5Ideal.Gen
open Cert.KernelIdeal.OutBlock (ld2 canon_two)

/-! ## One row of the mixer's output, on any entries: the two programs' operations agree one by one -/

/-- The tanh-form gelu. -/
def gelu (x : EReal) : EReal :=
  Ideal.ofBits .f32 1056964608#32 * x * (1 + Ideal.tanh (Ideal.ofBits .f32 1061962282#32 * (x + Ideal.ofBits .f32 1027024659#32 * (x * x * x))))

/-- A row under its RMS norm: each entry times the inverse root of the row's mean square. -/
def normed (y : Fin 1024 → EReal) (l : Fin 1024) : EReal :=
  y l * Ideal.rsqrt (Ideal.div (∑ k, y k * y k) (Ideal.ofBits .f32 1149239296#32) + Ideal.ofBits .f32 897988541#32)

/-- A row of the recurrent branch: the gated state, normed and scaled. -/
def branch (g h w : Fin 1024 → EReal) (l : Fin 1024) : EReal := normed (fun k => gelu (g k) * h k) l * w l

/-- A row of the two branches side by side. -/
def side (y g h w : Fin 1024 → EReal) (k : Fin 2048) : EReal :=
  if hk : k.val < 1024 then y ⟨k.val, hk⟩ else branch g h w ⟨k.val - 1024, by omega⟩

theorem side_lo (y g h w : Fin 1024 → EReal) (k : Fin 2048) (l : Fin 1024) (e : k.val = l.val) : side y g h w k = y l := by
  have hk : k.val < 1024 := by omega
  unfold side
  rw [dif_pos hk]
  exact congrArg y (Fin.ext e)
theorem side_hi (y g h w : Fin 1024 → EReal) (k : Fin 2048) (l : Fin 1024) (e : k.val = 1024 + l.val) : side y g h w k = branch g h w l := by
  have hk : ¬ k.val < 1024 := by omega
  unfold side
  rw [dif_neg hk]
  exact congrArg (branch g h w) (Fin.ext (by simp only []; omega))

/-! ## The payloads -/

theorem pay4_apply (xg : Vec Ideal S272x1024 .bf16) (xh : Vec Ideal S272x1024 .f32) (xw : Vec Ideal S1x1024 .f32) (r : Fin 272) (l : Fin 1024) :
    k0_pay4 xg xh xw (ix2 r l) = branch (fun k => xg (ix2 r k)) (fun k => xh (ix2 r k)) (fun k => xw (ix2 0 k)) l := by
  pointwise [k0_pay4]
  rfl
theorem pay1_apply (xg : Vec Ideal S272x1024 .bf16) (xh : Vec Ideal S272x1024 .f32) (xw : Vec Ideal S1x1024 .f32) (r : Fin 272) (l : Fin 1024) :
    k0_pay1 xg xh xw (ix2 r l) = branch (fun k => xg (ix2 r k)) (fun k => xh (ix2 r k)) (fun k => xw (ix2 0 k)) l := by
  pointwise [k0_pay1]
  rfl
theorem pay2_apply (a : Vec Ideal S544x512 .f32) (b : Vec Ideal S544x2048 .bf16) (w : Vec Ideal S2048x512 .bf16) (r : Fin 544) (l : Fin 512) :
    k0_pay2 a b w (ix2 r l) = a (ix2 r l) + ∑ k : Fin 2048, b (ix2 r k) * w (ix2 k l) := by
  pointwise [k0_pay2]
theorem pay3_apply (a : Vec Ideal S544x1024 .bf16) (r : Fin 544) (l : Fin 1024) : k0_pay3 a (ix2 r l) = a (ix2 r l) := by
  pointwise [k0_pay3]

variable (c : Dev nD) (i : grid0.Coords)
  (arg1 : Memref sig .tc .vmem S544x1024 .bf16) (harg1 : arg1.IsWhole) (arg2 : Memref sig .tc .vmem S544x1024 .bf16) (harg2 : arg2.IsWhole)
  (arg3 : Memref sig .tc .vmem S544x1024 .f32) (harg3 : arg3.IsWhole) (arg4 : Memref sig .tc .vmem S1x1024 .f32) (harg4 : arg4.IsWhole)
  (arg5 : Memref sig .tc .vmem S2048x1024 .bf16) (harg5 : arg5.IsWhole) (arg6 : Memref sig .tc .vmem S544x1024 .f32) (harg6 : arg6.IsWhole)
  (arg7 : Memref sig .tc .vmem S544x1024 .f32) (harg7 : arg7.IsWhole) (arg8 : Memref sig .tc .vmem S544x2048 .bf16) (harg8 : arg8.IsWhole)
  (x0 x1 : Vec Ideal S544x1024 .bf16) (x2 : Vec Ideal S544x1024 .f32) (x3 : Vec Ideal S1x1024 .f32) (x4 : Vec Ideal S2048x1024 .bf16) (x5 : Vec Ideal S544x1024 .f32)

theorem hz : (![0, 0] : Fin 2 → Nat) = fun _ => 0 := funext fun a => by fin_cases a <;> rfl

/-- A block's rows side by side. -/
def sides (x0 x1 : Vec Ideal S544x1024 .bf16) (x2 : Vec Ideal S544x1024 .f32) (x3 : Vec Ideal S1x1024 .f32) (r : Fin 544) (k : Fin 2048) : EReal :=
  side (fun k => x0 (ix2 r k)) (fun k => x1 (ix2 r k)) (fun k => x2 (ix2 r k)) (fun k => x3 (ix2 0 k)) k

/-- The three stores into the block of rows side by side. -/
theorem three (i0 i1 i2 j1 j2 j3 j4) : View.canon
      ([⟨Rect.unit ![272, 1024] ![272, 1024] i0, k0_pay1 (View.ld x1 (Rect.unit ![272, 0] ![272, 1024] j1)) (View.ld x2 (Rect.unit ![272, 0] ![272, 1024] j2)) x3⟩,
        ⟨Rect.unit ![0, 1024] ![272, 1024] i1, k0_pay4 (View.ld x1 (Rect.unit ![0, 0] ![272, 1024] j3)) (View.ld x2 (Rect.unit ![0, 0] ![272, 1024] j4)) x3⟩,
        ⟨Rect.unit ![0, 0] ![544, 1024] i2, k0_pay3 x0⟩] : List (View.Piece (Elt Ideal) S544x2048 .bf16)) = fun y => sides x0 x1 x2 x3 (y 0) (y 1) := by
  funext y
  obtain ⟨r, k, rfl⟩ : ∃ (r : Fin 544) (k : Fin 2048), y = ix2 r k := ⟨y 0, y 1, eq_ix2 y⟩
  refine View.canon_eq_of_allAt _ _ _ ?_ (View.allAt_cons_unit _ _ _ _ _ ?_ (View.allAt_cons_unit _ _ _ _ _ ?_ (View.allAt_cons_unit _ _ _ _ _ ?_ (View.allAt_nil _ _))))
  · have hr := r.isLt
    have hk := k.isLt
    by_cases h1 : k.val < 1024
    · refine ⟨_, List.mem_cons_of_mem _ (List.mem_cons_of_mem _ List.mem_cons_self), ?_⟩
      dsimp only
      rw [Rect.mem_set_unit]
      intro t
      match t with
      | ⟨0, _⟩ => exact ⟨Nat.zero_le _, by show r.val < 0 + 544; omega⟩
      | ⟨1, _⟩ => exact ⟨Nat.zero_le _, by show k.val < 0 + 1024; omega⟩
    · by_cases h2 : r.val < 272
      · refine ⟨_, List.mem_cons_of_mem _ List.mem_cons_self, ?_⟩
        dsimp only
        rw [Rect.mem_set_unit]
        intro t
        match t with
        | ⟨0, _⟩ => exact ⟨Nat.zero_le _, by show r.val < 0 + 272; omega⟩
        | ⟨1, _⟩ => exact ⟨by show 1024 ≤ k.val; omega, by show k.val < 1024 + 1024; omega⟩
      · refine ⟨_, List.mem_cons_self, ?_⟩
        dsimp only
        rw [Rect.mem_set_unit]
        intro t
        match t with
        | ⟨0, _⟩ => exact ⟨by show 272 ≤ r.val; omega, by show r.val < 272 + 272; omega⟩
        | ⟨1, _⟩ => exact ⟨by show 1024 ≤ k.val; omega, by show k.val < 1024 + 1024; omega⟩
  · intro x hx
    have h0 : r.val = 272 + (x 0).val := hx 0
    have h1 : k.val = 1024 + (x 1).val := hx 1
    refine ((congrArg _ (eq_ix2 x)).trans (pay1_apply _ _ _ (x 0) (x 1))).trans ?_
    refine Eq.trans ?_ (side_hi _ _ _ _ k (x 1) h1).symm
    simp only [ld2 (m0 := 272) (m1 := 1024) x1 ![272, 0] _ (x 0) _ r _ h0 (Nat.zero_add _).symm, ld2 (m0 := 272) (m1 := 1024) x2 ![272, 0] _ (x 0) _ r _ h0 (Nat.zero_add _).symm]
    rfl
  · intro x hx
    have h0 : r.val = 0 + (x 0).val := hx 0
    have h1 : k.val = 1024 + (x 1).val := hx 1
    refine ((congrArg _ (eq_ix2 x)).trans (pay4_apply _ _ _ (x 0) (x 1))).trans ?_
    refine Eq.trans ?_ (side_hi _ _ _ _ k (x 1) h1).symm
    simp only [ld2 (m0 := 272) (m1 := 1024) x1 ![0, 0] _ (x 0) _ r _ h0 (Nat.zero_add _).symm, ld2 (m0 := 272) (m1 := 1024) x2 ![0, 0] _ (x 0) _ r _ h0 (Nat.zero_add _).symm]
    rfl
  · intro x hx
    have h0 : r.val = 0 + (x 0).val := hx 0
    have h1 : k.val = 0 + (x 1).val := hx 1
    refine ((congrArg _ (eq_ix2 x)).trans (pay3_apply _ (x 0) (x 1))).trans ?_
    refine Eq.trans ?_ (side_lo _ _ _ _ k (x 1) (h1.trans (Nat.zero_add _))).symm
    exact congrArg (fun q : Fin 544 => x0 (ix2 q (x 1))) (Fin.ext (h0.trans (Nat.zero_add _))).symm

theorem out7 : out0_A_7 (F := Ideal) c i arg1 harg1 arg2 harg2 arg3 harg3 arg4 harg4 arg5 harg5 arg6 harg6 arg7 harg7 arg8 harg8 x0 x1 x2 x3 x4 x5 = fun y => sides x0 x1 x2 x3 (y 0) (y 1) := by
  unfold out0_A_7
  rw [View.read_writes_junk_eq_canon]
  unfold kernelRun0_A
  dsimp only
  sl_unfold_words
  simp only [View.readAt_eq_ld, harg1.read_unread, harg2.read_unread, harg3.read_unread, harg4.read_unread, View.ld_unit_zero (S := S1x1024) hz, View.ld_unit_zero (S := S544x1024) hz]
  exact three x0 x1 x2 x3 _ _ _ _ _ _ _

/-- The product with the weight, on top of the residual stream. -/
def added (x0 x1 : Vec Ideal S544x1024 .bf16) (x2 : Vec Ideal S544x1024 .f32) (x3 : Vec Ideal S1x1024 .f32) (x4 : Vec Ideal S2048x1024 .bf16) (x5 : Vec Ideal S544x1024 .f32)
    (r : Fin 544) (l : Fin 1024) : EReal := x5 (ix2 r l) + ∑ k : Fin 2048, sides x0 x1 x2 x3 r k * x4 (ix2 k l)

theorem out6 : out0_A_6 (F := Ideal) c i arg1 harg1 arg2 harg2 arg3 harg3 arg4 harg4 arg5 harg5 arg6 harg6 arg7 harg7 arg8 harg8 x0 x1 x2 x3 x4 x5 = fun y => added x0 x1 x2 x3 x4 x5 (y 0) (y 1) := by
  unfold out0_A_6
  rw [View.read_writes_junk_eq_canon]
  unfold kernelRun0_A
  dsimp only
  sl_unfold_words
  have hX : arg8.view.read (Elt Ideal) _ = fun y => sides x0 x1 x2 x3 (y 0) (y 1) := (View.read_writes_junk_eq_canon arg8.view _).trans (three x0 x1 x2 x3 inb_S544x2048_S272x1024_272_1024 inb_S544x2048_S272x1024_0_1024 inb_S544x2048_S544x1024_0_0 inb_S544x1024_S272x1024_272_0 inb_S544x1024_S272x1024_272_0 inb_S544x1024_S272x1024_0_0 inb_S544x1024_S272x1024_0_0)
  simp only [View.readAt_eq_ld, harg1.read_unread, harg2.read_unread, harg3.read_unread, harg4.read_unread, View.ld_unit_zero (S := S1x1024) hz, View.ld_unit_zero (S := S544x1024) hz]
  revert hX
  generalize arg8.view.writes (Elt Ideal) arg8.view.junk _ = X8
  intro hX
  have e1 := pb_k0_t1_succ (F := Ideal) Variants.none c none i arg1 harg1 arg2 harg2 arg3 harg3 arg4 harg4 arg5 harg5 arg6 harg6 arg7 harg7 arg8 harg8 (harg5.unread x4) (harg6.unread x5) X8 ⟨1, by decide⟩
  have e0 := pb_k0_t1_succ (F := Ideal) Variants.none c none i arg1 harg1 arg2 harg2 arg3 harg3 arg4 harg4 arg5 harg5 arg6 harg6 arg7 harg7 arg8 harg8 (harg5.unread x4) (harg6.unread x5) X8 ⟨0, by decide⟩
  have ez : pb_k0_t1 (F := Ideal) Variants.none c none i arg1 harg1 arg2 harg2 arg3 harg3 arg4 harg4 arg5 harg5 arg6 harg6 arg7 harg7 arg8 harg8 (harg5.unread x4) (harg6.unread x5) X8 0 = [] := rfl
  have et : Scf.trips (0#32) (Scalar.addi 0#32 2#32) 1#32 = 1 + 1 := by decide
  dsimp only at e1 e0
  rw [et, e1, e0, ez]
  unfold tripL_k0_t1 trip_k0_t1
  dsimp only
  simp only [View.readAt_eq_ld, harg5.read_unread, harg6.read_unread, hX, List.append_nil, List.cons_append, List.nil_append]
  refine canon_two (m0 := 544) (m1 := 512) _ _ _ _ _ _ _ (fun r l => ?_) (fun r l r' l' hr hl => ?_) (fun r l r' l' hr hl => ?_)
  · rw [k0_off1_eq, k0_off1_eq]
    simp
    omega
  · rw [k0_off1_eq] at hr hl
    have hr' : r' = r := Fin.ext (by simpa using hr)
    subst hr'
    have hl' : l'.val = 512 + l.val := by simpa using hl
    refine (pay2_apply _ _ _ r' l).trans ?_
    refine congrArg₂ (· + ·) (ld2 (m0 := 544) (m1 := 512) x5 _ _ r' l r' l' (by rw [k0_off1_eq]; simp) (by rw [k0_off1_eq]; simp [hl'])) ?_
    refine Finset.sum_congr rfl fun k _ => congrArg₂ (· * ·) ?_ (ld2 (m0 := 2048) (m1 := 512) x4 _ _ k l k l' (by rw [k0_off2_eq]; simp) (by rw [k0_off2_eq]; simp [hl']))
    rw [View.ld_unit_zero (S := S544x2048) hz]
    rfl
  · rw [k0_off1_eq] at hr hl
    have hr' : r' = r := Fin.ext (by simpa using hr)
    subst hr'
    have hl' : l'.val = l.val := by simpa using hl
    refine (pay2_apply _ _ _ r' l).trans ?_
    refine congrArg₂ (· + ·) (ld2 (m0 := 544) (m1 := 512) x5 _ _ r' l r' l' (by rw [k0_off1_eq]; simp) (by rw [k0_off1_eq]; simp [hl'])) ?_
    refine Finset.sum_congr rfl fun k _ => congrArg₂ (· * ·) ?_ (ld2 (m0 := 2048) (m1 := 512) x4 _ _ k l k l' (by rw [k0_off2_eq]; simp) (by rw [k0_off2_eq]; simp [hl']))
    rw [View.ld_unit_zero (S := S544x2048) hz]
    rfl

end Cert.Kernel5Ideal.OutSide
end
-- ==== Proof.UpBlock.lean ====
/- What one grid point of the norm and the two inner products leaves in its four blocks, at an entry. -/
module

public import proofs.«01_k».proof.Proof.UpFrame
public import proofs.«01_k».proof.Proof.UpReal
public import proofs.«01_k».proof.Proof.OutSide

@[expose] public section

set_option maxRecDepth 16384

noncomputable section

namespace Cert.Kernel6Ideal.UpBlock

open Idealize.ShloMosaic Cert.Kernel6Ideal Cert.Kernel6Ideal.Gen Cert.Kernel6Ideal.UpRun Cert.UpReal
open Cert.KernelIdeal.OutHalf (lit_half)
open Cert.KernelIdeal.OutBlock (ld2 canon_two)
open Cert.Kernel5Ideal.OutSide (normed)

/-! ## The payloads -/

theorem lower_apply (h : Vec Ideal S272x1024 .f32) (w : Vec Ideal S1x1024 .f32) (r : Fin 272) (l : Fin 1024) :
    k0_pay1 (k0_pay8 w) (k0_pay9 h) (ix2 r l) = normed (fun k => h (ix2 r k)) l * w (ix2 0 l) := by
  pointwise [k0_pay1, k0_pay8, k0_pay9]
  rfl
theorem upper_apply (h : Vec Ideal S272x1024 .f32) (w : Vec Ideal S1x1024 .f32) (r : Fin 272) (l : Fin 1024) :
    k0_pay7 h w (ix2 r l) = normed (fun k => h (ix2 r k)) l * w (ix2 0 l) := by
  pointwise [k0_pay7]
  rfl
theorem gate_apply (u : Vec Ideal S544x1024 .bf16) (a : Vec Ideal S256x1024 .bf16) (r : Fin 544) (k : Fin 256) : k0_pay4 u a (ix2 r k) = ∑ l : Fin 1024, u (ix2 r l) * a (ix2 k l) := by
  pointwise [k0_pay4, k0_pay2]
theorem up_apply (u : Vec Ideal S544x1024 .bf16) (b : Vec Ideal S256x1024 .bf16) (r : Fin 544) (k : Fin 256) : k0_pay5 u b (ix2 r k) = ∑ l : Fin 1024, u (ix2 r l) * b (ix2 k l) := by
  pointwise [k0_pay5, k0_pay3]
/-- The gate under silu, times the value beside it. -/
theorem act_apply (u u' : Vec Ideal S544x1024 .bf16) (a b : Vec Ideal S256x1024 .bf16) (r : Fin 544) (k : Fin 256) :
    k0_pay6 u a u' b (ix2 r k) = (∑ l : Fin 1024, u (ix2 r l) * a (ix2 k l)) * Ideal.logistic (∑ l : Fin 1024, u (ix2 r l) * a (ix2 k l)) * ∑ l : Fin 1024, u' (ix2 r l) * b (ix2 k l) := by
  pointwise [k0_pay6, k0_pay2, k0_pay3]
  rw [lit_half, sigmoid_eq]

/-! ## The blocks -/

theorem normOf_eq (h : Vec Ideal S544x1024 .f32) (w : Vec Ideal S1x1024 .f32) :
    normOf h w = fun y => normed (fun k => h (ix2 (y 0) k)) (y 1) * w (ix2 0 (y 1)) := by
  unfold normOf half
  refine canon_two (m0 := 272) (m1 := 1024) _ _ _ _ _ _ _ (fun r l => ?_) (fun r l r' l' hr hl => ?_) (fun r l r' l' hr hl => ?_)
  · simp
    omega
  · obtain rfl : l' = l := Fin.ext (by simpa using hl)
    refine (lower_apply _ _ r l').trans ?_
    simp only [ld2 (m0 := 272) (m1 := 1024) h ![272, 0] _ r _ r' _ hr (Nat.zero_add _).symm]
    rfl
  · obtain rfl : l' = l := Fin.ext (by simpa using hl)
    refine (upper_apply _ _ r l').trans ?_
    simp only [ld2 (m0 := 272) (m1 := 1024) h ![0, 0] _ r _ r' _ hr (Nat.zero_add _).symm]
    rfl

theorem rows_apply (w : Vec Ideal S2816x1024 .bf16) (k : Fin 2816) (l : Fin 1024) (ho : 256 * (k.val / 256) + 256 ≤ 2816) :
    rows (256 * (k.val / 256)) ho w (ix2 ⟨k.val % 256, Nat.mod_lt _ (by decide)⟩ l) = w (ix2 k l) :=
  ld2 (m0 := 256) (m1 := 1024) w ![256 * (k.val / 256), 0] _ _ l k l (Nat.div_add_mod k.val 256).symm (Nat.zero_add _).symm

variable (u : Vec Ideal S544x1024 .bf16) (a b : Vec Ideal S2816x1024 .bf16)

theorem gateOf_apply (r : Fin 544) (k : Fin 2816) : gateOf u a (ix2 r k) = ∑ l : Fin 1024, u (ix2 r l) * a (ix2 k l) := by
  refine (gate_apply u _ r _).trans (Finset.sum_congr rfl fun l _ => ?_)
  exact congrArg (u (ix2 r l) * ·) (rows_apply a k l _)
theorem upOf_apply (r : Fin 544) (k : Fin 2816) : upOf u b (ix2 r k) = ∑ l : Fin 1024, u (ix2 r l) * b (ix2 k l) := by
  refine (up_apply u _ r _).trans (Finset.sum_congr rfl fun l _ => ?_)
  exact congrArg (u (ix2 r l) * ·) (rows_apply b k l _)
theorem actOf_apply (r : Fin 544) (k : Fin 2816) :
    actOf u a b (ix2 r k) = (∑ l : Fin 1024, u (ix2 r l) * a (ix2 k l)) * Ideal.logistic (∑ l : Fin 1024, u (ix2 r l) * a (ix2 k l)) * ∑ l : Fin 1024, u (ix2 r l) * b (ix2 k l) := by
  refine (act_apply u u _ _ r _).trans ?_
  rw [← gateOf_apply u a r k, ← upOf_apply u b r k, ← gate_apply, ← up_apply]
  rfl

end Cert.Kernel6Ideal.UpBlock
end
-- ==== Proof.UpArray.lean ====
/- What the four result arrays of the norm and the two inner products hold after the run, at an entry, and what the
   reference's four hold: the same, over any arguments. -/
module

public import proofs.«01_k».proof.Proof.UpBlock
public import proofs.«01_k».proof.Proof.Gen.Reference6Ideal.Read
public import Idealize.ShloMosaic.Lib.StableHlo.ReadAt
public import Idealize.ShloMosaic.Lib.Pipeline.ValueKit.Point
public import Idealize.ShloMosaic.Lib.Pipeline.ValueKit.Geometry

@[expose] public section

set_option maxRecDepth 16384

noncomputable section

namespace Cert.UpArray

open Idealize.ShloMosaic Idealize.ShloMosaic.TcCoe Idealize.SL.Sem
open Cert.Kernel5Ideal.OutSide (normed)

/-! ## The results, of any arrays -/

section values

variable (h : (⟨2, ![2176, 1024]⟩ : Shape).Idx → EReal) (w : (⟨1, ![1024]⟩ : Shape).Idx → EReal) (a b : (⟨2, ![1024, 2816]⟩ : Shape).Idx → EReal)

/-- The stream under its norm. -/
def under (r : Fin 2176) (l : Fin 1024) : EReal := normed (fun k => h (ix2 r k)) l * w (ix1 l)
/-- A product of it. -/
def prod (r : Fin 2176) (k : Fin 2816) : EReal := ∑ l : Fin 1024, under h w r l * a (ix2 l k)
/-- The gated product. -/
def gated (r : Fin 2176) (k : Fin 2816) : EReal := prod h w a r k * Ideal.logistic (prod h w a r k) * prod h w b r k

end values

section kernel

open Cert.Kernel6Ideal Cert.Kernel6Ideal.Gen Cert.Kernel6Ideal.UpRun Cert.Kernel6Ideal.UpFrame Cert.Kernel6Ideal.UpBlock

variable (m : (ℓ : Loc nD τ sig) → Buf (Elt Ideal) ℓ) (c : Dev nD)

abbrev a0 : Vec Ideal S2176x1024 .f32 := m ((c : Thread nD τ).loc main_arg0)
abbrev a1 : Vec Ideal S1024 .f32 := m ((c : Thread nD τ).loc main_arg1)
abbrev a2 : Vec Ideal S1024x2816 .f32 := m ((c : Thread nD τ).loc main_arg2)
abbrev a3 : Vec Ideal S1024x2816 .f32 := m ((c : Thread nD τ).loc main_arg3)

theorem V0 (l : Fin 1024) : (V m c main_v0 : Vec Ideal S1x1024 .f32) (ix2 0 l) = a1 m c (ix1 l) := by
  unfold V
  after_reads_at
theorem V2 (k : Fin 2816) (l : Fin 1024) : (V m c main_v2 : Vec Ideal S2816x1024 .bf16) (ix2 k l) = a2 m c (ix2 l k) := by
  unfold V
  after_reads_at
theorem V4 (k : Fin 2816) (l : Fin 1024) : (V m c main_v4 : Vec Ideal S2816x1024 .bf16) (ix2 k l) = a3 m c (ix2 l k) := by
  unfold V
  after_reads_at

/-- Row `r` of point `t`'s block. -/
def row (t : Fin cfg0.N) (r : Fin 544) : Fin 2176 := ⟨t.val * 544 + r.val, by
  have h := t.isLt
  have e : cfg0.N = 4 := by decide
  omega⟩

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] :=
  (by decide +kernel : ∀ t : Fin grid0.N, _)

theorem x0_eq (t : Fin cfg0.N) (r : Fin 544) (k : Fin 1024) : (iblk m c 0 t : Vec Ideal S544x1024 .f32) (ix2 r k) = a0 m c (ix2 (row t r) k) := by
  refine Eq.trans ?_ (congrFun (V_main_arg0 m c) (ix2 _ _))
  have e := idx t
  blk_ext [iblk, e, row]
theorem x1_eq (t : Fin cfg0.N) (k : Fin 1024) : (iblk m c 1 t : Vec Ideal S1x1024 .f32) (ix2 0 k) = a1 m c (ix1 k) := by
  refine Eq.trans ?_ (V0 m c _)
  have e := idx t
  blk_ext [iblk, e, row]

theorem nrm_eq (t : Fin cfg0.N) (r : Fin 544) (l : Fin 1024) : nrm m c t (ix2 r l) = under (a0 m c) (a1 m c) (row t r) l := by
  unfold nrm under
  refine (congrFun (normOf_eq _ _) _).trans ?_
  refine congrArg₂ (· * ·) (congrArg (fun f => normed f l) (funext fun k => x0_eq m c t r k)) (x1_eq m c t l)

theorem gate_eq (t : Fin cfg0.N) (r : Fin 544) (k : Fin 2816) : gateOf (nrm m c t) (V m c main_v2) (ix2 r k) = prod (a0 m c) (a1 m c) (a2 m c) (row t r) k := by
  refine (gateOf_apply _ _ r k).trans (Finset.sum_congr rfl fun l _ => ?_)
  exact congrArg₂ (· * ·) (nrm_eq m c t r l) (V2 m c k l)
theorem up_eq (t : Fin cfg0.N) (r : Fin 544) (k : Fin 2816) : upOf (nrm m c t) (V m c main_v4) (ix2 r k) = prod (a0 m c) (a1 m c) (a3 m c) (row t r) k := by
  refine (upOf_apply _ _ r k).trans (Finset.sum_congr rfl fun l _ => ?_)
  exact congrArg₂ (· * ·) (nrm_eq m c t r l) (V4 m c k l)
theorem act_eq (t : Fin cfg0.N) (r : Fin 544) (k : Fin 2816) : actOf (nrm m c t) (V m c main_v2) (V m c main_v4) (ix2 r k) = gated (a0 m c) (a1 m c) (a2 m c) (a3 m c) (row t r) k := by
  unfold gated
  rw [← gate_eq, ← up_eq, gateOf_apply, upOf_apply]
  exact actOf_apply _ _ _ r k

/-- The gate, after the run. -/
theorem final2 : (dats m 0 c).arrAt 2 cfg0.N = fun y => prod (a0 m c) (a1 m c) (a2 m c) (y 0) (y 1) := by
  refine (dats m 0 c).arrAt_eq_of_covers 2 _ (by decide +kernel) fun t hf y => ?_
  blk_simp
  rw [after2]
  have e := idx t
  have e0 : (row t (y 0) : Fin 2176) = (win0_2.blk t).view.emb y 0 := Fin.ext (by blk_simp [e, row])
  have e1 : (y 1 : Fin 2816) = (win0_2.blk t).view.emb y 1 := Fin.ext (by blk_simp [e])
  exact ((congrArg _ (eq_ix2 y)).trans (gate_eq m c t (y 0) (y 1))).trans (congrArg₂ (fun (r : Fin 2176) (k : Fin 2816) => prod (a0 m c) (a1 m c) (a2 m c) r k) e0 e1)
/-- The value beside it. -/
theorem final3 : (dats m 0 c).arrAt 3 cfg0.N = fun y => prod (a0 m c) (a1 m c) (a3 m c) (y 0) (y 1) := by
  refine (dats m 0 c).arrAt_eq_of_covers 3 _ (by decide +kernel) fun t hf y => ?_
  blk_simp
  rw [after3]
  have e := idx t
  have e0 : (row t (y 0) : Fin 2176) = (win0_3.blk t).view.emb y 0 := Fin.ext (by blk_simp [e, row])
  have e1 : (y 1 : Fin 2816) = (win0_3.blk t).view.emb y 1 := Fin.ext (by blk_simp [e])
  exact ((congrArg _ (eq_ix2 y)).trans (up_eq m c t (y 0) (y 1))).trans (congrArg₂ (fun (r : Fin 2176) (k : Fin 2816) => prod (a0 m c) (a1 m c) (a3 m c) r k) e0 e1)
/-- The gated product. -/
theorem final4 : (dats m 0 c).arrAt 4 cfg0.N = fun y => gated (a0 m c) (a1 m c) (a2 m c) (a3 m c) (y 0) (y 1) := by
  refine (dats m 0 c).arrAt_eq_of_covers 4 _ (by decide +kernel) fun t hf y => ?_
  blk_simp
  rw [after4]
  have e := idx t
  have e0 : (row t (y 0) : Fin 2176) = (win0_4.blk t).view.emb y 0 := Fin.ext (by blk_simp [e, row])
  have e1 : (y 1 : Fin 2816) = (win0_4.blk t).view.emb y 1 := Fin.ext (by blk_simp [e])
  exact ((congrArg _ (eq_ix2 y)).trans (act_eq m c t (y 0) (y 1))).trans (congrArg₂ (fun (r : Fin 2176) (k : Fin 2816) => gated (a0 m c) (a1 m c) (a2 m c) (a3 m c) r k) e0 e1)
/-- The stream under its norm. -/
theorem final5 : (dats m 0 c).arrAt 5 cfg0.N = fun y => under (a0 m c) (a1 m c) (y 0) (y 1) := by
  refine (dats m 0 c).arrAt_eq_of_covers 5 _ (by decide +kernel) fun t hf y => ?_
  blk_simp
  rw [after5]
  have e := idx t
  have e0 : (row t (y 0) : Fin 2176) = (win0_5.blk t).view.emb y 0 := Fin.ext (by blk_simp [e, row])
  have e1 : (y 1 : Fin 1024) = (win0_5.blk t).view.emb y 1 := Fin.ext (by blk_simp [e])
  exact ((congrArg _ (eq_ix2 y)).trans (nrm_eq m c t (y 0) (y 1))).trans (congrArg₂ (fun (r : Fin 2176) (l : Fin 1024) => under (a0 m c) (a1 m c) r l) e0 e1)

end kernel

section reference

open Cert.Reference6Ideal Cert.Reference6Ideal.Gen Cert.Reference6Ideal.Read

variable (x0 : Vec Ideal S2176x1024 .f32) (x1 : Vec Ideal S1024 .f32) (x2 x3 : Vec Ideal S1024x2816 .f32)

theorem under_apply (r : Fin 2176) (l : Fin 1024) : val_main_v12 x0 x1 (ix2 r l) = under x0 x1 r l := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  rfl
theorem gate_ref (r : Fin 2176) (k : Fin 2816) : val_main_v13 x0 x1 x2 (ix2 r k) = prod x0 x1 x2 r k := by
  pointwise [val_main_v13]
  simp only [under_apply]
  rfl
theorem up_ref (r : Fin 2176) (k : Fin 2816) : val_main_v14 x0 x1 x3 (ix2 r k) = prod x0 x1 x3 r k := by
  pointwise [val_main_v14]
  simp only [under_apply]
  rfl

theorem ref17 : val_main_v17 x0 x1 x2 = fun y => prod x0 x1 x2 (y 0) (y 1) := by
  funext y
  obtain ⟨r, k, rfl⟩ : ∃ (r : Fin 2176) (k : Fin 2816), y = ix2 r k := ⟨y 0, y 1, eq_ix2 y⟩
  pointwise [val_main_v17]
  exact gate_ref x0 x1 x2 r k
theorem ref18 : val_main_v18 x0 x1 x3 = fun y => prod x0 x1 x3 (y 0) (y 1) := by
  funext y
  obtain ⟨r, k, rfl⟩ : ∃ (r : Fin 2176) (k : Fin 2816), y = ix2 r k := ⟨y 0, y 1, eq_ix2 y⟩
  pointwise [val_main_v18]
  exact up_ref x0 x1 x3 r k
theorem ref19 : val_main_v19 x0 x1 x2 x3 = fun y => gated x0 x1 x2 x3 (y 0) (y 1) := by
  funext y
  obtain ⟨r, k, rfl⟩ : ∃ (r : Fin 2176) (k : Fin 2816), y = ix2 r k := ⟨y 0, y 1, eq_ix2 y⟩
  pointwise [val_main_v19, val_main_v16, val_main_v15, val_main_call0_v5, val_main_call0_v4, val_main_call0_v3, val_main_call0_cst_0, val_main_call0_v2, val_main_call0_cst, val_main_call0_v1, val_main_call0_v0]
  simp only [gate_ref, up_ref]
  rfl
theorem ref20 : val_main_v20 x0 x1 = fun y => under x0 x1 (y 0) (y 1) := by
  funext y
  obtain ⟨r, l, rfl⟩ : ∃ (r : Fin 2176) (l : Fin 1024), y = ix2 r l := ⟨y 0, y 1, eq_ix2 y⟩
  pointwise [val_main_v20]
  exact under_apply x0 x1 r l

end reference

end Cert.UpArray
end
-- ==== Proof.OutPoint.lean ====
/- What one grid point leaves in each of its four output blocks, at an entry, over finite blocks of the operands. -/
module

public import proofs.«01_k».proof.Proof.OutBlock

@[expose] public section

set_option maxRecDepth 16384

noncomputable section

namespace Cert.KernelIdeal.OutPoint

open Idealize.ShloMosaic Idealize.ShloMosaic.TcCoe Idealize.SL.Sem
open Cert.KernelIdeal Cert.KernelIdeal.Gen Cert.OutReal Cert.KernelIdeal.OutHalf Cert.KernelIdeal.OutBlock

/-- A row under the norm: the gelu of the gate times the state. -/
def yrow {n : ℕ} (g h : Fin n → Fin 1024 → ℝ) (r : Fin n) : Fin 1024 → ℝ := fun k => gelu (g r k) * h r k

/-- The gradient of the states, of the gate, and one row's part of the scale's gradient, at an entry. -/
def dH {n : ℕ} (g h d : Fin n → Fin 1024 → ℝ) (w : Fin 1024 → ℝ) (r : Fin n) (l : Fin 1024) : ℝ := normGrad (yrow g h r) (d r) w l * gelu (g r l)
def dG {n : ℕ} (g h d : Fin n → Fin 1024 → ℝ) (w : Fin 1024 → ℝ) (r : Fin n) (l : Fin 1024) : ℝ := normGrad (yrow g h r) (d r) w l * h r l * geluGrad (g r l)
def dW {n : ℕ} (g h d : Fin n → Fin 1024 → ℝ) (r : Fin n) (l : Fin 1024) : ℝ := d r l * (yrow g h r l * rr (yrow g h r))

theorem hz : (![0, 0] : Fin 2 → Nat) = fun _ => 0 := funext fun a => by fin_cases a <;> rfl

/-- Row `o + r` of a block. -/
abbrev down (o : ℕ) (ho : o + 272 ≤ 544) (r : Fin 272) : Fin 544 := ⟨o + r.val, by omega⟩

/-- A half's load of a block, at an entry. -/
theorem half {e : EltTy} {X : S544x1024.Idx → Elt Ideal e} {x : Fin 544 → Fin 1024 → Elt Ideal e} (hx : ∀ r l, X (ix2 r l) = x r l)
    (o : ℕ) (ho : o + 272 ≤ 544) (inb) (r : Fin 272) (l : Fin 1024) :
    View.ld X (Rect.unit ![o, 0] ![272, 1024] inb) (ix2 r l) = x (down o ho r) l := by
  rw [ld2 (m0 := 272) (m1 := 1024) X _ _ r l (down o ho r) l rfl (by simp)]
  exact hx _ _

/-- The row of zeros the sum starts from. -/
theorem pay2_apply (l : Fin 1024) : k0_pay2 (F := Ideal) (ix2 0 l) = ((0 : ℝ) : EReal) := by
  pointwise [k0_pay2]
  simp

variable (c : Dev nD) (i : grid0.Coords)
  (arg1 : Memref sig .tc .vmem S544x1024 .bf16) (harg1 : arg1.IsWhole) (arg2 : Memref sig .tc .vmem S2048x1024 .bf16) (harg2 : arg2.IsWhole)
  (arg3 : Memref sig .tc .vmem S544x1024 .bf16) (harg3 : arg3.IsWhole) (arg4 : Memref sig .tc .vmem S544x1024 .f32) (harg4 : arg4.IsWhole)
  (arg5 : Memref sig .tc .vmem S1x1024 .f32) (harg5 : arg5.IsWhole)
  (arg7 : Memref sig .tc .vmem S544x1024 .f32) (harg7 : arg7.IsWhole) (arg8 : Memref sig .tc .vmem S544x1024 .f32) (harg8 : arg8.IsWhole)
  (arg9 : Memref sig .tc .vmem S544x1024 .bf16) (harg9 : arg9.IsWhole) (arg10 : Memref sig .tc .vmem S1x1024 .f32) (harg10 : arg10.IsWhole)
  (arg11 : Memref sig .tc .vmem S544x1024 .f32) (harg11 : arg11.IsWhole)
  (x0 : Vec Ideal S544x1024 .bf16) (x1 : Vec Ideal S2048x1024 .bf16) (x2 : Vec Ideal S544x1024 .bf16) (x3 : Vec Ideal S544x1024 .f32) (x4 x8 : Vec Ideal S1x1024 .f32)
  {g h d : Fin 544 → Fin 1024 → ℝ} {w : Fin 1024 → ℝ}

theorem out_A_5 (hc : cond0_0 i) : out0_A_5 (F := Ideal) c i arg1 harg1 arg2 harg2 arg3 harg3 arg4 harg4 arg5 harg5 arg7 harg7 arg8 harg8 arg9 harg9 arg10 harg10 arg11 harg11 hc x0 x1 x2 x3 x4 = prod 0 (by decide) x0 x1 := by
  unfold out0_A_5
  rw [View.read_writes_junk_eq_canon]
  unfold kernelRun0_A
  dsimp only
  exact (pieces Variants.none c none i arg1 harg1 arg2 harg2 arg3 harg3 arg4 harg4 arg5 harg5 (Memref.whole main_v4) (Memref.isWhole_whole _) arg7 harg7 arg8 harg8 arg9 harg9 arg10 harg10 arg11 harg11 x0 x1).1

theorem out_A_6 (hc : cond0_0 i) (hg : ∀ r l, x2 (ix2 r l) = ((g r l : ℝ) : EReal)) (hh : ∀ r l, x3 (ix2 r l) = ((h r l : ℝ) : EReal))
    (hd : ∀ r l, prod 1024 (by decide) x0 x1 (ix2 r l) = ((d r l : ℝ) : EReal)) (hw : ∀ l, x4 (ix2 0 l) = ((w l : ℝ) : EReal)) :
    out0_A_6 (F := Ideal) c i arg1 harg1 arg2 harg2 arg3 harg3 arg4 harg4 arg5 harg5 arg7 harg7 arg8 harg8 arg9 harg9 arg10 harg10 arg11 harg11 hc x0 x1 x2 x3 x4 = fun y => ((dH g h d w (y 0) (y 1) : ℝ) : EReal) := by
  unfold out0_A_6
  rw [View.read_writes_junk_eq_canon]
  unfold kernelRun0_A
  dsimp only
  sl_unfold_words
  have hp := (pieces Variants.none c none i arg1 harg1 arg2 harg2 arg3 harg3 arg4 harg4 arg5 harg5 (Memref.whole main_v4) (Memref.isWhole_whole _) arg7 harg7 arg8 harg8 arg9 harg9 arg10 harg10 arg11 harg11 x0 x1).2
  have hp' : View.canon (pb_k0_t1 (F := Ideal) Variants.none c none i arg1 harg1 arg2 harg2 arg3 harg3 arg4 harg4 arg5 harg5 (Memref.whole main_v4) (Memref.isWhole_whole _) arg7 harg7 arg8 harg8 arg9 harg9 arg10 harg10 arg11 harg11 (harg1.unread x0) (harg2.unread x1) (Scf.trips k0_t1_loop.lb k0_t1_loop.ub k0_t1_loop.st)).2 = _ := hp
  simp only [View.readAt_eq_ld, harg3.read_unread, harg4.read_unread, harg5.read_unread, View.readCov_eq_canon', hp', View.ld_unit_zero (S := S1x1024) hz]
  refine canon_two (m0 := 272) (m1 := 1024) _ _ ![272, 0] ![0, 0] _ _ _ (fun r l => by simp; omega) (fun r l r' c' hr hc' => ?_) (fun r l r' c' hr hc' => ?_)
  · obtain rfl : r' = down 272 (by decide) r := Fin.ext (by simpa using hr)
    obtain rfl : c' = l := Fin.ext (by simpa using hc')
    have hg' := half hg 272 (by decide) inb_S544x1024_S272x1024_272_0
    have hh' := half hh 272 (by decide) inb_S544x1024_S272x1024_272_0
    have hd' := half hd 272 (by decide) inb_S544x1024_S272x1024_272_0
    exact pay28_apply hg' hh' hd' hw r c'
  · obtain rfl : r' = down 0 (by decide) r := Fin.ext (by simpa using hr)
    obtain rfl : c' = l := Fin.ext (by simpa using hc')
    have hg' := half hg 0 (by decide) inb_S544x1024_S272x1024_0_0
    have hh' := half hh 0 (by decide) inb_S544x1024_S272x1024_0_0
    have hd' := half hd 0 (by decide) inb_S544x1024_S272x1024_0_0
    exact pay13_apply hg' hh' hd' hw r c'

theorem out_A_7 (hc : cond0_0 i) (hg : ∀ r l, x2 (ix2 r l) = ((g r l : ℝ) : EReal)) (hh : ∀ r l, x3 (ix2 r l) = ((h r l : ℝ) : EReal))
    (hd : ∀ r l, prod 1024 (by decide) x0 x1 (ix2 r l) = ((d r l : ℝ) : EReal)) (hw : ∀ l, x4 (ix2 0 l) = ((w l : ℝ) : EReal)) :
    out0_A_7 (F := Ideal) c i arg1 harg1 arg2 harg2 arg3 harg3 arg4 harg4 arg5 harg5 arg7 harg7 arg8 harg8 arg9 harg9 arg10 harg10 arg11 harg11 hc x0 x1 x2 x3 x4 = fun y => ((dG g h d w (y 0) (y 1) : ℝ) : EReal) := by
  unfold out0_A_7
  rw [View.read_writes_junk_eq_canon]
  unfold kernelRun0_A
  dsimp only
  sl_unfold_words
  have hp := (pieces Variants.none c none i arg1 harg1 arg2 harg2 arg3 harg3 arg4 harg4 arg5 harg5 (Memref.whole main_v4) (Memref.isWhole_whole _) arg7 harg7 arg8 harg8 arg9 harg9 arg10 harg10 arg11 harg11 x0 x1).2
  have hp' : View.canon (pb_k0_t1 (F := Ideal) Variants.none c none i arg1 harg1 arg2 harg2 arg3 harg3 arg4 harg4 arg5 harg5 (Memref.whole main_v4) (Memref.isWhole_whole _) arg7 harg7 arg8 harg8 arg9 harg9 arg10 harg10 arg11 harg11 (harg1.unread x0) (harg2.unread x1) (Scf.trips k0_t1_loop.lb k0_t1_loop.ub k0_t1_loop.st)).2 = _ := hp
  simp only [View.readAt_eq_ld, harg3.read_unread, harg4.read_unread, harg5.read_unread, View.readCov_eq_canon', hp', View.ld_unit_zero (S := S1x1024) hz]
  refine canon_two (m0 := 272) (m1 := 1024) _ _ ![272, 0] ![0, 0] _ _ _ (fun r l => by simp; omega) (fun r l r' c' hr hc' => ?_) (fun r l r' c' hr hc' => ?_)
  · obtain rfl : r' = down 272 (by decide) r := Fin.ext (by simpa using hr)
    obtain rfl : c' = l := Fin.ext (by simpa using hc')
    have hg' := half hg 272 (by decide) inb_S544x1024_S272x1024_272_0
    have hh' := half hh 272 (by decide) inb_S544x1024_S272x1024_272_0
    have hd' := half hd 272 (by decide) inb_S544x1024_S272x1024_272_0
    exact pay1_apply hg' hh' hd' hw r c'
  · obtain rfl : r' = down 0 (by decide) r := Fin.ext (by simpa using hr)
    obtain rfl : c' = l := Fin.ext (by simpa using hc')
    have hg' := half hg 0 (by decide) inb_S544x1024_S272x1024_0_0
    have hh' := half hh 0 (by decide) inb_S544x1024_S272x1024_0_0
    have hd' := half hd 0 (by decide) inb_S544x1024_S272x1024_0_0
    exact pay19_apply hg' hh' hd' hw r c'

theorem out_A_8 (hc : cond0_0 i) (hg : ∀ r l, x2 (ix2 r l) = ((g r l : ℝ) : EReal)) (hh : ∀ r l, x3 (ix2 r l) = ((h r l : ℝ) : EReal))
    (hd : ∀ r l, prod 1024 (by decide) x0 x1 (ix2 r l) = ((d r l : ℝ) : EReal)) (l : Fin 1024) :
    out0_A_8 (F := Ideal) c i arg1 harg1 arg2 harg2 arg3 harg3 arg4 harg4 arg5 harg5 arg7 harg7 arg8 harg8 arg9 harg9 arg10 harg10 arg11 harg11 hc x0 x1 x2 x3 x4 (ix2 0 l)
      = ((0 + (∑ r, dW g h d (down 0 (by decide) r) l) + (∑ r, dW g h d (down 272 (by decide) r) l) : ℝ) : EReal) := by
  unfold out0_A_8
  rw [View.read_writes_junk_eq_canon]
  unfold kernelRun0_A
  dsimp only
  sl_unfold_words
  have hp := (pieces Variants.none c none i arg1 harg1 arg2 harg2 arg3 harg3 arg4 harg4 arg5 harg5 (Memref.whole main_v4) (Memref.isWhole_whole _) arg7 harg7 arg8 harg8 arg9 harg9 arg10 harg10 arg11 harg11 x0 x1).2
  have hp' : View.canon (pb_k0_t1 (F := Ideal) Variants.none c none i arg1 harg1 arg2 harg2 arg3 harg3 arg4 harg4 arg5 harg5 (Memref.whole main_v4) (Memref.isWhole_whole _) arg7 harg7 arg8 harg8 arg9 harg9 arg10 harg10 arg11 harg11 (harg1.unread x0) (harg2.unread x1) (Scf.trips k0_t1_loop.lb k0_t1_loop.ub k0_t1_loop.st)).2 = _ := hp
  simp only [harg10.read_unread, View.readAt_eq_ld, harg3.read_unread, harg4.read_unread, harg5.read_unread, View.readCov_eq_canon', hp', View.ld_unit_zero (S := S1x1024) hz]
  rw [View.canon_cons_unit_zero (S := S1x1024) hz]
  have hg1 := half hg 0 (by decide) inb_S544x1024_S272x1024_0_0
  have hh1 := half hh 0 (by decide) inb_S544x1024_S272x1024_0_0
  have hd1 := half hd 0 (by decide) inb_S544x1024_S272x1024_0_0
  have hg2 := half hg 272 (by decide) inb_S544x1024_S272x1024_272_0
  have hh2 := half hh 272 (by decide) inb_S544x1024_S272x1024_272_0
  have hd2 := half hd 272 (by decide) inb_S544x1024_S272x1024_272_0
  refine (pay27_apply (a := fun l => 0 + ∑ r, dW g h d (down 0 (by decide) r) l) hg2 hh2 hd2 (fun l => ?_) l)
  refine (congrFun (View.ld_unit_zero (S := S1x1024) hz _ _) (ix2 0 l)).trans ((congrFun (View.canon_cons_unit_zero (S := S1x1024) hz _ _ _) _).trans ?_)
  refine (pay12_apply (a := fun _ => 0) hg1 hh1 hd1 (fun l => ?_) l)
  exact (congrFun (View.ld_unit_zero (S := S1x1024) hz _ _) (ix2 0 l)).trans ((congrFun (View.canon_cons_unit_zero (S := S1x1024) hz _ _ _) _).trans (pay2_apply l))

theorem out_B_5 (hc : ¬cond0_0 i) : out0_B_5 (F := Ideal) c i arg1 harg1 arg2 harg2 arg3 harg3 arg4 harg4 arg5 harg5 arg7 harg7 arg8 harg8 arg9 harg9 arg10 harg10 arg11 harg11 hc x0 x1 x2 x3 x4 x8 = prod 0 (by decide) x0 x1 := by
  unfold out0_B_5
  rw [View.read_writes_junk_eq_canon]
  unfold kernelRun0_B
  dsimp only
  exact (pieces Variants.none c none i arg1 harg1 arg2 harg2 arg3 harg3 arg4 harg4 arg5 harg5 (Memref.whole main_v4) (Memref.isWhole_whole _) arg7 harg7 arg8 harg8 arg9 harg9 arg10 harg10 arg11 harg11 x0 x1).1

theorem out_B_6 (hc : ¬cond0_0 i) (hg : ∀ r l, x2 (ix2 r l) = ((g r l : ℝ) : EReal)) (hh : ∀ r l, x3 (ix2 r l) = ((h r l : ℝ) : EReal))
    (hd : ∀ r l, prod 1024 (by decide) x0 x1 (ix2 r l) = ((d r l : ℝ) : EReal)) (hw : ∀ l, x4 (ix2 0 l) = ((w l : ℝ) : EReal)) :
    out0_B_6 (F := Ideal) c i arg1 harg1 arg2 harg2 arg3 harg3 arg4 harg4 arg5 harg5 arg7 harg7 arg8 harg8 arg9 harg9 arg10 harg10 arg11 harg11 hc x0 x1 x2 x3 x4 x8 = fun y => ((dH g h d w (y 0) (y 1) : ℝ) : EReal) := by
  unfold out0_B_6
  rw [View.read_writes_junk_eq_canon]
  unfold kernelRun0_B
  dsimp only
  sl_unfold_words
  have hp := (pieces Variants.none c none i arg1 harg1 arg2 harg2 arg3 harg3 arg4 harg4 arg5 harg5 (Memref.whole main_v4) (Memref.isWhole_whole _) arg7 harg7 arg8 harg8 arg9 harg9 arg10 harg10 arg11 harg11 x0 x1).2
  have hp' : View.canon (pb_k0_t1 (F := Ideal) Variants.none c none i arg1 harg1 arg2 harg2 arg3 harg3 arg4 harg4 arg5 harg5 (Memref.whole main_v4) (Memref.isWhole_whole _) arg7 harg7 arg8 harg8 arg9 harg9 arg10 harg10 arg11 harg11 (harg1.unread x0) (harg2.unread x1) (Scf.trips k0_t1_loop.lb k0_t1_loop.ub k0_t1_loop.st)).2 = _ := hp
  simp only [View.readAt_eq_ld, harg3.read_unread, harg4.read_unread, harg5.read_unread, View.readCov_eq_canon', hp', View.ld_unit_zero (S := S1x1024) hz]
  refine canon_two (m0 := 272) (m1 := 1024) _ _ ![272, 0] ![0, 0] _ _ _ (fun r l => by simp; omega) (fun r l r' c' hr hc' => ?_) (fun r l r' c' hr hc' => ?_)
  · obtain rfl : r' = down 272 (by decide) r := Fin.ext (by simpa using hr)
    obtain rfl : c' = l := Fin.ext (by simpa using hc')
    have hg' := half hg 272 (by decide) inb_S544x1024_S272x1024_272_0
    have hh' := half hh 272 (by decide) inb_S544x1024_S272x1024_272_0
    have hd' := half hd 272 (by decide) inb_S544x1024_S272x1024_272_0
    exact pay28_apply hg' hh' hd' hw r c'
  · obtain rfl : r' = down 0 (by decide) r := Fin.ext (by simpa using hr)
    obtain rfl : c' = l := Fin.ext (by simpa using hc')
    have hg' := half hg 0 (by decide) inb_S544x1024_S272x1024_0_0
    have hh' := half hh 0 (by decide) inb_S544x1024_S272x1024_0_0
    have hd' := half hd 0 (by decide) inb_S544x1024_S272x1024_0_0
    exact pay13_apply hg' hh' hd' hw r c'

theorem out_B_7 (hc : ¬cond0_0 i) (hg : ∀ r l, x2 (ix2 r l) = ((g r l : ℝ) : EReal)) (hh : ∀ r l, x3 (ix2 r l) = ((h r l : ℝ) : EReal))
    (hd : ∀ r l, prod 1024 (by decide) x0 x1 (ix2 r l) = ((d r l : ℝ) : EReal)) (hw : ∀ l, x4 (ix2 0 l) = ((w l : ℝ) : EReal)) :
    out0_B_7 (F := Ideal) c i arg1 harg1 arg2 harg2 arg3 harg3 arg4 harg4 arg5 harg5 arg7 harg7 arg8 harg8 arg9 harg9 arg10 harg10 arg11 harg11 hc x0 x1 x2 x3 x4 x8 = fun y => ((dG g h d w (y 0) (y 1) : ℝ) : EReal) := by
  unfold out0_B_7
  rw [View.read_writes_junk_eq_canon]
  unfold kernelRun0_B
  dsimp only
  sl_unfold_words
  have hp := (pieces Variants.none c none i arg1 harg1 arg2 harg2 arg3 harg3 arg4 harg4 arg5 harg5 (Memref.whole main_v4) (Memref.isWhole_whole _) arg7 harg7 arg8 harg8 arg9 harg9 arg10 harg10 arg11 harg11 x0 x1).2
  have hp' : View.canon (pb_k0_t1 (F := Ideal) Variants.none c none i arg1 harg1 arg2 harg2 arg3 harg3 arg4 harg4 arg5 harg5 (Memref.whole main_v4) (Memref.isWhole_whole _) arg7 harg7 arg8 harg8 arg9 harg9 arg10 harg10 arg11 harg11 (harg1.unread x0) (harg2.unread x1) (Scf.trips k0_t1_loop.lb k0_t1_loop.ub k0_t1_loop.st)).2 = _ := hp
  simp only [View.readAt_eq_ld, harg3.read_unread, harg4.read_unread, harg5.read_unread, View.readCov_eq_canon', hp', View.ld_unit_zero (S := S1x1024) hz]
  refine canon_two (m0 := 272) (m1 := 1024) _ _ ![272, 0] ![0, 0] _ _ _ (fun r l => by simp; omega) (fun r l r' c' hr hc' => ?_) (fun r l r' c' hr hc' => ?_)
  · obtain rfl : r' = down 272 (by decide) r := Fin.ext (by simpa using hr)
    obtain rfl : c' = l := Fin.ext (by simpa using hc')
    have hg' := half hg 272 (by decide) inb_S544x1024_S272x1024_272_0
    have hh' := half hh 272 (by decide) inb_S544x1024_S272x1024_272_0
    have hd' := half hd 272 (by decide) inb_S544x1024_S272x1024_272_0
    exact pay1_apply hg' hh' hd' hw r c'
  · obtain rfl : r' = down 0 (by decide) r := Fin.ext (by simpa using hr)
    obtain rfl : c' = l := Fin.ext (by simpa using hc')
    have hg' := half hg 0 (by decide) inb_S544x1024_S272x1024_0_0
    have hh' := half hh 0 (by decide) inb_S544x1024_S272x1024_0_0
    have hd' := half hd 0 (by decide) inb_S544x1024_S272x1024_0_0
    exact pay19_apply hg' hh' hd' hw r c'

theorem out_B_8 (hc : ¬cond0_0 i) (hg : ∀ r l, x2 (ix2 r l) = ((g r l : ℝ) : EReal)) (hh : ∀ r l, x3 (ix2 r l) = ((h r l : ℝ) : EReal))
    (hd : ∀ r l, prod 1024 (by decide) x0 x1 (ix2 r l) = ((d r l : ℝ) : EReal)) {a : Fin 1024 → ℝ} (ha : ∀ l, x8 (ix2 0 l) = ((a l : ℝ) : EReal)) (l : Fin 1024) :
    out0_B_8 (F := Ideal) c i arg1 harg1 arg2 harg2 arg3 harg3 arg4 harg4 arg5 harg5 arg7 harg7 arg8 harg8 arg9 harg9 arg10 harg10 arg11 harg11 hc x0 x1 x2 x3 x4 x8 (ix2 0 l)
      = ((a l + (∑ r, dW g h d (down 0 (by decide) r) l) + (∑ r, dW g h d (down 272 (by decide) r) l) : ℝ) : EReal) := by
  unfold out0_B_8
  rw [View.read_writes_junk_eq_canon]
  unfold kernelRun0_B
  dsimp only
  sl_unfold_words
  have hp := (pieces Variants.none c none i arg1 harg1 arg2 harg2 arg3 harg3 arg4 harg4 arg5 harg5 (Memref.whole main_v4) (Memref.isWhole_whole _) arg7 harg7 arg8 harg8 arg9 harg9 arg10 harg10 arg11 harg11 x0 x1).2
  have hp' : View.canon (pb_k0_t1 (F := Ideal) Variants.none c none i arg1 harg1 arg2 harg2 arg3 harg3 arg4 harg4 arg5 harg5 (Memref.whole main_v4) (Memref.isWhole_whole _) arg7 harg7 arg8 harg8 arg9 harg9 arg10 harg10 arg11 harg11 (harg1.unread x0) (harg2.unread x1) (Scf.trips k0_t1_loop.lb k0_t1_loop.ub k0_t1_loop.st)).2 = _ := hp
  simp only [harg10.read_unread, View.readAt_eq_ld, harg3.read_unread, harg4.read_unread, harg5.read_unread, View.readCov_eq_canon', hp', View.ld_unit_zero (S := S1x1024) hz]
  rw [View.canon_cons_unit_zero (S := S1x1024) hz]
  have hg1 := half hg 0 (by decide) inb_S544x1024_S272x1024_0_0
  have hh1 := half hh 0 (by decide) inb_S544x1024_S272x1024_0_0
  have hd1 := half hd 0 (by decide) inb_S544x1024_S272x1024_0_0
  have hg2 := half hg 272 (by decide) inb_S544x1024_S272x1024_272_0
  have hh2 := half hh 272 (by decide) inb_S544x1024_S272x1024_272_0
  have hd2 := half hd 272 (by decide) inb_S544x1024_S272x1024_272_0
  refine (pay27_apply (a := fun l => a l + ∑ r, dW g h d (down 0 (by decide) r) l) hg2 hh2 hd2 (fun l => ?_) l)
  refine (congrFun (View.ld_unit_zero (S := S1x1024) hz _ _) (ix2 0 l)).trans ((congrFun (View.canon_cons_unit_zero (S := S1x1024) hz _ _ _) _).trans ?_)
  refine (pay12_apply (a := a) hg1 hh1 hd1 (fun l => ?_) l)
  exact ha l

end Cert.KernelIdeal.OutPoint
end
-- ==== Proof.OutArray.lean ====
/- What the four result arrays hold after the run, at an entry, over finite arguments. -/
module

public import proofs.«01_k».proof.Proof.OutPoint
public import Idealize.ShloMosaic.Lib.StableHlo.ReadAt
public import Idealize.ShloMosaic.Lib.Pipeline.ValueKit.Point
public import Idealize.ShloMosaic.Lib.Pipeline.ValueKit.Geometry

@[expose] public section

set_option maxRecDepth 16384

noncomputable section

namespace Cert.KernelIdeal.OutArray

open Idealize.ShloMosaic Idealize.ShloMosaic.TcCoe Idealize.SL.Sem
open Cert.KernelIdeal Cert.KernelIdeal.Gen Cert.KernelIdeal.Value Cert.OutReal Cert.KernelIdeal.OutHalf Cert.KernelIdeal.OutBlock Cert.KernelIdeal.OutPoint

variable (m : (ℓ : Loc nD τ sig) → Buf (Elt Ideal) ℓ) (ρ : Dev nD → PrngReg) (c : Dev nD)

/-! ## The windows' arrays as the region finds them -/

theorem V5 (r : Fin 2176) (k : Fin 1024) : (V m c main_v5 : Vec Ideal S2176x1024 .bf16) (ix2 r k) = (m ((c : Thread nD τ).loc main_arg0) : Vec Ideal S2176x1024 .f32) (ix2 r k) := by
  unfold V
  after_reads_at

theorem V6 (r : Fin 2048) (k : Fin 1024) : (V m c main_v6 : Vec Ideal S2048x1024 .bf16) (ix2 r k) = (m ((c : Thread nD τ).loc main_arg1) : Vec Ideal S2048x1024 .f32) (ix2 r k) := by
  unfold V
  after_reads_at

theorem V3 (r : Fin 2176) (l : Fin 1024) : (V m c main_v3 : Vec Ideal S2176x4608 .bf16) (ix2 r ⟨1024 + l.val, by omega⟩) = (m ((c : Thread nD τ).loc main_arg2) : Vec Ideal S2176x1024 .f32) (ix2 r l) := by
  unfold V
  after_reads_at
  exact congrFun (StableHlo.upto_unwritten [main_cst, main_v0, main_cst_0, main_v1] rfl (by decide) _) _

theorem V7 (l : Fin 1024) : (V m c main_v7 : Vec Ideal S1x1024 .f32) (ix2 0 l) = (m ((c : Thread nD τ).loc main_arg4) : Vec Ideal S1024 .f32) (ix1 l) := by
  unfold V
  after_reads_at

/-! ## Finite arguments, and the blocks of a point -/

/-- Row `r` of point `t`'s block. -/
def row (t : Fin cfg0.N) (r : Fin 544) : Fin 2176 := ⟨t.val * 544 + r.val, by
  have h := t.isLt
  have e : cfg0.N = 4 := by decide
  omega⟩

/-- A point's block of rows. -/
def blk (X : Fin 2176 → Fin 1024 → ℝ) (t : Fin cfg0.N) : Fin 544 → Fin 1024 → ℝ := fun r l => X (row t r) l

/-- The product with the rows of the weight that the first half, the second half of the mixer's output met. -/
def lo (A : Fin 2176 → Fin 1024 → ℝ) (W : Fin 2048 → Fin 1024 → ℝ) (r : Fin 2176) (l : Fin 1024) : ℝ := ∑ k, A r k * W ⟨l.val, by omega⟩ k
def up (A : Fin 2176 → Fin 1024 → ℝ) (W : Fin 2048 → Fin 1024 → ℝ) (r : Fin 2176) (l : Fin 1024) : ℝ := ∑ k, A r k * W ⟨1024 + l.val, by omega⟩ k

theorem idx : ∀ t : Fin cfg0.N, win0_0.index t = ![t.val, 0] ∧ win0_1.index t = ![0, 0] ∧ win0_2.index t = ![t.val, 1] ∧ win0_3.index t = ![t.val, 0]
    ∧ win0_4.index t = ![0, 0] ∧ win0_5.index t = ![t.val, 0] ∧ win0_6.index t = ![t.val, 0] ∧ win0_7.index t = ![t.val, 0] ∧ win0_8.index t = ![0, 0] :=
  (by decide +kernel : ∀ t : Fin grid0.N, _)

variable {A G H : Fin 2176 → Fin 1024 → ℝ} {W : Fin 2048 → Fin 1024 → ℝ} {N : Fin 1024 → ℝ}
variable (h0 : ∀ r k, (m ((c : Thread nD τ).loc main_arg0) : Vec Ideal S2176x1024 .f32) (ix2 r k) = ((A r k : ℝ) : EReal))
  (h1 : ∀ r k, (m ((c : Thread nD τ).loc main_arg1) : Vec Ideal S2048x1024 .f32) (ix2 r k) = ((W r k : ℝ) : EReal))
  (h2 : ∀ r k, (m ((c : Thread nD τ).loc main_arg2) : Vec Ideal S2176x1024 .f32) (ix2 r k) = ((G r k : ℝ) : EReal))
  (h3 : ∀ r k, (m ((c : Thread nD τ).loc main_arg3) : Vec Ideal S2176x1024 .f32) (ix2 r k) = ((H r k : ℝ) : EReal))
  (h4 : ∀ k, (m ((c : Thread nD τ).loc main_arg4) : Vec Ideal S1024 .f32) (ix1 k) = ((N k : ℝ) : EReal))

include h0 in
theorem x0_eq (t : Fin cfg0.N) (r : Fin 544) (k : Fin 1024) : (iblk m c 0 t : Vec Ideal S544x1024 .bf16) (ix2 r k) = ((blk A t r k : ℝ) : EReal) := by
  unfold blk
  refine Eq.trans ?_ ((V5 m c _ _).trans (h0 _ _))
  have e := idx t
  blk_ext [iblk, e, row]

include h1 in
theorem x1_eq (t : Fin cfg0.N) (r : Fin 2048) (k : Fin 1024) : (iblk m c 1 t : Vec Ideal S2048x1024 .bf16) (ix2 r k) = ((W r k : ℝ) : EReal) := by
  refine Eq.trans ?_ ((V6 m c _ _).trans (h1 _ _))
  have e := idx t
  blk_ext [iblk, e, row]

include h2 in
theorem x2_eq (t : Fin cfg0.N) (r : Fin 544) (k : Fin 1024) : (X0_2 m c t : Vec Ideal S544x1024 .bf16) (ix2 r k) = ((blk G t r k : ℝ) : EReal) := by
  unfold blk
  refine Eq.trans ?_ ((V3 m c _ _).trans (h2 _ _))
  have e := idx t
  unfold X0_2 Pipeline.Window.fill
  rw [dif_pos (moved0_2 t _)]
  blk_ext [iblk, e, row]

include h3 in
theorem x3_eq (t : Fin cfg0.N) (r : Fin 544) (k : Fin 1024) : (iblk m c 3 t : Vec Ideal S544x1024 .f32) (ix2 r k) = ((blk H t r k : ℝ) : EReal) := by
  unfold blk
  refine Eq.trans ?_ ((congrFun (V_main_arg3 m c) (ix2 _ _)).trans (h3 _ _))
  have e := idx t
  blk_ext [iblk, e, row]

include h4 in
theorem x4_eq (t : Fin cfg0.N) (k : Fin 1024) : (iblk m c 4 t : Vec Ideal S1x1024 .f32) (ix2 0 k) = ((N k : ℝ) : EReal) := by
  refine Eq.trans ?_ ((V7 m c _).trans (h4 _))
  have e := idx t
  blk_ext [iblk, e, row]

include h0 h1 in
theorem xq_eq (t : Fin cfg0.N) (r : Fin 544) (l : Fin 1024) : prod 0 (by decide) (iblk m c 0 t) (iblk m c 1 t) (ix2 r l) = ((blk (lo A W) t r l : ℝ) : EReal) := by
  unfold prod
  simp only [blk, lo, ← coe_sum, EReal.coe_mul]
  exact Finset.sum_congr rfl fun k _ => congrArg₂ _ (x0_eq m c h0 t r k) ((x1_eq m c h1 t _ k).trans (rfl))

include h0 h1 in
theorem xp_eq (t : Fin cfg0.N) (r : Fin 544) (l : Fin 1024) : prod 1024 (by decide) (iblk m c 0 t) (iblk m c 1 t) (ix2 r l) = ((blk (up A W) t r l : ℝ) : EReal) := by
  unfold prod
  simp only [blk, up, ← coe_sum, EReal.coe_mul]
  exact Finset.sum_congr rfl fun k _ => congrArg₂ _ (x0_eq m c h0 t r k) ((x1_eq m c h1 t _ k).trans (congrArg (fun i => ((W i k : ℝ) : EReal)) (Fin.ext (Nat.add_comm _ _))))

include h0 h1 in
theorem outs5 (t : Fin cfg0.N) : (outsAt0 m c t.val t.isLt).1 = fun y => ((blk (lo A W) t (y 0) (y 1) : ℝ) : EReal) := by
  have e : prod 0 (by decide) (iblk m c 0 t) (iblk m c 1 t) = fun y => ((blk (lo A W) t (y 0) (y 1) : ℝ) : EReal) := by
    funext y
    exact (congrArg _ (eq_ix2 y)).trans (xq_eq m c h0 h1 t (y 0) (y 1))
  by_cases hc : t.val % 4 = 0
  · simp only [outsAt0_A m c t hc]
    exact (out_A_5 _ _ _ _ _ _ _ _ _ _ _ _ _ _ _ _ _ _ _ _ _ _ _ _ _ _ _ _).trans e
  · simp only [outsAt0_B m c t hc]
    exact (out_B_5 _ _ _ _ _ _ _ _ _ _ _ _ _ _ _ _ _ _ _ _ _ _ _ _ _ _ _ _ _).trans e

include h0 h1 in
theorem final5 : (dats m 0 c).arrAt 5 cfg0.N = fun y => ((lo A W (y 0) (y 1) : ℝ) : EReal) := by
  refine (dats m 0 c).arrAt_eq_of_covers 5 _ (by decide +kernel) fun t hf y => ?_
  blk_simp
  rw [after0_5, outs5 m c h0 h1 t]
  have e := idx t
  have e0 : (row t (y 0) : Fin 2176) = (win0_5.blk t).view.emb y 0 := Fin.ext (by blk_simp [e, row])
  have e1 : (y 1 : Fin 1024) = (win0_5.blk t).view.emb y 1 := Fin.ext (by blk_simp [e])
  exact congrArg₂ (fun (r : Fin 2176) (l : Fin 1024) => ((lo A W r l : ℝ) : EReal)) e0 e1

include h0 h1 h2 h3 h4 in
theorem outs6 (t : Fin cfg0.N) :
    (outsAt0 m c t.val t.isLt).2.1 = fun y => ((dH (blk G t) (blk H t) (blk (up A W) t) N (y 0) (y 1) : ℝ) : EReal) := by
  by_cases hc : t.val % 4 = 0
  · simp only [outsAt0_A m c t hc]
    exact out_A_6 _ _ _ _ _ _ _ _ _ _ _ _ _ _ _ _ _ _ _ _ _ _ _ _ _ _ _ _ (x2_eq m c h2 t) (x3_eq m c h3 t) (xp_eq m c h0 h1 t) (x4_eq m c h4 t)
  · simp only [outsAt0_B m c t hc]
    exact out_B_6 _ _ _ _ _ _ _ _ _ _ _ _ _ _ _ _ _ _ _ _ _ _ _ _ _ _ _ _ _ (x2_eq m c h2 t) (x3_eq m c h3 t) (xp_eq m c h0 h1 t) (x4_eq m c h4 t)

include h0 h1 h2 h3 h4 in
theorem final6 : (dats m 0 c).arrAt 6 cfg0.N = fun y => ((dH G H (up A W) N (y 0) (y 1) : ℝ) : EReal) := by
  refine (dats m 0 c).arrAt_eq_of_covers 6 _ (by decide +kernel) fun t hf y => ?_
  blk_simp
  rw [after0_6, outs6 m c h0 h1 h2 h3 h4 t]
  have e := idx t
  have e0 : (row t (y 0) : Fin 2176) = (win0_6.blk t).view.emb y 0 := Fin.ext (by blk_simp [e, row])
  have e1 : (y 1 : Fin 1024) = (win0_6.blk t).view.emb y 1 := Fin.ext (by blk_simp [e])
  exact congrArg₂ (fun (r : Fin 2176) (l : Fin 1024) => ((dH G H (up A W) N r l : ℝ) : EReal)) e0 e1

include h0 h1 h2 h3 h4 in
theorem outs7 (t : Fin cfg0.N) :
    (outsAt0 m c t.val t.isLt).2.2.1 = fun y => ((dG (blk G t) (blk H t) (blk (up A W) t) N (y 0) (y 1) : ℝ) : EReal) := by
  by_cases hc : t.val % 4 = 0
  · simp only [outsAt0_A m c t hc]
    exact out_A_7 _ _ _ _ _ _ _ _ _ _ _ _ _ _ _ _ _ _ _ _ _ _ _ _ _ _ _ _ (x2_eq m c h2 t) (x3_eq m c h3 t) (xp_eq m c h0 h1 t) (x4_eq m c h4 t)
  · simp only [outsAt0_B m c t hc]
    exact out_B_7 _ _ _ _ _ _ _ _ _ _ _ _ _ _ _ _ _ _ _ _ _ _ _ _ _ _ _ _ _ (x2_eq m c h2 t) (x3_eq m c h3 t) (xp_eq m c h0 h1 t) (x4_eq m c h4 t)

include h0 h1 h2 h3 h4 in
theorem final7 : (dats m 0 c).arrAt 7 cfg0.N = fun y => ((dG G H (up A W) N (y 0) (y 1) : ℝ) : EReal) := by
  refine (dats m 0 c).arrAt_eq_of_covers 7 _ (by decide +kernel) fun t hf y => ?_
  blk_simp
  rw [after0_7, outs7 m c h0 h1 h2 h3 h4 t]
  have e := idx t
  have e0 : (row t (y 0) : Fin 2176) = (win0_7.blk t).view.emb y 0 := Fin.ext (by blk_simp [e, row])
  have e1 : (y 1 : Fin 1024) = (win0_7.blk t).view.emb y 1 := Fin.ext (by blk_simp [e])
  exact congrArg₂ (fun (r : Fin 2176) (l : Fin 1024) => ((dG G H (up A W) N r l : ℝ) : EReal)) e0 e1

/-! ## The scale's gradient: a sum over all rows, built up point after point -/

/-- Row `n`'s part of the scale's gradient, zero past the last row. -/
def term (G H D : Fin 2176 → Fin 1024 → ℝ) (l : Fin 1024) (n : ℕ) : ℝ := if h : n < 2176 then dW G H D ⟨n, h⟩ l else 0

theorem half_sum (G H D : Fin 2176 → Fin 1024 → ℝ) (l : Fin 1024) (t : Fin cfg0.N) (o : ℕ) (ho : o + 272 ≤ 544) :
    (∑ r, dW (blk G t) (blk H t) (blk D t) (down o ho r) l) = ∑ x ∈ Finset.range 272, term G H D l (t.val * 544 + o + x) := by
  rw [Finset.sum_range]
  refine Finset.sum_congr rfl fun r _ => ?_
  have hr : t.val * 544 + o + r.val < 2176 := by
    have h := (row t (down o ho r)).isLt
    simp only [row, down] at h
    omega
  unfold term
  rw [dif_pos hr]
  exact congrArg (fun q : Fin 2176 => dW G H D q l) (Fin.ext (by simp only [row, down]; omega))

theorem two_halves (f : ℕ → ℝ) (n : ℕ) :
    (∑ x ∈ Finset.range (n * 544), f x) + (∑ x ∈ Finset.range 272, f (n * 544 + 0 + x)) + (∑ x ∈ Finset.range 272, f (n * 544 + 272 + x))
      = ∑ x ∈ Finset.range ((n + 1) * 544), f x := by
  rw [show (n + 1) * 544 = n * 544 + 272 + 272 by ring, Finset.sum_range_add, Finset.sum_range_add]
  simp

include h0 h1 h2 h3 in
theorem step_A (t : Fin cfg0.N) (hc : t.val % 4 = 0) (l : Fin 1024) :
    (outsAt0 m c t.val t.isLt).2.2.2 (ix2 0 l) = ((0 + (∑ r, dW (blk G t) (blk H t) (blk (up A W) t) (down 0 (by decide) r) l)
      + (∑ r, dW (blk G t) (blk H t) (blk (up A W) t) (down 272 (by decide) r) l) : ℝ) : EReal) := by
  simp only [outsAt0_A m c t hc]
  exact out_A_8 _ _ _ _ _ _ _ _ _ _ _ _ _ _ _ _ _ _ _ _ _ _ _ _ _ _ _ _ (x2_eq m c h2 t) (x3_eq m c h3 t) (xp_eq m c h0 h1 t) l

include h0 h1 h2 h3 in
theorem step_B (t : Fin cfg0.N) (hc : ¬t.val % 4 = 0) {a : Fin 1024 → ℝ} (ha : ∀ l, (outsAt0 m c (t.val - 1) (Nat.lt_of_le_of_lt (Nat.sub_le _ _) t.isLt)).2.2.2 (ix2 0 l) = ((a l : ℝ) : EReal))
    (l : Fin 1024) :
    (outsAt0 m c t.val t.isLt).2.2.2 (ix2 0 l) = ((a l + (∑ r, dW (blk G t) (blk H t) (blk (up A W) t) (down 0 (by decide) r) l)
      + (∑ r, dW (blk G t) (blk H t) (blk (up A W) t) (down 272 (by decide) r) l) : ℝ) : EReal) := by
  simp only [outsAt0_B m c t hc]
  exact out_B_8 _ _ _ _ _ _ _ _ _ _ _ _ _ _ _ _ _ _ _ _ _ _ _ _ _ _ _ _ _ (x2_eq m c h2 t) (x3_eq m c h3 t) (xp_eq m c h0 h1 t) ha l

include h0 h1 h2 h3 in
theorem outs8 (n : ℕ) : ∀ (hn : n < cfg0.N) (l : Fin 1024),
    (outsAt0 m c n hn).2.2.2 (ix2 0 l) = ((∑ x ∈ Finset.range ((n + 1) * 544), term G H (up A W) l x : ℝ) : EReal) := by
  induction n with
  | zero =>
    intro hn l
    refine (step_A m c h0 h1 h2 h3 ⟨0, hn⟩ rfl l).trans ?_
    rw [half_sum, half_sum, ← two_halves]
    simp
  | succ n ih =>
    intro hn l
    have hlt : n + 1 < 4 := hn
    have hn' : n < cfg0.N := Nat.lt_of_succ_lt hn
    refine (step_B m c h0 h1 h2 h3 ⟨n + 1, hn⟩ (by show ¬ (n + 1) % 4 = 0; omega) (a := fun l => ∑ x ∈ Finset.range ((n + 1) * 544), term G H (up A W) l x) (ih hn') l).trans ?_
    rw [half_sum, half_sum, ← two_halves _ (n + 1)]

include h0 h1 h2 h3 in
theorem final8 : (dats m 0 c).arrAt 8 cfg0.N = fun y => ((∑ r, dW G H (up A W) r (y 1) : ℝ) : EReal) := by
  have he : ∀ l, (∑ r, dW G H (up A W) r l) = ∑ x ∈ Finset.range ((3 + 1) * 544), term G H (up A W) l x := by
    intro l
    rw [Finset.sum_range]
    refine Finset.sum_congr rfl fun r _ => ?_
    unfold term
    rw [dif_pos r.isLt]
  refine (dats m 0 c).arrAt_eq_of_after_last 8 t0_3 (by decide +kernel) _ fun j => ?_
  rw [after0_8]
  blk_simp
  obtain ⟨r, l, rfl⟩ : ∃ (r : Fin 1) (l : Fin 1024), j = ix2 r l := ⟨j 0, j 1, eq_ix2 j⟩
  obtain rfl : r = 0 := Subsingleton.elim _ _
  refine (outs8 m c h0 h1 h2 h3 3 (by decide) l).trans ?_
  exact congrArg (fun q : ℝ => (q : EReal)) (he l).symm

end Cert.KernelIdeal.OutArray
end
-- ==== Proof.OutRef.lean ====
/- What the reference's four results hold, at an entry, over finite arguments. -/
module

public import proofs.«01_k».proof.Proof.OutArray
public import proofs.«01_k».proof.Proof.Gen.ReferenceIdeal.Frame

@[expose] public section

set_option maxRecDepth 16384

noncomputable section

namespace Cert.ReferenceIdeal.OutRef

open Idealize.ShloMosaic Idealize.ShloMosaic.TcCoe Idealize.SL.Sem
open Cert.ReferenceIdeal Cert.ReferenceIdeal.Gen Cert.OutReal
open Cert.KernelIdeal.OutHalf (lit_half lit_g0 lit_eps lit_1024 div_real rsqrt_real coe_sum one_real)
open Cert.KernelIdeal.OutPoint (yrow dH dG dW)
open Cert.KernelIdeal.OutArray (lo up)

theorem lit_three : Ideal.ofBits .f32 0x40400000#32 = ((3 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem named_c : (Named.named κ "gelu_c" 0x3D372713#32 : Ideal .f32) = ((cubic : ℝ) : EReal) := by
  show (κ "gelu_c").getD _ = _
  simp [κ, cubic]

variable {x0 x2 x3 : Vec Ideal S2176x1024 .f32} {x1 : Vec Ideal S2048x1024 .f32} {x4 : Vec Ideal S1x1024 .f32}
variable {A G H : Fin 2176 → Fin 1024 → ℝ} {W : Fin 2048 → Fin 1024 → ℝ} {N : Fin 1024 → ℝ}
variable (h0 : ∀ r k, x0 (ix2 r k) = ((A r k : ℝ) : EReal)) (h1 : ∀ r k, x1 (ix2 r k) = ((W r k : ℝ) : EReal)) (h2 : ∀ r k, x2 (ix2 r k) = ((G r k : ℝ) : EReal))
  (h3 : ∀ r k, x3 (ix2 r k) = ((H r k : ℝ) : EReal)) (h4 : ∀ k, x4 (ix2 0 k) = ((N k : ℝ) : EReal))

theorem gelu_eq (x : ℝ) : x * (1 / 2 * (1 + th x)) = gelu x := by unfold gelu; ring

include h4 in
theorem pay1_apply (l : Fin 1024) : k0_pay1 x4 (ix2 0 l) = ((N l : ℝ) : EReal) := by
  pointwise [k0_pay1]
  simp only [h4, one_real, lit_half, lit_g0, lit_eps, lit_1024, lit_three, lit_neg_half, named_c, ← EReal.coe_mul, ← EReal.coe_add, ← EReal.coe_sub, Ideal.tanh_coe, coe_sum]

include h2 in
theorem pay2_apply (r : Fin 2176) (l : Fin 1024) : k0_pay2 x2 (ix2 r l) = ((3 * (G r l * G r l) : ℝ) : EReal) := by
  pointwise [k0_pay2]
  simp only [h2, one_real, lit_half, lit_g0, lit_eps, lit_1024, lit_three, lit_neg_half, named_c, ← EReal.coe_mul, ← EReal.coe_add, ← EReal.coe_sub, Ideal.tanh_coe, coe_sum]

include h2 in
theorem pay3_apply (r : Fin 2176) (l : Fin 1024) : k0_pay3 x2 (ix2 r l) = ((th (G r l) : ℝ) : EReal) := by
  pointwise [k0_pay3]
  simp only [h2, one_real, lit_half, lit_g0, lit_eps, lit_1024, lit_three, lit_neg_half, named_c, ← EReal.coe_mul, ← EReal.coe_add, ← EReal.coe_sub, Ideal.tanh_coe, coe_sum]
  unfold th; congr 3; ring

include h2 in
theorem pay4_apply (r : Fin 2176) (l : Fin 1024) : k0_pay4 x2 (ix2 r l) = (((1 + th (G r l)) * (1 - th (G r l)) : ℝ) : EReal) := by
  pointwise [k0_pay4]
  simp only [pay3_apply h2, one_real, lit_half, lit_g0, lit_eps, lit_1024, lit_three, lit_neg_half, named_c, ← EReal.coe_mul, ← EReal.coe_add, ← EReal.coe_sub, Ideal.tanh_coe, coe_sum]

include h2 in
theorem pay5_apply (r : Fin 2176) (l : Fin 1024) : k0_pay5 x2 (ix2 r l) = ((1 / 2 * (1 + th (G r l)) : ℝ) : EReal) := by
  pointwise [k0_pay5]
  simp only [pay3_apply h2, one_real, lit_half, lit_g0, lit_eps, lit_1024, lit_three, lit_neg_half, named_c, ← EReal.coe_mul, ← EReal.coe_add, ← EReal.coe_sub, Ideal.tanh_coe, coe_sum]

include h2 in
theorem pay6_apply (r : Fin 2176) (l : Fin 1024) : k0_pay6 x2 (ix2 r l) = ((gelu (G r l) : ℝ) : EReal) := by
  pointwise [k0_pay6]
  simp only [h2, pay5_apply h2, gelu_eq, one_real, lit_half, lit_g0, lit_eps, lit_1024, lit_three, lit_neg_half, named_c, ← EReal.coe_mul, ← EReal.coe_add, ← EReal.coe_sub, Ideal.tanh_coe, coe_sum]

include h2 h3 in
theorem pay7_apply (r : Fin 2176) (l : Fin 1024) : k0_pay7 x3 x2 (ix2 r l) = ((yrow G H r l : ℝ) : EReal) := by
  pointwise [k0_pay7]
  simp only [h3, pay6_apply h2, one_real, lit_half, lit_g0, lit_eps, lit_1024, lit_three, lit_neg_half, named_c, ← EReal.coe_mul, ← EReal.coe_add, ← EReal.coe_sub, Ideal.tanh_coe, coe_sum]
  rfl

include h2 h3 in
theorem pay8_apply (r : Fin 2176) : k0_pay8 x3 x2 (ix2 r 0) = ((ms (yrow G H r) : ℝ) : EReal) := by
  pointwise [k0_pay8]
  simp only [pay7_apply h2 h3, one_real, lit_half, lit_g0, lit_eps, lit_1024, lit_three, lit_neg_half, named_c, ← EReal.coe_mul, ← EReal.coe_add, ← EReal.coe_sub, Ideal.tanh_coe, coe_sum]
  rw [div_real _ _ (by norm_num)]
  simp only [← EReal.coe_add]
  rfl

include h2 h3 in
theorem pay9_apply (r : Fin 2176) : k0_pay9 x3 x2 (ix2 r 0) = ((rr (yrow G H r) : ℝ) : EReal) := by
  pointwise [k0_pay9]
  rw [pay8_apply h2 h3, rsqrt_real _ (ms_pos _)]
  rfl

include h2 h3 in
theorem pay10_apply (r : Fin 2176) : k0_pay10 x3 x2 (ix2 r 0) = ((-(1 / 2) * (rr (yrow G H r) / ms (yrow G H r)) : ℝ) : EReal) := by
  pointwise [k0_pay10]
  rw [pay9_apply h2 h3, pay8_apply h2 h3, div_real _ _ (ms_pos _).ne', lit_neg_half, ← EReal.coe_mul]

include h2 h3 in
theorem pay11_apply (r : Fin 2176) (l : Fin 1024) : k0_pay11 x3 x2 (ix2 r l) = ((yrow G H r l * rr (yrow G H r) : ℝ) : EReal) := by
  pointwise [k0_pay11]
  rw [pay7_apply h2 h3, pay9_apply h2 h3, ← EReal.coe_mul]

include h0 h1 in
theorem pay13_apply (r : Fin 2176) (l : Fin 1024) : k0_pay13 x1 x0 (ix2 r l) = ((lo A W r l : ℝ) : EReal) := by
  pointwise [k0_pay13, k0_pay12]
  simp only [h0, h1, one_real, lit_half, lit_g0, lit_eps, lit_1024, lit_three, lit_neg_half, named_c, ← EReal.coe_mul, ← EReal.coe_add, ← EReal.coe_sub, Ideal.tanh_coe, coe_sum]
  try rfl

include h0 h1 in
theorem pay14_apply (r : Fin 2176) (l : Fin 1024) : k0_pay14 x1 x0 (ix2 r l) = ((up A W r l : ℝ) : EReal) := by
  pointwise [k0_pay14, k0_pay12]
  simp only [h0, h1, one_real, lit_half, lit_g0, lit_eps, lit_1024, lit_three, lit_neg_half, named_c, ← EReal.coe_mul, ← EReal.coe_add, ← EReal.coe_sub, Ideal.tanh_coe, coe_sum]
  try rfl

include h0 h1 h2 h3 in
theorem pay15_apply (l : Fin 1024) : k0_pay15 x1 (k0_pay11 x3 x2) x0 (ix2 0 l) = ((∑ r, dW G H (up A W) r l : ℝ) : EReal) := by
  pointwise [k0_pay15]
  simp only [pay11_apply h2 h3, pay14_apply h0 h1, one_real, lit_half, lit_g0, lit_eps, lit_1024, lit_three, lit_neg_half, named_c, ← EReal.coe_mul, ← EReal.coe_add, ← EReal.coe_sub, Ideal.tanh_coe, coe_sum]
  congr 1
  exact Finset.sum_congr rfl fun r _ => mul_comm _ _

/-- The derivative of a row's norm as the chain rule writes it is the usual closed form. -/
theorem norm_eq (y d w : Fin 1024 → ℝ) (l : Fin 1024) :
    d l * w l * rr y + y l * ((∑ k, y k * (d k * w k)) * (-(1 / 2) * (rr y / ms y)) / 1024) + (∑ k, y k * (d k * w k)) * (-(1 / 2) * (rr y / ms y)) / 1024 * y l
      = normGrad y d w l := by
  have hr : rr y * rr y = (ms y)⁻¹ := by
    unfold rr
    rw [← mul_inv, Real.mul_self_sqrt (ms_pos y).le]
  have hs : (∑ k, d k * w k * (y k * rr y)) = (∑ k, y k * (d k * w k)) * rr y := by
    rw [Finset.sum_mul]
    exact Finset.sum_congr rfl fun k _ => by ring
  unfold normGrad
  rw [hs, div_eq_mul_inv (rr y), ← hr]
  ring

include h0 h1 h2 h3 h4 in
theorem pay16_apply (r : Fin 2176) (l : Fin 1024) :
    k0_pay16 x1 (k0_pay1 x4) (k0_pay7 x3 x2) (k0_pay9 x3 x2) (k0_pay10 x3 x2) x0 (ix2 r l) = ((normGrad (yrow G H r) (up A W r) N l : ℝ) : EReal) := by
  pointwise [k0_pay16]
  simp only [pay1_apply h4, pay7_apply h2 h3, pay9_apply h2 h3, pay10_apply h2 h3, pay14_apply h0 h1, Fin.sum_univ_one, one_real, lit_half, lit_g0, lit_eps, lit_1024, lit_three, lit_neg_half, named_c, ← EReal.coe_mul, ← EReal.coe_add, ← EReal.coe_sub, Ideal.tanh_coe, coe_sum]
  rw [div_real _ _ (by norm_num)]
  simp only [← EReal.coe_add, ← EReal.coe_mul]
  rw [norm_eq]

include h0 h1 h2 h3 h4 in
theorem pay17_apply (r : Fin 2176) (l : Fin 1024) :
    k0_pay17 x1 (k0_pay1 x4) (k0_pay6 x2) (k0_pay7 x3 x2) (k0_pay9 x3 x2) (k0_pay10 x3 x2) x0 (ix2 r l) = ((dH G H (up A W) N r l : ℝ) : EReal) := by
  pointwise [k0_pay17]
  rw [pay16_apply h0 h1 h2 h3 h4, pay6_apply h2, ← EReal.coe_mul, mul_comm]
  rfl

include h0 h1 h2 h3 h4 in
theorem pay18_apply (r : Fin 2176) (l : Fin 1024) :
    k0_pay18 x1 x3 x2 (k0_pay1 x4) (k0_pay2 x2) (k0_pay4 x2) (k0_pay5 x2) (k0_pay7 x3 x2) (k0_pay9 x3 x2) (k0_pay10 x3 x2) x0 (ix2 r l) = ((dG G H (up A W) N r l : ℝ) : EReal) := by
  pointwise [k0_pay18]
  simp only [pay16_apply h0 h1 h2 h3 h4, pay2_apply h2, pay4_apply h2, pay5_apply h2, h2, h3, one_real, lit_half, lit_g0, lit_eps, lit_1024, lit_three, lit_neg_half, named_c, ← EReal.coe_mul, ← EReal.coe_add, ← EReal.coe_sub, Ideal.tanh_coe, coe_sum]
  congr 1
  unfold dG geluGrad
  ring

/-! ## The result arrays -/

theorem hz : (![0, 0] : Fin 2 → Nat) = fun _ => 0 := by ext i; fin_cases i <;> rfl

variable (m : (ℓ : Loc nD τ sig) → Buf (Elt Ideal) ℓ) (c : Dev nD)

theorem V0 (l : Fin 1024) : (V m c main_v0 : Vec Ideal S1x1024 .f32) (ix2 0 l) = (m ((c : Thread nD τ).loc main_arg4) : Vec Ideal S1024 .f32) (ix1 l) := by
  unfold V
  after_reads_at

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

variable (a0 : ∀ r k, (m ((c : Thread nD τ).loc main_arg0) : Vec Ideal S2176x1024 .f32) (ix2 r k) = ((A r k : ℝ) : EReal))
  (a1 : ∀ r k, (m ((c : Thread nD τ).loc main_arg1) : Vec Ideal S2048x1024 .f32) (ix2 r k) = ((W r k : ℝ) : EReal))
  (a2 : ∀ r k, (m ((c : Thread nD τ).loc main_arg2) : Vec Ideal S2176x1024 .f32) (ix2 r k) = ((G r k : ℝ) : EReal))
  (a3 : ∀ r k, (m ((c : Thread nD τ).loc main_arg3) : Vec Ideal S2176x1024 .f32) (ix2 r k) = ((H r k : ℝ) : EReal))
  (a4 : ∀ k, (m ((c : Thread nD τ).loc main_arg4) : Vec Ideal S1024 .f32) (ix1 k) = ((N k : ℝ) : EReal))

include a0 in
theorem x0_eq (t : Fin cfg0.N) (r : Fin 2176) (k : Fin 1024) : (iblk m c 0 t : Vec Ideal S2176x1024 .f32) (ix2 r k) = ((A r k : ℝ) : EReal) := by
  refine Eq.trans ?_ ((congrFun (V_main_arg0 m c) (ix2 _ _)).trans (a0 _ _))
  have e := idx t
  blk_ext [iblk, e]

include a1 in
theorem x1_eq (t : Fin cfg0.N) (r : Fin 2048) (k : Fin 1024) : (iblk m c 1 t : Vec Ideal S2048x1024 .f32) (ix2 r k) = ((W r k : ℝ) : EReal) := by
  refine Eq.trans ?_ ((congrFun (V_main_arg1 m c) (ix2 _ _)).trans (a1 _ _))
  have e := idx t
  blk_ext [iblk, e]

include a2 in
theorem x2_eq (t : Fin cfg0.N) (r : Fin 2176) (k : Fin 1024) : (iblk m c 2 t : Vec Ideal S2176x1024 .f32) (ix2 r k) = ((G r k : ℝ) : EReal) := by
  refine Eq.trans ?_ ((congrFun (V_main_arg2 m c) (ix2 _ _)).trans (a2 _ _))
  have e := idx t
  blk_ext [iblk, e]

include a3 in
theorem x3_eq (t : Fin cfg0.N) (r : Fin 2176) (k : Fin 1024) : (iblk m c 3 t : Vec Ideal S2176x1024 .f32) (ix2 r k) = ((H r k : ℝ) : EReal) := by
  refine Eq.trans ?_ ((congrFun (V_main_arg3 m c) (ix2 _ _)).trans (a3 _ _))
  have e := idx t
  blk_ext [iblk, e]

include a4 in
theorem x4_eq (t : Fin cfg0.N) (k : Fin 1024) : (iblk m c 4 t : Vec Ideal S1x1024 .f32) (ix2 0 k) = ((N k : ℝ) : EReal) := by
  refine Eq.trans ?_ ((V0 m c _).trans (a4 _))
  have e := idx t
  blk_ext [iblk, e]

include a0 a1 in
theorem out5_eq (t : Fin cfg0.N) : (out0_5 (iblk m c 0 t) (iblk m c 1 t) (iblk m c 2 t) (iblk m c 3 t) (iblk m c 4 t) : Vec Ideal S2176x1024 .f32) = fun y => ((lo A W (y 0) (y 1) : ℝ) : EReal) := by
  unfold out0_5
  rw [View.canon_unit_zero hz]
  simp only [View.ld_unit_zero (S := S2176x1024) hz, View.ld_unit_zero (S := S2048x1024) hz, View.ld_unit_zero (S := S1x1024) hz]
  funext y
  obtain ⟨r, l, rfl⟩ : ∃ r l, y = ix2 r l := ⟨y 0, y 1, eq_ix2 y⟩
  exact pay13_apply (x0_eq m c a0 t) (x1_eq m c a1 t) _ _

include a0 a1 in
theorem final5 : (dats m 0 c).arrAt 5 cfg0.N = fun y => ((lo A W (y 0) (y 1) : ℝ) : EReal) := by
  refine (dats m 0 c).arrAt_eq_of_covers 5 _ (by decide +kernel) fun t hf y => ?_
  blk_simp
  rw [after0_5, out5_eq m c a0 a1 t]
  have e := idx t
  have e0 : (y 0 : Fin 2176) = (win0_5.blk t).view.emb y 0 := Fin.ext (by blk_simp [e])
  have e1 : (y 1 : Fin 1024) = (win0_5.blk t).view.emb y 1 := Fin.ext (by blk_simp [e])
  exact congrArg₂ (fun (r : Fin 2176) (l : Fin 1024) => ((lo A W r l : ℝ) : EReal)) e0 e1

include a0 a1 a2 a3 a4 in
theorem out6_eq (t : Fin cfg0.N) : (out0_6 (iblk m c 0 t) (iblk m c 1 t) (iblk m c 2 t) (iblk m c 3 t) (iblk m c 4 t) : Vec Ideal S2176x1024 .f32) = fun y => ((dH G H (up A W) N (y 0) (y 1) : ℝ) : EReal) := by
  unfold out0_6 k0_pay19 k0_pay20 k0_pay21 k0_pay22
  rw [View.canon_unit_zero hz]
  simp only [View.ld_unit_zero (S := S2176x1024) hz, View.ld_unit_zero (S := S2048x1024) hz, View.ld_unit_zero (S := S1x1024) hz]
  funext y
  obtain ⟨r, l, rfl⟩ : ∃ r l, y = ix2 r l := ⟨y 0, y 1, eq_ix2 y⟩
  exact pay17_apply (x0_eq m c a0 t) (x1_eq m c a1 t) (x2_eq m c a2 t) (x3_eq m c a3 t) (x4_eq m c a4 t) _ _

include a0 a1 a2 a3 a4 in
theorem final6 : (dats m 0 c).arrAt 6 cfg0.N = fun y => ((dH G H (up A W) N (y 0) (y 1) : ℝ) : EReal) := by
  refine (dats m 0 c).arrAt_eq_of_covers 6 _ (by decide +kernel) fun t hf y => ?_
  blk_simp
  rw [after0_6, out6_eq m c a0 a1 a2 a3 a4 t]
  have e := idx t
  have e0 : (y 0 : Fin 2176) = (win0_6.blk t).view.emb y 0 := Fin.ext (by blk_simp [e])
  have e1 : (y 1 : Fin 1024) = (win0_6.blk t).view.emb y 1 := Fin.ext (by blk_simp [e])
  exact congrArg₂ (fun (r : Fin 2176) (l : Fin 1024) => ((dH G H (up A W) N r l : ℝ) : EReal)) e0 e1

include a0 a1 a2 a3 a4 in
theorem out7_eq (t : Fin cfg0.N) : (out0_7 (iblk m c 0 t) (iblk m c 1 t) (iblk m c 2 t) (iblk m c 3 t) (iblk m c 4 t) : Vec Ideal S2176x1024 .bf16) = fun y => ((dG G H (up A W) N (y 0) (y 1) : ℝ) : EReal) := by
  unfold out0_7 k0_pay19 k0_pay20 k0_pay21 k0_pay22
  rw [View.canon_unit_zero hz]
  simp only [View.ld_unit_zero (S := S2176x1024) hz, View.ld_unit_zero (S := S2048x1024) hz, View.ld_unit_zero (S := S1x1024) hz]
  funext y
  obtain ⟨r, l, rfl⟩ : ∃ r l, y = ix2 r l := ⟨y 0, y 1, eq_ix2 y⟩
  exact pay18_apply (x0_eq m c a0 t) (x1_eq m c a1 t) (x2_eq m c a2 t) (x3_eq m c a3 t) (x4_eq m c a4 t) _ _

include a0 a1 a2 a3 a4 in
theorem final7 : (dats m 0 c).arrAt 7 cfg0.N = fun y => ((dG G H (up A W) N (y 0) (y 1) : ℝ) : EReal) := by
  refine (dats m 0 c).arrAt_eq_of_covers 7 _ (by decide +kernel) fun t hf y => ?_
  blk_simp
  rw [after0_7, out7_eq m c a0 a1 a2 a3 a4 t]
  have e := idx t
  have e0 : (y 0 : Fin 2176) = (win0_7.blk t).view.emb y 0 := Fin.ext (by blk_simp [e])
  have e1 : (y 1 : Fin 1024) = (win0_7.blk t).view.emb y 1 := Fin.ext (by blk_simp [e])
  exact congrArg₂ (fun (r : Fin 2176) (l : Fin 1024) => ((dG G H (up A W) N r l : ℝ) : EReal)) e0 e1

include a0 a1 a2 a3 in
theorem out8_eq (t : Fin cfg0.N) : (out0_8 (iblk m c 0 t) (iblk m c 1 t) (iblk m c 2 t) (iblk m c 3 t) (iblk m c 4 t) : Vec Ideal S1x1024 .f32) = fun y => ((∑ r, dW G H (up A W) r (y 1) : ℝ) : EReal) := by
  unfold out0_8
  rw [View.canon_unit_zero hz]
  simp only [View.ld_unit_zero (S := S2176x1024) hz, View.ld_unit_zero (S := S2048x1024) hz, View.ld_unit_zero (S := S1x1024) hz]
  funext y
  obtain ⟨r, l, rfl⟩ : ∃ r l, y = ix2 r l := ⟨y 0, y 1, eq_ix2 y⟩
  obtain rfl : r = 0 := Subsingleton.elim _ _
  exact pay15_apply (x0_eq m c a0 t) (x1_eq m c a1 t) (x2_eq m c a2 t) (x3_eq m c a3 t) _

include a0 a1 a2 a3 in
theorem final8 : (dats m 0 c).arrAt 8 cfg0.N = fun y => ((∑ r, dW G H (up A W) r (y 1) : ℝ) : EReal) := by
  refine (dats m 0 c).arrAt_eq_of_covers 8 _ (by decide +kernel) fun t hf y => ?_
  blk_simp
  rw [after0_8, out8_eq m c a0 a1 a2 a3 t]
  have e := idx t
  have e1 : (y 1 : Fin 1024) = (win0_8.blk t).view.emb y 1 := Fin.ext (by blk_simp [e])
  exact congrArg (fun l : Fin 1024 => ((∑ r, dW G H (up A W) r l : ℝ) : EReal)) e1

end Cert.ReferenceIdeal.OutRef
end
-- ==== Proof.Finite.lean ====
/- What the precondition says: every argument's entries are real numbers. -/
module

public import proofs.«01_k».proof.Proof.Gen.Pre_finite
public import proofs.«01_k».proof.Defs
public import Idealize.ShloMosaic.Lib.ReduceAll
public import Idealize.ShloMosaic.Lib.Pointwise

@[expose] public section

noncomputable section

namespace Cert.Finite

open Idealize.ShloMosaic Cert.Pre_finite

/-- An extended real whose absolute value is below infinity is a real number. -/
theorem real_of_abs (x : Ideal .f32) (h : FloatOps.cmpf .olt (FloatOps.absf x) (FloatOps.ofBits .f32 0x7F800000#32 : Ideal .f32) = 1#1) :
    x = ((EReal.toReal x : ℝ) : EReal) := by
  have e : Ideal.ofBits .f32 0x7F800000#32 = (⊤ : EReal) := by simp [Ideal.ofBits, Ideal.ieee]
  have h' : Ideal.cmp .olt (max x (-x) : EReal) (Ideal.ofBits .f32 0x7F800000#32) = 1#1 := h
  rw [e] at h'
  have hlt : (max x (-x) : EReal) < ⊤ := by
    by_contra hn
    simp [Ideal.cmp, hn] at h'
  refine (EReal.coe_toReal ?_ ?_).symm
  · rintro rfl
    simp at hlt
  · rintro rfl
    simp at hlt

theorem and_one : ∀ a b : BitVec 1, IntOp.andi a b = 1#1 → a = 1#1 ∧ b = 1#1 := by decide

/-- Where the precondition holds, each of the five arguments is a real number at each index. -/
theorem reals {x0 x2 x3 : FVec Ideal S2176x1024 .f32} {x1 : FVec Ideal S2048x1024 .f32} {x4 : FVec Ideal S1024 .f32}
    [Cert.Pre_finite.Facts] (h : fn (F := Ideal) x0 x1 x2 x3 x4 = fun _ => 1#1) :
    (∀ r k, x0 (ix2 r k) = ((EReal.toReal (x0 (ix2 r k)) : ℝ) : EReal)) ∧ (∀ r k, x1 (ix2 r k) = ((EReal.toReal (x1 (ix2 r k)) : ℝ) : EReal))
      ∧ (∀ r k, x2 (ix2 r k) = ((EReal.toReal (x2 (ix2 r k)) : ℝ) : EReal)) ∧ (∀ r k, x3 (ix2 r k) = ((EReal.toReal (x3 (ix2 r k)) : ℝ) : EReal))
      ∧ (∀ k, x4 (ix1 k) = ((EReal.toReal (x4 (ix1 k)) : ℝ) : EReal)) := by
  haveI : Subsingleton S_.Idx := ⟨fun a b => funext fun i => i.elim0⟩
  have e := congrFun h (fun i => i.elim0)
  unfold fn fn_part1 at e
  dsimp only at e
  obtain ⟨e, e4⟩ := and_one _ _ e
  obtain ⟨e, e3⟩ := and_one _ _ e
  obtain ⟨e, e2⟩ := and_one _ _ e
  obtain ⟨e0, e1⟩ := and_one _ _ e
  exact ⟨fun r k => real_of_abs _ (Host.reduce_andi_all _ _ _ _ _ e0 (ix2 r k)), fun r k => real_of_abs _ (Host.reduce_andi_all _ _ _ _ _ e1 (ix2 r k)),
    fun r k => real_of_abs _ (Host.reduce_andi_all _ _ _ _ _ e2 (ix2 r k)), fun r k => real_of_abs _ (Host.reduce_andi_all _ _ _ _ _ e3 (ix2 r k)),
    fun k => real_of_abs _ (Host.reduce_andi_all _ _ _ _ _ e4 (ix1 k))⟩

end Cert.Finite
end
-- ==== Proof.GateRun.lean ====
/- One grid point of the gradient of the gated product, run: what it leaves in its five result blocks and in the two
   arrays it keeps on the core. At the first point the two arrays arrive row block by row block while the point works;
   at every later point they are there already. -/
module

public import proofs.«01_k».proof.Proof.Gen.Kernel2Ideal.Frame
public import proofs.«01_k».proof.Proof.Gen.Kernel2Ideal.Loops
public import Idealize.ShloMosaic.Lib.Pipeline.Value

@[expose] public section

set_option maxRecDepth 16384

noncomputable section

namespace Cert.Kernel2Ideal.GateRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The two arrays left in HBM, and the two on the core they are copied to. -/
abbrev hbM0 : Memref sig .tc .hbm S2176x1024 .bf16 := Memref.whole main_v4
abbrev hbM1 : Memref sig .tc .hbm S2176x1024 .bf16 := Memref.whole main_v9
abbrev scM0 : Memref sig .tc .vmem S2176x1024 .bf16 := Memref.whole cc0_scratch0
abbrev scM1 : Memref sig .tc .vmem S2176x1024 .bf16 := Memref.whole cc0_scratch1
/-- A buffer's contents on core `c`, and the buffer held whole at them. -/
abbrev BufOf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : BufOf (F := F) c M) : sProp 𝕄 :=
  M.view.loc (c : Thread nD τ) ↦{fullShare} f

/-! ## The values, block by block -/

theorem rows_inb {n : ℕ} (o : ℕ) (ho : o + 544 ≤ 2176) : ∀ a : Fin 2, (![o, 0] : Fin 2 → ℕ) a + (![544, n] : Fin 2 → ℕ) a ≤ (![2176, n] : Fin 2 → ℕ) a := by
  intro a; fin_cases a <;> simp <;> omega

/-- Rows `o` to `o + 544` of an array of 1024 and of 256 columns. -/
def rowsD (o : ℕ) (ho : o + 544 ≤ 2176) (d : Vec F S2176x1024 .bf16) : Vec F S544x1024 .bf16 := View.ld d (Rect.unit (s := S2176x1024) ![o, 0] S544x1024.size (rows_inb o ho))
def rowsT (o : ℕ) (ho : o + 544 ≤ 2176) (x : Vec F S2176x256 .bf16) : Vec F S544x256 .bf16 := View.ld x (Rect.unit (s := S2176x256) ![o, 0] S544x256.size (rows_inb o ho))

/-- The gradient of the gate, and of the value beside it, on 544 rows. -/
def gateBlk (d : Vec F S544x1024 .bf16) (w : Vec F S256x1024 .bf16) (g v : Vec F S544x256 .bf16) : Vec F S544x256 .bf16 :=
  k0_pay9 (k0_pay3 d w) (k0_pay4 g) (k0_pay5 v) (k0_pay6 g) k0_pay7
def valueBlk (d : Vec F S544x1024 .bf16) (w : Vec F S256x1024 .bf16) (g : Vec F S544x256 .bf16) : Vec F S544x256 .bf16 :=
  k0_pay10 (k0_pay3 d w) (k0_pay4 g) (k0_pay6 g) k0_pay7

/-- Four blocks of 544 rows, one under the other. -/
def four (B : (o : ℕ) → o + 544 ≤ 2176 → Vec F S544x256 .bf16) : Vec F S2176x256 .bf16 :=
  View.canon [(⟨Rect.unit (s := S2176x256) ![1632, 0] S544x256.size (rows_inb 1632 (by decide)), B 1632 (by decide)⟩ : View.Piece (Elt F) S2176x256 .bf16),
    ⟨Rect.unit (s := S2176x256) ![1088, 0] S544x256.size (rows_inb 1088 (by decide)), B 1088 (by decide)⟩,
    ⟨Rect.unit (s := S2176x256) ![544, 0] S544x256.size (rows_inb 544 (by decide)), B 544 (by decide)⟩,
    ⟨Rect.unit (s := S2176x256) ![0, 0] S544x256.size (rows_inb 0 (by decide)), B 0 (by decide)⟩]

/-- The five result blocks of a point, from the whole arrays `d` (the gradient coming in) and `u` (the rows the two
    products take) and the point's blocks `w` of the down weight, `g` of the gate, `v` of the value and `a` of the activation. -/
def gateOf (d : Vec F S2176x1024 .bf16) (w : Vec F S256x1024 .bf16) (g v : Vec F S2176x256 .bf16) : Vec F S2176x256 .bf16 :=
  four fun o ho => gateBlk (rowsD o ho d) w (rowsT o ho g) (rowsT o ho v)
def valueOf (d : Vec F S2176x1024 .bf16) (w : Vec F S256x1024 .bf16) (g : Vec F S2176x256 .bf16) : Vec F S2176x256 .bf16 :=
  four fun o ho => valueBlk (rowsD o ho d) w (rowsT o ho g)
def downOf (d : Vec F S2176x1024 .bf16) (a : Vec F S2176x256 .bf16) : Vec F S256x1024 .bf16 := k0_pay11 a d
def gateWOf (d u : Vec F S2176x1024 .bf16) (w : Vec F S256x1024 .bf16) (g v : Vec F S2176x256 .bf16) : Vec F S256x1024 .bf16 := k0_pay1 (k0_pay12 (gateOf d w g v)) u
def upWOf (d u : Vec F S2176x1024 .bf16) (w : Vec F S256x1024 .bf16) (g : Vec F S2176x256 .bf16) : Vec F S256x1024 .bf16 := k0_pay2 (valueOf d w g) u

/-! ## Reading what several stores of one array's rows left -/

section Pieces

variable {sp : Space} {S : Shape} {e : EltTy} {κ : Kind}

/-- Stores that all write rows of `G`, over which a whole array is read back: it is `G`. -/
theorem read_rows (v : View sig κ sp S e) (f : v.ty.Contents (Elt F)) (G : S.Idx → Elt F e) (L : List (View.Piece (Elt F) S e))
    (hL : ∀ p ∈ L, ∀ x : p.1.shape.Idx, p.2 x = G (p.1.emb x)) (hc : ∀ y, ∃ p ∈ L, y ∈ p.1.set) : v.read (Elt F) (v.writes (Elt F) f L) = G := by
  rw [View.read_writes_eq_canon v f L hc]
  exact funext fun y => View.canon_apply_of_pieces G L hL y (hc y)

/-- A load of a rectangle that one of such stores wrote. -/
theorem load_rows (v : View sig κ sp S e) (G : S.Idx → Elt F e) (L : List (View.Piece (Elt F) S e)) (r : Rect S)
    (hL : ∀ p ∈ L, ∀ x : p.1.shape.Idx, p.2 x = G (p.1.emb x)) (hr : ∃ p ∈ L, p.1 = r) : v.readCov L r.toLoadRect = View.ld G r := by
  rw [View.readCov_eq_canon']
  refine funext fun x => View.canon_apply_of_pieces G L hL _ ?_
  obtain ⟨p, hp, rfl⟩ := hr
  exact ⟨p, hp, p.1.idx_mem x⟩

/-- A load of a rectangle of an array that such stores covered. -/
theorem load_whole (v : View sig κ sp S e) (G : S.Idx → Elt F e) (L : List (View.Piece (Elt F) S e)) (r : Rect S)
    (hL : ∀ p ∈ L, ∀ x : p.1.shape.Idx, p.2 x = G (p.1.emb x)) (hc : ∀ y, ∃ p ∈ L, y ∈ p.1.set) : v.readCov L r.toLoadRect = View.ld G r := by
  rw [View.readCov_eq_canon']
  exact funext fun x => View.canon_apply_of_pieces G L hL _ (hc _)

end Pieces

theorem hz : (![0, 0] : Fin 2 → Nat) = fun _ => 0 := funext fun a => by fin_cases a <;> rfl

/-! ## What a list of stores holds -/

/-- A load of a whole staged block. -/
theorem load_all {S : Shape} (hr : S.rank = 2) (m : Memref sig .tc .vmem S .bf16) (hm : m.IsWhole) (x : S.Idx → Elt F .bf16) {off : Fin S.rank → ℕ} (h : off = fun _ => 0)
    (inb : ∀ a, off a + S.size a ≤ S.size a) : View.readAt (Elt F) m.view (Rect.unit off S.size inb).toLoadRect (hm.unread x) = x := by
  rw [View.readAt_eq_ld, hm.read_unread, View.ld_unit_zero h]

/-- A load of a staged block's rows. -/
theorem load_T (m : Memref sig .tc .vmem S2176x256 .bf16) (hm : m.IsWhole) (x : Vec F S2176x256 .bf16) (o : ℕ) (ho : o + 544 ≤ 2176) (inb) :
    View.readAt (Elt F) m.view (Rect.unit (s := S2176x256) ![o, 0] S544x256.size inb).toLoadRect (hm.unread x) = rowsT o ho x := by
  rw [View.readAt_eq_ld, hm.read_unread]; rfl

/-- Four stores of the gate's gradient, each from 544 rows. -/
theorem gate_canon (d : Vec F S2176x1024 .bf16) (w : Vec F S256x1024 .bf16) (g v : Vec F S2176x256 .bf16) {A3 A2 A1 A0 : Vec F S544x1024 .bf16} {B : Vec F S256x1024 .bf16} {C3 C2 C1 C0 D3 D2 D1 D0 : Vec F S544x256 .bf16}
    (hA3 : A3 = rowsD 1632 (by decide) d) (hA2 : A2 = rowsD 1088 (by decide) d) (hA1 : A1 = rowsD 544 (by decide) d) (hA0 : A0 = rowsD 0 (by decide) d) (hB : B = w) (hC3 : C3 = rowsT 1632 (by decide) g) (hC2 : C2 = rowsT 1088 (by decide) g) (hC1 : C1 = rowsT 544 (by decide) g) (hC0 : C0 = rowsT 0 (by decide) g) (hD3 : D3 = rowsT 1632 (by decide) v) (hD2 : D2 = rowsT 1088 (by decide) v) (hD1 : D1 = rowsT 544 (by decide) v) (hD0 : D0 = rowsT 0 (by decide) v) {i3 i2 i1 i0} :
    View.canon [(⟨Rect.unit (s := S2176x256) ![1632, 0] S544x256.size i3, k0_pay9 (k0_pay3 A3 B) (k0_pay4 C3) (k0_pay5 D3) (k0_pay6 C3) k0_pay7⟩ : View.Piece (Elt F) S2176x256 .bf16),
        ⟨Rect.unit (s := S2176x256) ![1088, 0] S544x256.size i2, k0_pay9 (k0_pay3 A2 B) (k0_pay4 C2) (k0_pay5 D2) (k0_pay6 C2) k0_pay7⟩,
        ⟨Rect.unit (s := S2176x256) ![544, 0] S544x256.size i1, k0_pay9 (k0_pay3 A1 B) (k0_pay4 C1) (k0_pay5 D1) (k0_pay6 C1) k0_pay7⟩,
        ⟨Rect.unit (s := S2176x256) ![0, 0] S544x256.size i0, k0_pay9 (k0_pay3 A0 B) (k0_pay4 C0) (k0_pay5 D0) (k0_pay6 C0) k0_pay7⟩] = gateOf d w g v := by
  subst hA3 hA2 hA1 hA0 hB hC3 hC2 hC1 hC0 hD3 hD2 hD1 hD0
  rfl

/-- Four stores of the value's gradient, each from 544 rows. -/
theorem value_canon (d : Vec F S2176x1024 .bf16) (w : Vec F S256x1024 .bf16) (g : Vec F S2176x256 .bf16) {A3 A2 A1 A0 : Vec F S544x1024 .bf16} {B : Vec F S256x1024 .bf16} {C3 C2 C1 C0 : Vec F S544x256 .bf16}
    (hA3 : A3 = rowsD 1632 (by decide) d) (hA2 : A2 = rowsD 1088 (by decide) d) (hA1 : A1 = rowsD 544 (by decide) d) (hA0 : A0 = rowsD 0 (by decide) d) (hB : B = w) (hC3 : C3 = rowsT 1632 (by decide) g) (hC2 : C2 = rowsT 1088 (by decide) g) (hC1 : C1 = rowsT 544 (by decide) g) (hC0 : C0 = rowsT 0 (by decide) g) {i3 i2 i1 i0} :
    View.canon [(⟨Rect.unit (s := S2176x256) ![1632, 0] S544x256.size i3, k0_pay10 (k0_pay3 A3 B) (k0_pay4 C3) (k0_pay6 C3) k0_pay7⟩ : View.Piece (Elt F) S2176x256 .bf16),
        ⟨Rect.unit (s := S2176x256) ![1088, 0] S544x256.size i2, k0_pay10 (k0_pay3 A2 B) (k0_pay4 C2) (k0_pay6 C2) k0_pay7⟩,
        ⟨Rect.unit (s := S2176x256) ![544, 0] S544x256.size i1, k0_pay10 (k0_pay3 A1 B) (k0_pay4 C1) (k0_pay6 C1) k0_pay7⟩,
        ⟨Rect.unit (s := S2176x256) ![0, 0] S544x256.size i0, k0_pay10 (k0_pay3 A0 B) (k0_pay4 C0) (k0_pay6 C0) k0_pay7⟩] = valueOf d w g := by
  subst hA3 hA2 hA1 hA0 hB hC3 hC2 hC1 hC0
  rfl

/-! ## Which point it is -/

theorem conds_first (i : grid0.Coords) (h : i 0 = (0 : Fin 11)) : k0_cond1 i = 1#1 ∧ k0_cond2 i = 1#1 ∧ k0_cond3 i = 1#1 ∧ k0_cond5 i = 1#1 ∧ k0_cond7 i = 1#1 ∧ k0_cond9 i = 1#1 ∧ k0_cond11 i = 1#1 := by
  unfold k0_cond1 k0_cond2 k0_cond3 k0_cond5 k0_cond7 k0_cond9 k0_cond11
  rw [h]; decide

theorem conds_later (i : grid0.Coords) (h : i 0 ≠ (0 : Fin 11)) : ¬k0_cond1 i = 1#1 ∧ ¬k0_cond2 i = 1#1 ∧ ¬k0_cond3 i = 1#1 ∧ ¬k0_cond5 i = 1#1 ∧ ¬k0_cond7 i = 1#1 ∧ ¬k0_cond9 i = 1#1 ∧ ¬k0_cond11 i = 1#1 := by
  have key : ∀ x : Fin 11, x ≠ 0 → Scalar.cmpi .ne (Scalar.extui (Scalar.cmpi .eq (BitVec.ofNat 32 x.val) 0#32) : BitVec 32) 0#32 ≠ 1#1 := by decide
  exact ⟨key _ h, key _ h, key _ h, key _ h, key _ h, key _ h, key _ h⟩

/-! ## The two runs -/

/-- What the pass over a point has of the core: the generator's state apart, the transfers' cells at zero and the arrays in HBM. -/
abbrev cells (c : Dev nD) (d u : Vec F S2176x1024 .bf16) : sProp 𝕄 :=
  iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ pt c hbM0 d ∗ pt c hbM1 u)

variable (c : Dev nD) (i : grid0.Coords) (arg3 : Memref sig .tc .vmem S256x1024 .bf16) (harg3 : arg3.IsWhole) (arg4 : Memref sig .tc .vmem S2176x256 .bf16) (harg4 : arg4.IsWhole) (arg5 : Memref sig .tc .vmem S2176x256 .bf16) (harg5 : arg5.IsWhole) (arg6 : Memref sig .tc .vmem S2176x256 .bf16) (harg6 : arg6.IsWhole) (arg7 : Memref sig .tc .vmem S2176x256 .bf16) (harg7 : arg7.IsWhole) (arg8 : Memref sig .tc .vmem S2176x256 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole)
  (x0 : Vec F S256x1024 .bf16) (x1 x2 x3 : Vec F S2176x256 .bf16) (d u : Vec F S2176x1024 .bf16)

/-- The point's inputs at their blocks. -/
abbrev ins : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3)
/-- The point's results, before it and after it. -/
abbrev outs0 : sProp 𝕄 :=
  iprop((∃ e, owns (c : Thread nD τ) arg7 fullShare e) ∗ (∃ e, owns (c : Thread nD τ) arg8 fullShare e) ∗ (∃ e, owns (c : Thread nD τ) arg9 fullShare e) ∗ (∃ e, owns (c : Thread nD τ) arg10 fullShare e) ∗ (∃ e, owns (c : Thread nD τ) arg11 fullShare e))
abbrev outs1 : sProp 𝕄 :=
  iprop(owns (c : Thread nD τ) arg7 fullShare (gateOf d x0 x1 x2) ∗ owns (c : Thread nD τ) arg8 fullShare (valueOf d x0 x1) ∗ owns (c : Thread nD τ) arg9 fullShare (downOf d x3) ∗ owns (c : Thread nD τ) arg10 fullShare (gateWOf d u x0 x1 x2) ∗ owns (c : Thread nD τ) arg11 fullShare (upWOf d u x0 x1))

set_option sl_exec.dmaWindow true in
set_option sl_exec.unrollTrips 4 in
set_option maxHeartbeats 4000000 in
/-- The first point: whatever the two arrays on the core held, it leaves them as copies of the two in HBM, and its five results. -/
theorem run_first (hi : i 0 = (0 : Fin 11)) (W : Waits sig Unit) (K : PUnit → sProp 𝕄) :
    iprop(ins (F := F) c arg3 arg4 arg5 arg6 x0 x1 x2 x3 ∗ outs0 (F := F) c arg7 arg8 arg9 arg10 arg11 ∗ ((∃ f, pt (F := F) c scM0 f) ∗ (∃ f, pt (F := F) c scM1 f)) ∗ cells c d u ∗ owes (c : Thread nD τ) 0 W
        ∗ ((ins (F := F) c arg3 arg4 arg5 arg6 x0 x1 x2 x3 ∗ outs1 c arg7 arg8 arg9 arg10 arg11 x0 x1 x2 x3 d u ∗ (pt c scM0 d ∗ pt c scM1 u) ∗ cells c d u ∗ ∃ W', owes (c : Thread nD τ) 0 W') -∗ K ⟨⟩))
      ⊢ wp frame (wpE (defs₀ (F := F)) Variants.none c none) Set.univ
          (cc0_swiglu_bwd i hbM0 (Memref.isWhole_whole _) hbM1 (Memref.isWhole_whole _) arg3 harg3 arg4 harg4 arg5 harg5 arg6 harg6 arg7 harg7 arg8 harg8 arg9 harg9 arg10 harg10 arg11 harg11 scM0 (Memref.isWhole_whole _) scM1 (Memref.isWhole_whole _) cc0_scratch2 cc0_scratch3) K := by
  obtain ⟨h1, h2, h3, h5, h7, h9, h11⟩ := conds_first i hi
  simp only [cc0_swiglu_bwd_eq_skeleton]; unfold cc0_swiglu_bwd_skel
  simp only [k0_part1_eq_skeleton, k0_part2_eq_skeleton]
  unfold ins outs0 outs1 cells owns
  iintro ⟨⟨⟨%f0, %hf0, H0⟩, ⟨%f1, %hf1, H1⟩, ⟨%f2, %hf2, H2⟩, ⟨%f3, %hf3, H3⟩⟩, ⟨⟨%d4, %f4, -, H4⟩, ⟨%d5, %f5, -, H5⟩, ⟨%d6, %f6, -, H6⟩, ⟨%d7, %f7, -, H7⟩, ⟨%d8, %f8, -, H8⟩⟩, ⟨⟨%fs0, HS0⟩, ⟨%fs1, HS1⟩⟩, ⟨Hq0, Hq1, Hq2, Hq3, Hr0, Hr1, Hr2, Hr3, Hd, Hu⟩, HW, Hk⟩
  obtain rfl := harg3.eq_unread hf0; obtain rfl := harg4.eq_unread hf1; obtain rfl := harg5.eq_unread hf2; obtain rfl := harg6.eq_unread hf3
  sl_exec (disch := first | sl_exact h1 | sl_exact h2 | sl_exact h3 | sl_exact h5 | sl_exact h7 | sl_exact h9 | sl_exact h11)
  sl_step
  sl_unfold_words
  have eS0 : ∀ L : List (View.Piece (Elt F) S2176x1024 .bf16), (∀ p ∈ L, ∀ x : p.1.shape.Idx, p.2 x = d (p.1.emb x)) → (∀ y, ∃ p ∈ L, y ∈ p.1.set) → scM0.view.writes (Elt F) fs0 L = d :=
    fun L hL hc => read_rows scM0.view fs0 d L hL hc
  have eS1 : ∀ L : List (View.Piece (Elt F) S2176x1024 .bf16), (∀ p ∈ L, ∀ x : p.1.shape.Idx, p.2 x = u (p.1.emb x)) → (∀ y, ∃ p ∈ L, y ∈ p.1.set) → scM1.view.writes (Elt F) fs1 L = u :=
    fun L hL hc => read_rows scM1.view fs1 u L hL hc
  rw [eS0, eS1]
  rotate_left
  · simp only [List.forall_mem_cons]; exact ⟨fun _ => rfl, fun _ => rfl, fun _ => rfl, fun _ => rfl, by simp⟩
  · exact View.cover_of_tiledL _ S544x1024.size (by sl_kernel_rfl)
  · simp only [List.forall_mem_cons]; exact ⟨fun _ => rfl, fun _ => rfl, fun _ => rfl, fun _ => rfl, by simp⟩
  · exact View.cover_of_tiledL _ S544x1024.size (by sl_kernel_rfl)
  iapply Hk
  isplitl [H0 H1 H2 H3]
  · isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    iexists _; isplitr; swap; · iexact H3
    ipureintro; exact harg6.read_unread _
  isplitl [H4 H5 H6 H7 H8]
  · isplitl [H4]
    · iexists _; isplitr; swap; · iexact H4
      ipureintro
      refine (View.read_writes_eq_canon _ _ _ ?_).trans ?_
      · exact View.cover_of_tiledL _ S544x256.size (by sl_kernel_rfl)
      refine gate_canon d x0 x1 x2 ?_ ?_ ?_ ?_ (load_all rfl arg3 harg3 x0 hz _) (load_T arg4 harg4 x1 1632 (by decide) _) (load_T arg4 harg4 x1 1088 (by decide) _) (load_T arg4 harg4 x1 544 (by decide) _) (load_T arg4 harg4 x1 0 (by decide) _) (load_T arg5 harg5 x2 1632 (by decide) _) (load_T arg5 harg5 x2 1088 (by decide) _) (load_T arg5 harg5 x2 544 (by decide) _) (load_T arg5 harg5 x2 0 (by decide) _)
      · exact load_rows _ d _ _ (by simp only [List.forall_mem_cons]; exact ⟨fun _ => rfl, fun _ => rfl, fun _ => rfl, fun _ => rfl, by simp⟩) ⟨_, .head _, rfl⟩
      · exact load_rows _ d _ _ (by simp only [List.forall_mem_cons]; exact ⟨fun _ => rfl, fun _ => rfl, fun _ => rfl, fun _ => rfl, by simp⟩) ⟨_, .tail _ (.head _), rfl⟩
      · exact load_rows _ d _ _ (by simp only [List.forall_mem_cons]; exact ⟨fun _ => rfl, fun _ => rfl, fun _ => rfl, fun _ => rfl, by simp⟩) ⟨_, .tail _ (.tail _ (.head _)), rfl⟩
      · exact load_rows _ d _ _ (by simp only [List.forall_mem_cons]; exact ⟨fun _ => rfl, fun _ => rfl, fun _ => rfl, by simp⟩) ⟨_, .tail _ (.tail _ (.head _)), rfl⟩
    isplitl [H5]
    · iexists _; isplitr; swap; · iexact H5
      ipureintro
      refine (View.read_writes_eq_canon _ _ _ ?_).trans ?_
      · exact View.cover_of_tiledL _ S544x256.size (by sl_kernel_rfl)
      refine value_canon d x0 x1 ?_ ?_ ?_ ?_ (load_all rfl arg3 harg3 x0 hz _) (load_T arg4 harg4 x1 1632 (by decide) _) (load_T arg4 harg4 x1 1088 (by decide) _) (load_T arg4 harg4 x1 544 (by decide) _) (load_T arg4 harg4 x1 0 (by decide) _)
      · exact load_rows _ d _ _ (by simp only [List.forall_mem_cons]; exact ⟨fun _ => rfl, fun _ => rfl, fun _ => rfl, fun _ => rfl, by simp⟩) ⟨_, .head _, rfl⟩
      · exact load_rows _ d _ _ (by simp only [List.forall_mem_cons]; exact ⟨fun _ => rfl, fun _ => rfl, fun _ => rfl, fun _ => rfl, by simp⟩) ⟨_, .tail _ (.head _), rfl⟩
      · exact load_rows _ d _ _ (by simp only [List.forall_mem_cons]; exact ⟨fun _ => rfl, fun _ => rfl, fun _ => rfl, fun _ => rfl, by simp⟩) ⟨_, .tail _ (.tail _ (.head _)), rfl⟩
      · exact load_rows _ d _ _ (by simp only [List.forall_mem_cons]; exact ⟨fun _ => rfl, fun _ => rfl, fun _ => rfl, by simp⟩) ⟨_, .tail _ (.tail _ (.head _)), rfl⟩
    isplitl [H6]
    · iexists _; isplitr; swap; · iexact H6
      ipureintro
      refine (View.read_writes_eq_canon _ _ _ (View.cover_of_tiledL _ S256x1024.size (by sl_kernel_rfl))).trans ((View.canon_unit_zero (S := S256x1024) hz _ _).trans ?_)
      refine congrArg₂ k0_pay11 (load_all rfl arg6 harg6 x3 hz _) ?_
      exact (load_whole _ d _ _ (by simp only [List.forall_mem_cons]; exact ⟨fun _ => rfl, fun _ => rfl, fun _ => rfl, fun _ => rfl, by simp⟩) (View.cover_of_tiledL _ S544x1024.size (by sl_kernel_rfl))).trans (View.ld_unit_zero (S := S2176x1024) hz _ _)
    isplitl [H7]
    · iexists _; isplitr; swap; · iexact H7
      ipureintro
      refine (View.read_writes_eq_canon _ _ _ (View.cover_of_tiledL _ S256x1024.size (by sl_kernel_rfl))).trans ((View.canon_unit_zero (S := S256x1024) hz _ _).trans ?_)
      refine congrArg₂ k0_pay1 (congrArg k0_pay12 ?_) ?_
      · refine (View.readCov_eq_canon' ..).trans ((View.ld_unit_zero (S := S2176x256) hz _ _).trans ?_)
        refine gate_canon d x0 x1 x2 ?_ ?_ ?_ ?_ (load_all rfl arg3 harg3 x0 hz _) (load_T arg4 harg4 x1 1632 (by decide) _) (load_T arg4 harg4 x1 1088 (by decide) _) (load_T arg4 harg4 x1 544 (by decide) _) (load_T arg4 harg4 x1 0 (by decide) _) (load_T arg5 harg5 x2 1632 (by decide) _) (load_T arg5 harg5 x2 1088 (by decide) _) (load_T arg5 harg5 x2 544 (by decide) _) (load_T arg5 harg5 x2 0 (by decide) _)
        · exact load_rows _ d _ _ (by simp only [List.forall_mem_cons]; exact ⟨fun _ => rfl, fun _ => rfl, fun _ => rfl, fun _ => rfl, by simp⟩) ⟨_, .head _, rfl⟩
        · exact load_rows _ d _ _ (by simp only [List.forall_mem_cons]; exact ⟨fun _ => rfl, fun _ => rfl, fun _ => rfl, fun _ => rfl, by simp⟩) ⟨_, .tail _ (.head _), rfl⟩
        · exact load_rows _ d _ _ (by simp only [List.forall_mem_cons]; exact ⟨fun _ => rfl, fun _ => rfl, fun _ => rfl, fun _ => rfl, by simp⟩) ⟨_, .tail _ (.tail _ (.head _)), rfl⟩
        · exact load_rows _ d _ _ (by simp only [List.forall_mem_cons]; exact ⟨fun _ => rfl, fun _ => rfl, fun _ => rfl, by simp⟩) ⟨_, .tail _ (.tail _ (.head _)), rfl⟩
      exact (load_whole _ u _ _ (by simp only [List.forall_mem_cons]; exact ⟨fun _ => rfl, fun _ => rfl, fun _ => rfl, fun _ => rfl, by simp⟩) (View.cover_of_tiledL _ S544x1024.size (by sl_kernel_rfl))).trans (View.ld_unit_zero (S := S2176x1024) hz _ _)
    iexists _; isplitr; swap; · iexact H8
    ipureintro
    refine (View.read_writes_eq_canon _ _ _ (View.cover_of_tiledL _ S256x1024.size (by sl_kernel_rfl))).trans ((View.canon_unit_zero (S := S256x1024) hz _ _).trans ?_)
    refine congrArg₂ k0_pay2 ?_ ?_
    · refine (View.readCov_eq_canon' ..).trans ((View.ld_unit_zero (S := S2176x256) hz _ _).trans ?_)
      refine value_canon d x0 x1 ?_ ?_ ?_ ?_ (load_all rfl arg3 harg3 x0 hz _) (load_T arg4 harg4 x1 1632 (by decide) _) (load_T arg4 harg4 x1 1088 (by decide) _) (load_T arg4 harg4 x1 544 (by decide) _) (load_T arg4 harg4 x1 0 (by decide) _)
      · exact load_rows _ d _ _ (by simp only [List.forall_mem_cons]; exact ⟨fun _ => rfl, fun _ => rfl, fun _ => rfl, fun _ => rfl, by simp⟩) ⟨_, .head _, rfl⟩
      · exact load_rows _ d _ _ (by simp only [List.forall_mem_cons]; exact ⟨fun _ => rfl, fun _ => rfl, fun _ => rfl, fun _ => rfl, by simp⟩) ⟨_, .tail _ (.head _), rfl⟩
      · exact load_rows _ d _ _ (by simp only [List.forall_mem_cons]; exact ⟨fun _ => rfl, fun _ => rfl, fun _ => rfl, fun _ => rfl, by simp⟩) ⟨_, .tail _ (.tail _ (.head _)), rfl⟩
      · exact load_rows _ d _ _ (by simp only [List.forall_mem_cons]; exact ⟨fun _ => rfl, fun _ => rfl, fun _ => rfl, by simp⟩) ⟨_, .tail _ (.tail _ (.head _)), rfl⟩
    exact (load_whole _ u _ _ (by simp only [List.forall_mem_cons]; exact ⟨fun _ => rfl, fun _ => rfl, fun _ => rfl, fun _ => rfl, by simp⟩) (View.cover_of_tiledL _ S544x1024.size (by sl_kernel_rfl))).trans (View.ld_unit_zero (S := S2176x1024) hz _ _)
  isplitl [HS0 HS1]
  · isplitl [HS0]; · iexact HS0
    iexact HS1
  isplitl [Hq0 Hq1 Hq2 Hq3 Hr0 Hr1 Hr2 Hr3 Hd Hu]
  · isplitl [Hq0]; · iexact Hq0
    isplitl [Hq1]; · iexact Hq1
    isplitl [Hq2]; · iexact Hq2
    isplitl [Hq3]; · iexact Hq3
    isplitl [Hr0]; · iexact Hr0
    isplitl [Hr1]; · iexact Hr1
    isplitl [Hr2]; · iexact Hr2
    isplitl [Hr3]; · iexact Hr3
    isplitl [Hd]; · iexact Hd
    iexact Hu
  iexists _; iexact HW

set_option sl_exec.dmaWindow true in
set_option sl_exec.unrollTrips 4 in
set_option maxHeartbeats 4000000 in
/-- A later point: the two arrays on the core are the copies already, and it leaves its five results. -/
theorem run_later (hi : i 0 ≠ (0 : Fin 11)) (W : Waits sig Unit) (K : PUnit → sProp 𝕄) :
    iprop(ins (F := F) c arg3 arg4 arg5 arg6 x0 x1 x2 x3 ∗ outs0 (F := F) c arg7 arg8 arg9 arg10 arg11 ∗ (pt c scM0 d ∗ pt c scM1 u) ∗ cells c d u ∗ owes (c : Thread nD τ) 0 W
        ∗ ((ins (F := F) c arg3 arg4 arg5 arg6 x0 x1 x2 x3 ∗ outs1 c arg7 arg8 arg9 arg10 arg11 x0 x1 x2 x3 d u ∗ (pt c scM0 d ∗ pt c scM1 u) ∗ cells c d u ∗ ∃ W', owes (c : Thread nD τ) 0 W') -∗ K ⟨⟩))
      ⊢ wp frame (wpE (defs₀ (F := F)) Variants.none c none) Set.univ
          (cc0_swiglu_bwd i hbM0 (Memref.isWhole_whole _) hbM1 (Memref.isWhole_whole _) arg3 harg3 arg4 harg4 arg5 harg5 arg6 harg6 arg7 harg7 arg8 harg8 arg9 harg9 arg10 harg10 arg11 harg11 scM0 (Memref.isWhole_whole _) scM1 (Memref.isWhole_whole _) cc0_scratch2 cc0_scratch3) K := by
  obtain ⟨h1, h2, h3, h5, h7, h9, h11⟩ := conds_later i hi
  simp only [cc0_swiglu_bwd_eq_skeleton]; unfold cc0_swiglu_bwd_skel
  simp only [k0_part1_eq_skeleton, k0_part2_eq_skeleton]
  unfold ins outs0 outs1 cells owns
  iintro ⟨⟨⟨%f0, %hf0, H0⟩, ⟨%f1, %hf1, H1⟩, ⟨%f2, %hf2, H2⟩, ⟨%f3, %hf3, H3⟩⟩, ⟨⟨%d4, %f4, -, H4⟩, ⟨%d5, %f5, -, H5⟩, ⟨%d6, %f6, -, H6⟩, ⟨%d7, %f7, -, H7⟩, ⟨%d8, %f8, -, H8⟩⟩, ⟨HS0, HS1⟩, ⟨Hq0, Hq1, Hq2, Hq3, Hr0, Hr1, Hr2, Hr3, Hd, Hu⟩, HW, Hk⟩
  obtain rfl := harg3.eq_unread hf0; obtain rfl := harg4.eq_unread hf1; obtain rfl := harg5.eq_unread hf2; obtain rfl := harg6.eq_unread hf3
  sl_exec (disch := first | sl_exact h1 | sl_exact h2 | sl_exact h3 | sl_exact h5 | sl_exact h7 | sl_exact h9 | sl_exact h11)
  sl_step
  sl_unfold_words
  iapply Hk
  isplitl [H0 H1 H2 H3]
  · isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    iexists _; isplitr; swap; · iexact H3
    ipureintro; exact harg6.read_unread _
  isplitl [H4 H5 H6 H7 H8]
  · isplitl [H4]
    · iexists _; isplitr; swap; · iexact H4
      ipureintro
      refine (View.read_writes_eq_canon _ _ _ ?_).trans ?_
      · exact View.cover_of_tiledL _ S544x256.size (by sl_kernel_rfl)
      refine gate_canon d x0 x1 x2 ?_ ?_ ?_ ?_ (load_all rfl arg3 harg3 x0 hz _) (load_T arg4 harg4 x1 1632 (by decide) _) (load_T arg4 harg4 x1 1088 (by decide) _) (load_T arg4 harg4 x1 544 (by decide) _) (load_T arg4 harg4 x1 0 (by decide) _) (load_T arg5 harg5 x2 1632 (by decide) _) (load_T arg5 harg5 x2 1088 (by decide) _) (load_T arg5 harg5 x2 544 (by decide) _) (load_T arg5 harg5 x2 0 (by decide) _)
      · exact (View.readAt_eq_ld ..).trans rfl
      · exact (View.readAt_eq_ld ..).trans rfl
      · exact (View.readAt_eq_ld ..).trans rfl
      · exact (View.readAt_eq_ld ..).trans rfl
    isplitl [H5]
    · iexists _; isplitr; swap; · iexact H5
      ipureintro
      refine (View.read_writes_eq_canon _ _ _ ?_).trans ?_
      · exact View.cover_of_tiledL _ S544x256.size (by sl_kernel_rfl)
      refine value_canon d x0 x1 ?_ ?_ ?_ ?_ (load_all rfl arg3 harg3 x0 hz _) (load_T arg4 harg4 x1 1632 (by decide) _) (load_T arg4 harg4 x1 1088 (by decide) _) (load_T arg4 harg4 x1 544 (by decide) _) (load_T arg4 harg4 x1 0 (by decide) _)
      · exact (View.readAt_eq_ld ..).trans rfl
      · exact (View.readAt_eq_ld ..).trans rfl
      · exact (View.readAt_eq_ld ..).trans rfl
      · exact (View.readAt_eq_ld ..).trans rfl
    isplitl [H6]
    · iexists _; isplitr; swap; · iexact H6
      ipureintro
      refine (View.read_writes_eq_canon _ _ _ (View.cover_of_tiledL _ S256x1024.size (by sl_kernel_rfl))).trans ((View.canon_unit_zero (S := S256x1024) hz _ _).trans ?_)
      refine congrArg₂ k0_pay11 (load_all rfl arg6 harg6 x3 hz _) ?_
      exact (View.readAt_eq_ld ..).trans (View.ld_unit_zero (S := S2176x1024) hz _ _)
    isplitl [H7]
    · iexists _; isplitr; swap; · iexact H7
      ipureintro
      refine (View.read_writes_eq_canon _ _ _ (View.cover_of_tiledL _ S256x1024.size (by sl_kernel_rfl))).trans ((View.canon_unit_zero (S := S256x1024) hz _ _).trans ?_)
      refine congrArg₂ k0_pay1 (congrArg k0_pay12 ?_) ?_
      · refine (View.readCov_eq_canon' ..).trans ((View.ld_unit_zero (S := S2176x256) hz _ _).trans ?_)
        refine gate_canon d x0 x1 x2 ?_ ?_ ?_ ?_ (load_all rfl arg3 harg3 x0 hz _) (load_T arg4 harg4 x1 1632 (by decide) _) (load_T arg4 harg4 x1 1088 (by decide) _) (load_T arg4 harg4 x1 544 (by decide) _) (load_T arg4 harg4 x1 0 (by decide) _) (load_T arg5 harg5 x2 1632 (by decide) _) (load_T arg5 harg5 x2 1088 (by decide) _) (load_T arg5 harg5 x2 544 (by decide) _) (load_T arg5 harg5 x2 0 (by decide) _)
        · exact (View.readAt_eq_ld ..).trans rfl
        · exact (View.readAt_eq_ld ..).trans rfl
        · exact (View.readAt_eq_ld ..).trans rfl
        · exact (View.readAt_eq_ld ..).trans rfl
      exact (View.readAt_eq_ld ..).trans (View.ld_unit_zero (S := S2176x1024) hz _ _)
    iexists _; isplitr; swap; · iexact H8
    ipureintro
    refine (View.read_writes_eq_canon _ _ _ (View.cover_of_tiledL _ S256x1024.size (by sl_kernel_rfl))).trans ((View.canon_unit_zero (S := S256x1024) hz _ _).trans ?_)
    refine congrArg₂ k0_pay2 ?_ ?_
    · refine (View.readCov_eq_canon' ..).trans ((View.ld_unit_zero (S := S2176x256) hz _ _).trans ?_)
      refine value_canon d x0 x1 ?_ ?_ ?_ ?_ (load_all rfl arg3 harg3 x0 hz _) (load_T arg4 harg4 x1 1632 (by decide) _) (load_T arg4 harg4 x1 1088 (by decide) _) (load_T arg4 harg4 x1 544 (by decide) _) (load_T arg4 harg4 x1 0 (by decide) _)
      · exact (View.readAt_eq_ld ..).trans rfl
      · exact (View.readAt_eq_ld ..).trans rfl
      · exact (View.readAt_eq_ld ..).trans rfl
      · exact (View.readAt_eq_ld ..).trans rfl
    exact (View.readAt_eq_ld ..).trans (View.ld_unit_zero (S := S2176x1024) hz _ _)
  isplitl [HS0 HS1]
  · isplitl [HS0]; · iexact HS0
    iexact HS1
  isplitl [Hq0 Hq1 Hq2 Hq3 Hr0 Hr1 Hr2 Hr3 Hd Hu]
  · isplitl [Hq0]; · iexact Hq0
    isplitl [Hq1]; · iexact Hq1
    isplitl [Hq2]; · iexact Hq2
    isplitl [Hq3]; · iexact Hq3
    isplitl [Hr0]; · iexact Hr0
    isplitl [Hr1]; · iexact Hr1
    isplitl [Hr2]; · iexact Hr2
    isplitl [Hr3]; · iexact Hr3
    isplitl [Hd]; · iexact Hd
    iexact Hu
  iexists _; iexact HW

end Cert.Kernel2Ideal.GateRun

end
-- ==== Proof.GateFrame.lean ====
/- The whole pass over the gradient of the gated product: what each grid point leaves, the run of the program, and
   that it ends with its arguments unchanged and every semaphore at zero. -/
module

public import proofs.«01_k».proof.Proof.GateRun

@[expose] public section

set_option maxRecDepth 16384

noncomputable section

namespace Cert.Kernel2Ideal.GateFrame

open Cert.Kernel2Ideal Cert.Kernel2Ideal.Gen Cert.Kernel2Ideal.GateRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to its call, over the algebra that the body's own transfers need. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-! ## What the body holds between points -/

/-- The body's eight transfer cells. -/
abbrev osem0 : Fin 8 → SemLoc sig := fun j => (![SemLoc.dma 18, SemLoc.dma 19, SemLoc.dma 20, SemLoc.dma 21, SemLoc.dma 22, SemLoc.dma 23, SemLoc.dma 24, SemLoc.dma 25] : Fin 8 → SemLoc sig) j
theorem ownSemFacts0 : Pipeline.OwnSemFacts spec0 osem0 := by decide
/-- The two arrays it reads from HBM. -/
def H0 : Finset (Ref sig .tc) := {main_v4, main_v9}
theorem H0_sub : H0 ⊆ Pipeline.restRefs sig spec0 := by decide

theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) := by
  rw [Pipeline.ownSems0_eq_of_list c osem0 [0, 1, 2, 3, 4, 5, 6, 7] (by decide) (by decide)]; rfl

theorem hbmPts_eq (c : Dev nD) :
    (bigSep H0 (fun b => ((c : Thread nD τ).loc b) ↦{fullShare} V m c b) : sProp 𝕄)
      = iprop(pt c hbM0 (V m c main_v4) ∗ pt c hbM1 (V m c main_v9)) := by
  rw [BI.bigSep_eq_bigSepL_of_eq [main_v4, main_v9] (by decide) (by decide)]; rfl

theorem PhiD_eq (c : Dev nD) :
    (Pipeline.ΦD osem0 spec0 H0 (V m) c : sProp 𝕄)
      = iprop(((∃ f, pt c scM0 f) ∗ (∃ f, pt c scM1 f)) ∗ (∃ r, prngReg c r)
          ∗ (semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0)
          ∗ (pt c hbM0 (V m c main_v4) ∗ pt c hbM1 (V m c main_v9))) := by
  rw [Pipeline.ΦD_eq, scopedRest0_eq, ownSems_eq, hbmPts_eq]; try rfl

/-- Before point `p`: the two arrays on the core are copies of those in HBM, once a point has gone; the cells are at zero. -/
def inv (c : Dev nD) (p : Fin (cfg0.N + 1)) : sProp 𝕄 :=
  iprop((∃ f0 f1, ⌜p.val ≠ 0 → f0 = V m c main_v4 ∧ f1 = V m c main_v9⌝ ∗ pt c scM0 f0 ∗ pt c scM1 f1)
    ∗ (∃ r, prngReg c r) ∗ cells c (V m c main_v4) (V m c main_v9))

/-! ## The staged blocks -/

abbrev ms0 (t : Fin cfg0.N) : Memref sig .tc .vmem S256x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2176x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2176x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2176x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2176x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2176x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x1024 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x1024 .bf16 := win0_8.stage (cfg0.slots t 8)
abbrev hs8 (t : Fin cfg0.N) : (ms8 t).IsWhole := hstage0_8 ((cfg0.slots t 8).cast nbuf0_8)

/-- The pass: the arrays as the call finds them, the inputs' blocks left in place, each result's block at what the point's run left. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => gateOf (V m c main_v4) (iblk m c 0 t) (iblk m c 1 t) (iblk m c 2 t)
    | ⟨5, _⟩ => valueOf (V m c main_v4) (iblk m c 0 t) (iblk m c 1 t)
    | ⟨6, _⟩ => downOf (V m c main_v4) (iblk m c 3 t)
    | ⟨7, _⟩ => gateWOf (V m c main_v4) (V m c main_v9) (iblk m c 0 t) (iblk m c 1 t) (iblk m c 2 t)
    | ⟨8, _⟩ => upWOf (V m c main_v4) (V m c main_v9) (iblk m c 0 t) (iblk m c 1 t)
  Φ p := inv m c p
  q _ := fullShare
  owed _ := 0

theorem A_eq (c : Dev nD) (w : Fin cfg0.W) : (dats m 0 c).A w = V m c (Pipeline.arrRef spec0 w) := by
  dsimp only [dats]
/-- What each result's block, and each input's, is after point `t`. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = gateOf (V m c main_v4) (iblk m c 0 t) (iblk m c 1 t) (iblk m c 2 t) := by dsimp only [dats]
theorem after5 (c : Dev nD) (t : Fin cfg0.N) : (dats m 0 c).after 5 t = valueOf (V m c main_v4) (iblk m c 0 t) (iblk m c 1 t) := by dsimp only [dats]
theorem after6 (c : Dev nD) (t : Fin cfg0.N) : (dats m 0 c).after 6 t = downOf (V m c main_v4) (iblk m c 3 t) := by dsimp only [dats]
theorem after7 (c : Dev nD) (t : Fin cfg0.N) : (dats m 0 c).after 7 t = gateWOf (V m c main_v4) (V m c main_v9) (iblk m c 0 t) (iblk m c 1 t) (iblk m c 2 t) := by dsimp only [dats]
theorem after8 (c : Dev nD) (t : Fin cfg0.N) : (dats m 0 c).after 8 t = upWOf (V m c main_v4) (V m c main_v9) (iblk m c 0 t) (iblk m c 1 t) := by dsimp only [dats]
/-- Each input's staging buffer holds its block at every point. -/
theorem before0 (c : Dev nD) (t : Fin cfg0.N) (e) : (dats m 0 c).before 0 t e = iblk m c 0 t :=
  ((dats m 0 c).before_in_eq_fetched 0 rfl (fun _ => rfl) (fun _ _ _ => rfl) (fun t => by rw [after0]; unfold Dat.blockOf iblk; rw [A_eq]; try rfl) t e).trans
    (by unfold Dat.fetched Dat.blockOf iblk; rw [A_eq]; try rfl)
theorem before1 (c : Dev nD) (t : Fin cfg0.N) (e) : (dats m 0 c).before 1 t e = iblk m c 1 t :=
  ((dats m 0 c).before_in_eq_fetched 1 rfl (fun _ => rfl) (fun _ _ _ => rfl) (fun t => by rw [after1]; unfold Dat.blockOf iblk; rw [A_eq]; try rfl) t e).trans
    (by unfold Dat.fetched Dat.blockOf iblk; rw [A_eq]; try rfl)
theorem before2 (c : Dev nD) (t : Fin cfg0.N) (e) : (dats m 0 c).before 2 t e = iblk m c 2 t :=
  ((dats m 0 c).before_in_eq_fetched 2 rfl (fun _ => rfl) (fun _ _ _ => rfl) (fun t => by rw [after2]; unfold Dat.blockOf iblk; rw [A_eq]; try rfl) t e).trans
    (by unfold Dat.fetched Dat.blockOf iblk; rw [A_eq]; try rfl)
theorem before3 (c : Dev nD) (t : Fin cfg0.N) (e) : (dats m 0 c).before 3 t e = iblk m c 3 t :=
  ((dats m 0 c).before_in_eq_fetched 3 rfl (fun _ => rfl) (fun _ _ _ => rfl) (fun t => by rw [after3]; unfold Dat.blockOf iblk; rw [A_eq]; try rfl) t e).trans
    (by unfold Dat.fetched Dat.blockOf iblk; rw [A_eq]; try rfl)

/-- Which coordinate a point has. -/
theorem coord_val (t : Fin cfg0.N) : (grid0.coords t 0).val = t.val := by
  rcases fin_N0 t with rfl | rfl | rfl | rfl | rfl | rfl | rfl | rfl | rfl | rfl | rfl <;> rfl
theorem coords_first (t : Fin cfg0.N) : (t.val = 0 → grid0.coords t 0 = (0 : Fin 11)) ∧ (t.val ≠ 0 → grid0.coords t 0 ≠ (0 : Fin 11)) :=
  ⟨fun h => Fin.ext ((coord_val t).trans h), fun h e => h ((coord_val t).symm.trans (congrArg Fin.val e))⟩

/-! ## One point of the pass -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t))

/-- The point as run, from the arrays on the core at `f0` and `f1`: copies of those in HBM unless it is the first. -/
theorem point (c : Dev nD) (t : Fin cfg0.N) (f0 f1) (hf : t.val ≠ 0 → f0 = V m c main_v4 ∧ f1 = V m c main_v9) (W : Waits sig Unit) (K : PUnit → sProp 𝕄) :
    iprop(ins (F := F) c (ms0 t) (ms1 t) (ms2 t) (ms3 t) (iblk m c 0 t) (iblk m c 1 t) (iblk m c 2 t) (iblk m c 3 t) ∗ outs0 (F := F) c (ms4 t) (ms5 t) (ms6 t) (ms7 t) (ms8 t)
        ∗ (pt c scM0 f0 ∗ pt c scM1 f1) ∗ cells c (V m c main_v4) (V m c main_v9) ∗ owes (c : Thread nD τ) 0 W
        ∗ ((ins (F := F) c (ms0 t) (ms1 t) (ms2 t) (ms3 t) (iblk m c 0 t) (iblk m c 1 t) (iblk m c 2 t) (iblk m c 3 t)
            ∗ outs1 (F := F) c (ms4 t) (ms5 t) (ms6 t) (ms7 t) (ms8 t) (iblk m c 0 t) (iblk m c 1 t) (iblk m c 2 t) (iblk m c 3 t) (V m c main_v4) (V m c main_v9)
            ∗ (pt c scM0 (V m c main_v4) ∗ pt c scM1 (V m c main_v9)) ∗ cells c (V m c main_v4) (V m c main_v9) ∗ ∃ W', owes (c : Thread nD τ) 0 W') -∗ K ⟨⟩))
      ⊢ wp frame (wpE (defs₀ (F := F)) Variants.none c none) Set.univ (bodyAt0 t) K := by
  by_cases ht : t.val = 0
  · refine .trans ?_ (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (iblk m c 0 t) (iblk m c 1 t) (iblk m c 2 t) (iblk m c 3 t) (V m c main_v4) (V m c main_v9) ((coords_first t).1 ht) W K)
    iintro ⟨Hi, Ho, ⟨HS0, HS1⟩, Hc, HW, Hk⟩
    isplitl [Hi]; · iexact Hi
    isplitl [Ho]; · iexact Ho
    isplitl [HS0 HS1]
    · isplitl [HS0]; · iexists _; iexact HS0
      iexists _; iexact HS1
    isplitl [Hc]; · iexact Hc
    isplitl [HW]; · iexact HW
    iexact Hk
  · obtain ⟨rfl, rfl⟩ := hf ht
    exact run_later c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (iblk m c 0 t) (iblk m c 1 t) (iblk m c 2 t) (iblk m c 3 t) (V m c main_v4) (V m c main_v9) ((coords_first t).2 ht) W K

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0 m c t, before1 m c t, before2 m c t, before3 m c t]
  rw [after0, after1, after2, after3, after4, after5, after6, after7, after8]
  rw [show (dats m 0 c).Φ t.castSucc = inv m c t.castSucc from rfl, show (dats m 0 c).Φ t.succ = inv m c t.succ from rfl]
  unfold inv Dat.owesAt Pipeline.owesWithin
  rw [show (dats m 0 c).owed t.castSucc = 0 from rfl, show (dats m 0 c).owed t.succ = 0 from rfl]
  iintro ⟨⟨⟨%f0, %f1, %hf, HS0, HS1⟩, Hg, Hc⟩, ⟨%W, -, HW⟩, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
  iapply (point m c t f0 f1 hf W _)
  isplitl [H0 H1 H2 H3]
  · isplitl [H0]; · iexact H0
    isplitl [H1]; · iexact H1
    isplitl [H2]; · iexact H2
    iexact H3
  isplitl [H4 H5 H6 H7 H8]
  · isplitl [H4]; · iexists _; iexact H4
    isplitl [H5]; · iexists _; iexact H5
    isplitl [H6]; · iexists _; iexact H6
    isplitl [H7]; · iexists _; iexact H7
    iexists _; iexact H8
  isplitl [HS0 HS1]
  · isplitl [HS0]; · iexact HS0
    iexact HS1
  isplitl [Hc]; · iexact Hc
  isplitl [HW]; · iexact HW
  iintro ⟨⟨H0, H1, H2, H3⟩, ⟨H4, H5, H6, H7, H8⟩, ⟨HS0, HS1⟩, Hc, ⟨%W', HW⟩⟩
  isplitl [HS0 HS1 Hg Hc]
  · isplitl [HS0 HS1]
    · iexists _, _
      isplitr; swap
      · isplitl [HS0]; · iexact HS0
        iexact HS1
      ipureintro; exact fun _ => ⟨rfl, rfl⟩
    isplitl [Hg]; · iexact Hg
    iexact Hc
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_first (c : Dev nD) : Pipeline.ΦD osem0 spec0 H0 (V m) c ⊢ inv m c 0 := by
  rw [PhiD_eq]; unfold inv cells
  iintro ⟨⟨⟨%f0, HS0⟩, ⟨%f1, HS1⟩⟩, Hg, ⟨Hq0, Hq1, Hq2, Hq3, Hr0, Hr1, Hr2, Hr3⟩, ⟨Hd, Hu⟩⟩
  isplitl [HS0 HS1]
  · iexists _, _
    isplitr; swap
    · isplitl [HS0]; · iexact HS0
      iexact HS1
    ipureintro; exact fun h => absurd rfl h
  isplitl [Hg]; · iexact Hg
  isplitl [Hq0]; · iexact Hq0
  isplitl [Hq1]; · iexact Hq1
  isplitl [Hq2]; · iexact Hq2
  isplitl [Hq3]; · iexact Hq3
  isplitl [Hr0]; · iexact Hr0
  isplitl [Hr1]; · iexact Hr1
  isplitl [Hr2]; · iexact Hr2
  isplitl [Hr3]; · iexact Hr3
  isplitl [Hd]; · iexact Hd
  iexact Hu

theorem inv_last (c : Dev nD) : inv m c (Fin.last cfg0.N) ⊢ Pipeline.ΦD osem0 spec0 H0 (V m) c := by
  rw [PhiD_eq]; unfold inv cells
  iintro ⟨⟨%f0, %f1, -, HS0, HS1⟩, Hg, ⟨Hq0, Hq1, Hq2, Hq3, Hr0, Hr1, Hr2, Hr3, Hd, Hu⟩⟩
  isplitl [HS0 HS1]
  · isplitl [HS0]; · iexists _; iexact HS0
    iexists _; iexact HS1
  isplitl [Hg]; · iexact Hg
  isplitl [Hq0 Hq1 Hq2 Hq3 Hr0 Hr1 Hr2 Hr3]
  · isplitl [Hq0]; · iexact Hq0
    isplitl [Hq1]; · iexact Hq1
    isplitl [Hq2]; · iexact Hq2
    isplitl [Hq3]; · iexact Hq3
    isplitl [Hr0]; · iexact Hr0
    isplitl [Hr1]; · iexact Hr1
    isplitl [Hr2]; · iexact Hr2
    iexact Hr3
  isplitl [Hd]; · iexact Hd
  iexact Hu

set_option backward.isDefEq.respectTransparency.types false in
/-- The program runs: every array ends as the pass leaves it, every other unscoped buffer as the call found it, every
    semaphore at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := inv_first m) (hout := inv_last m)

/-- The program ends with its arguments unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Kernel2Ideal.GateFrame

end
-- ==== Proof.GateBlock.lean ====
/- What one grid point of the gated product's gradient leaves in its five blocks, at an entry, over finite blocks. -/
module

public import proofs.«01_k».proof.Proof.GateRun
public import proofs.«01_k».proof.Proof.GateReal
public import proofs.«01_k».proof.Proof.OutBlock

@[expose] public section

set_option maxRecDepth 16384

noncomputable section

namespace Cert.Kernel2Ideal.GateBlock

open Idealize.ShloMosaic Cert.Kernel2Ideal Cert.Kernel2Ideal.Gen Cert.Kernel2Ideal.GateRun Cert.GateReal
open Cert.KernelIdeal.OutHalf (lit_half one_real coe_sum)
open Cert.KernelIdeal.OutBlock (ld2)

section Rows

variable {d : Vec Ideal S544x1024 .bf16} {w : Vec Ideal S256x1024 .bf16} {g v : Vec Ideal S544x256 .bf16}
variable {D : Fin 544 → Fin 1024 → ℝ} {W : Fin 256 → Fin 1024 → ℝ} {G V : Fin 544 → Fin 256 → ℝ}
variable (hd : ∀ r k, d (ix2 r k) = ((D r k : ℝ) : EReal)) (hw : ∀ c k, w (ix2 c k) = ((W c k : ℝ) : EReal))
  (hg : ∀ r c, g (ix2 r c) = ((G r c : ℝ) : EReal)) (hv : ∀ r c, v (ix2 r c) = ((V r c : ℝ) : EReal))

include hd hw in
theorem pay3_apply (r : Fin 544) (c : Fin 256) : k0_pay3 d w (ix2 r c) = ((∑ k, D r k * W c k : ℝ) : EReal) := by
  pointwise [k0_pay3]
  simp only [hd, hw, ← EReal.coe_mul, coe_sum]

include hg in
theorem pay6_apply (r : Fin 544) (c : Fin 256) : k0_pay6 g (ix2 r c) = ((1 / 2 * Real.tanh (1 / 2 * G r c) : ℝ) : EReal) := by
  pointwise [k0_pay6, k0_pay4]
  simp only [hg, lit_half, ← EReal.coe_mul, Ideal.tanh_coe]

include hd hw hg hv in
/-- The gate's gradient on the rows. -/
theorem gateBlk_apply (r : Fin 544) (c : Fin 256) :
    gateBlk d w g v (ix2 r c) = (((∑ k, D r k * W c k) * V r c * siluGrad (G r c) : ℝ) : EReal) := by
  unfold gateBlk siluGrad
  pointwise [k0_pay9, k0_pay8, k0_pay7, k0_pay4, k0_pay5]
  simp only [pay3_apply hd hw, pay6_apply hg, hg, hv, lit_half, one_real, ← EReal.coe_mul, ← EReal.coe_add, ← EReal.coe_sub, half_tanh]

include hd hw hg in
/-- The value's gradient on the rows. -/
theorem valueBlk_apply (r : Fin 544) (c : Fin 256) :
    valueBlk d w g (ix2 r c) = (((∑ k, D r k * W c k) * (G r c * sg (G r c)) : ℝ) : EReal) := by
  unfold valueBlk
  pointwise [k0_pay10, k0_pay8, k0_pay7, k0_pay4]
  simp only [pay3_apply hd hw, pay6_apply hg, hg, lit_half, one_real, ← EReal.coe_mul, ← EReal.coe_add, half_tanh]

end Rows

section Whole

/-- Four blocks of rows that each hold `X` where they lie: together they hold `X`. -/
theorem four_apply (B : (o : ℕ) → o + 544 ≤ 2176 → Vec Ideal S544x256 .bf16) (X : Fin 2176 → Fin 256 → ℝ)
    (h : ∀ o ho (r : Fin 544) (c : Fin 256), B o ho (ix2 r c) = ((X ⟨o + r.val, by omega⟩ c : ℝ) : EReal)) :
    four B = fun y => ((X (y 0) (y 1) : ℝ) : EReal) := by
  funext y
  have key : ∀ o ho (x : S544x256.Idx), B o ho x
      = (fun y : S2176x256.Idx => ((X (y 0) (y 1) : ℝ) : EReal)) ((Rect.unit (s := S2176x256) ![o, 0] S544x256.size (rows_inb o ho)).emb x) := by
    intro o ho x
    obtain ⟨r, c, rfl⟩ : ∃ (r : Fin 544) (c : Fin 256), x = ix2 r c := ⟨x 0, x 1, eq_ix2 x⟩
    refine (h o ho r c).trans ?_
    refine congrArg₂ (fun (a : Fin 2176) (b : Fin 256) => ((X a b : ℝ) : EReal)) (Fin.ext ?_) (Fin.ext ?_)
    · simp [Rect.emb, Rect.unit]
    · simp [Rect.emb, Rect.unit]
  have hy := (y 0).isLt
  unfold four
  refine View.canon_apply_of_pieces (Val := Elt Ideal) (e := .bf16) (G := (fun y => ((X (y 0) (y 1) : ℝ) : EReal) : Vec Ideal S2176x256 .bf16)) _ ?_ y ?_
  · intro p hp
    simp only [List.mem_cons, List.not_mem_nil, or_false] at hp
    rcases hp with rfl | rfl | rfl | rfl <;> exact key _ _
  · have hm : ∀ o ho, o ≤ (y 0).val → (y 0).val < o + 544 → y ∈ (Rect.unit (s := S2176x256) ![o, 0] S544x256.size (rows_inb o ho)).set := by
      intro o ho h1 h2
      rw [Rect.mem_set_unit]
      intro t
      match t with
      | ⟨0, _⟩ => exact ⟨h1, h2⟩
      | ⟨1, _⟩ => exact ⟨Nat.zero_le _, by have := (y 1).isLt; simpa using this⟩
    have hlt : (y 0).val < 2176 := hy
    rcases lt_or_ge (y 0).val 544 with h | h
    · refine ⟨⟨Rect.unit (s := S2176x256) ![0, 0] S544x256.size (rows_inb 0 (by decide)), B 0 (by decide)⟩, List.mem_cons_of_mem _ (List.mem_cons_of_mem _ (List.mem_cons_of_mem _ List.mem_cons_self)), ?_⟩
      dsimp only
      exact hm 0 (by decide) (Nat.zero_le _) (by omega)
    rcases lt_or_ge (y 0).val 1088 with h' | h'
    · refine ⟨⟨Rect.unit (s := S2176x256) ![544, 0] S544x256.size (rows_inb 544 (by decide)), B 544 (by decide)⟩, List.mem_cons_of_mem _ (List.mem_cons_of_mem _ List.mem_cons_self), ?_⟩
      dsimp only
      exact hm 544 (by decide) (h) (h')
    rcases lt_or_ge (y 0).val 1632 with h'' | h''
    · refine ⟨⟨Rect.unit (s := S2176x256) ![1088, 0] S544x256.size (rows_inb 1088 (by decide)), B 1088 (by decide)⟩, List.mem_cons_of_mem _ List.mem_cons_self, ?_⟩
      dsimp only
      exact hm 1088 (by decide) (h') (h'')
    · refine ⟨⟨Rect.unit (s := S2176x256) ![1632, 0] S544x256.size (rows_inb 1632 (by decide)), B 1632 (by decide)⟩, List.mem_cons_self, ?_⟩
      dsimp only
      exact hm 1632 (by decide) (h'') (by omega)

variable {d u : Vec Ideal S2176x1024 .bf16} {w : Vec Ideal S256x1024 .bf16} {g v a : Vec Ideal S2176x256 .bf16}
variable {D U : Fin 2176 → Fin 1024 → ℝ} {W : Fin 256 → Fin 1024 → ℝ} {G V A : Fin 2176 → Fin 256 → ℝ}
variable (hd : ∀ r k, d (ix2 r k) = ((D r k : ℝ) : EReal)) (hu : ∀ r k, u (ix2 r k) = ((U r k : ℝ) : EReal))
  (hw : ∀ c k, w (ix2 c k) = ((W c k : ℝ) : EReal)) (hg : ∀ r c, g (ix2 r c) = ((G r c : ℝ) : EReal))
  (hv : ∀ r c, v (ix2 r c) = ((V r c : ℝ) : EReal)) (ha : ∀ r c, a (ix2 r c) = ((A r c : ℝ) : EReal))

theorem rowsD_apply (o : ℕ) (ho : o + 544 ≤ 2176) (r : Fin 544) (k : Fin 1024) : rowsD o ho d (ix2 r k) = d (ix2 ⟨o + r.val, by omega⟩ k) :=
  ld2 (m0 := 544) (m1 := 1024) d ![o, 0] (rows_inb o ho) r k ⟨o + r.val, by omega⟩ k rfl (by simp)
theorem rowsT_apply (o : ℕ) (ho : o + 544 ≤ 2176) (r : Fin 544) (k : Fin 256) : rowsT o ho g (ix2 r k) = g (ix2 ⟨o + r.val, by omega⟩ k) :=
  ld2 (m0 := 544) (m1 := 256) g ![o, 0] (rows_inb o ho) r k ⟨o + r.val, by omega⟩ k rfl (by simp)

include hd hw hg hv in
theorem gateOf_eq : gateOf d w g v = fun y => (((∑ k, D (y 0) k * W (y 1) k) * V (y 0) (y 1) * siluGrad (G (y 0) (y 1)) : ℝ) : EReal) := by
  unfold gateOf
  exact four_apply _ (fun r c => (∑ k, D r k * W c k) * V r c * siluGrad (G r c)) fun o ho r c =>
    gateBlk_apply (D := fun r k => D ⟨o + r.val, by omega⟩ k) (G := fun r c => G ⟨o + r.val, by omega⟩ c) (V := fun r c => V ⟨o + r.val, by omega⟩ c)
      (fun r k => (rowsD_apply o ho r k).trans (hd _ _)) hw (fun r c => (rowsT_apply o ho r c).trans (hg _ _)) (fun r c => (rowsT_apply o ho r c).trans (hv _ _)) r c

include hd hw hg in
theorem valueOf_eq : valueOf d w g = fun y => (((∑ k, D (y 0) k * W (y 1) k) * (G (y 0) (y 1) * sg (G (y 0) (y 1))) : ℝ) : EReal) := by
  unfold valueOf
  exact four_apply _ (fun r c => (∑ k, D r k * W c k) * (G r c * sg (G r c))) fun o ho r c =>
    valueBlk_apply (D := fun r k => D ⟨o + r.val, by omega⟩ k) (G := fun r c => G ⟨o + r.val, by omega⟩ c)
      (fun r k => (rowsD_apply o ho r k).trans (hd _ _)) hw (fun r c => (rowsT_apply o ho r c).trans (hg _ _)) r c

include ha hd in
/-- The down weight's gradient on the point's rows. -/
theorem downOf_apply (c : Fin 256) (k : Fin 1024) : downOf d a (ix2 c k) = ((∑ r, A r c * D r k : ℝ) : EReal) := by
  unfold downOf
  pointwise [k0_pay11]
  simp only [ha, hd, ← EReal.coe_mul, coe_sum]

include hd hu hw hg hv in
/-- The gate weight's gradient on the point's rows. -/
theorem gateWOf_apply (c : Fin 256) (k : Fin 1024) :
    gateWOf d u w g v (ix2 c k) = ((∑ r, (∑ l, D r l * W c l) * V r c * siluGrad (G r c) * U r k : ℝ) : EReal) := by
  unfold gateWOf
  rw [gateOf_eq hd hw hg hv]
  pointwise [k0_pay1, k0_pay12]
  simp only [hu, ← EReal.coe_mul, coe_sum]

include hd hu hw hg in
/-- The value weight's gradient on the point's rows. -/
theorem upWOf_apply (c : Fin 256) (k : Fin 1024) :
    upWOf d u w g (ix2 c k) = ((∑ r, (∑ l, D r l * W c l) * (G r c * sg (G r c)) * U r k : ℝ) : EReal) := by
  unfold upWOf
  rw [valueOf_eq hd hw hg]
  pointwise [k0_pay2]
  simp only [hu, ← EReal.coe_mul, coe_sum]

end Whole

end Cert.Kernel2Ideal.GateBlock
end
-- ==== Proof.GateArray.lean ====
/- What the five result arrays of the gated product's gradient hold after the run, at an entry, over finite arguments. -/
module

public import proofs.«01_k».proof.Proof.GateFrame
public import proofs.«01_k».proof.Proof.GateBlock
public import Idealize.ShloMosaic.Lib.StableHlo.ReadAt
public import Idealize.ShloMosaic.Lib.Pipeline.ValueKit.Point
public import Idealize.ShloMosaic.Lib.Pipeline.ValueKit.Geometry

@[expose] public section

set_option maxRecDepth 16384

noncomputable section

namespace Cert.Kernel2Ideal.GateArray

open Idealize.ShloMosaic Idealize.ShloMosaic.TcCoe Idealize.SL.Sem
open Cert.Kernel2Ideal Cert.Kernel2Ideal.Gen Cert.Kernel2Ideal.GateRun Cert.Kernel2Ideal.GateFrame Cert.Kernel2Ideal.GateBlock Cert.GateReal
open Cert.KernelIdeal.OutHalf (one_real coe_sum div_real)

variable (m : (ℓ : Loc nD τ sig) → Buf (Elt Ideal) ℓ) (c : Dev nD)

theorem V4 (r : Fin 2176) (k : Fin 1024) : (V m c main_v4 : Vec Ideal S2176x1024 .bf16) (ix2 r k) = (m ((c : Thread nD τ).loc main_arg4) : Vec Ideal S2176x1024 .f32) (ix2 r k) := by
  unfold V
  after_reads_at

theorem V5 (r : Fin 2816) (k : Fin 1024) : (V m c main_v5 : Vec Ideal S2816x1024 .bf16) (ix2 r k) = (m ((c : Thread nD τ).loc main_arg3) : Vec Ideal S2816x1024 .f32) (ix2 r k) := by
  unfold V
  after_reads_at

theorem V9 (r : Fin 2176) (k : Fin 1024) : (V m c main_v9 : Vec Ideal S2176x1024 .bf16) (ix2 r k) = (m ((c : Thread nD τ).loc main_arg0) : Vec Ideal S2176x1024 .f32) (ix2 r k) := by
  unfold V
  after_reads_at

variable {U D : Fin 2176 → Fin 1024 → ℝ} {G P : Fin 1024 → Fin 2816 → ℝ} {W : Fin 2816 → Fin 1024 → ℝ}
variable (h0 : ∀ r k, (m ((c : Thread nD τ).loc main_arg0) : Vec Ideal S2176x1024 .f32) (ix2 r k) = ((U r k : ℝ) : EReal))
  (h1 : ∀ r k, (m ((c : Thread nD τ).loc main_arg1) : Vec Ideal S1024x2816 .f32) (ix2 r k) = ((G r k : ℝ) : EReal))
  (h2 : ∀ r k, (m ((c : Thread nD τ).loc main_arg2) : Vec Ideal S1024x2816 .f32) (ix2 r k) = ((P r k : ℝ) : EReal))
  (h3 : ∀ r k, (m ((c : Thread nD τ).loc main_arg3) : Vec Ideal S2816x1024 .f32) (ix2 r k) = ((W r k : ℝ) : EReal))
  (h4 : ∀ r k, (m ((c : Thread nD τ).loc main_arg4) : Vec Ideal S2176x1024 .f32) (ix2 r k) = ((D r k : ℝ) : EReal))

/-- A product of two arrays of reals, at an entry. -/
theorem proj_eq {x : Vec Ideal S2176x1024 .f32} {w : Vec Ideal S1024x2816 .f32} {U : Fin 2176 → Fin 1024 → ℝ} {G : Fin 1024 → Fin 2816 → ℝ}
    (hx : ∀ r k, x (ix2 r k) = ((U r k : ℝ) : EReal)) (hw : ∀ r k, w (ix2 r k) = ((G r k : ℝ) : EReal)) (r : Fin 2176) (k : Fin 2816) :
    (∑ l : Fin 1024, (x (ix2 r l) : EReal) * w (ix2 l k)) = ((proj U G r k : ℝ) : EReal) := by
  simp only [hx, hw, ← EReal.coe_mul, coe_sum]
  rfl

include h0 h1 in
theorem V6 (r : Fin 2176) (k : Fin 2816) : (V m c main_v6 : Vec Ideal S2176x2816 .bf16) (ix2 r k) = ((proj U G r k : ℝ) : EReal) := by
  unfold V
  after_reads_at
  exact proj_eq h0 h1 r k

include h0 h2 in
theorem V7 (r : Fin 2176) (k : Fin 2816) : (V m c main_v7 : Vec Ideal S2176x2816 .bf16) (ix2 r k) = ((proj U P r k : ℝ) : EReal) := by
  unfold V
  after_reads_at
  exact proj_eq h0 h2 r k

include h0 h1 h2 in
theorem V8 (r : Fin 2176) (k : Fin 2816) : (V m c main_v8 : Vec Ideal S2176x2816 .bf16) (ix2 r k) = ((act U G P r k : ℝ) : EReal) := by
  unfold V
  after_reads_at
  have e1 := proj_eq h0 h1 r k
  have e2 := proj_eq h0 h2 r k
  refine Eq.trans (congrArg₂ (· * ·) (congrArg₂ (· * ·) e1 (congrArg (fun z : EReal => Ideal.div 1 (1 + Ideal.exp (-z))) e1)) e2) ?_
  rw [sg_eq, ← EReal.coe_mul, ← EReal.coe_mul]
  rfl

/-! ## A point's blocks -/

/-- Column `k` of point `t`'s block, and the columns of an array that a point has. -/
def col (t : Fin cfg0.N) (k : Fin 256) : Fin 2816 := ⟨t.val * 256 + k.val, by
  have h := t.isLt
  have e : cfg0.N = 11 := by decide
  omega⟩

theorem idx : ∀ t : Fin cfg0.N, win0_0.index t = ![t.val, 0] ∧ win0_1.index t = ![0, t.val] ∧ win0_2.index t = ![0, t.val] ∧ win0_3.index t = ![0, t.val]
    ∧ win0_4.index t = ![0, t.val] ∧ win0_5.index t = ![0, t.val] ∧ win0_6.index t = ![t.val, 0] ∧ win0_7.index t = ![t.val, 0] ∧ win0_8.index t = ![t.val, 0] :=
  (by decide +kernel : ∀ t : Fin grid0.N, _)

include h3 in
theorem x0_eq (t : Fin cfg0.N) (r : Fin 256) (k : Fin 1024) : (iblk m c 0 t : Vec Ideal S256x1024 .bf16) (ix2 r k) = ((W (col t r) k : ℝ) : EReal) := by
  refine Eq.trans ?_ ((V5 m c _ _).trans (h3 _ _))
  have e := idx t
  blk_ext [iblk, e, col]

include h0 h1 in
theorem x1_eq (t : Fin cfg0.N) (r : Fin 2176) (k : Fin 256) : (iblk m c 1 t : Vec Ideal S2176x256 .bf16) (ix2 r k) = ((proj U G r (col t k) : ℝ) : EReal) := by
  refine Eq.trans ?_ (V6 m c h0 h1 r (col t k))
  have e := idx t
  blk_ext [iblk, e, col]

include h0 h2 in
theorem x2_eq (t : Fin cfg0.N) (r : Fin 2176) (k : Fin 256) : (iblk m c 2 t : Vec Ideal S2176x256 .bf16) (ix2 r k) = ((proj U P r (col t k) : ℝ) : EReal) := by
  refine Eq.trans ?_ (V7 m c h0 h2 r (col t k))
  have e := idx t
  blk_ext [iblk, e, col]

include h0 h1 h2 in
theorem x3_eq (t : Fin cfg0.N) (r : Fin 2176) (k : Fin 256) : (iblk m c 3 t : Vec Ideal S2176x256 .bf16) (ix2 r k) = ((act U G P r (col t k) : ℝ) : EReal) := by
  refine Eq.trans ?_ (V8 m c h0 h1 h2 r (col t k))
  have e := idx t
  blk_ext [iblk, e, col]

/-! ## The result arrays -/

include h0 h1 h2 h3 h4 in
/-- The gate's gradient. -/
theorem final4 : (dats m 0 c).arrAt 4 cfg0.N = fun y => ((dgate U D G P W (y 0) (y 1) : ℝ) : EReal) := by
  refine (dats m 0 c).arrAt_eq_of_covers 4 _ (by decide +kernel) fun t hf y => ?_
  blk_simp
  rw [after4, gateOf_eq (fun r k => (V4 m c r k).trans (h4 r k)) (x0_eq m c h3 t) (x1_eq m c h0 h1 t) (x2_eq m c h0 h2 t)]
  have e := idx t
  have e0 : (y 0 : Fin 2176) = (win0_4.blk t).view.emb y 0 := Fin.ext (by blk_simp [e])
  have e1 : (col t (y 1) : Fin 2816) = (win0_4.blk t).view.emb y 1 := Fin.ext (by blk_simp [e, col])
  exact congrArg₂ (fun (r : Fin 2176) (l : Fin 2816) => ((dgate U D G P W r l : ℝ) : EReal)) e0 e1

include h0 h1 h3 h4 in
/-- The value's gradient. -/
theorem final5 : (dats m 0 c).arrAt 5 cfg0.N = fun y => ((dvalue U D G W (y 0) (y 1) : ℝ) : EReal) := by
  refine (dats m 0 c).arrAt_eq_of_covers 5 _ (by decide +kernel) fun t hf y => ?_
  blk_simp
  rw [after5, valueOf_eq (fun r k => (V4 m c r k).trans (h4 r k)) (x0_eq m c h3 t) (x1_eq m c h0 h1 t)]
  have e := idx t
  have e0 : (y 0 : Fin 2176) = (win0_5.blk t).view.emb y 0 := Fin.ext (by blk_simp [e])
  have e1 : (col t (y 1) : Fin 2816) = (win0_5.blk t).view.emb y 1 := Fin.ext (by blk_simp [e, col])
  exact congrArg₂ (fun (r : Fin 2176) (l : Fin 2816) => ((dvalue U D G W r l : ℝ) : EReal)) e0 e1

include h0 h1 h2 h4 in
/-- The down weight's gradient. -/
theorem final6 : (dats m 0 c).arrAt 6 cfg0.N = fun y => ((weight (act U G P) D (y 0) (y 1) : ℝ) : EReal) := by
  refine (dats m 0 c).arrAt_eq_of_covers 6 _ (by decide +kernel) fun t hf y => ?_
  blk_simp
  rw [after6]
  have e := idx t
  have e0 : (col t (y 0) : Fin 2816) = (win0_6.blk t).view.emb y 0 := Fin.ext (by blk_simp [e, col])
  have e1 : (y 1 : Fin 1024) = (win0_6.blk t).view.emb y 1 := Fin.ext (by blk_simp [e])
  refine Eq.trans ?_ (congrArg₂ (fun (l : Fin 2816) (k : Fin 1024) => ((weight (act U G P) D l k : ℝ) : EReal)) e0 e1)
  exact (congrArg _ (eq_ix2 y)).trans (downOf_apply (fun r k => (V4 m c r k).trans (h4 r k)) (x3_eq m c h0 h1 h2 t) (y 0) (y 1))

include h0 h1 h2 h3 h4 in
/-- The gate weight's gradient. -/
theorem final7 : (dats m 0 c).arrAt 7 cfg0.N = fun y => ((weight (dgate U D G P W) U (y 0) (y 1) : ℝ) : EReal) := by
  refine (dats m 0 c).arrAt_eq_of_covers 7 _ (by decide +kernel) fun t hf y => ?_
  blk_simp
  rw [after7]
  have e := idx t
  have e0 : (col t (y 0) : Fin 2816) = (win0_7.blk t).view.emb y 0 := Fin.ext (by blk_simp [e, col])
  have e1 : (y 1 : Fin 1024) = (win0_7.blk t).view.emb y 1 := Fin.ext (by blk_simp [e])
  refine Eq.trans ?_ (congrArg₂ (fun (l : Fin 2816) (k : Fin 1024) => ((weight (dgate U D G P W) U l k : ℝ) : EReal)) e0 e1)
  exact (congrArg _ (eq_ix2 y)).trans (gateWOf_apply (fun r k => (V4 m c r k).trans (h4 r k)) (fun r k => (V9 m c r k).trans (h0 r k))
    (x0_eq m c h3 t) (x1_eq m c h0 h1 t) (x2_eq m c h0 h2 t) (y 0) (y 1))

include h0 h1 h3 h4 in
/-- The value weight's gradient. -/
theorem final8 : (dats m 0 c).arrAt 8 cfg0.N = fun y => ((weight (dvalue U D G W) U (y 0) (y 1) : ℝ) : EReal) := by
  refine (dats m 0 c).arrAt_eq_of_covers 8 _ (by decide +kernel) fun t hf y => ?_
  blk_simp
  rw [after8]
  have e := idx t
  have e0 : (col t (y 0) : Fin 2816) = (win0_8.blk t).view.emb y 0 := Fin.ext (by blk_simp [e, col])
  have e1 : (y 1 : Fin 1024) = (win0_8.blk t).view.emb y 1 := Fin.ext (by blk_simp [e])
  refine Eq.trans ?_ (congrArg₂ (fun (l : Fin 2816) (k : Fin 1024) => ((weight (dvalue U D G W) U l k : ℝ) : EReal)) e0 e1)
  exact (congrArg _ (eq_ix2 y)).trans (upWOf_apply (fun r k => (V4 m c r k).trans (h4 r k)) (fun r k => (V9 m c r k).trans (h0 r k))
    (x0_eq m c h3 t) (x1_eq m c h0 h1 t) (y 0) (y 1))

end Cert.Kernel2Ideal.GateArray
end
-- ==== Proof.GateRef.lean ====
/- What the reference's five results hold, at an entry, over finite arguments: the chain rule of the gated product. -/
module

public import proofs.«01_k».proof.Proof.GateReal
public import proofs.«01_k».proof.Proof.Gen.Reference2Ideal.Read

@[expose] public section

set_option maxRecDepth 16384

noncomputable section

namespace Cert.Reference2Ideal.GateRef

open Idealize.ShloMosaic Idealize.ShloMosaic.TcCoe Idealize.SL.Sem
open Cert.Reference2Ideal Cert.Reference2Ideal.Gen Cert.Reference2Ideal.Read Cert.GateReal
open Cert.KernelIdeal.OutHalf (one_real coe_sum div_real)

variable {x0 x4 : Vec Ideal S2176x1024 .f32} {x1 x2 : Vec Ideal S1024x2816 .f32} {x3 : Vec Ideal S2816x1024 .f32}
variable {U D : Fin 2176 → Fin 1024 → ℝ} {G P : Fin 1024 → Fin 2816 → ℝ} {W : Fin 2816 → Fin 1024 → ℝ}
variable (h0 : ∀ r k, x0 (ix2 r k) = ((U r k : ℝ) : EReal)) (h1 : ∀ r k, x1 (ix2 r k) = ((G r k : ℝ) : EReal))
  (h2 : ∀ r k, x2 (ix2 r k) = ((P r k : ℝ) : EReal)) (h3 : ∀ r k, x3 (ix2 r k) = ((W r k : ℝ) : EReal)) (h4 : ∀ r k, x4 (ix2 r k) = ((D r k : ℝ) : EReal))

include h0 h1 in
theorem v0_apply (r : Fin 2176) (k : Fin 2816) : val_main_v0 x0 x1 (ix2 r k) = ((proj U G r k : ℝ) : EReal) := by
  pointwise [val_main_v0]
  simp only [h0, h1, ← EReal.coe_mul, coe_sum]
  rfl

include h0 h2 in
theorem v1_apply (r : Fin 2176) (k : Fin 2816) : val_main_v1 x0 x2 (ix2 r k) = ((proj U P r k : ℝ) : EReal) := by
  pointwise [val_main_v1]
  simp only [h0, h2, ← EReal.coe_mul, coe_sum]
  rfl

include h0 h1 in
theorem sg_apply (r : Fin 2176) (k : Fin 2816) : val_main_v2_2 x0 x1 (ix2 r k) = ((sg (proj U G r k) : ℝ) : EReal) := by
  pointwise [val_main_v2_2, val_main_call0_v4, val_main_call0_v3, val_main_call0_cst_0, val_main_call0_v2, val_main_call0_cst, val_main_call0_v1, val_main_call0_v0]
  rw [v0_apply h0 h1, sg_eq]

include h0 h1 in
theorem slope_apply (r : Fin 2176) (k : Fin 2816) : val_main_v2_1 x0 x1 (ix2 r k) = ((sg (proj U G r k) * (1 - sg (proj U G r k)) : ℝ) : EReal) := by
  pointwise [val_main_v2_1, val_main_call0_v7, val_main_call0_v6, val_main_call0_cst_1]
  simp only [sg_apply h0 h1, one_real, ← EReal.coe_sub, ← EReal.coe_mul]

include h0 h1 h2 in
/-- The gated product. -/
theorem act_apply (r : Fin 2176) (k : Fin 2816) : val_main_v3 x0 x1 x2 (ix2 r k) = ((act U G P r k : ℝ) : EReal) := by
  pointwise [val_main_v3, val_main_v2_0]
  simp only [v0_apply h0 h1, v1_apply h0 h2, sg_apply h0 h1, ← EReal.coe_mul]
  rfl

include h3 h4 in
theorem dact_apply (r : Fin 2176) (k : Fin 2816) : val_main_v7 x3 x4 (ix2 r k) = ((dact D W r k : ℝ) : EReal) := by
  pointwise [val_main_v7]
  simp only [h3, h4, ← EReal.coe_mul, coe_sum]
  rfl

include h0 h1 h2 h3 h4 in
/-- The gate's gradient. -/
theorem dgate_apply (r : Fin 2176) (k : Fin 2816) : val_main_v10 x0 x1 x2 x3 x4 (ix2 r k) = ((dgate U D G P W r k : ℝ) : EReal) := by
  pointwise [val_main_v10, val_main_call1_v2, val_main_call1_v1, val_main_call1_v0, val_main_v9]
  simp only [v0_apply h0 h1, v1_apply h0 h2, sg_apply h0 h1, slope_apply h0 h1, dact_apply h3 h4, ← EReal.coe_mul, ← EReal.coe_add]
  congr 1
  unfold dgate siluGrad
  ring

include h0 h1 h3 h4 in
/-- The value's gradient. -/
theorem dvalue_apply (r : Fin 2176) (k : Fin 2816) : val_main_v8 x0 x1 x3 x4 (ix2 r k) = ((dvalue U D G W r k : ℝ) : EReal) := by
  pointwise [val_main_v8, val_main_v2_0]
  simp only [v0_apply h0 h1, sg_apply h0 h1, dact_apply h3 h4, ← EReal.coe_mul]
  congr 1
  unfold dvalue
  ring

include h0 h1 h2 h3 h4 in
theorem final17 : val_main_v17 x0 x1 x2 x3 x4 = fun y => ((dgate U D G P W (y 0) (y 1) : ℝ) : EReal) := by
  funext y
  obtain ⟨r, k, rfl⟩ : ∃ r k, y = ix2 r k := ⟨y 0, y 1, eq_ix2 y⟩
  exact dgate_apply h0 h1 h2 h3 h4 r k

include h0 h1 h3 h4 in
theorem final18 : val_main_v18 x0 x1 x3 x4 = fun y => ((dvalue U D G W (y 0) (y 1) : ℝ) : EReal) := by
  funext y
  obtain ⟨r, k, rfl⟩ : ∃ r k, y = ix2 r k := ⟨y 0, y 1, eq_ix2 y⟩
  exact dvalue_apply h0 h1 h3 h4 r k

include h0 h1 h2 h4 in
theorem final19 : val_main_v19 x0 x1 x2 x4 = fun y => ((weight (act U G P) D (y 0) (y 1) : ℝ) : EReal) := by
  funext y
  obtain ⟨r, k, rfl⟩ : ∃ r k, y = ix2 r k := ⟨y 0, y 1, eq_ix2 y⟩
  pointwise [val_main_v19, val_main_v6, val_main_v5]
  simp only [act_apply h0 h1 h2, h4, ← EReal.coe_mul, coe_sum]
  congr 1
  exact Finset.sum_congr rfl fun _ _ => mul_comm _ _

include h0 h1 h2 h3 h4 in
theorem final20 : val_main_v20 x0 x1 x2 x3 x4 = fun y => ((weight (dgate U D G P W) U (y 0) (y 1) : ℝ) : EReal) := by
  funext y
  obtain ⟨r, k, rfl⟩ : ∃ r k, y = ix2 r k := ⟨y 0, y 1, eq_ix2 y⟩
  pointwise [val_main_v20, val_main_v13, val_main_v12, val_main_v11]
  simp only [dgate_apply h0 h1 h2 h3 h4, h0, ← EReal.coe_mul, coe_sum]
  rfl

include h0 h1 h3 h4 in
theorem final21 : val_main_v21 x0 x1 x3 x4 = fun y => ((weight (dvalue U D G W) U (y 0) (y 1) : ℝ) : EReal) := by
  funext y
  obtain ⟨r, k, rfl⟩ : ∃ r k, y = ix2 r k := ⟨y 0, y 1, eq_ix2 y⟩
  pointwise [val_main_v21, val_main_v16, val_main_v15, val_main_v14]
  simp only [dvalue_apply h0 h1 h3 h4, h0, ← EReal.coe_mul, coe_sum]
  rfl

end Cert.Reference2Ideal.GateRef
end
-- ==== Proof.Finite2.lean ====
/- What the gated product's precondition says: every argument's entries are real numbers. -/
module

public import proofs.«01_k».proof.Proof.Finite
public import proofs.«01_k».proof.Proof.Gen.Pre_finite2

@[expose] public section

noncomputable section

namespace Cert.Finite2

open Idealize.ShloMosaic Cert.Pre_finite2 Cert.Finite

/-- Where the precondition holds, each of the five arguments is a real number at each index. -/
theorem reals {x0 x4 : FVec Ideal S2176x1024 .f32} {x1 x2 : FVec Ideal S1024x2816 .f32} {x3 : FVec Ideal S2816x1024 .f32}
    [Cert.Pre_finite2.Facts] (h : fn (F := Ideal) x0 x1 x2 x3 x4 = fun _ => 1#1) :
    (∀ r k, x0 (ix2 r k) = ((EReal.toReal (x0 (ix2 r k)) : ℝ) : EReal)) ∧ (∀ r k, x1 (ix2 r k) = ((EReal.toReal (x1 (ix2 r k)) : ℝ) : EReal))
      ∧ (∀ r k, x2 (ix2 r k) = ((EReal.toReal (x2 (ix2 r k)) : ℝ) : EReal)) ∧ (∀ r k, x3 (ix2 r k) = ((EReal.toReal (x3 (ix2 r k)) : ℝ) : EReal))
      ∧ (∀ r k, x4 (ix2 r k) = ((EReal.toReal (x4 (ix2 r k)) : ℝ) : EReal)) := by
  haveI : Subsingleton S_.Idx := ⟨fun a b => funext fun i => i.elim0⟩
  have e := congrFun h (fun i => i.elim0)
  unfold fn fn_part1 at e
  dsimp only at e
  obtain ⟨e, e4⟩ := and_one _ _ e
  obtain ⟨e, e3⟩ := and_one _ _ e
  obtain ⟨e, e2⟩ := and_one _ _ e
  obtain ⟨e0, e1⟩ := and_one _ _ e
  exact ⟨fun r k => real_of_abs _ (Host.reduce_andi_all _ _ _ _ _ e0 (ix2 r k)), fun r k => real_of_abs _ (Host.reduce_andi_all _ _ _ _ _ e1 (ix2 r k)),
    fun r k => real_of_abs _ (Host.reduce_andi_all _ _ _ _ _ e2 (ix2 r k)), fun r k => real_of_abs _ (Host.reduce_andi_all _ _ _ _ _ e3 (ix2 r k)),
    fun r k => real_of_abs _ (Host.reduce_andi_all _ _ _ _ _ e4 (ix2 r k))⟩

end Cert.Finite2
end
-- ==== Proof.NormRun.lean ====
/- One grid point of the gradient through the two inner products and the norm before them, run: what it leaves in its three
   result blocks, in its accumulator and in the two weights it keeps on the core. At the first point the weights arrive row
   block by row block while the point works; at every later point they are there already. -/
module

public import proofs.«01_k».proof.Proof.Gen.Kernel3Ideal.Frame
public import proofs.«01_k».proof.Proof.Gen.Kernel3Ideal.Loops
public import Idealize.ShloMosaic.Lib.Pipeline.Value

@[expose] public section

set_option maxRecDepth 16384

noncomputable section

namespace Cert.Kernel3Ideal.NormRun

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The two weights left in HBM; on the core, the accumulator and the two arrays the weights are copied to. -/
abbrev hbM0 : Memref sig .tc .hbm S2816x1024 .bf16 := Memref.whole main_v3
abbrev hbM1 : Memref sig .tc .hbm S2816x1024 .bf16 := Memref.whole main_v5
abbrev accM : Memref sig .tc .vmem S544x1024 .f32 := Memref.whole cc0_scratch0
abbrev scM0 : Memref sig .tc .vmem S2816x1024 .bf16 := Memref.whole cc0_scratch1
abbrev scM1 : Memref sig .tc .vmem S2816x1024 .bf16 := Memref.whole cc0_scratch2
/-- A buffer's contents on core `c`, and the buffer held whole at them. -/
abbrev BufOf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : BufOf (F := F) c M) : sProp 𝕄 :=
  M.view.loc (c : Thread nD τ) ↦{fullShare} f

/-! ## The values, tile by tile -/

theorem cols_inb (o : ℕ) (ho : o + 256 ≤ 2816) : ∀ a : Fin 2, (![0, o] : Fin 2 → ℕ) a + (![544, 256] : Fin 2 → ℕ) a ≤ (![544, 2816] : Fin 2 → ℕ) a := by
  intro a; fin_cases a <;> simp <;> omega
theorem rows_inb (o : ℕ) (ho : o + 256 ≤ 2816) : ∀ a : Fin 2, (![o, 0] : Fin 2 → ℕ) a + (![256, 1024] : Fin 2 → ℕ) a ≤ (![2816, 1024] : Fin 2 → ℕ) a := by
  intro a; fin_cases a <;> simp <;> omega
theorem half_inb (o : ℕ) (ho : o + 272 ≤ 544) : ∀ a : Fin 2, (![o, 0] : Fin 2 → ℕ) a + (![272, 1024] : Fin 2 → ℕ) a ≤ (![544, 1024] : Fin 2 → ℕ) a := by
  intro a; fin_cases a <;> simp <;> omega

/-- Columns `o` to `o + 256` of a gradient's block, rows `o` to `o + 256` of a weight, and rows `o` to `o + 272` of a block. -/
def cols (o : ℕ) (ho : o + 256 ≤ 2816) (x : Vec F S544x2816 .bf16) : Vec F S544x256 .bf16 := View.ld x (Rect.unit (s := S544x2816) ![0, o] S544x256.size (cols_inb o ho))
def rows (o : ℕ) (ho : o + 256 ≤ 2816) (w : Vec F S2816x1024 .bf16) : Vec F S256x1024 .bf16 := View.ld w (Rect.unit (s := S2816x1024) ![o, 0] S256x1024.size (rows_inb o ho))
def half (o : ℕ) (ho : o + 272 ≤ 544) (x : Vec F S544x1024 .f32) : Vec F S272x1024 .f32 := View.ld x (Rect.unit (s := S544x1024) ![o, 0] S272x1024.size (half_inb o ho))

/-- The accumulator after `n` tiles: from zero, each tile adds its two products. -/
def acc (g p : Vec F S544x2816 .bf16) (a b : Vec F S2816x1024 .bf16) : (n : ℕ) → n ≤ 11 → Vec F S544x1024 .f32
  | 0, _ => k0_pay5
  | n + 1, h => k0_pay6 (acc g p a b n (by omega)) (cols (256 * n) (by omega) g) (rows (256 * n) (by omega) a) (cols (256 * n) (by omega) p) (rows (256 * n) (by omega) b)

/-- The gradient of the stream on the first and the second 272 rows of a block, from the accumulator's, the stream's and the
    incoming gradient's rows and the norm's weight. -/
def topOf (du h : Vec F S272x1024 .f32) (w : Vec F S1x1024 .f32) (r : Vec F S272x1024 .f32) : Vec F S272x1024 .f32 :=
  k0_pay12 (k0_pay7 h) (k0_pay8 h) (k0_pay9 du w) (k0_pay10 du h w) r
def botOf (du h : Vec F S272x1024 .f32) (w : Vec F S1x1024 .f32) (r : Vec F S272x1024 .f32) : Vec F S272x1024 .f32 :=
  k0_pay2 du (k0_pay14 h) (k0_pay15 h) (k0_pay16 w) r

/-- The stream's gradient on a point's block. -/
def streamOf (du h : Vec F S544x1024 .f32) (w : Vec F S1x1024 .f32) (r : Vec F S544x1024 .f32) : Vec F S544x1024 .f32 :=
  View.canon [(⟨Rect.unit (s := S544x1024) ![272, 0] S272x1024.size (half_inb 272 (by decide)), botOf (half 272 (by decide) du) (half 272 (by decide) h) w (half 272 (by decide) r)⟩ : View.Piece (Elt F) S544x1024 .f32),
    ⟨Rect.unit (s := S544x1024) ![0, 0] S272x1024.size (half_inb 0 (by decide)), topOf (half 0 (by decide) du) (half 0 (by decide) h) w (half 0 (by decide) r)⟩]
/-- The same, cast. -/
def castOf (du h : Vec F S544x1024 .f32) (w : Vec F S1x1024 .f32) (r : Vec F S544x1024 .f32) : Vec F S544x1024 .bf16 :=
  View.canon [(⟨Rect.unit (s := S544x1024) ![272, 0] S272x1024.size (half_inb 272 (by decide)), k0_pay3 (half 272 (by decide) du) (k0_pay14 (half 272 (by decide) h)) (k0_pay15 (half 272 (by decide) h)) (k0_pay16 w) (half 272 (by decide) r)⟩ : View.Piece (Elt F) S544x1024 .bf16),
    ⟨Rect.unit (s := S544x1024) ![0, 0] S272x1024.size (half_inb 0 (by decide)), k0_pay13 (k0_pay7 (half 0 (by decide) h)) (k0_pay8 (half 0 (by decide) h)) (k0_pay9 (half 0 (by decide) du) w) (k0_pay10 (half 0 (by decide) du) (half 0 (by decide) h) w) (half 0 (by decide) r)⟩]
/-- The norm weight's gradient after a point, from what it was before it. -/
def weightOf (du h : Vec F S544x1024 .f32) (e : Vec F S1x1024 .f32) : Vec F S1x1024 .f32 :=
  k0_pay1 (half 272 (by decide) du) (k0_pay15 (half 272 (by decide) h)) (k0_pay11 (half 0 (by decide) du) (k0_pay8 (half 0 (by decide) h)) e)

theorem hz : (![0, 0] : Fin 2 → Nat) = fun _ => 0 := funext fun a => by fin_cases a <;> rfl

section Loads

variable {κ : Kind} {sp : Space} {S : Shape} {e : EltTy}

/-- The stores of a list write rows of `G`. -/
def Writes (G : S.Idx → Elt F e) (L : List (View.Piece (Elt F) S e)) : Prop := ∀ p ∈ L, ∀ x : p.1.shape.Idx, p.2 x = G (p.1.emb x)
theorem Writes.nil (G : S.Idx → Elt F e) : Writes G [] := fun _ h => absurd h List.not_mem_nil
theorem Writes.cons {G : S.Idx → Elt F e} {p : View.Piece (Elt F) S e} {L : List (View.Piece (Elt F) S e)} (h : ∀ x : p.1.shape.Idx, p.2 x = G (p.1.emb x)) (hL : Writes G L) : Writes G (p :: L) :=
  fun _ hq => (List.mem_cons.1 hq).elim (fun e => e ▸ h) (hL _)

/-- Such stores, when they cover the array, leave it at `G`; a load of a rectangle that one of them wrote is `G`'s. -/
theorem read_writes (v : View sig κ sp S e) (f : v.ty.Contents (Elt F)) {G : S.Idx → Elt F e} {L : List (View.Piece (Elt F) S e)} (hL : Writes G L) (hc : ∀ y, ∃ p ∈ L, y ∈ p.1.set) :
    v.read (Elt F) (v.writes (Elt F) f L) = G :=
  (View.read_writes_eq_canon v f L hc).trans (funext fun y => View.canon_apply_of_pieces G L hL y (hc y))
theorem load_writes (v : View sig κ sp S e) {G : S.Idx → Elt F e} {L : List (View.Piece (Elt F) S e)} (r : Rect S) (hL : Writes G L) (hr : ∃ p ∈ L, p.1 = r) : v.readCov L r.toLoadRect = View.ld G r :=
  (View.readCov_eq_canon' ..).trans (funext fun x => View.canon_apply_of_pieces G L hL _ (by obtain ⟨p, hp, rfl⟩ := hr; exact ⟨p, hp, p.1.idx_mem x⟩))

/-- A load of a staged block's rectangle, and of the whole of it. -/
theorem load_part (m : Memref sig .tc .vmem S e) (hm : m.IsWhole) (x : S.Idx → Elt F e) (r : Rect S) : View.readAt (Elt F) m.view r.toLoadRect (hm.unread x) = View.ld x r := by
  rw [View.readAt_eq_ld, hm.read_unread]
theorem load_all (m : Memref sig .tc .vmem S e) (hm : m.IsWhole) (x : S.Idx → Elt F e) {off : Fin S.rank → ℕ} (h : off = fun _ => 0) (inb : ∀ a, off a + S.size a ≤ S.size a) :
    View.readAt (Elt F) m.view (Rect.unit off S.size inb).toLoadRect (hm.unread x) = x := by
  rw [View.readAt_eq_ld, hm.read_unread, View.ld_unit_zero h]

end Loads

/-! ## The accumulator -/

/-- Before the first tile it is zero; a tile adds its two products to what it held. -/
theorem acc_zero (g p : Vec F S544x2816 .bf16) (a b : Vec F S2816x1024 .bf16) {L : List (View.Piece (Elt F) S544x1024 .f32)} (inb) :
    View.canon ((⟨Rect.unit (s := S544x1024) ![0, 0] S544x1024.size inb, k0_pay5⟩ : View.Piece (Elt F) S544x1024 .f32) :: L) = acc g p a b 0 (by decide) :=
  View.canon_cons_unit_zero (S := S544x1024) hz _ _ _
theorem acc_succ {κ : Kind} {sp : Space} (v : View sig κ sp S544x1024 .f32) (g p : Vec F S544x2816 .bf16) (a b : Vec F S2816x1024 .bf16) (n : ℕ) (h : n + 1 ≤ 11) {L : List (View.Piece (Elt F) S544x1024 .f32)} (inb inb') {B D : Vec F S544x256 .bf16} {C E : Vec F S256x1024 .bf16}
    (hL : View.canon L = acc g p a b n (by omega)) (hB : B = cols (256 * n) (by omega) g) (hC : C = rows (256 * n) (by omega) a) (hD : D = cols (256 * n) (by omega) p) (hE : E = rows (256 * n) (by omega) b) :
    View.canon ((⟨Rect.unit (s := S544x1024) ![0, 0] S544x1024.size inb, k0_pay6 (v.readCov L (Rect.unit (s := S544x1024) ![0, 0] S544x1024.size inb').toLoadRect) B C D E⟩ : View.Piece (Elt F) S544x1024 .f32) :: L) = acc g p a b (n + 1) h := by
  subst hB hC hD hE
  refine (View.canon_cons_unit_zero (S := S544x1024) hz _ _ _).trans ?_
  rw [View.readCov_eq_canon', hL]
  exact congrArg (fun z : Vec F S544x1024 .f32 => k0_pay6 z (cols (256 * n) (by omega) g) (rows (256 * n) (by omega) a) (cols (256 * n) (by omega) p) (rows (256 * n) (by omega) b)) (View.ld_unit_zero (S := S544x1024) hz _ _)
/-- Rows of the accumulator read back. -/
theorem acc_half {κ : Kind} {sp : Space} (v : View sig κ sp S544x1024 .f32) {L : List (View.Piece (Elt F) S544x1024 .f32)} {A : Vec F S544x1024 .f32} (hL : View.canon L = A) (o : ℕ) (ho : o + 272 ≤ 544) (inb) :
    v.readCov L (Rect.unit (s := S544x1024) ![o, 0] S272x1024.size inb).toLoadRect = half o ho A := by
  rw [View.readCov_eq_canon', hL]; rfl

/-! ## The three results' stores -/

theorem stream_canon (du h r : Vec F S544x1024 .f32) (w : Vec F S1x1024 .f32) {A B D A' B' D' : Vec F S272x1024 .f32} {C C' : Vec F S1x1024 .f32} {i i'}
    (hA : A = half 272 (by decide) du) (hB : B = half 272 (by decide) h) (hC : C = w) (hD : D = half 272 (by decide) r) (hA' : A' = half 0 (by decide) du) (hB' : B' = half 0 (by decide) h) (hC' : C' = w) (hD' : D' = half 0 (by decide) r) :
    View.canon [(⟨Rect.unit (s := S544x1024) ![272, 0] S272x1024.size i, k0_pay2 A (k0_pay14 B) (k0_pay15 B) (k0_pay16 C) D⟩ : View.Piece (Elt F) S544x1024 .f32),
      ⟨Rect.unit (s := S544x1024) ![0, 0] S272x1024.size i', k0_pay12 (k0_pay7 B') (k0_pay8 B') (k0_pay9 A' C') (k0_pay10 A' B' C') D'⟩] = streamOf du h w r := by
  subst hA hB hC hD hA' hB' hD'; subst hC'; rfl
theorem cast_canon (du h r : Vec F S544x1024 .f32) (w : Vec F S1x1024 .f32) {A B D A' B' D' : Vec F S272x1024 .f32} {C C' : Vec F S1x1024 .f32} {i i'}
    (hA : A = half 272 (by decide) du) (hB : B = half 272 (by decide) h) (hC : C = w) (hD : D = half 272 (by decide) r) (hA' : A' = half 0 (by decide) du) (hB' : B' = half 0 (by decide) h) (hC' : C' = w) (hD' : D' = half 0 (by decide) r) :
    View.canon [(⟨Rect.unit (s := S544x1024) ![272, 0] S272x1024.size i, k0_pay3 A (k0_pay14 B) (k0_pay15 B) (k0_pay16 C) D⟩ : View.Piece (Elt F) S544x1024 .bf16),
      ⟨Rect.unit (s := S544x1024) ![0, 0] S272x1024.size i', k0_pay13 (k0_pay7 B') (k0_pay8 B') (k0_pay9 A' C') (k0_pay10 A' B' C') D'⟩] = castOf du h w r := by
  subst hA hB hC hD hA' hB' hD'; subst hC'; rfl
theorem weight_canon {κ : Kind} {sp : Space} (v : View sig κ sp S1x1024 .f32) (du h : Vec F S544x1024 .f32) (e : Vec F S1x1024 .f32) {A B A' B' : Vec F S272x1024 .f32} {E : Vec F S1x1024 .f32} {L : List (View.Piece (Elt F) S1x1024 .f32)} {i i' i''}
    (hA : A = half 272 (by decide) du) (hB : B = half 272 (by decide) h) (hA' : A' = half 0 (by decide) du) (hB' : B' = half 0 (by decide) h) (hE : E = e) :
    View.canon ((⟨Rect.unit (s := S1x1024) ![0, 0] S1x1024.size i, k0_pay1 A (k0_pay15 B) (v.readCov ((⟨Rect.unit (s := S1x1024) ![0, 0] S1x1024.size i', k0_pay11 A' (k0_pay8 B') E⟩ : View.Piece (Elt F) S1x1024 .f32) :: L) (Rect.unit (s := S1x1024) ![0, 0] S1x1024.size i'').toLoadRect)⟩ : View.Piece (Elt F) S1x1024 .f32)
      :: ⟨Rect.unit (s := S1x1024) ![0, 0] S1x1024.size i', k0_pay11 A' (k0_pay8 B') E⟩ :: L) = weightOf du h e := by
  subst hA hB hA' hB' hE
  refine (View.canon_cons_unit_zero (S := S1x1024) hz _ _ _).trans ?_
  rw [View.readCov_eq_canon', View.canon_cons_unit_zero (S := S1x1024) hz]
  have e (X : Vec F S1x1024 .f32) : View.ld X (Rect.unit (s := S1x1024) ![0, 0] S1x1024.size i'') = X := View.ld_unit_zero (S := S1x1024) hz i'' X
  exact congrArg (fun z : Vec F S1x1024 .f32 => k0_pay1 (half 272 (by decide) du) (k0_pay15 (half 272 (by decide) h)) z) (e _)

/-! ## Which point it is -/

theorem conds_first (i : grid0.Coords) (h : i 0 = (0 : Fin 4)) : k0_cond1 i = 1#1 ∧ k0_cond2 i = 1#1 ∧ k0_cond4 i = 1#1 ∧ k0_cond6 i = 1#1 := by
  unfold k0_cond1 k0_cond2 k0_cond4 k0_cond6
  rw [h]; decide

theorem key_first (i : grid0.Coords) (h : i 0 = (0 : Fin 4)) : Scalar.cmpi .ne (Scalar.extui (Scalar.cmpi .eq (BitVec.ofNat 32 (i 0).val) 0#32) : BitVec 32) 0#32 = 1#1 := by
  rw [h]; decide

theorem key_later : ∀ x : Fin 4, x ≠ 0 → ¬Scalar.cmpi .ne (Scalar.extui (Scalar.cmpi .eq (BitVec.ofNat 32 x.val) 0#32) : BitVec 32) 0#32 = 1#1 := by decide

theorem conds_later (i : grid0.Coords) (h : i 0 ≠ (0 : Fin 4)) : ¬k0_cond1 i = 1#1 ∧ ¬k0_cond2 i = 1#1 ∧ ¬k0_cond4 i = 1#1 ∧ ¬k0_cond6 i = 1#1 :=
  ⟨key_later _ h, key_later _ h, key_later _ h, key_later _ h⟩

/-! ## The two runs -/

/-- The transfers' cells at zero and the weights in HBM. -/
abbrev cells (c : Dev nD) (a b : Vec F S2816x1024 .bf16) : sProp 𝕄 :=
  iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ pt c hbM0 a ∗ pt c hbM1 b)

variable (c : Dev nD) (i : grid0.Coords) (arg1 : Memref sig .tc .vmem S544x2816 .bf16) (harg1 : arg1.IsWhole) (arg2 : Memref sig .tc .vmem S544x2816 .bf16) (harg2 : arg2.IsWhole) (arg5 : Memref sig .tc .vmem S544x1024 .f32) (harg5 : arg5.IsWhole) (arg6 : Memref sig .tc .vmem S1x1024 .f32) (harg6 : arg6.IsWhole) (arg7 : Memref sig .tc .vmem S544x1024 .f32) (harg7 : arg7.IsWhole) (arg8 : Memref sig .tc .vmem S544x1024 .f32) (harg8 : arg8.IsWhole) (arg9 : Memref sig .tc .vmem S544x1024 .bf16) (harg9 : arg9.IsWhole) (arg10 : Memref sig .tc .vmem S1x1024 .f32) (harg10 : arg10.IsWhole)
  (x0 x1 : Vec F S544x2816 .bf16) (x2 : Vec F S544x1024 .f32) (x3 : Vec F S1x1024 .f32) (x4 : Vec F S544x1024 .f32) (e7 : Vec F S1x1024 .f32) (a b : Vec F S2816x1024 .bf16)

/-- The point's inputs at their blocks. -/
abbrev ins : sProp 𝕄 :=
  iprop(owns (c : Thread nD τ) arg1 fullShare x0 ∗ owns (c : Thread nD τ) arg2 fullShare x1 ∗ owns (c : Thread nD τ) arg5 fullShare x2 ∗ owns (c : Thread nD τ) arg6 fullShare x3 ∗ owns (c : Thread nD τ) arg7 fullShare x4)
/-- The point's results, before it and after it. -/
abbrev outs0 : sProp 𝕄 :=
  iprop((∃ e, owns (c : Thread nD τ) arg8 fullShare e) ∗ (∃ e, owns (c : Thread nD τ) arg9 fullShare e) ∗ owns (c : Thread nD τ) arg10 fullShare e7)
abbrev outs1 (e : Vec F S1x1024 .f32) : sProp 𝕄 :=
  iprop(owns (c : Thread nD τ) arg8 fullShare (streamOf (acc x0 x1 a b 11 le_rfl) x2 x3 x4) ∗ owns (c : Thread nD τ) arg9 fullShare (castOf (acc x0 x1 a b 11 le_rfl) x2 x3 x4) ∗ owns (c : Thread nD τ) arg10 fullShare (weightOf (acc x0 x1 a b 11 le_rfl) x2 e))

set_option sl_exec.dmaWindow true in
set_option sl_exec.unrollTrips 11 in
set_option maxHeartbeats 16000000 in
/-- The first point: whatever the two weights' arrays on the core held, it leaves them as copies of the two in HBM, and its results. -/
theorem run_first (hi : i 0 = (0 : Fin 4)) (W : Waits sig Unit) (K : PUnit → sProp 𝕄) :
    iprop(ins (F := F) c arg1 arg2 arg5 arg6 arg7 x0 x1 x2 x3 x4 ∗ outs0 (F := F) c arg8 arg9 arg10 e7 ∗ ((∃ f, pt (F := F) c accM f) ∗ (∃ f, pt (F := F) c scM0 f) ∗ (∃ f, pt (F := F) c scM1 f)) ∗ cells c a b ∗ owes (c : Thread nD τ) 0 W
        ∗ ((ins (F := F) c arg1 arg2 arg5 arg6 arg7 x0 x1 x2 x3 x4 ∗ outs1 c arg8 arg9 arg10 x0 x1 x2 x3 x4 a b (k0_pay4 (F := F)) ∗ ((∃ f, pt (F := F) c accM f) ∗ pt c scM0 a ∗ pt c scM1 b) ∗ cells c a b ∗ ∃ W', owes (c : Thread nD τ) 0 W') -∗ K ⟨⟩))
      ⊢ wp frame (wpE (defs₀ (F := F)) Variants.none c none) Set.univ
          (cc0_gate_up_bwd i arg1 harg1 arg2 harg2 hbM0 (Memref.isWhole_whole _) hbM1 (Memref.isWhole_whole _) arg5 harg5 arg6 harg6 arg7 harg7 arg8 harg8 arg9 harg9 arg10 harg10 accM (Memref.isWhole_whole _) scM0 (Memref.isWhole_whole _) scM1 (Memref.isWhole_whole _) cc0_scratch3 cc0_scratch4) K := by
  obtain ⟨h1, h2, h4, h6⟩ := conds_first i hi
  have h3 := key_first i hi
  simp only [cc0_gate_up_bwd_eq_skeleton]; unfold cc0_gate_up_bwd_skel
  simp only [k0_part1_eq_skeleton, k0_part2_eq_skeleton, k0_part4_eq_skeleton, k0_part5_eq_skeleton]
  unfold ins outs0 outs1 cells owns
  iintro ⟨⟨⟨%f0, %hf0, H0⟩, ⟨%f1, %hf1, H1⟩, ⟨%f2, %hf2, H2⟩, ⟨%f3, %hf3, H3⟩, ⟨%f4, %hf4, H4⟩⟩, ⟨⟨%d5, %f5, -, H5⟩, ⟨%d6, %f6, -, H6⟩, ⟨%f7, %hf7, H7⟩⟩, ⟨⟨%fa, HA⟩, ⟨%fs0, HS0⟩, ⟨%fs1, HS1⟩⟩, ⟨Hq0, Hq1, Hq2, Hq3, Hq4, Hq5, Hq6, Hq7, Hq8, Hq9, Hq10, Hr0, Hr1, Hr2, Hr3, Hr4, Hr5, Hr6, Hr7, Hr8, Hr9, Hr10, Hd, Hu⟩, HW, Hk⟩
  obtain rfl := harg1.eq_unread hf0; obtain rfl := harg2.eq_unread hf1; obtain rfl := harg5.eq_unread hf2; obtain rfl := harg6.eq_unread hf3; obtain rfl := harg7.eq_unread hf4; obtain rfl := harg10.eq_unread hf7
  sl_exec (disch := first | sl_exact h1 | sl_exact h2 | sl_exact h3 | sl_exact h4 | sl_exact h6)
  sl_step
  have key : View.canon (run_first.sl.HA_12 c i arg1 harg1 arg2 harg2 x0 x1 a b h1 h2 h4 h6) = acc x0 x1 a b 11 le_rfl := by
    iterate 11 refine acc_succ _ _ _ _ _ _ _ _ _ ?_ (load_part arg1 harg1 x0 _) ?_ (load_part arg2 harg2 x1 _) ?_
    · exact acc_zero ..
    all_goals exact load_writes _ _ (by repeat first | exact Writes.nil _ | refine Writes.cons (fun _ => rfl) ?_) (by first | exact ⟨_, .head _, rfl⟩ | exact ⟨_, .tail _ (.head _), rfl⟩ | exact ⟨_, .tail _ (.tail _ (.head _)), rfl⟩ | exact ⟨_, .tail _ (.tail _ (.tail _ (.head _))), rfl⟩)
  have top := acc_half accM.view key 0 (by decide) inb_S544x1024_S272x1024_0_0
  have bot := acc_half accM.view key 272 (by decide) inb_S544x1024_S272x1024_272_0
  have eS0 : ∀ L : List (View.Piece (Elt F) S2816x1024 .bf16), Writes a L → (∀ y, ∃ p ∈ L, y ∈ p.1.set) → scM0.view.writes (Elt F) fs0 L = a :=
    fun L hL hc => read_writes scM0.view fs0 hL hc
  have eS1 : ∀ L : List (View.Piece (Elt F) S2816x1024 .bf16), Writes b L → (∀ y, ∃ p ∈ L, y ∈ p.1.set) → scM1.view.writes (Elt F) fs1 L = b :=
    fun L hL hc => read_writes scM1.view fs1 hL hc
  rw [eS0, eS1]
  rotate_left
  · repeat first | exact Writes.nil _ | refine Writes.cons (fun _ => rfl) ?_
  · sl_unfold_words; exact View.cover_of_tiledL _ S256x1024.size (by sl_kernel_rfl)
  · repeat first | exact Writes.nil _ | refine Writes.cons (fun _ => rfl) ?_
  · sl_unfold_words; exact View.cover_of_tiledL _ S256x1024.size (by sl_kernel_rfl)
  iapply Hk
  isplitl [H0 H1 H2 H3 H4]
  · isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg5.read_unread _
    isplitl [H3]
    · iexists _; isplitr; swap; · iexact H3
      ipureintro; exact harg6.read_unread _
    iexists _; isplitr; swap; · iexact H4
    ipureintro; exact harg7.read_unread _
  isplitl [H5 H6 H7]
  · isplitl [H5]
    · iexists _; isplitr; swap; · iexact H5
      ipureintro
      refine (View.read_writes_eq_canon _ _ _ ?_).trans ?_
      · exact View.cover_of_tiledL _ S272x1024.size (by sl_kernel_rfl)
      exact stream_canon _ x2 x4 x3 bot (load_part arg5 harg5 x2 _) (load_all arg6 harg6 x3 hz _) (load_part arg7 harg7 x4 _) top (load_part arg5 harg5 x2 _) (load_all arg6 harg6 x3 hz _) (load_part arg7 harg7 x4 _)
    isplitl [H6]
    · iexists _; isplitr; swap; · iexact H6
      ipureintro
      refine (View.read_writes_eq_canon _ _ _ ?_).trans ?_
      · exact View.cover_of_tiledL _ S272x1024.size (by sl_kernel_rfl)
      exact cast_canon _ x2 x4 x3 bot (load_part arg5 harg5 x2 _) (load_all arg6 harg6 x3 hz _) (load_part arg7 harg7 x4 _) top (load_part arg5 harg5 x2 _) (load_all arg6 harg6 x3 hz _) (load_part arg7 harg7 x4 _)
    iexists _; isplitr; swap; · iexact H7
    ipureintro
    refine (View.read_writes_eq_canon _ _ _ (View.cover_of_tiledL _ S1x1024.size (by sl_kernel_rfl))).trans ?_
    exact weight_canon _ _ x2 (k0_pay4 (F := F)) bot (load_part arg5 harg5 x2 _) top (load_part arg5 harg5 x2 _) ((View.readCov_eq_canon' ..).trans ((View.ld_unit_zero (S := S1x1024) hz _ _).trans (View.canon_cons_unit_zero (S := S1x1024) hz _ _ _)))
  isplitl [HA HS0 HS1]
  · isplitl [HA]; · iexists _; iexact HA
    isplitl [HS0]; · iexact HS0
    iexact HS1
  isplitl [Hq0 Hq1 Hq2 Hq3 Hq4 Hq5 Hq6 Hq7 Hq8 Hq9 Hq10 Hr0 Hr1 Hr2 Hr3 Hr4 Hr5 Hr6 Hr7 Hr8 Hr9 Hr10 Hd Hu]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hd]; · iexact Hd
    iexact Hu
  iexists _; iexact HW

set_option sl_exec.dmaWindow true in
set_option sl_exec.unrollTrips 11 in
set_option maxHeartbeats 16000000 in
/-- A later point: the two arrays on the core are the copies already, and it leaves its results. -/
theorem run_later (hi : i 0 ≠ (0 : Fin 4)) (W : Waits sig Unit) (K : PUnit → sProp 𝕄) :
    iprop(ins (F := F) c arg1 arg2 arg5 arg6 arg7 x0 x1 x2 x3 x4 ∗ outs0 (F := F) c arg8 arg9 arg10 e7 ∗ ((∃ f, pt (F := F) c accM f) ∗ pt c scM0 a ∗ pt c scM1 b) ∗ cells c a b ∗ owes (c : Thread nD τ) 0 W
        ∗ ((ins (F := F) c arg1 arg2 arg5 arg6 arg7 x0 x1 x2 x3 x4 ∗ outs1 c arg8 arg9 arg10 x0 x1 x2 x3 x4 a b e7 ∗ ((∃ f, pt (F := F) c accM f) ∗ pt c scM0 a ∗ pt c scM1 b) ∗ cells c a b ∗ ∃ W', owes (c : Thread nD τ) 0 W') -∗ K ⟨⟩))
      ⊢ wp frame (wpE (defs₀ (F := F)) Variants.none c none) Set.univ
          (cc0_gate_up_bwd i arg1 harg1 arg2 harg2 hbM0 (Memref.isWhole_whole _) hbM1 (Memref.isWhole_whole _) arg5 harg5 arg6 harg6 arg7 harg7 arg8 harg8 arg9 harg9 arg10 harg10 accM (Memref.isWhole_whole _) scM0 (Memref.isWhole_whole _) scM1 (Memref.isWhole_whole _) cc0_scratch3 cc0_scratch4) K := by
  obtain ⟨h1, h2, h4, h6⟩ := conds_later i hi
  have h3 := key_later _ hi
  simp only [cc0_gate_up_bwd_eq_skeleton]; unfold cc0_gate_up_bwd_skel
  simp only [k0_part1_eq_skeleton, k0_part2_eq_skeleton, k0_part4_eq_skeleton, k0_part5_eq_skeleton]
  unfold ins outs0 outs1 cells owns
  iintro ⟨⟨⟨%f0, %hf0, H0⟩, ⟨%f1, %hf1, H1⟩, ⟨%f2, %hf2, H2⟩, ⟨%f3, %hf3, H3⟩, ⟨%f4, %hf4, H4⟩⟩, ⟨⟨%d5, %f5, -, H5⟩, ⟨%d6, %f6, -, H6⟩, ⟨%f7, %hf7, H7⟩⟩, ⟨⟨%fa, HA⟩, HS0, HS1⟩, ⟨Hq0, Hq1, Hq2, Hq3, Hq4, Hq5, Hq6, Hq7, Hq8, Hq9, Hq10, Hr0, Hr1, Hr2, Hr3, Hr4, Hr5, Hr6, Hr7, Hr8, Hr9, Hr10, Hd, Hu⟩, HW, Hk⟩
  obtain rfl := harg1.eq_unread hf0; obtain rfl := harg2.eq_unread hf1; obtain rfl := harg5.eq_unread hf2; obtain rfl := harg6.eq_unread hf3; obtain rfl := harg7.eq_unread hf4; obtain rfl := harg10.eq_unread hf7
  sl_exec (disch := first | sl_exact h1 | sl_exact h2 | sl_exact h3 | sl_exact h4 | sl_exact h6)
  sl_step
  have key : View.canon (run_later.sl.HA_12 c arg1 harg1 arg2 harg2 x0 x1 a b) = acc x0 x1 a b 11 le_rfl := by
    iterate 11 refine acc_succ _ _ _ _ _ _ _ _ _ ?_ (load_part arg1 harg1 x0 _) ?_ (load_part arg2 harg2 x1 _) ?_
    · exact acc_zero ..
    all_goals exact (View.readAt_eq_ld ..).trans rfl
  have top := acc_half accM.view key 0 (by decide) inb_S544x1024_S272x1024_0_0
  have bot := acc_half accM.view key 272 (by decide) inb_S544x1024_S272x1024_272_0
  iapply Hk
  isplitl [H0 H1 H2 H3 H4]
  · isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg5.read_unread _
    isplitl [H3]
    · iexists _; isplitr; swap; · iexact H3
      ipureintro; exact harg6.read_unread _
    iexists _; isplitr; swap; · iexact H4
    ipureintro; exact harg7.read_unread _
  isplitl [H5 H6 H7]
  · isplitl [H5]
    · iexists _; isplitr; swap; · iexact H5
      ipureintro
      refine (View.read_writes_eq_canon _ _ _ ?_).trans ?_
      · exact View.cover_of_tiledL _ S272x1024.size (by sl_kernel_rfl)
      exact stream_canon _ x2 x4 x3 bot (load_part arg5 harg5 x2 _) (load_all arg6 harg6 x3 hz _) (load_part arg7 harg7 x4 _) top (load_part arg5 harg5 x2 _) (load_all arg6 harg6 x3 hz _) (load_part arg7 harg7 x4 _)
    isplitl [H6]
    · iexists _; isplitr; swap; · iexact H6
      ipureintro
      refine (View.read_writes_eq_canon _ _ _ ?_).trans ?_
      · exact View.cover_of_tiledL _ S272x1024.size (by sl_kernel_rfl)
      exact cast_canon _ x2 x4 x3 bot (load_part arg5 harg5 x2 _) (load_all arg6 harg6 x3 hz _) (load_part arg7 harg7 x4 _) top (load_part arg5 harg5 x2 _) (load_all arg6 harg6 x3 hz _) (load_part arg7 harg7 x4 _)
    iexists _; isplitr; swap; · iexact H7
    ipureintro
    refine (View.read_writes_eq_canon _ _ _ (View.cover_of_tiledL _ S1x1024.size (by sl_kernel_rfl))).trans ?_
    exact weight_canon _ _ x2 e7 bot (load_part arg5 harg5 x2 _) top (load_part arg5 harg5 x2 _) (load_all arg10 harg10 e7 hz _)
  isplitl [HA HS0 HS1]
  · isplitl [HA]; · iexists _; iexact HA
    isplitl [HS0]; · iexact HS0
    iexact HS1
  isplitl [Hq0 Hq1 Hq2 Hq3 Hq4 Hq5 Hq6 Hq7 Hq8 Hq9 Hq10 Hr0 Hr1 Hr2 Hr3 Hr4 Hr5 Hr6 Hr7 Hr8 Hr9 Hr10 Hd Hu]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hd]; · iexact Hd
    iexact Hu
  iexists _; iexact HW

end Cert.Kernel3Ideal.NormRun

end
-- ==== Proof.NormFrame.lean ====
/- The whole pass of the gradient through the two inner products and the norm: what each grid point leaves, the run of the
   program, and that it ends with its arguments unchanged and every semaphore at zero. -/
module

public import proofs.«01_k».proof.Proof.NormRun

@[expose] public section

set_option maxRecDepth 16384

noncomputable section

namespace Cert.Kernel3Ideal.NormFrame

open Cert.Kernel3Ideal Cert.Kernel3Ideal.Gen Cert.Kernel3Ideal.NormRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to its call, over the algebra that the body's own transfers need. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the body holds between points -/

/-- The body's transfer cells, one for each row block of each weight. -/
abbrev osem0 : Fin 22 → SemLoc sig := fun j => (![SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35] : Fin 22 → SemLoc sig) j
theorem ownSemFacts0 : Pipeline.OwnSemFacts spec0 osem0 := by decide
/-- The two arrays it reads from HBM. -/
def H0 : Finset (Ref sig .tc) := {main_v3, main_v5}
theorem H0_sub : H0 ⊆ Pipeline.restRefs sig spec0 := by decide

theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0) := by
  rw [Pipeline.ownSems0_eq_of_list c osem0 [0, 1, 2, 3, 4, 5, 6, 7, 8, 9, 10, 11, 12, 13, 14, 15, 16, 17, 18, 19, 20, 21] (by decide) (by decide)]; rfl

theorem hbmPts_eq (c : Dev nD) :
    (bigSep H0 (fun b => ((c : Thread nD τ).loc b) ↦{fullShare} V m c b) : sProp 𝕄)
      = iprop(pt c hbM0 (V m c main_v3) ∗ pt c hbM1 (V m c main_v5)) := by
  rw [BI.bigSep_eq_bigSepL_of_eq [main_v3, main_v5] (by decide) (by decide)]; rfl

theorem PhiD_eq (c : Dev nD) :
    (Pipeline.ΦD osem0 spec0 H0 (V m) c : sProp 𝕄)
      = iprop(((∃ f, pt c accM f) ∗ (∃ f, pt c scM0 f) ∗ (∃ f, pt c scM1 f)) ∗ (∃ r, prngReg c r)
          ∗ (semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0)
          ∗ (pt c hbM0 (V m c main_v3) ∗ pt c hbM1 (V m c main_v5))) := by
  rw [Pipeline.ΦD_eq, scopedRest0_eq, ownSems_eq, hbmPts_eq]; try rfl

/-- Before point `p`: the two weights' arrays on the core are copies of those in HBM, once a point has gone; the cells are
    at zero. The accumulator holds anything. -/
def inv (c : Dev nD) (p : Fin (cfg0.N + 1)) : sProp 𝕄 :=
  iprop(((∃ f, pt c accM f) ∗ ∃ f0 f1, ⌜p.val ≠ 0 → f0 = V m c main_v3 ∧ f1 = V m c main_v5⌝ ∗ pt c scM0 f0 ∗ pt c scM1 f1)
    ∗ (∃ r, prngReg c r) ∗ cells c (V m c main_v3) (V m c main_v5))

/-! ## The staged blocks -/

abbrev ms0 (t : Fin cfg0.N) : Memref sig .tc .vmem S544x2816 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S544x2816 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S544x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S544x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S544x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S544x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)

/-- The gradient of the norm's output on a point's rows. -/
def du (c : Dev nD) (t : Fin cfg0.N) : Vec F S544x1024 .f32 := acc (iblk m c 0 t) (iblk m c 1 t) (V m c main_v3) (V m c main_v5) 11 le_rfl

/-- The norm weight's gradient after the point with number `n`: from zero, each point adds its rows. -/
def wgt (c : Dev nD) : (n : ℕ) → n < cfg0.N → Vec F S1x1024 .f32
  | 0, h => weightOf (du m c ⟨0, h⟩) (iblk m c 2 ⟨0, h⟩) k0_pay4
  | n + 1, h => weightOf (du m c ⟨n + 1, h⟩) (iblk m c 2 ⟨n + 1, h⟩) (wgt c n (by omega))

theorem wgt_first (c : Dev nD) (t : Fin cfg0.N) (h : t.val = 0) : wgt m c t.val t.isLt = weightOf (du m c t) (iblk m c 2 t) k0_pay4 := by
  obtain ⟨_ | n, ht⟩ := t
  · rfl
  · exact absurd h (Nat.succ_ne_zero n)
theorem wgt_later (c : Dev nD) (t : Fin cfg0.N) (h : t.val ≠ 0) :
    wgt m c t.val t.isLt = weightOf (du m c t) (iblk m c 2 t) (wgt m c (t.val - 1) (Nat.lt_of_le_of_lt (Nat.sub_le _ _) t.isLt)) := by
  obtain ⟨_ | n, ht⟩ := t
  · exact absurd rfl h
  · rfl

/-- The pass: the arrays as the call finds them, the inputs' blocks left in place, each result's block at what the point's run left. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => streamOf (du m c t) (iblk m c 2 t) (iblk m c 3 t) (iblk m c 4 t)
    | ⟨6, _⟩ => castOf (du m c t) (iblk m c 2 t) (iblk m c 3 t) (iblk m c 4 t)
    | ⟨7, _⟩ => wgt m c t.val t.isLt
  Φ p := inv m c p
  q _ := fullShare
  owed _ := 0

theorem A_eq (c : Dev nD) (w : Fin cfg0.W) : (dats m 0 c).A w = V m c (Pipeline.arrRef spec0 w) := by
  dsimp only [dats]
/-- What each result's block, and each input's, is after point `t`. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = streamOf (du m c t) (iblk m c 2 t) (iblk m c 3 t) (iblk m c 4 t) := by dsimp only [dats]
theorem after6 (c : Dev nD) (t : Fin cfg0.N) : (dats m 0 c).after 6 t = castOf (du m c t) (iblk m c 2 t) (iblk m c 3 t) (iblk m c 4 t) := by dsimp only [dats]
theorem after7 (c : Dev nD) (t : Fin cfg0.N) : (dats m 0 c).after 7 t = wgt m c t.val t.isLt := by dsimp only [dats]
/-- Each input's staging buffer holds its block at every point. -/
theorem before0 (c : Dev nD) (t : Fin cfg0.N) (e) : (dats m 0 c).before 0 t e = iblk m c 0 t :=
  ((dats m 0 c).before_in_eq_fetched 0 rfl (fun _ => rfl) (fun _ _ _ => rfl) (fun t => by rw [after0]; unfold Dat.blockOf iblk; rw [A_eq]; try rfl) t e).trans
    (by unfold Dat.fetched Dat.blockOf iblk; rw [A_eq]; try rfl)
theorem before1 (c : Dev nD) (t : Fin cfg0.N) (e) : (dats m 0 c).before 1 t e = iblk m c 1 t :=
  ((dats m 0 c).before_in_eq_fetched 1 rfl (fun _ => rfl) (fun _ _ _ => rfl) (fun t => by rw [after1]; unfold Dat.blockOf iblk; rw [A_eq]; try rfl) t e).trans
    (by unfold Dat.fetched Dat.blockOf iblk; rw [A_eq]; try rfl)
theorem before2 (c : Dev nD) (t : Fin cfg0.N) (e) : (dats m 0 c).before 2 t e = iblk m c 2 t :=
  ((dats m 0 c).before_in_eq_fetched 2 rfl (fun _ => rfl) (fun _ _ _ => rfl) (fun t => by rw [after2]; unfold Dat.blockOf iblk; rw [A_eq]; try rfl) t e).trans
    (by unfold Dat.fetched Dat.blockOf iblk; rw [A_eq]; try rfl)
theorem before3 (c : Dev nD) (t : Fin cfg0.N) (e) : (dats m 0 c).before 3 t e = iblk m c 3 t :=
  ((dats m 0 c).before_in_eq_fetched 3 rfl (fun _ => rfl) (fun _ _ _ => rfl) (fun t => by rw [after3]; unfold Dat.blockOf iblk; rw [A_eq]; try rfl) t e).trans
    (by unfold Dat.fetched Dat.blockOf iblk; rw [A_eq]; try rfl)
theorem before4 (c : Dev nD) (t : Fin cfg0.N) (e) : (dats m 0 c).before 4 t e = iblk m c 4 t :=
  ((dats m 0 c).before_in_eq_fetched 4 rfl (fun _ => rfl) (fun _ _ _ => rfl) (fun t => by rw [after4]; unfold Dat.blockOf iblk; rw [A_eq]; try rfl) t e).trans
    (by unfold Dat.fetched Dat.blockOf iblk; rw [A_eq]; try rfl)

/-- The norm weight's gradient is kept on the core from one point to the next. -/
theorem before7 (c : Dev nD) (t : Fin cfg0.N) (ht : t.val ≠ 0) (e) : (dats m 0 c).before 7 t e = wgt m c (t.val - 1) (Nat.lt_of_le_of_lt (Nat.sub_le _ _) t.isLt) := by
  refine ((dats m 0 c).before_out_kept 7 rfl t ht ?_ (fun _ => rfl) (fun _ _ => rfl) e).trans (after7 m c _)
  refine Bool.eq_false_iff.2 fun h => ?_
  have h3 := (flush0_7 _).1 h
  have h4 : t.val < 4 := t.isLt
  simp only [] at h3
  omega

/-- Which coordinate a point has. -/
theorem coord_val (t : Fin cfg0.N) : (grid0.coords t 0).val = t.val := by
  rcases fin_N0 t with rfl | rfl | rfl | rfl <;> rfl
theorem coords_first (t : Fin cfg0.N) : (t.val = 0 → grid0.coords t 0 = (0 : Fin 4)) ∧ (t.val ≠ 0 → grid0.coords t 0 ≠ (0 : Fin 4)) :=
  ⟨fun h => Fin.ext ((coord_val t).trans h), fun h e => h ((coord_val t).symm.trans (congrArg Fin.val e))⟩

/-! ## One point of the pass -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t))

/-- The point as run, from the arrays on the core at `f0` and `f1` and the weight's gradient at `e7`: unless it is the first,
    copies of those in HBM and what the point before left. -/
theorem point (c : Dev nD) (t : Fin cfg0.N) (f0 f1) (e7 : Vec F S1x1024 .f32) (hf : t.val ≠ 0 → f0 = V m c main_v3 ∧ f1 = V m c main_v5)
    (he : ∀ h : t.val ≠ 0, e7 = wgt m c (t.val - 1) (Nat.lt_of_le_of_lt (Nat.sub_le _ _) t.isLt)) (W : Waits sig Unit) (K : PUnit → sProp 𝕄) :
    iprop(ins (F := F) c (ms0 t) (ms1 t) (ms2 t) (ms3 t) (ms4 t) (iblk m c 0 t) (iblk m c 1 t) (iblk m c 2 t) (iblk m c 3 t) (iblk m c 4 t) ∗ outs0 (F := F) c (ms5 t) (ms6 t) (ms7 t) e7
        ∗ ((∃ f, pt (F := F) c accM f) ∗ pt c scM0 f0 ∗ pt c scM1 f1) ∗ cells c (V m c main_v3) (V m c main_v5) ∗ owes (c : Thread nD τ) 0 W
        ∗ ((ins (F := F) c (ms0 t) (ms1 t) (ms2 t) (ms3 t) (ms4 t) (iblk m c 0 t) (iblk m c 1 t) (iblk m c 2 t) (iblk m c 3 t) (iblk m c 4 t)
            ∗ (owns (c : Thread nD τ) (ms5 t) fullShare (streamOf (du m c t) (iblk m c 2 t) (iblk m c 3 t) (iblk m c 4 t)) ∗ owns (c : Thread nD τ) (ms6 t) fullShare (castOf (du m c t) (iblk m c 2 t) (iblk m c 3 t) (iblk m c 4 t)) ∗ owns (c : Thread nD τ) (ms7 t) fullShare (wgt m c t.val t.isLt))
            ∗ ((∃ f, pt (F := F) c accM f) ∗ pt c scM0 (V m c main_v3) ∗ pt c scM1 (V m c main_v5)) ∗ cells c (V m c main_v3) (V m c main_v5) ∗ ∃ W', owes (c : Thread nD τ) 0 W') -∗ K ⟨⟩))
      ⊢ wp frame (wpE (defs₀ (F := F)) Variants.none c none) Set.univ (bodyAt0 t) K := by
  by_cases ht : t.val = 0
  · rw [wgt_first m c t ht]
    refine .trans ?_ (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) e7 (V m c main_v3) (V m c main_v5) ((coords_first t).1 ht) W K)
    iintro ⟨Hi, Ho, ⟨HA, HS0, HS1⟩, Hc, HW, Hk⟩
    isplitl [Hi]; · iexact Hi
    isplitl [Ho]; · iexact Ho
    isplitl [HA HS0 HS1]
    · isplitl [HA]; · iexact HA
      isplitl [HS0]; · iexists _; iexact HS0
      iexists _; iexact HS1
    isplitl [Hc]; · iexact Hc
    isplitl [HW]; · iexact HW
    iexact Hk
  · obtain ⟨rfl, rfl⟩ := hf ht
    rw [wgt_later m c t ht, ← he ht]
    exact run_later c (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) e7 (V m c main_v3) (V m c main_v5) ((coords_first t).2 ht) W K

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0 m c t, before1 m c t, before2 m c t, before3 m c t, before4 m c t]
  rw [after0, after1, after2, after3, after4, after5, after6, after7]
  rw [show (dats m 0 c).Φ t.castSucc = inv m c t.castSucc from rfl, show (dats m 0 c).Φ t.succ = inv m c t.succ from rfl]
  unfold inv Dat.owesAt Pipeline.owesWithin
  rw [show (dats m 0 c).owed t.castSucc = 0 from rfl, show (dats m 0 c).owed t.succ = 0 from rfl]
  iintro ⟨⟨⟨HA, %f0, %f1, %hf, HS0, HS1⟩, Hg, Hc⟩, ⟨%W, -, HW⟩, ⟨%e0, H0⟩, ⟨%e1, H1⟩, ⟨%e2, H2⟩, ⟨%e3, H3⟩, ⟨%e4, H4⟩, ⟨%e5, H5⟩, ⟨%e6, H6⟩, ⟨%e7, H7⟩⟩
  iapply (point m c t f0 f1 _ hf (fun h => before7 m c t h e7) W _)
  isplitl [H0 H1 H2 H3 H4]
  · isplitl [H0]; · iexact H0
    isplitl [H1]; · iexact H1
    isplitl [H2]; · iexact H2
    isplitl [H3]; · iexact H3
    iexact H4
  isplitl [H5 H6 H7]
  · isplitl [H5]; · iexists _; iexact H5
    isplitl [H6]; · iexists _; iexact H6
    iexact H7
  isplitl [HA HS0 HS1]
  · isplitl [HA]; · iexact HA
    isplitl [HS0]; · iexact HS0
    iexact HS1
  isplitl [Hc]; · iexact Hc
  isplitl [HW]; · iexact HW
  iintro ⟨⟨H0, H1, H2, H3, H4⟩, ⟨H5, H6, H7⟩, ⟨HA, HS0, HS1⟩, Hc, ⟨%W', HW⟩⟩
  isplitl [HA HS0 HS1 Hg Hc]
  · isplitl [HA HS0 HS1]
    · isplitl [HA]; · iexact HA
      iexists _, _
      isplitr; swap
      · isplitl [HS0]; · iexact HS0
        iexact HS1
      ipureintro; exact fun _ => ⟨rfl, rfl⟩
    isplitl [Hg]; · iexact Hg
    iexact Hc
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_first (c : Dev nD) : Pipeline.ΦD osem0 spec0 H0 (V m) c ⊢ inv m c 0 := by
  rw [PhiD_eq]; unfold inv cells
  iintro ⟨⟨HA, ⟨%f0, HS0⟩, ⟨%f1, HS1⟩⟩, Hg, ⟨Hq0, Hq1, Hq2, Hq3, Hq4, Hq5, Hq6, Hq7, Hq8, Hq9, Hq10, Hr0, Hr1, Hr2, Hr3, Hr4, Hr5, Hr6, Hr7, Hr8, Hr9, Hr10⟩, ⟨Hd, Hu⟩⟩
  isplitl [HA HS0 HS1]
  · isplitl [HA]; · iexact HA
    iexists _, _
    isplitr; swap
    · isplitl [HS0]; · iexact HS0
      iexact HS1
    ipureintro; exact fun h => absurd rfl h
  isplitl [Hg]; · iexact Hg
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hd]; · iexact Hd
  iexact Hu

theorem inv_last (c : Dev nD) : inv m c (Fin.last cfg0.N) ⊢ Pipeline.ΦD osem0 spec0 H0 (V m) c := by
  rw [PhiD_eq]; unfold inv cells
  iintro ⟨⟨HA, %f0, %f1, -, HS0, HS1⟩, Hg, ⟨Hq0, Hq1, Hq2, Hq3, Hq4, Hq5, Hq6, Hq7, Hq8, Hq9, Hq10, Hr0, Hr1, Hr2, Hr3, Hr4, Hr5, Hr6, Hr7, Hr8, Hr9, Hr10, Hd, Hu⟩⟩
  isplitl [HA HS0 HS1]
  · isplitl [HA]; · iexact HA
    isplitl [HS0]; · iexists _; iexact HS0
    iexists _; iexact HS1
  isplitl [Hg]; · iexact Hg
  isplitl [Hq0 Hq1 Hq2 Hq3 Hq4 Hq5 Hq6 Hq7 Hq8 Hq9 Hq10 Hr0 Hr1 Hr2 Hr3 Hr4 Hr5 Hr6 Hr7 Hr8 Hr9 Hr10]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    iexact Hr10
  isplitl [Hd]; · iexact Hd
  iexact Hu

set_option backward.isDefEq.respectTransparency.types false in
/-- The program runs: every array ends as the pass leaves it, every other unscoped buffer as the call found it, every
    semaphore at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := inv_first m) (hout := inv_last m)

/-- The program ends with its arguments unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨((h.1 c).1 2).trans (((dats m 0 c).arrAt_in 2 rfl _).trans ((A_eq m c 2).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).1 4).trans (((dats m 0 c).arrAt_in 4 rfl _).trans ((A_eq m c 4).trans (V_main_arg6 m c)))⟩, h.2⟩) (run_main m ρ)

end Cert.Kernel3Ideal.NormFrame

end
-- ==== Proof.NormHalf.lean ====
/- What one grid point of the gradient through the two inner products and the norm leaves, at an entry, over finite blocks:
   the products added tile by tile, the norm's gradient on each half of the rows, and the norm weight's part. -/
module

public import proofs.«01_k».proof.Proof.NormRun
public import proofs.«01_k».proof.Proof.OutPoint

@[expose] public section

set_option maxRecDepth 16384

noncomputable section

namespace Cert.Kernel3Ideal.NormHalf

open Idealize.ShloMosaic Idealize.ShloMosaic.TcCoe Idealize.SL.Sem
open Cert.Kernel3Ideal Cert.Kernel3Ideal.Gen Cert.Kernel3Ideal.NormRun Cert.OutReal
open Cert.KernelIdeal.OutHalf (lit_eps lit_1024 div_real rsqrt_real coe_sum)
open Cert.KernelIdeal.OutBlock (ld2 canon_two)

/-! ## The products, added tile by tile -/

/-- What the two products add at a place `n` of the inner axis: nothing past its end. -/
def term {N : ℕ} (g p : Fin N → Fin 2816 → ℝ) (a b : Fin 2816 → Fin 1024 → ℝ) (r : Fin N) (l : Fin 1024) (n : ℕ) : ℝ :=
  if h : n < 2816 then g r ⟨n, h⟩ * a ⟨n, h⟩ l + p r ⟨n, h⟩ * b ⟨n, h⟩ l else 0

/-- The gradient of the norm's output: the two products' sum. -/
def grad {N : ℕ} (g p : Fin N → Fin 2816 → ℝ) (a b : Fin 2816 → Fin 1024 → ℝ) (r : Fin N) (l : Fin 1024) : ℝ :=
  (∑ k, g r k * a k l) + ∑ k, p r k * b k l

theorem cols_apply (o : ℕ) (ho : o + 256 ≤ 2816) (x : Vec Ideal S544x2816 .bf16) (r : Fin 544) (j : Fin 256) :
    cols o ho x (ix2 r j) = x (ix2 r ⟨o + j.val, by omega⟩) :=
  ld2 (m0 := 544) (m1 := 256) x ![0, o] _ r j r ⟨o + j.val, by omega⟩ (by simp) (by simp)
theorem rows_apply (o : ℕ) (ho : o + 256 ≤ 2816) (w : Vec Ideal S2816x1024 .bf16) (j : Fin 256) (l : Fin 1024) :
    rows o ho w (ix2 j l) = w (ix2 ⟨o + j.val, by omega⟩ l) :=
  ld2 (m0 := 256) (m1 := 1024) w ![o, 0] _ j l ⟨o + j.val, by omega⟩ l (by simp) (by simp)

/-- Row `o + r` of a block. -/
abbrev down (o : ℕ) (ho : o + 272 ≤ 544) (r : Fin 272) : Fin 544 := ⟨o + r.val, by omega⟩
theorem half_apply (o : ℕ) (ho : o + 272 ≤ 544) (x : Vec Ideal S544x1024 .f32) (r : Fin 272) (l : Fin 1024) :
    half o ho x (ix2 r l) = x (ix2 (down o ho r) l) :=
  ld2 (m0 := 272) (m1 := 1024) x ![o, 0] _ r l (down o ho r) l (by simp) (by simp)

theorem pay5_apply (r : Fin 544) (l : Fin 1024) : k0_pay5 (F := Ideal) (ix2 r l) = ((0 : ℝ) : EReal) := by
  pointwise [k0_pay5]
  simp

theorem pay6_apply (x : Vec Ideal S544x1024 .f32) (g p : Vec Ideal S544x256 .bf16) (a b : Vec Ideal S256x1024 .bf16) (r : Fin 544) (l : Fin 1024) :
    k0_pay6 x g a p b (ix2 r l) = x (ix2 r l) + ((∑ j : Fin 256, g (ix2 r j) * a (ix2 j l)) + ∑ j : Fin 256, p (ix2 r j) * b (ix2 j l)) := by
  pointwise [k0_pay6]

section Acc

variable {xg xp : Vec Ideal S544x2816 .bf16} {xa xb : Vec Ideal S2816x1024 .bf16} {g p : Fin 544 → Fin 2816 → ℝ} {a b : Fin 2816 → Fin 1024 → ℝ}
variable (hg : ∀ r k, xg (ix2 r k) = ((g r k : ℝ) : EReal)) (hp : ∀ r k, xp (ix2 r k) = ((p r k : ℝ) : EReal))
  (ha : ∀ k l, xa (ix2 k l) = ((a k l : ℝ) : EReal)) (hb : ∀ k l, xb (ix2 k l) = ((b k l : ℝ) : EReal))

include hg hp ha hb in
theorem acc_apply (n : ℕ) : ∀ (h : n ≤ 11) (r : Fin 544) (l : Fin 1024), acc xg xp xa xb n h (ix2 r l) = ((∑ x ∈ Finset.range (256 * n), term g p a b r l x : ℝ) : EReal) := by
  induction n with
  | zero => exact fun h r l => (pay5_apply r l).trans (by simp)
  | succ n ih =>
    intro h r l
    show k0_pay6 _ _ _ _ _ (ix2 r l) = _
    rw [pay6_apply, ih (by omega)]
    simp only [cols_apply, rows_apply, hg, hp, ha, hb, ← EReal.coe_mul, coe_sum, ← EReal.coe_add]
    congr 1
    rw [show 256 * (n + 1) = 256 * n + 256 by ring, Finset.sum_range_add, ← Finset.sum_add_distrib]
    congr 1
    rw [Finset.sum_range]
    refine Finset.sum_congr rfl fun j _ => ?_
    unfold term
    rw [dif_pos (by omega)]

include hg hp ha hb in
/-- The accumulator after the last tile. -/
theorem acc_last (r : Fin 544) (l : Fin 1024) : acc xg xp xa xb 11 le_rfl (ix2 r l) = ((grad g p a b r l : ℝ) : EReal) := by
  rw [acc_apply hg hp ha hb]
  congr 1
  unfold grad
  rw [show 256 * 11 = 2816 by norm_num, Finset.sum_range, ← Finset.sum_add_distrib]
  refine Finset.sum_congr rfl fun k _ => ?_
  unfold term
  rw [dif_pos k.isLt]

end Acc

/-! ## The norm's gradient on 272 rows -/

section Half

variable {h d s : Fin 272 → Fin 1024 → ℝ} {w e : Fin 1024 → ℝ} {xh xd xs : Vec Ideal S272x1024 .f32} {xw xe : Vec Ideal S1x1024 .f32}
variable (hh : ∀ r l, xh (ix2 r l) = ((h r l : ℝ) : EReal)) (hd : ∀ r l, xd (ix2 r l) = ((d r l : ℝ) : EReal)) (hs : ∀ r l, xs (ix2 r l) = ((s r l : ℝ) : EReal))
  (hw : ∀ l, xw (ix2 0 l) = ((w l : ℝ) : EReal)) (he : ∀ l, xe (ix2 0 l) = ((e l : ℝ) : EReal))

include hh in
theorem pay7_apply (r : Fin 272) : k0_pay7 xh (ix2 r 0) = ((rr (h r) : ℝ) : EReal) := by
  pointwise [k0_pay7]
  simp only [hh, lit_eps, lit_1024, ← EReal.coe_mul, coe_sum]
  rw [div_real _ _ (by norm_num), ← EReal.coe_add]
  exact rsqrt_real _ (ms_pos _)
include hh in
theorem pay14_apply (r : Fin 272) : k0_pay14 xh (ix2 r 0) = ((rr (h r) : ℝ) : EReal) := by
  pointwise [k0_pay14]
  simp only [hh, lit_eps, lit_1024, ← EReal.coe_mul, coe_sum]
  rw [div_real _ _ (by norm_num), ← EReal.coe_add]
  exact rsqrt_real _ (ms_pos _)
include hh in
theorem pay8_apply (r : Fin 272) (l : Fin 1024) : k0_pay8 xh (ix2 r l) = ((h r l * rr (h r) : ℝ) : EReal) := by
  pointwise [k0_pay8]
  rw [pay7_apply hh, hh, ← EReal.coe_mul]
include hh in
theorem pay15_apply (r : Fin 272) (l : Fin 1024) : k0_pay15 xh (ix2 r l) = ((h r l * rr (h r) : ℝ) : EReal) := by
  pointwise [k0_pay15]
  rw [pay14_apply hh, hh, ← EReal.coe_mul]
include hd hw in
theorem pay9_apply (r : Fin 272) (l : Fin 1024) : k0_pay9 xd xw (ix2 r l) = ((d r l * w l : ℝ) : EReal) := by
  pointwise [k0_pay9]
  rw [hd, hw, ← EReal.coe_mul]
include hw in
theorem pay16_apply (r : Fin 272) (l : Fin 1024) : k0_pay16 xw (ix2 r l) = ((w l : ℝ) : EReal) := by
  pointwise [k0_pay16]
  exact hw l
include hh hd hw in
theorem pay10_apply (r : Fin 272) (l : Fin 1024) : k0_pay10 xd xh xw (ix2 r l) = ((d r l * w l * (h r l * rr (h r)) : ℝ) : EReal) := by
  pointwise [k0_pay10]
  rw [pay9_apply hd hw, pay8_apply hh, ← EReal.coe_mul]

/-- The stream's gradient at an entry: the norm's gradient, and the gradient that goes past the norm. -/
def stream {n : ℕ} (h d s : Fin n → Fin 1024 → ℝ) (w : Fin 1024 → ℝ) (r : Fin n) (l : Fin 1024) : ℝ := normGrad (h r) (d r) w l + s r l
/-- One row's part of the norm weight's gradient. -/
def part {n : ℕ} (h d : Fin n → Fin 1024 → ℝ) (r : Fin n) (l : Fin 1024) : ℝ := d r l * (h r l * rr (h r))

include hh hd hs hw in
theorem top_apply (r : Fin 272) (l : Fin 1024) : topOf xd xh xw xs (ix2 r l) = ((stream h d s w r l : ℝ) : EReal) := by
  unfold topOf
  pointwise [k0_pay12]
  simp only [pay7_apply hh, pay8_apply hh, pay9_apply hd hw, pay10_apply hh hd hw, hs, lit_1024, ← EReal.coe_mul, coe_sum]
  rw [div_real _ _ (by norm_num)]
  simp only [← EReal.coe_mul, ← EReal.coe_sub, ← EReal.coe_add]
  rfl
include hh hd hs hw in
theorem bot_apply (r : Fin 272) (l : Fin 1024) : botOf xd xh xw xs (ix2 r l) = ((stream h d s w r l : ℝ) : EReal) := by
  unfold botOf
  pointwise [k0_pay2]
  simp only [pay14_apply hh, pay15_apply hh, pay16_apply hw, hd, hs, lit_1024, ← EReal.coe_mul, coe_sum]
  rw [div_real _ _ (by norm_num)]
  simp only [← EReal.coe_mul, ← EReal.coe_sub, ← EReal.coe_add]
  rfl
include hh hd he in
theorem pay11_apply (l : Fin 1024) : k0_pay11 xd (k0_pay8 xh) xe (ix2 0 l) = ((e l + ∑ r, part h d r l : ℝ) : EReal) := by
  pointwise [k0_pay11]
  simp only [pay8_apply hh, hd, he, ← EReal.coe_mul, coe_sum, ← EReal.coe_add]
  rfl
include hh hd he in
theorem pay1_apply (l : Fin 1024) : k0_pay1 xd (k0_pay15 xh) xe (ix2 0 l) = ((e l + ∑ r, part h d r l : ℝ) : EReal) := by
  pointwise [k0_pay1]
  simp only [pay15_apply hh, hd, he, ← EReal.coe_mul, coe_sum, ← EReal.coe_add]
  rfl
theorem pay4_apply (l : Fin 1024) : k0_pay4 (F := Ideal) (ix2 0 l) = ((0 : ℝ) : EReal) := by
  pointwise [k0_pay4]
  simp

end Half

/-! ## A point's three results -/

section Point

variable {h d s : Fin 544 → Fin 1024 → ℝ} {w e : Fin 1024 → ℝ} {xh xd xs : Vec Ideal S544x1024 .f32} {xw xe : Vec Ideal S1x1024 .f32}
variable (hh : ∀ r l, xh (ix2 r l) = ((h r l : ℝ) : EReal)) (hd : ∀ r l, xd (ix2 r l) = ((d r l : ℝ) : EReal)) (hs : ∀ r l, xs (ix2 r l) = ((s r l : ℝ) : EReal))
  (hw : ∀ l, xw (ix2 0 l) = ((w l : ℝ) : EReal)) (he : ∀ l, xe (ix2 0 l) = ((e l : ℝ) : EReal))

/-- A block's half, over reals. -/
abbrev sub (o : ℕ) (ho : o + 272 ≤ 544) (x : Fin 544 → Fin 1024 → ℝ) : Fin 272 → Fin 1024 → ℝ := fun r l => x (down o ho r) l

theorem half_real {x : Fin 544 → Fin 1024 → ℝ} {X : Vec Ideal S544x1024 .f32} (hx : ∀ r l, X (ix2 r l) = ((x r l : ℝ) : EReal)) (o : ℕ) (ho : o + 272 ≤ 544) (r : Fin 272) (l : Fin 1024) :
    half o ho X (ix2 r l) = ((sub o ho x r l : ℝ) : EReal) := (half_apply o ho X r l).trans (hx _ _)

include hh hd hs hw in
theorem stream_apply : streamOf xd xh xw xs = fun y => ((stream h d s w (y 0) (y 1) : ℝ) : EReal) := by
  unfold streamOf
  refine canon_two (m0 := 272) (m1 := 1024) _ _ ![272, 0] ![0, 0] _ _ _ (fun r l => by simp; omega) (fun r l r' c' hr hc' => ?_) (fun r l r' c' hr hc' => ?_)
  · obtain rfl : r' = down 272 (by decide) r := Fin.ext (by simpa using hr)
    obtain rfl : c' = l := Fin.ext (by simpa using hc')
    exact bot_apply (half_real hh _ _) (half_real hd _ _) (half_real hs _ _) hw r c'
  · obtain rfl : r' = down 0 (by decide) r := Fin.ext (by simpa using hr)
    obtain rfl : c' = l := Fin.ext (by simpa using hc')
    exact top_apply (half_real hh _ _) (half_real hd _ _) (half_real hs _ _) hw r c'
include hh hd hs hw in
theorem cast_apply : castOf xd xh xw xs = fun y => ((stream h d s w (y 0) (y 1) : ℝ) : EReal) := by
  unfold castOf
  refine canon_two (m0 := 272) (m1 := 1024) _ _ ![272, 0] ![0, 0] _ _ _ (fun r l => by simp; omega) (fun r l r' c' hr hc' => ?_) (fun r l r' c' hr hc' => ?_)
  · obtain rfl : r' = down 272 (by decide) r := Fin.ext (by simpa using hr)
    obtain rfl : c' = l := Fin.ext (by simpa using hc')
    exact bot_apply (half_real hh _ _) (half_real hd _ _) (half_real hs _ _) hw r c'
  · obtain rfl : r' = down 0 (by decide) r := Fin.ext (by simpa using hr)
    obtain rfl : c' = l := Fin.ext (by simpa using hc')
    exact top_apply (half_real hh _ _) (half_real hd _ _) (half_real hs _ _) hw r c'
include hh hd he in
theorem weight_apply (l : Fin 1024) :
    weightOf xd xh xe (ix2 0 l) = ((e l + (∑ r, part h d (down 0 (by decide) r) l) + ∑ r, part h d (down 272 (by decide) r) l : ℝ) : EReal) := by
  unfold weightOf
  exact pay1_apply (half_real hh _ _) (half_real hd _ _) (fun l => pay11_apply (half_real hh _ _) (half_real hd _ _) he l) l

end Point

end Cert.Kernel3Ideal.NormHalf
end
-- ==== Proof.NormArray.lean ====
/- What the three result arrays of the gradient through the two inner products and the norm hold after the run, at an entry,
   over finite arguments. -/
module

public import proofs.«01_k».proof.Proof.NormFrame
public import proofs.«01_k».proof.Proof.NormHalf
public import Idealize.ShloMosaic.Lib.StableHlo.ReadAt
public import Idealize.ShloMosaic.Lib.Pipeline.ValueKit.Point
public import Idealize.ShloMosaic.Lib.Pipeline.ValueKit.Geometry

@[expose] public section

set_option maxRecDepth 16384

noncomputable section

namespace Cert.Kernel3Ideal.NormArray

open Idealize.ShloMosaic Idealize.ShloMosaic.TcCoe Idealize.SL.Sem
open Cert.Kernel3Ideal Cert.Kernel3Ideal.Gen Cert.Kernel3Ideal.NormRun Cert.Kernel3Ideal.NormFrame Cert.Kernel3Ideal.NormHalf Cert.OutReal

variable (m : (ℓ : Loc nD τ sig) → Buf (Elt Ideal) ℓ) (c : Dev nD)

/-! ## The arrays that the host prepares -/

theorem V0 (r : Fin 2176) (k : Fin 2816) : (V m c main_v0 : Vec Ideal S2176x2816 .bf16) (ix2 r k) = (m ((c : Thread nD τ).loc main_arg4) : Vec Ideal S2176x2816 .f32) (ix2 r k) := by
  unfold V
  after_reads_at

theorem V1 (r : Fin 2176) (k : Fin 2816) : (V m c main_v1 : Vec Ideal S2176x2816 .bf16) (ix2 r k) = (m ((c : Thread nD τ).loc main_arg5) : Vec Ideal S2176x2816 .f32) (ix2 r k) := by
  unfold V
  after_reads_at

theorem V3 (k : Fin 2816) (l : Fin 1024) : (V m c main_v3 : Vec Ideal S2816x1024 .bf16) (ix2 k l) = (m ((c : Thread nD τ).loc main_arg2) : Vec Ideal S1024x2816 .f32) (ix2 l k) := by
  unfold V
  after_reads_at

theorem V5 (k : Fin 2816) (l : Fin 1024) : (V m c main_v5 : Vec Ideal S2816x1024 .bf16) (ix2 k l) = (m ((c : Thread nD τ).loc main_arg3) : Vec Ideal S1024x2816 .f32) (ix2 l k) := by
  unfold V
  after_reads_at

theorem V6 (l : Fin 1024) : (V m c main_v6 : Vec Ideal S1x1024 .f32) (ix2 0 l) = (m ((c : Thread nD τ).loc main_arg1) : Vec Ideal S1024 .f32) (ix1 l) := by
  unfold V
  after_reads_at

/-! ## Finite arguments, and the blocks of a point -/

/-- Row `r` of point `t`'s block. -/
def row (t : Fin cfg0.N) (r : Fin 544) : Fin 2176 := ⟨t.val * 544 + r.val, by
  have h := t.isLt
  have e : cfg0.N = 4 := by decide
  omega⟩

/-- A point's block of rows. -/
def blk {n : ℕ} (X : Fin 2176 → Fin n → ℝ) (t : Fin cfg0.N) : Fin 544 → Fin n → ℝ := fun r l => X (row t r) l

theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] :=
  (by decide +kernel : ∀ t : Fin grid0.N, _)

variable {H S : Fin 2176 → Fin 1024 → ℝ} {N : Fin 1024 → ℝ} {A B : Fin 1024 → Fin 2816 → ℝ} {G P : Fin 2176 → Fin 2816 → ℝ}
variable (h0 : ∀ r k, (m ((c : Thread nD τ).loc main_arg0) : Vec Ideal S2176x1024 .f32) (ix2 r k) = ((H r k : ℝ) : EReal))
  (h1 : ∀ k, (m ((c : Thread nD τ).loc main_arg1) : Vec Ideal S1024 .f32) (ix1 k) = ((N k : ℝ) : EReal))
  (h2 : ∀ r k, (m ((c : Thread nD τ).loc main_arg2) : Vec Ideal S1024x2816 .f32) (ix2 r k) = ((A r k : ℝ) : EReal))
  (h3 : ∀ r k, (m ((c : Thread nD τ).loc main_arg3) : Vec Ideal S1024x2816 .f32) (ix2 r k) = ((B r k : ℝ) : EReal))
  (h4 : ∀ r k, (m ((c : Thread nD τ).loc main_arg4) : Vec Ideal S2176x2816 .f32) (ix2 r k) = ((G r k : ℝ) : EReal))
  (h5 : ∀ r k, (m ((c : Thread nD τ).loc main_arg5) : Vec Ideal S2176x2816 .f32) (ix2 r k) = ((P r k : ℝ) : EReal))
  (h6 : ∀ r k, (m ((c : Thread nD τ).loc main_arg6) : Vec Ideal S2176x1024 .f32) (ix2 r k) = ((S r k : ℝ) : EReal))

include h4 in
theorem x0_eq (t : Fin cfg0.N) (r : Fin 544) (k : Fin 2816) : (iblk m c 0 t : Vec Ideal S544x2816 .bf16) (ix2 r k) = ((blk G t r k : ℝ) : EReal) := by
  unfold blk
  refine Eq.trans ?_ ((V0 m c _ _).trans (h4 _ _))
  have e := idx t
  blk_ext [iblk, e, row]

include h5 in
theorem x1_eq (t : Fin cfg0.N) (r : Fin 544) (k : Fin 2816) : (iblk m c 1 t : Vec Ideal S544x2816 .bf16) (ix2 r k) = ((blk P t r k : ℝ) : EReal) := by
  unfold blk
  refine Eq.trans ?_ ((V1 m c _ _).trans (h5 _ _))
  have e := idx t
  blk_ext [iblk, e, row]

include h0 in
theorem x2_eq (t : Fin cfg0.N) (r : Fin 544) (k : Fin 1024) : (iblk m c 2 t : Vec Ideal S544x1024 .f32) (ix2 r k) = ((blk H t r k : ℝ) : EReal) := by
  unfold blk
  refine Eq.trans ?_ ((congrFun (V_main_arg0 m c) (ix2 _ _)).trans (h0 _ _))
  have e := idx t
  blk_ext [iblk, e, row]

include h1 in
theorem x3_eq (t : Fin cfg0.N) (k : Fin 1024) : (iblk m c 3 t : Vec Ideal S1x1024 .f32) (ix2 0 k) = ((N k : ℝ) : EReal) := by
  refine Eq.trans ?_ ((V6 m c _).trans (h1 _))
  have e := idx t
  blk_ext [iblk, e, row]

include h6 in
theorem x4_eq (t : Fin cfg0.N) (r : Fin 544) (k : Fin 1024) : (iblk m c 4 t : Vec Ideal S544x1024 .f32) (ix2 r k) = ((blk S t r k : ℝ) : EReal) := by
  unfold blk
  refine Eq.trans ?_ ((congrFun (V_main_arg6 m c) (ix2 _ _)).trans (h6 _ _))
  have e := idx t
  blk_ext [iblk, e, row]

/-- The gradient of the norm's output: the two gradients times the two weights, turned over. -/
def dnorm (G P : Fin 2176 → Fin 2816 → ℝ) (A B : Fin 1024 → Fin 2816 → ℝ) : Fin 2176 → Fin 1024 → ℝ := grad G P (fun k l => A l k) (fun k l => B l k)

include h2 h3 h4 h5 in
theorem du_eq (t : Fin cfg0.N) (r : Fin 544) (l : Fin 1024) : du m c t (ix2 r l) = ((blk (dnorm G P A B) t r l : ℝ) : EReal) :=
  acc_last (x0_eq m c h4 t) (x1_eq m c h5 t) (a := fun k l => A l k) (b := fun k l => B l k) (fun k l => (V3 m c k l).trans (h2 l k)) (fun k l => (V5 m c k l).trans (h3 l k)) r l

/-! ## The gradient of the stream -/

include h0 h1 h2 h3 h4 h5 h6 in
/-- The stream's gradient. -/
theorem final5 : (dats m 0 c).arrAt 5 cfg0.N = fun y => ((stream H (dnorm G P A B) S N (y 0) (y 1) : ℝ) : EReal) := by
  refine (dats m 0 c).arrAt_eq_of_covers 5 _ (by decide +kernel) fun t hf y => ?_
  blk_simp
  rw [after5, stream_apply (x2_eq m c h0 t) (du_eq m c h2 h3 h4 h5 t) (x4_eq m c h6 t) (x3_eq m c h1 t)]
  have e := idx t
  have e0 : (row t (y 0) : Fin 2176) = (win0_5.blk t).view.emb y 0 := Fin.ext (by blk_simp [e, row])
  have e1 : (y 1 : Fin 1024) = (win0_5.blk t).view.emb y 1 := Fin.ext (by blk_simp [e])
  exact congrArg₂ (fun (r : Fin 2176) (l : Fin 1024) => ((stream H (dnorm G P A B) S N r l : ℝ) : EReal)) e0 e1

include h0 h1 h2 h3 h4 h5 h6 in
/-- The same at the narrower type. -/
theorem final6 : (dats m 0 c).arrAt 6 cfg0.N = fun y => ((stream H (dnorm G P A B) S N (y 0) (y 1) : ℝ) : EReal) := by
  refine (dats m 0 c).arrAt_eq_of_covers 6 _ (by decide +kernel) fun t hf y => ?_
  blk_simp
  rw [after6, cast_apply (x2_eq m c h0 t) (du_eq m c h2 h3 h4 h5 t) (x4_eq m c h6 t) (x3_eq m c h1 t)]
  have e := idx t
  have e0 : (row t (y 0) : Fin 2176) = (win0_6.blk t).view.emb y 0 := Fin.ext (by blk_simp [e, row])
  have e1 : (y 1 : Fin 1024) = (win0_6.blk t).view.emb y 1 := Fin.ext (by blk_simp [e])
  exact congrArg₂ (fun (r : Fin 2176) (l : Fin 1024) => ((stream H (dnorm G P A B) S N r l : ℝ) : EReal)) e0 e1

/-! ## The norm weight's gradient: a sum over all rows, built up point after point -/

/-- Row `n`'s part of the norm weight's gradient, zero past the last row. -/
def partAt (H D : Fin 2176 → Fin 1024 → ℝ) (l : Fin 1024) (n : ℕ) : ℝ := if h : n < 2176 then part H D ⟨n, h⟩ l else 0

theorem half_sum (H D : Fin 2176 → Fin 1024 → ℝ) (l : Fin 1024) (t : Fin cfg0.N) (o : ℕ) (ho : o + 272 ≤ 544) :
    (∑ r, part (blk H t) (blk D t) (down o ho r) l) = ∑ x ∈ Finset.range 272, partAt H D l (t.val * 544 + o + x) := by
  rw [Finset.sum_range]
  refine Finset.sum_congr rfl fun r _ => ?_
  have hr : t.val * 544 + o + r.val < 2176 := by
    have h := (row t (down o ho r)).isLt
    simp only [row, down] at h
    omega
  unfold partAt
  rw [dif_pos hr]
  exact congrArg (fun q : Fin 2176 => part H D q l) (Fin.ext (by simp only [row, down]; omega))

theorem two_halves (f : ℕ → ℝ) (n : ℕ) :
    (∑ x ∈ Finset.range (n * 544), f x) + (∑ x ∈ Finset.range 272, f (n * 544 + 0 + x)) + (∑ x ∈ Finset.range 272, f (n * 544 + 272 + x))
      = ∑ x ∈ Finset.range ((n + 1) * 544), f x := by
  rw [show (n + 1) * 544 = n * 544 + 272 + 272 by ring, Finset.sum_range_add, Finset.sum_range_add]
  simp

include h0 h2 h3 h4 h5 in
theorem wgt_eq (n : ℕ) : ∀ (hn : n < cfg0.N) (l : Fin 1024),
    wgt m c n hn (ix2 0 l) = ((∑ x ∈ Finset.range ((n + 1) * 544), partAt H (dnorm G P A B) l x : ℝ) : EReal) := by
  induction n with
  | zero =>
    intro hn l
    refine (weight_apply (x2_eq m c h0 ⟨0, hn⟩) (du_eq m c h2 h3 h4 h5 ⟨0, hn⟩) (e := fun _ => 0) pay4_apply l).trans ?_
    rw [half_sum, half_sum, ← two_halves]
    simp
  | succ n ih =>
    intro hn l
    have hn' : n < cfg0.N := Nat.lt_of_succ_lt hn
    refine (weight_apply (x2_eq m c h0 ⟨n + 1, hn⟩) (du_eq m c h2 h3 h4 h5 ⟨n + 1, hn⟩) (e := fun l => ∑ x ∈ Finset.range ((n + 1) * 544), partAt H (dnorm G P A B) l x) (ih hn') l).trans ?_
    rw [half_sum, half_sum, ← two_halves _ (n + 1)]

include h0 h2 h3 h4 h5 in
/-- The norm weight's gradient. -/
theorem final7 : (dats m 0 c).arrAt 7 cfg0.N = fun y => ((∑ r, part H (dnorm G P A B) r (y 1) : ℝ) : EReal) := by
  have he : ∀ l, (∑ r, part H (dnorm G P A B) r l) = ∑ x ∈ Finset.range ((3 + 1) * 544), partAt H (dnorm G P A B) l x := by
    intro l
    rw [Finset.sum_range]
    refine Finset.sum_congr rfl fun r _ => ?_
    unfold partAt
    rw [dif_pos r.isLt]
  refine (dats m 0 c).arrAt_eq_of_after_last 7 t0_3 (by decide +kernel) _ fun j => ?_
  rw [after7]
  blk_simp
  obtain ⟨r, l, rfl⟩ : ∃ (r : Fin 1) (l : Fin 1024), j = ix2 r l := ⟨j 0, j 1, eq_ix2 j⟩
  obtain rfl : r = 0 := Subsingleton.elim _ _
  refine (wgt_eq m c h0 h2 h3 h4 h5 3 (by decide) l).trans ?_
  exact congrArg (fun q : ℝ => (q : EReal)) (he l).symm

end Cert.Kernel3Ideal.NormArray
end
-- ==== Proof.NormRef.lean ====
/- What the reference's three results hold, at an entry, over finite arguments: the chain rule of the norm and of the two
   products after it. -/
module

public import proofs.«01_k».proof.Proof.NormArray
public import proofs.«01_k».proof.Proof.OutRef
public import proofs.«01_k».proof.Proof.Gen.Reference3Ideal.Read

@[expose] public section

set_option maxRecDepth 16384

noncomputable section

namespace Cert.Reference3Ideal.NormRef

open Idealize.ShloMosaic Idealize.ShloMosaic.TcCoe Idealize.SL.Sem
open Cert.Reference3Ideal Cert.Reference3Ideal.Gen Cert.Reference3Ideal.Read Cert.OutReal
open Cert.KernelIdeal.OutHalf (lit_eps lit_1024 div_real rsqrt_real coe_sum)
open Cert.ReferenceIdeal.OutRef (lit_neg_half norm_eq)
open Cert.Kernel3Ideal.NormHalf (grad stream part)
open Cert.Kernel3Ideal.NormArray (dnorm)

variable {x0 x6 : Vec Ideal S2176x1024 .f32} {x1 : Vec Ideal S1024 .f32} {x2 x3 : Vec Ideal S1024x2816 .f32} {x4 x5 : Vec Ideal S2176x2816 .f32}
variable {H S : Fin 2176 → Fin 1024 → ℝ} {N : Fin 1024 → ℝ} {A B : Fin 1024 → Fin 2816 → ℝ} {G P : Fin 2176 → Fin 2816 → ℝ}
variable (h0 : ∀ r k, x0 (ix2 r k) = ((H r k : ℝ) : EReal)) (h1 : ∀ k, x1 (ix1 k) = ((N k : ℝ) : EReal))
  (h2 : ∀ r k, x2 (ix2 r k) = ((A r k : ℝ) : EReal)) (h3 : ∀ r k, x3 (ix2 r k) = ((B r k : ℝ) : EReal))
  (h4 : ∀ r k, x4 (ix2 r k) = ((G r k : ℝ) : EReal)) (h5 : ∀ r k, x5 (ix2 r k) = ((P r k : ℝ) : EReal)) (h6 : ∀ r k, x6 (ix2 r k) = ((S r k : ℝ) : EReal))

include h0 in
theorem ms_apply (r : Fin 2176) : val_main_v6 x0 (ix2 r 0) = ((ms (H r) : ℝ) : EReal) := by
  pointwise [val_main_v6, val_main_v5, val_main_cst_1, val_main_v4, val_main_v3, val_main_cst_0, val_main_v2, val_main_v1, val_main_cst, val_main_v0]
  simp only [h0, lit_eps, lit_1024, ← EReal.coe_mul, coe_sum]
  rw [div_real _ _ (by norm_num), ← EReal.coe_add]
  rfl

include h0 in
theorem rr_apply (r : Fin 2176) : val_main_v7 x0 (ix2 r 0) = ((rr (H r) : ℝ) : EReal) := by
  pointwise [val_main_v7]
  rw [ms_apply h0]
  exact rsqrt_real _ (ms_pos _)

include h0 in
/-- The derivative of a row's inverse root. -/
theorem slope_apply (r : Fin 2176) : val_main_v10 x0 (ix2 r 0) = ((-(1 / 2) * (rr (H r) / ms (H r)) : ℝ) : EReal) := by
  pointwise [val_main_v10, val_main_v9, val_main_cst_2, val_main_v8]
  rw [rr_apply h0, ms_apply h0, div_real _ _ (ms_pos _).ne', lit_neg_half, ← EReal.coe_mul]

include h2 h3 h4 h5 in
/-- The gradient of the norm's output. -/
theorem du_apply (r : Fin 2176) (l : Fin 1024) : val_main_v20 x2 x3 x4 x5 (ix2 r l) = ((dnorm G P A B r l : ℝ) : EReal) := by
  pointwise [val_main_v20, val_main_v19, val_main_v18]
  simp only [h2, h3, h4, h5, ← EReal.coe_mul, coe_sum, ← EReal.coe_add]
  congr 1
  exact add_comm _ _

include h1 h2 h3 h4 h5 in
theorem dw_apply (r : Fin 2176) (l : Fin 1024) : val_main_v25 x1 x2 x3 x4 x5 (ix2 r l) = ((dnorm G P A B r l * N l : ℝ) : EReal) := by
  pointwise [val_main_v25, val_main_v24, val_main_v13]
  rw [du_apply h2 h3 h4 h5, h1, ← EReal.coe_mul]

include h0 h1 h2 h3 h4 h5 in
/-- A row's part of the gradient that comes through its norm. -/
theorem inner_apply (r : Fin 2176) : val_main_v36 x0 x1 x2 x3 x4 x5 (ix1 r)
    = (((∑ k, H r k * (dnorm G P A B r k * N k)) * (-(1 / 2) * (rr (H r) / ms (H r))) / 1024 : ℝ) : EReal) := by
  pointwise [val_main_v36, val_main_cst_7, val_main_v35, val_main_v34, val_main_cst_6, val_main_v33, val_main_v29, val_main_v28, val_main_cst_5, val_main_v27]
  simp only [dw_apply h1 h2 h3 h4 h5, h0, slope_apply h0, lit_1024, Fin.sum_univ_one, ← EReal.coe_mul, coe_sum]
  rw [div_real _ _ (by norm_num)]

include h0 h1 h2 h3 h4 h5 h6 in
theorem stream_apply (r : Fin 2176) (l : Fin 1024) : val_main_v41 x0 x1 x2 x3 x4 x5 x6 (ix2 r l) = ((stream H (dnorm G P A B) S N r l : ℝ) : EReal) := by
  pointwise [val_main_v41, val_main_v40, val_main_v39, val_main_v38, val_main_v37, val_main_v32, val_main_v31, val_main_v30]
  simp only [inner_apply h0 h1 h2 h3 h4 h5, dw_apply h1 h2 h3 h4 h5, rr_apply h0, h0, h6, ← EReal.coe_mul, ← EReal.coe_add]
  congr 1
  unfold stream
  rw [← norm_eq]
  ring

include h0 h1 h2 h3 h4 h5 h6 in
/-- The stream's gradient. -/
theorem final41 : val_main_v41 x0 x1 x2 x3 x4 x5 x6 = fun y => ((stream H (dnorm G P A B) S N (y 0) (y 1) : ℝ) : EReal) := by
  funext y
  exact (congrArg _ (eq_ix2 y)).trans (stream_apply h0 h1 h2 h3 h4 h5 h6 (y 0) (y 1))

include h0 h1 h2 h3 h4 h5 h6 in
/-- The same at the narrower type. -/
theorem final42 : val_main_v42 x0 x1 x2 x3 x4 x5 x6 = fun y => ((stream H (dnorm G P A B) S N (y 0) (y 1) : ℝ) : EReal) :=
  (funext fun _ => rfl : _ = val_main_v41 x0 x1 x2 x3 x4 x5 x6).trans (final41 h0 h1 h2 h3 h4 h5 h6)

include h0 h2 h3 h4 h5 in
/-- The norm weight's gradient. -/
theorem final43 : val_main_v43 x0 x2 x3 x4 x5 = fun y => ((∑ r, part H (dnorm G P A B) r (y 1) : ℝ) : EReal) := by
  funext y
  obtain ⟨r, l, rfl⟩ : ∃ (r : Fin 1) (l : Fin 1024), y = ix2 r l := ⟨y 0, y 1, eq_ix2 y⟩
  pointwise [val_main_v43, val_main_v26, val_main_cst_4, val_main_v23, val_main_v22, val_main_cst_3, val_main_v21, val_main_v12, val_main_v11]
  simp only [du_apply h2 h3 h4 h5, rr_apply h0, h0, Fin.sum_univ_one, ← EReal.coe_mul, coe_sum]
  congr 1
  exact Finset.sum_congr rfl fun r _ => mul_comm _ _

end Cert.Reference3Ideal.NormRef
end
-- ==== Proof.Finite3.lean ====
/- What the precondition of the gradient through the norm says: every argument's entries are real numbers. -/
module

public import proofs.«01_k».proof.Proof.Finite
public import proofs.«01_k».proof.Proof.Gen.Pre_finite3

@[expose] public section

noncomputable section

namespace Cert.Finite3

open Idealize.ShloMosaic Cert.Pre_finite3 Cert.Finite

/-- Where the precondition holds, each of the seven arguments is a real number at each index. -/
theorem reals {x0 x6 : FVec Ideal S2176x1024 .f32} {x1 : FVec Ideal S1024 .f32} {x2 x3 : FVec Ideal S1024x2816 .f32} {x4 x5 : FVec Ideal S2176x2816 .f32}
    [Cert.Pre_finite3.Facts] (h : fn (F := Ideal) x0 x1 x2 x3 x4 x5 x6 = fun _ => 1#1) :
    (∀ r k, x0 (ix2 r k) = ((EReal.toReal (x0 (ix2 r k)) : ℝ) : EReal)) ∧ (∀ k, x1 (ix1 k) = ((EReal.toReal (x1 (ix1 k)) : ℝ) : EReal))
      ∧ (∀ r k, x2 (ix2 r k) = ((EReal.toReal (x2 (ix2 r k)) : ℝ) : EReal)) ∧ (∀ r k, x3 (ix2 r k) = ((EReal.toReal (x3 (ix2 r k)) : ℝ) : EReal))
      ∧ (∀ r k, x4 (ix2 r k) = ((EReal.toReal (x4 (ix2 r k)) : ℝ) : EReal)) ∧ (∀ r k, x5 (ix2 r k) = ((EReal.toReal (x5 (ix2 r k)) : ℝ) : EReal))
      ∧ (∀ r k, x6 (ix2 r k) = ((EReal.toReal (x6 (ix2 r k)) : ℝ) : EReal)) := by
  haveI : Subsingleton S_.Idx := ⟨fun a b => funext fun i => i.elim0⟩
  have e := congrFun h (fun i => i.elim0)
  unfold fn fn_part1 at e
  dsimp only at e
  obtain ⟨e, e6⟩ := and_one _ _ e
  obtain ⟨e, e5⟩ := and_one _ _ e
  obtain ⟨e, e4⟩ := and_one _ _ e
  obtain ⟨e, e3⟩ := and_one _ _ e
  obtain ⟨e, e2⟩ := and_one _ _ e
  obtain ⟨e0, e1⟩ := and_one _ _ e
  exact ⟨fun r k => real_of_abs _ (Host.reduce_andi_all _ _ _ _ _ e0 (ix2 r k)), fun k => real_of_abs _ (Host.reduce_andi_all _ _ _ _ _ e1 (ix1 k)),
    fun r k => real_of_abs _ (Host.reduce_andi_all _ _ _ _ _ e2 (ix2 r k)), fun r k => real_of_abs _ (Host.reduce_andi_all _ _ _ _ _ e3 (ix2 r k)),
    fun r k => real_of_abs _ (Host.reduce_andi_all _ _ _ _ _ e4 (ix2 r k)), fun r k => real_of_abs _ (Host.reduce_andi_all _ _ _ _ _ e5 (ix2 r k)),
    fun r k => real_of_abs _ (Host.reduce_andi_all _ _ _ _ _ e6 (ix2 r k))⟩

end Cert.Finite3
end
-- ==== Proof.MixWeight.lean ====
/- The gradient of the output projection's weight: the kernel's array and the reference's are the same sum over all rows,
   at each entry, over any extended reals. -/
module

public import proofs.«01_k».proof.Proof.Gen.Kernel4Ideal.Value
public import proofs.«01_k».proof.Proof.Gen.Reference4Ideal.Read
public import Idealize.ShloMosaic.Lib.StableHlo.ReadAt
public import Idealize.ShloMosaic.Lib.Pipeline.Value
public import Idealize.ShloMosaic.Lib.Pipeline.ValueKit.Point
public import Idealize.ShloMosaic.Lib.Pipeline.ValueKit.Geometry

@[expose] public section

set_option maxRecDepth 16384

noncomputable section

namespace Cert.MixWeight

open Idealize.ShloMosaic Idealize.ShloMosaic.TcCoe Idealize.SL.Sem

/-- Entry `(a, b)` of the transpose of `x` times `d`. -/
def outer (x : Vec Ideal (⟨2, ![2176, 2048]⟩ : Shape) .f32) (d : Vec Ideal (⟨2, ![2176, 1024]⟩ : Shape) .f32) (a : Fin 2048) (b : Fin 1024) : EReal :=
  ∑ r : Fin 2176, (x (ix2 r a) : EReal) * d (ix2 r b)

section Kernel

open Cert.Kernel4Ideal Cert.Kernel4Ideal.Gen

variable (m : (ℓ : Loc nD τ sig) → Buf (Elt Ideal) ℓ) (c : Dev nD)

theorem V0 (r : Fin 2176) (k : Fin 2048) : (V m c main_v0 : Vec Ideal S2176x2048 .bf16) (ix2 r k) = (m ((c : Thread nD τ).loc main_arg0) : Vec Ideal S2176x2048 .f32) (ix2 r k) := by
  unfold V
  after_reads_at

theorem V1 (r : Fin 2176) (k : Fin 1024) : (V m c main_v1 : Vec Ideal S2176x1024 .bf16) (ix2 r k) = (m ((c : Thread nD τ).loc main_arg2) : Vec Ideal S2176x1024 .f32) (ix2 r k) := by
  unfold V
  after_reads_at

/-- Row `k` of point `t`'s block of the gradient. -/
def row (t : Fin cfg0.N) (k : Fin 256) : Fin 2048 := ⟨t.val * 256 + k.val, by
  have h := t.isLt
  have e : cfg0.N = 8 := by decide
  omega⟩

theorem idx : ∀ t : Fin cfg0.N, win0_0.index t = ![0, t.val] ∧ win0_1.index t = ![0, 0] ∧ win0_2.index t = ![t.val, 0] :=
  (by decide +kernel : ∀ t : Fin grid0.N, _)

theorem x0_eq (t : Fin cfg0.N) (r : Fin 2176) (k : Fin 256) :
    (iblk m c 0 t : Vec Ideal S2176x256 .bf16) (ix2 r k) = (m ((c : Thread nD τ).loc main_arg0) : Vec Ideal S2176x2048 .f32) (ix2 r (row t k)) := by
  refine Eq.trans ?_ (V0 m c _ _)
  have e := idx t
  blk_ext [iblk, e, row]

theorem x1_eq (t : Fin cfg0.N) (r : Fin 2176) (k : Fin 1024) :
    (iblk m c 1 t : Vec Ideal S2176x1024 .bf16) (ix2 r k) = (m ((c : Thread nD τ).loc main_arg2) : Vec Ideal S2176x1024 .f32) (ix2 r k) := by
  refine Eq.trans ?_ (V1 m c _ _)
  have e := idx t
  blk_ext [iblk, e]

theorem blk_apply (x : Vec Ideal S2176x256 .bf16) (d : Vec Ideal S2176x1024 .bf16) (a : Fin 256) (b : Fin 1024) :
    k0_pay1 x d (ix2 a b) = ∑ r : Fin 2176, (x (ix2 r a) : EReal) * d (ix2 r b) := by
  pointwise [k0_pay1]

/-- What a point leaves is its one store. -/
theorem out_eq (x : Vec Ideal S2176x256 .bf16) (d : Vec Ideal S2176x1024 .bf16) : out0_2 x d = k0_pay1 x d := by
  have hz : (![0, 0] : Fin 2 → Nat) = fun _ => 0 := funext fun a => by fin_cases a <;> rfl
  exact (View.canon_unit_zero (S := S256x1024) hz _ _).trans
    (congrArg₂ k0_pay1 (View.ld_unit_zero (S := S2176x256) hz _ _) (View.ld_unit_zero (S := S2176x1024) hz _ _))

/-- The kernel's array. -/
theorem final2 : (dats m 0 c).arrAt 2 cfg0.N = fun y => outer (m ((c : Thread nD τ).loc main_arg0)) (m ((c : Thread nD τ).loc main_arg2)) (y 0) (y 1) := by
  refine (dats m 0 c).arrAt_eq_of_covers 2 _ (by decide +kernel) fun t hf y => ?_
  blk_simp
  rw [after0_2, out_eq]
  obtain ⟨a, b, rfl⟩ : ∃ (a : Fin 256) (b : Fin 1024), y = ix2 a b := ⟨y 0, y 1, eq_ix2 y⟩
  have e := idx t
  have e0 : row t a = (win0_2.blk t).view.emb (ix2 a b) 0 := Fin.ext (by blk_simp [e, row])
  have e1 : b = (win0_2.blk t).view.emb (ix2 a b) 1 := Fin.ext (by blk_simp [e])
  refine Eq.trans ?_ (congrArg₂ (fun (r : Fin 2048) (l : Fin 1024) => outer (m ((c : Thread nD τ).loc main_arg0)) (m ((c : Thread nD τ).loc main_arg2)) r l) e0 e1)
  refine (blk_apply _ _ a b).trans ?_
  unfold outer
  refine Finset.sum_congr rfl fun r _ => ?_
  rw [x0_eq, x1_eq]

end Kernel

section Reference

open Cert.Reference4Ideal Cert.Reference4Ideal.Gen Cert.Reference4Ideal.Read

/-- The reference's array. -/
theorem final3 (x0 : Vec Ideal S2176x2048 .f32) (x2 : Vec Ideal S2176x1024 .f32) : val_main_v3 x0 x2 = fun y => outer x0 x2 (y 0) (y 1) := by
  funext y
  obtain ⟨a, b, rfl⟩ : ∃ (a : Fin 2048) (b : Fin 1024), y = ix2 a b := ⟨y 0, y 1, eq_ix2 y⟩
  pointwise [val_main_v3, val_main_v2, val_main_v1]
  unfold outer
  exact Finset.sum_congr rfl fun r _ => mul_comm _ _

end Reference

end Cert.MixWeight
end
-- ==== Proof.OutForward.lean ====
/- The mixer's output after the run, and the reference's: the same terms at every entry, on all arguments. -/
module

public import proofs.«01_k».proof.Proof.OutSide
public import proofs.«01_k».proof.Proof.Gen.Reference5Ideal.Run
public import proofs.«01_k».proof.Proof.Gen.Reference5Ideal.Read
public import Idealize.ShloMosaic.Lib.StableHlo.ReadAt
public import Idealize.ShloMosaic.Lib.Pipeline.ValueKit.Point
public import Idealize.ShloMosaic.Lib.Pipeline.ValueKit.Geometry

@[expose] public section

set_option maxRecDepth 16384

noncomputable section

namespace Cert.OutForward

open Idealize.ShloMosaic Idealize.ShloMosaic.TcCoe Idealize.SL.Sem
open Cert.Kernel5Ideal.OutSide (gelu normed branch side side_lo side_hi)

/-- The two branches side by side, and the residual stream with their product added, as functions of the arguments. -/
def mixed (y g h : Vec Ideal ⟨2, ![2176, 1024]⟩ .f32) (w : Vec Ideal ⟨1, ![1024]⟩ .f32) (r : Fin 2176) (k : Fin 2048) : EReal :=
  side (fun k => y (ix2 r k)) (fun k => g (ix2 r k)) (fun k => h (ix2 r k)) (fun k => w (ix1 k)) k
def stream (y g h : Vec Ideal ⟨2, ![2176, 1024]⟩ .f32) (w : Vec Ideal ⟨1, ![1024]⟩ .f32) (o : Vec Ideal ⟨2, ![2048, 1024]⟩ .f32) (s : Vec Ideal ⟨2, ![2176, 1024]⟩ .f32)
    (r : Fin 2176) (l : Fin 1024) : EReal := s (ix2 r l) + ∑ k : Fin 2048, mixed y g h w r k * o (ix2 k l)

section kernel

open Cert.Kernel5Ideal Cert.Kernel5Ideal.Gen Cert.Kernel5Ideal.OutSide

variable (m : (ℓ : Loc nD τ sig) → Buf (Elt Ideal) ℓ) (c : Dev nD)

abbrev a0 : Vec Ideal S2176x1024 .f32 := m ((c : Thread nD τ).loc main_arg0)
abbrev a1 : Vec Ideal S2176x1024 .f32 := m ((c : Thread nD τ).loc main_arg1)
abbrev a2 : Vec Ideal S2176x1024 .f32 := m ((c : Thread nD τ).loc main_arg2)
abbrev a3 : Vec Ideal S1024 .f32 := m ((c : Thread nD τ).loc main_arg3)
abbrev a4 : Vec Ideal S2048x1024 .f32 := m ((c : Thread nD τ).loc main_arg4)
abbrev a5 : Vec Ideal S2176x1024 .f32 := m ((c : Thread nD τ).loc main_arg5)

theorem V4 (r : Fin 2176) (k : Fin 1024) : (V m c main_v4 : Vec Ideal S2176x1024 .bf16) (ix2 r k) = a0 m c (ix2 r k) := by
  unfold V
  after_reads_at

theorem V3 (r : Fin 2176) (l : Fin 1024) : (V m c main_v3 : Vec Ideal S2176x4608 .bf16) (ix2 r ⟨1024 + l.val, by omega⟩) = a1 m c (ix2 r l) := by
  unfold V
  after_reads_at
  exact congrFun (StableHlo.upto_unwritten [main_cst, main_v0, main_cst_0, main_v1] rfl (by decide) _) _

theorem V5 (l : Fin 1024) : (V m c main_v5 : Vec Ideal S1x1024 .f32) (ix2 0 l) = a3 m c (ix1 l) := by
  unfold V
  after_reads_at

theorem V6 (k : Fin 2048) (l : Fin 1024) : (V m c main_v6 : Vec Ideal S2048x1024 .bf16) (ix2 k l) = a4 m c (ix2 k l) := by
  unfold V
  after_reads_at

/-- Row `r` of point `t`'s block. -/
def row (t : Fin cfg0.N) (r : Fin 544) : Fin 2176 := ⟨t.val * 544 + r.val, by
  have h := t.isLt
  have e : cfg0.N = 4 := by decide
  omega⟩

theorem idx : ∀ t : Fin cfg0.N, win0_0.index t = ![t.val, 0] ∧ win0_1.index t = ![t.val, 1] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

theorem x0_eq (t : Fin cfg0.N) (r : Fin 544) (k : Fin 1024) : (iblk m c 0 t : Vec Ideal S544x1024 .bf16) (ix2 r k) = a0 m c (ix2 (row t r) k) := by
  refine Eq.trans ?_ (V4 m c _ _)
  have e := idx t
  blk_ext [iblk, e, row]

theorem x1_eq (t : Fin cfg0.N) (r : Fin 544) (k : Fin 1024) : (X0_1 m c t : Vec Ideal S544x1024 .bf16) (ix2 r k) = a1 m c (ix2 (row t r) k) := by
  refine Eq.trans ?_ (V3 m c _ _)
  have e := idx t
  unfold X0_1 Pipeline.Window.fill
  rw [dif_pos (moved0_1 t _)]
  blk_ext [iblk, e, row]

theorem x2_eq (t : Fin cfg0.N) (r : Fin 544) (k : Fin 1024) : (iblk m c 2 t : Vec Ideal S544x1024 .f32) (ix2 r k) = a2 m c (ix2 (row t r) k) := by
  refine Eq.trans ?_ (congrFun (V_main_arg2 m c) (ix2 _ _))
  have e := idx t
  blk_ext [iblk, e, row]

theorem x3_eq (t : Fin cfg0.N) (k : Fin 1024) : (iblk m c 3 t : Vec Ideal S1x1024 .f32) (ix2 0 k) = a3 m c (ix1 k) := by
  refine Eq.trans ?_ (V5 m c _)
  have e := idx t
  blk_ext [iblk, e, row]

theorem x4_eq (t : Fin cfg0.N) (r : Fin 2048) (k : Fin 1024) : (iblk m c 4 t : Vec Ideal S2048x1024 .bf16) (ix2 r k) = a4 m c (ix2 r k) := by
  refine Eq.trans ?_ (V6 m c _ _)
  have e := idx t
  blk_ext [iblk, e, row]

theorem x5_eq (t : Fin cfg0.N) (r : Fin 544) (k : Fin 1024) : (iblk m c 5 t : Vec Ideal S544x1024 .f32) (ix2 r k) = a5 m c (ix2 (row t r) k) := by
  refine Eq.trans ?_ (congrFun (V_main_arg5 m c) (ix2 _ _))
  have e := idx t
  blk_ext [iblk, e, row]

theorem sides_eq (t : Fin cfg0.N) (r : Fin 544) (k : Fin 2048) :
    sides (iblk m c 0 t) (X0_1 m c t) (iblk m c 2 t) (iblk m c 3 t) r k = mixed (a0 m c) (a1 m c) (a2 m c) (a3 m c) (row t r) k := by
  unfold sides mixed
  simp only [x0_eq m c t, x1_eq m c t, x2_eq m c t, x3_eq m c t]

/-- The two branches side by side, after the run. -/
theorem final7 : (dats m 0 c).arrAt 7 cfg0.N = fun y => mixed (a0 m c) (a1 m c) (a2 m c) (a3 m c) (y 0) (y 1) := by
  refine (dats m 0 c).arrAt_eq_of_covers 7 _ (by decide +kernel) fun t hf y => ?_
  blk_simp
  rw [after0_7]
  unfold outsAt0
  dsimp only
  rw [out7]
  have e := idx t
  have e0 : (row t (y 0) : Fin 2176) = (win0_7.blk t).view.emb y 0 := Fin.ext (by blk_simp [e, row])
  have e1 : (y 1 : Fin 2048) = (win0_7.blk t).view.emb y 1 := Fin.ext (by blk_simp [e])
  exact (sides_eq m c t (y 0) (y 1)).trans (congrArg₂ (fun (r : Fin 2176) (k : Fin 2048) => mixed (a0 m c) (a1 m c) (a2 m c) (a3 m c) r k) e0 e1)

theorem added_eq (t : Fin cfg0.N) (r : Fin 544) (l : Fin 1024) :
    added (iblk m c 0 t) (X0_1 m c t) (iblk m c 2 t) (iblk m c 3 t) (iblk m c 4 t) (iblk m c 5 t) r l = stream (a0 m c) (a1 m c) (a2 m c) (a3 m c) (a4 m c) (a5 m c) (row t r) l := by
  unfold added stream
  simp only [sides_eq m c t, x4_eq m c t, x5_eq m c t]

/-- The residual stream, after the run. -/
theorem final6 : (dats m 0 c).arrAt 6 cfg0.N = fun y => stream (a0 m c) (a1 m c) (a2 m c) (a3 m c) (a4 m c) (a5 m c) (y 0) (y 1) := by
  refine (dats m 0 c).arrAt_eq_of_covers 6 _ (by decide +kernel) fun t hf y => ?_
  blk_simp
  rw [after0_6]
  unfold outsAt0
  dsimp only
  rw [out6]
  have e := idx t
  have e0 : (row t (y 0) : Fin 2176) = (win0_6.blk t).view.emb y 0 := Fin.ext (by blk_simp [e, row])
  have e1 : (y 1 : Fin 1024) = (win0_6.blk t).view.emb y 1 := Fin.ext (by blk_simp [e])
  exact (added_eq m c t (y 0) (y 1)).trans (congrArg₂ (fun (r : Fin 2176) (l : Fin 1024) => stream (a0 m c) (a1 m c) (a2 m c) (a3 m c) (a4 m c) (a5 m c) r l) e0 e1)

end kernel

section reference

open Cert.Reference5Ideal Cert.Reference5Ideal.Gen Cert.Reference5Ideal.Read

variable (x0 x1 x2 x5 : Vec Ideal S2176x1024 .f32) (x3 : Vec Ideal S1024 .f32) (x4 : Vec Ideal S2048x1024 .f32)

theorem gelu_apply (r : Fin 2176) (l : Fin 1024) : val_main_v12 x1 (ix2 r l) = gelu (x1 (ix2 r l)) := by
  pointwise [val_main_v12, val_main_v11, val_main_v10, val_main_cst_2, val_main_v9, val_main_v8, val_main_cst_1, val_main_v7, val_main_v6, val_main_v5, val_main_cst_0, val_main_v4, val_main_v3, val_main_v2, val_main_cst, val_main_v1, val_main_v0]
  unfold gelu
  rw [mul_comm (Ideal.ofBits .f32 1056964608#32) (x1 (ix2 r l))]
  exact (mul_assoc _ _ _).symm

theorem gated_apply (r : Fin 2176) (l : Fin 1024) : val_main_v13 x1 x2 (ix2 r l) = gelu (x1 (ix2 r l)) * x2 (ix2 r l) := by
  pointwise [val_main_v13]
  rw [gelu_apply]

theorem branch_apply (r : Fin 2176) (l : Fin 1024) :
    val_main_v26 x1 x2 x3 (ix2 r l) = branch (fun k => x1 (ix2 r k)) (fun k => x2 (ix2 r k)) (fun k => x3 (ix1 k)) l := by
  pointwise [val_main_v26, val_main_v25, val_main_v24, val_main_v23, val_main_v22, val_main_v21, val_main_v20, val_main_v19, val_main_cst_5, val_main_v18, val_main_v17, val_main_cst_4, val_main_v16, val_main_v15, val_main_cst_3, val_main_v14]
  simp only [gated_apply]
  rfl

theorem mixed_apply (r : Fin 2176) (k : Fin 2048) : val_main_v27 x0 x1 x2 x3 (ix2 r k) = mixed x0 x1 x2 x3 r k := by
  unfold val_main_v27 mixed
  by_cases hk : k.val < 1024
  · rw [side_lo _ _ _ _ k ⟨k.val, hk⟩ rfl]
    pointwise
    rw [dif_pos hk]
  · rw [side_hi _ _ _ _ k ⟨k.val - 1024, by omega⟩ (by simp only []; omega), ← branch_apply]
    pointwise
    rw [dif_neg hk]

theorem ref30 : val_main_v30 x0 x1 x2 x3 = fun y => mixed x0 x1 x2 x3 (y 0) (y 1) := by
  funext y
  obtain ⟨r, k, rfl⟩ : ∃ (r : Fin 2176) (k : Fin 2048), y = ix2 r k := ⟨y 0, y 1, eq_ix2 y⟩
  exact mixed_apply x0 x1 x2 x3 r k

theorem ref29 : val_main_v29 x0 x1 x2 x3 x4 x5 = fun y => stream x0 x1 x2 x3 x4 x5 (y 0) (y 1) := by
  funext y
  obtain ⟨r, l, rfl⟩ : ∃ (r : Fin 2176) (l : Fin 1024), y = ix2 r l := ⟨y 0, y 1, eq_ix2 y⟩
  pointwise [val_main_v29, val_main_v28]
  simp only [mixed_apply]
  rfl

end reference

end Cert.OutForward
end
-- ==== Proof.lean ====
/- The certificate: each call's frames, the named constants, and the equality of each call's results with its reference's. -/
module

public import proofs.«01_k».proof.Proof.UpArray
public import proofs.«01_k».proof.Proof.Gen.Kernel6Ideal.Frame
public import proofs.«01_k».proof.Proof.Gen.Kernel6Ideal.Loops
public import proofs.«01_k».proof.Proof.Gen.Kernel6
public import proofs.«01_k».proof.Proof.Gen.Reference6Ideal.Run
public import proofs.«01_k».proof.Proof.Gen.Reference6Ideal.Read
public import proofs.«01_k».proof.Proof.Gen.Kernel5Ideal.Frame
public import proofs.«01_k».proof.Proof.Gen.Kernel5Ideal.Value
public import proofs.«01_k».proof.Proof.Gen.Kernel5.Frame
public import proofs.«01_k».proof.Proof.Gen.Reference5Ideal.Run
public import proofs.«01_k».proof.Proof.Gen.Reference5Ideal.Read
public import proofs.«01_k».proof.Proof.Gen.Kernel3Ideal.Frame
public import proofs.«01_k».proof.Proof.Gen.Kernel3Ideal.Loops
public import proofs.«01_k».proof.Proof.Gen.Kernel3
public import proofs.«01_k».proof.Proof.Gen.Reference3Ideal.Run
public import proofs.«01_k».proof.Proof.Gen.Reference3Ideal.Read
public import proofs.«01_k».proof.Proof.Gen.Kernel4Ideal.Frame
public import proofs.«01_k».proof.Proof.Gen.Kernel4Ideal.Value
public import proofs.«01_k».proof.Proof.Gen.Kernel4.Frame
public import proofs.«01_k».proof.Proof.Gen.Reference4Ideal.Run
public import proofs.«01_k».proof.Proof.Gen.Reference4Ideal.Read
public import proofs.«01_k».proof.Proof.Gen.Pre_finite3
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Kernel2Ideal.Loops
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Frame
public import proofs.«01_k».proof.Proof.OutArray
public import proofs.«01_k».proof.Proof.OutRef
public import proofs.«01_k».proof.Proof.Finite
public import proofs.«01_k».proof.Proof.GateArray
public import proofs.«01_k».proof.Proof.GateRef
public import proofs.«01_k».proof.Proof.Finite2
public import proofs.«01_k».proof.Proof.NormFrame
public import proofs.«01_k».proof.Proof.NormArray
public import proofs.«01_k».proof.Proof.NormRef
public import proofs.«01_k».proof.Proof.Finite3
public import proofs.«01_k».proof.Proof.MixWeight
public import proofs.«01_k».proof.Proof.OutForward
public import Idealize.ShloMosaic.Adequacy
public import Idealize.ShloMosaic.Lib.Quiescent
public import Idealize.ShloMosaic.Init

@[expose] public section

noncomputable section

namespace Cert.Proof

open Idealize.ShloMosaic Idealize.ShloMosaic.TcCoe Idealize.SL.Sem

/-- Over finite arguments the kernel and the reference end with equal results: the mixer gradient's two halves, the
    gate's gradient, and the norm weight's gradient, each the same real number at each index. -/
theorem algebraic : Cert.algebraic_KernelIdeal_ReferenceIdeal_pre_finite := by
  intro m g m' g' hpre hag
  have hR := fun c : Dev Cert.KernelIdeal.nD => Cert.Finite.reals (hpre c)
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, fun c => (Cert.KernelIdeal.Gen.dats m 0 c).arrAt 8 Cert.KernelIdeal.cfg0.N,
    Cert.KernelIdeal.Value.run_blocks m g, ?_⟩
  refine (θ_run Cert.ReferenceIdeal.defs _ _).mono (fun r h c => ?_)
    (θ_run_and (Cert.ReferenceIdeal.Gen.run_main (F := Ideal) m' g') (Cert.ReferenceIdeal.Gen.unchanged (F := Ideal) m' g'))
  obtain ⟨p0, p1, p2, p3, p4⟩ := hR c
  obtain ⟨q0, q1, q2, q3, q4⟩ := hag c
  have r0 := fun a b => (congrFun q0 (ix2 a b)).trans (p0 a b)
  have r1 := fun a b => (congrFun q1 (ix2 a b)).trans (p1 a b)
  have r2 := fun a b => (congrFun q2 (ix2 a b)).trans (p2 a b)
  have r3 := fun a b => (congrFun q3 (ix2 a b)).trans (p3 a b)
  have r4 := fun a => (congrFun q4 (ix1 a)).trans (p4 a)
  refine ⟨?_, ?_, ?_, ?_, h.2 c⟩
  · exact ((h.1 c).1 5).trans ((Cert.ReferenceIdeal.OutRef.final5 m' c r0 r1).trans (Cert.KernelIdeal.OutArray.final5 m c p0 p1).symm)
  · exact ((h.1 c).1 6).trans ((Cert.ReferenceIdeal.OutRef.final6 m' c r0 r1 r2 r3 r4).trans (Cert.KernelIdeal.OutArray.final6 m c p0 p1 p2 p3 p4).symm)
  · exact ((h.1 c).1 7).trans ((Cert.ReferenceIdeal.OutRef.final7 m' c r0 r1 r2 r3 r4).trans (Cert.KernelIdeal.OutArray.final7 m c p0 p1 p2 p3 p4).symm)
  · exact ((h.1 c).1 8).trans ((Cert.ReferenceIdeal.OutRef.final8 m' c r0 r1 r2 r3).trans (Cert.KernelIdeal.OutArray.final8 m c p0 p1 p2 p3).symm)

/-- Each named constant's value is the one the certificate's table gives it. -/
theorem preserves : Cert.preserves_Kernel_KernelIdeal := by
  exact ⟨IdealRules.named_const.statement Cert.KernelIdeal.κ _ _ _ _ (by simp [Cert.KernelIdeal.κ]), IdealRules.named_const.statement Cert.KernelIdeal.κ _ _ _ _ (by simp [Cert.KernelIdeal.κ])⟩

/-- The gated product's gradient at machine floats and at ideal ones is the same text: the two programs' bodies agree, label
    by label. -/
theorem body_same {F : FTy → Type} [FloatOps F] : @Cert.Kernel2Ideal.defs₀ F _ _ = @Cert.Kernel2.defs₀ F _ _ := by
  unfold Cert.Kernel2Ideal.defs₀ Cert.Kernel2.defs₀
  refine congrArg Defs.onTc ?_
  funext l a
  match l, a with
  | 0, (t, s) => rfl
  | ⟨_ + 1, h⟩, _ => exact absurd h (Nat.not_lt.2 (Nat.le_add_left _ _))
theorem defs_same {F : FTy → Type} [FloatOps F] : @Cert.Kernel2Ideal.defs F _ _ = @Cert.Kernel2.defs F _ _ := by
  unfold Cert.Kernel2Ideal.defs Cert.Kernel2.defs
  rw [body_same]
  rfl

/-- Each of its runs ends with its arguments unchanged and every semaphore at zero. -/
theorem frame_kernel2 : Cert.quiescent_Kernel2 := fun m ρ _ => by
  have h := Cert.Kernel2Ideal.GateFrame.frame_main (F := Bits) m ρ
  rw [defs_same] at h
  exact h
theorem frame_kernel2_ideal : Cert.quiescent_Kernel2Ideal := fun m ρ _ => Cert.Kernel2Ideal.GateFrame.frame_main m ρ
/-- Its reference ends with its arguments unchanged and every semaphore at zero. -/
theorem frame_reference2 : Cert.quiescent_Reference2Ideal := fun m ρ _ =>
  (θ_run Cert.Reference2Ideal.defs _ _).mono (fun _ h => ⟨fun c => (h c).2.2.2.2.2, sem_eq_zero_of_no_sems rfl _⟩) (Cert.Reference2Ideal.Value.run m ρ)

/-- Over finite arguments the gated product's gradient and the reference end with equal results: the gradients of the
    gate and of the value beside it, and of the down, gate and value weights, each the same real number at each index. -/
theorem algebraic2 : Cert.algebraic_Kernel2Ideal_Reference2Ideal_pre_finite2 := by
  intro m g m' g' hpre hag
  have hR := fun c : Dev Cert.Kernel2Ideal.nD => Cert.Finite2.reals (hpre c)
  refine ⟨fun c => (Cert.Kernel2Ideal.GateFrame.dats m 0 c).arrAt 4 Cert.Kernel2Ideal.cfg0.N, fun c => (Cert.Kernel2Ideal.GateFrame.dats m 0 c).arrAt 5 Cert.Kernel2Ideal.cfg0.N,
    fun c => (Cert.Kernel2Ideal.GateFrame.dats m 0 c).arrAt 6 Cert.Kernel2Ideal.cfg0.N, fun c => (Cert.Kernel2Ideal.GateFrame.dats m 0 c).arrAt 7 Cert.Kernel2Ideal.cfg0.N,
    fun c => (Cert.Kernel2Ideal.GateFrame.dats m 0 c).arrAt 8 Cert.Kernel2Ideal.cfg0.N, ?_, ?_⟩
  · refine (θ_run Cert.Kernel2Ideal.defs _ _).mono (fun r h c => ?_)
      (θ_run_and (Cert.Kernel2Ideal.GateFrame.run_main m g) (Cert.Kernel2Ideal.GateFrame.frame_main m g))
    exact ⟨(h.1.1 c).1 4, (h.1.1 c).1 5, (h.1.1 c).1 6, (h.1.1 c).1 7, (h.1.1 c).1 8, h.2.1 c⟩
  · refine (θ_run Cert.Reference2Ideal.defs _ _).mono (fun r h c => ?_) (Cert.Reference2Ideal.Value.run m' g')
    obtain ⟨p0, p1, p2, p3, p4⟩ := hR c
    obtain ⟨q0, q1, q2, q3, q4⟩ := hag c
    have r0 := fun a b => (congrFun q0 (ix2 a b)).trans (p0 a b)
    have r1 := fun a b => (congrFun q1 (ix2 a b)).trans (p1 a b)
    have r2 := fun a b => (congrFun q2 (ix2 a b)).trans (p2 a b)
    have r3 := fun a b => (congrFun q3 (ix2 a b)).trans (p3 a b)
    have r4 := fun a b => (congrFun q4 (ix2 a b)).trans (p4 a b)
    obtain ⟨e0, e1, e2, e3, e4, hargs⟩ := h c
    refine ⟨?_, ?_, ?_, ?_, ?_, hargs⟩
    · exact (e0.trans (Cert.Reference2Ideal.Read.val_main_v17_eq _ _ _ _ _)).trans
        ((Cert.Reference2Ideal.GateRef.final17 r0 r1 r2 r3 r4).trans (Cert.Kernel2Ideal.GateArray.final4 m c p0 p1 p2 p3 p4).symm)
    · exact (e1.trans (Cert.Reference2Ideal.Read.val_main_v18_eq _ _ _ _)).trans
        ((Cert.Reference2Ideal.GateRef.final18 r0 r1 r3 r4).trans (Cert.Kernel2Ideal.GateArray.final5 m c p0 p1 p3 p4).symm)
    · exact (e2.trans (Cert.Reference2Ideal.Read.val_main_v19_eq _ _ _ _)).trans
        ((Cert.Reference2Ideal.GateRef.final19 r0 r1 r2 r4).trans (Cert.Kernel2Ideal.GateArray.final6 m c p0 p1 p2 p4).symm)
    · exact (e3.trans (Cert.Reference2Ideal.Read.val_main_v20_eq _ _ _ _ _)).trans
        ((Cert.Reference2Ideal.GateRef.final20 r0 r1 r2 r3 r4).trans (Cert.Kernel2Ideal.GateArray.final7 m c p0 p1 p2 p3 p4).symm)
    · exact (e4.trans (Cert.Reference2Ideal.Read.val_main_v21_eq _ _ _ _)).trans
        ((Cert.Reference2Ideal.GateRef.final21 r0 r1 r3 r4).trans (Cert.Kernel2Ideal.GateArray.final8 m c p0 p1 p3 p4).symm)

/-- The gradient through the norm at machine floats and at ideal ones is the same text too. -/
theorem body_same3 {F : FTy → Type} [FloatOps F] : @Cert.Kernel3Ideal.defs₀ F _ _ = @Cert.Kernel3.defs₀ F _ _ := by
  unfold Cert.Kernel3Ideal.defs₀ Cert.Kernel3.defs₀
  refine congrArg Defs.onTc ?_
  funext l a
  match l, a with
  | 0, (t, s) => rfl
  | ⟨_ + 1, h⟩, _ => exact absurd h (Nat.not_lt.2 (Nat.le_add_left _ _))
theorem defs_same3 {F : FTy → Type} [FloatOps F] : @Cert.Kernel3Ideal.defs F _ _ = @Cert.Kernel3.defs F _ _ := by
  unfold Cert.Kernel3Ideal.defs Cert.Kernel3.defs
  rw [body_same3]
  rfl

/-- Each of its runs ends with its arguments unchanged and every semaphore at zero. -/
theorem frame_kernel3 : Cert.quiescent_Kernel3 := fun m ρ _ => by
  have h := Cert.Kernel3Ideal.NormFrame.frame_main (F := Bits) m ρ
  rw [defs_same3] at h
  exact h
theorem frame_kernel3_ideal : Cert.quiescent_Kernel3Ideal := fun m ρ _ => Cert.Kernel3Ideal.NormFrame.frame_main m ρ
/-- Its reference ends with its arguments unchanged and every semaphore at zero. -/
theorem frame_reference3 : Cert.quiescent_Reference3Ideal := fun m ρ _ =>
  (θ_run Cert.Reference3Ideal.defs _ _).mono (fun _ h => ⟨fun c => (h c).2.2.2, sem_eq_zero_of_no_sems rfl _⟩) (Cert.Reference3Ideal.Value.run m ρ)

/-- Over finite arguments the gradient through the norm and the reference end with equal results: the stream's gradient at
    both types, and the norm weight's gradient, each the same real number at each index. -/
theorem algebraic3 : Cert.algebraic_Kernel3Ideal_Reference3Ideal_pre_finite3 := by
  intro m g m' g' hpre hag
  have hR := fun c : Dev Cert.Kernel3Ideal.nD => Cert.Finite3.reals (hpre c)
  refine ⟨fun c => (Cert.Kernel3Ideal.NormFrame.dats m 0 c).arrAt 5 Cert.Kernel3Ideal.cfg0.N, fun c => (Cert.Kernel3Ideal.NormFrame.dats m 0 c).arrAt 6 Cert.Kernel3Ideal.cfg0.N,
    fun c => (Cert.Kernel3Ideal.NormFrame.dats m 0 c).arrAt 7 Cert.Kernel3Ideal.cfg0.N, ?_, ?_⟩
  · refine (θ_run Cert.Kernel3Ideal.defs _ _).mono (fun r h c => ?_)
      (θ_run_and (Cert.Kernel3Ideal.NormFrame.run_main m g) (Cert.Kernel3Ideal.NormFrame.frame_main m g))
    exact ⟨(h.1.1 c).1 5, (h.1.1 c).1 6, (h.1.1 c).1 7, h.2.1 c⟩
  · refine (θ_run Cert.Reference3Ideal.defs _ _).mono (fun r h c => ?_) (Cert.Reference3Ideal.Value.run m' g')
    obtain ⟨p0, p1, p2, p3, p4, p5, p6⟩ := hR c
    obtain ⟨q0, q1, q2, q3, q4, q5, q6⟩ := hag c
    have r0 := fun a b => (congrFun q0 (ix2 a b)).trans (p0 a b)
    have r1 := fun a => (congrFun q1 (ix1 a)).trans (p1 a)
    have r2 := fun a b => (congrFun q2 (ix2 a b)).trans (p2 a b)
    have r3 := fun a b => (congrFun q3 (ix2 a b)).trans (p3 a b)
    have r4 := fun a b => (congrFun q4 (ix2 a b)).trans (p4 a b)
    have r5 := fun a b => (congrFun q5 (ix2 a b)).trans (p5 a b)
    have r6 := fun a b => (congrFun q6 (ix2 a b)).trans (p6 a b)
    obtain ⟨e0, e1, e2, hargs⟩ := h c
    refine ⟨?_, ?_, ?_, hargs⟩
    · exact (e0.trans (Cert.Reference3Ideal.Read.val_main_v41_eq m' c)).trans
        ((Cert.Reference3Ideal.NormRef.final41 r0 r1 r2 r3 r4 r5 r6).trans (Cert.Kernel3Ideal.NormArray.final5 m c p0 p1 p2 p3 p4 p5 p6).symm)
    · exact (e1.trans (Cert.Reference3Ideal.Read.val_main_v42_eq m' c)).trans
        ((Cert.Reference3Ideal.NormRef.final42 r0 r1 r2 r3 r4 r5 r6).trans (Cert.Kernel3Ideal.NormArray.final6 m c p0 p1 p2 p3 p4 p5 p6).symm)
    · exact (e2.trans (Cert.Reference3Ideal.Read.val_main_v43_eq _ _ _ _ _)).trans
        ((Cert.Reference3Ideal.NormRef.final43 r0 r2 r3 r4 r5).trans (Cert.Kernel3Ideal.NormArray.final7 m c p0 p2 p3 p4 p5).symm)

/-- The reference of the output projection's weight ends with its arguments unchanged and every semaphore at zero. -/
theorem frame_reference4 : Cert.quiescent_Reference4Ideal := fun m ρ _ =>
  (θ_run Cert.Reference4Ideal.defs _ _).mono (fun _ h => ⟨fun c => (h c).2, sem_eq_zero_of_no_sems rfl _⟩) (Cert.Reference4Ideal.Value.run m ρ)

/-- The output projection's weight gradient is the reference's, on all arguments: at each entry the same sum of products. -/
theorem algebraic4 : Cert.algebraic_Kernel4Ideal_Reference4Ideal := by
  intro m g m' g' _ hag
  refine ⟨fun c => (Cert.Kernel4Ideal.Gen.dats m 0 c).arrAt 2 Cert.Kernel4Ideal.cfg0.N, Cert.Kernel4Ideal.Value.run_blocks m g, ?_⟩
  refine (θ_run Cert.Reference4Ideal.defs _ _).mono (fun r h c => ⟨?_, (h c).2⟩) (Cert.Reference4Ideal.Value.run m' g')
  refine ((h c).1.trans (Cert.Reference4Ideal.Read.val_main_v3_eq _ _)).trans ((Cert.MixWeight.final3 _ _).trans (Eq.trans ?_ (Cert.MixWeight.final2 m c).symm))
  rw [(hag c).1, (hag c).2.2]
  rfl

/-- The reference of the mixer's output ends with its arguments unchanged and every semaphore at zero. -/
theorem frame_reference5 : Cert.quiescent_Reference5Ideal := fun m ρ _ =>
  (θ_run Cert.Reference5Ideal.defs _ _).mono (fun _ h => ⟨fun c => (h c).2.2, sem_eq_zero_of_no_sems rfl _⟩) (Cert.Reference5Ideal.Value.run m ρ)

/-- The mixer's output is the reference's, on all arguments: at each entry the same operations on the same entries. -/
theorem algebraic5 : Cert.algebraic_Kernel5Ideal_Reference5Ideal := by
  intro m g m' g' _ hag
  refine ⟨fun c => (Cert.Kernel5Ideal.Gen.dats m 0 c).arrAt 6 Cert.Kernel5Ideal.cfg0.N, fun c => (Cert.Kernel5Ideal.Gen.dats m 0 c).arrAt 7 Cert.Kernel5Ideal.cfg0.N,
    Cert.Kernel5Ideal.Value.run_blocks m g, ?_⟩
  refine (θ_run Cert.Reference5Ideal.defs _ _).mono (fun r h c => ⟨?_, ?_, (h c).2.2⟩) (Cert.Reference5Ideal.Value.run m' g')
  · refine ((h c).1.trans (Cert.Reference5Ideal.Read.val_main_v29_eq _ _ _ _ _ _)).trans ((Cert.OutForward.ref29 _ _ _ _ _ _).trans (Eq.trans ?_ (Cert.OutForward.final6 m c).symm))
    rw [(hag c).1, (hag c).2.1, (hag c).2.2.1, (hag c).2.2.2.1, (hag c).2.2.2.2.1, (hag c).2.2.2.2.2]
    rfl
  · refine ((h c).2.1.trans (Cert.Reference5Ideal.Read.val_main_v30_eq _ _ _ _)).trans ((Cert.OutForward.ref30 _ _ _ _).trans (Eq.trans ?_ (Cert.OutForward.final7 m c).symm))
    rw [(hag c).1, (hag c).2.1, (hag c).2.2.1, (hag c).2.2.2.1]
    rfl

/-- SwiGLU's inner products at machine floats and at ideal ones are the same text too. -/
theorem body_same6 {F : FTy → Type} [FloatOps F] : @Cert.Kernel6Ideal.defs₀ F _ _ = @Cert.Kernel6.defs₀ F _ _ := by
  unfold Cert.Kernel6Ideal.defs₀ Cert.Kernel6.defs₀
  refine congrArg Defs.onTc ?_
  funext l a
  match l, a with
  | 0, (t, s) => rfl
  | ⟨_ + 1, h⟩, _ => exact absurd h (Nat.not_lt.2 (Nat.le_add_left _ _))
theorem defs_same6 {F : FTy → Type} [FloatOps F] : @Cert.Kernel6Ideal.defs F _ _ = @Cert.Kernel6.defs F _ _ := by
  unfold Cert.Kernel6Ideal.defs Cert.Kernel6.defs
  rw [body_same6]
  rfl

/-- Each of their runs ends with its arguments unchanged and every semaphore at zero. -/
theorem frame_kernel6 : Cert.quiescent_Kernel6 := fun m ρ _ => by
  have h := Cert.Kernel6Ideal.UpFrame.frame_main (F := Bits) m ρ
  rw [defs_same6] at h
  exact h
theorem frame_kernel6_ideal : Cert.quiescent_Kernel6Ideal := fun m ρ _ => Cert.Kernel6Ideal.UpFrame.frame_main m ρ
/-- Their reference ends with its arguments unchanged and every semaphore at zero. -/
theorem frame_reference6 : Cert.quiescent_Reference6Ideal := fun m ρ _ =>
  (θ_run Cert.Reference6Ideal.defs _ _).mono (fun _ h => ⟨fun c => (h c).2.2.2.2, sem_eq_zero_of_no_sems rfl _⟩) (Cert.Reference6Ideal.Value.run m ρ)

/-- The gate, the value beside it, the gated product and the normed stream are the reference's, on all arguments: at each entry
    the same sums of products, and the logistic function for half a hyperbolic tangent and a half more. -/
theorem algebraic6 : Cert.algebraic_Kernel6Ideal_Reference6Ideal := by
  intro m g m' g' _ hag
  refine ⟨fun c => (Cert.Kernel6Ideal.UpFrame.dats m 0 c).arrAt 2 Cert.Kernel6Ideal.cfg0.N, fun c => (Cert.Kernel6Ideal.UpFrame.dats m 0 c).arrAt 3 Cert.Kernel6Ideal.cfg0.N,
    fun c => (Cert.Kernel6Ideal.UpFrame.dats m 0 c).arrAt 4 Cert.Kernel6Ideal.cfg0.N, fun c => (Cert.Kernel6Ideal.UpFrame.dats m 0 c).arrAt 5 Cert.Kernel6Ideal.cfg0.N, ?_, ?_⟩
  · refine (θ_run Cert.Kernel6Ideal.defs _ _).mono (fun r h c => ?_)
      (θ_run_and (Cert.Kernel6Ideal.UpFrame.run_main m g) (Cert.Kernel6Ideal.UpFrame.frame_main m g))
    exact ⟨(h.1.1 c).1 2, (h.1.1 c).1 3, (h.1.1 c).1 4, (h.1.1 c).1 5, h.2.1 c⟩
  · refine (θ_run Cert.Reference6Ideal.defs _ _).mono (fun r h c => ⟨?_, ?_, ?_, ?_, (h c).2.2.2.2⟩) (Cert.Reference6Ideal.Value.run m' g')
    · refine ((h c).1.trans (Cert.Reference6Ideal.Read.val_main_v17_eq _ _ _)).trans ((Cert.UpArray.ref17 _ _ _).trans (Eq.trans ?_ (Cert.UpArray.final2 m c).symm))
      rw [(hag c).1, (hag c).2.1, (hag c).2.2.1]
      rfl
    · refine ((h c).2.1.trans (Cert.Reference6Ideal.Read.val_main_v18_eq _ _ _)).trans ((Cert.UpArray.ref18 _ _ _).trans (Eq.trans ?_ (Cert.UpArray.final3 m c).symm))
      rw [(hag c).1, (hag c).2.1, (hag c).2.2.2]
      rfl
    · refine ((h c).2.2.1.trans (Cert.Reference6Ideal.Read.val_main_v19_eq _ _ _ _)).trans ((Cert.UpArray.ref19 _ _ _ _).trans (Eq.trans ?_ (Cert.UpArray.final4 m c).symm))
      rw [(hag c).1, (hag c).2.1, (hag c).2.2.1, (hag c).2.2.2]
      rfl
    · refine ((h c).2.2.2.1.trans (Cert.Reference6Ideal.Read.val_main_v20_eq _ _)).trans ((Cert.UpArray.ref20 _ _).trans (Eq.trans ?_ (Cert.UpArray.final5 m c).symm))
      rw [(hag c).1, (hag c).2.1]
      rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_finite2.Gen.facts, Cert.Pre_finite3.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  frame_kernel2, frame_kernel2_ideal, fun m ρ _ => frame_kernel2_ideal m ρ trivial,
  frame_reference2, fun m ρ _ => frame_reference2 m ρ trivial,
  frame_kernel3, frame_kernel3_ideal, fun m ρ _ => frame_kernel3_ideal m ρ trivial,
  frame_reference3, fun m ρ _ => frame_reference3 m ρ trivial,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  frame_kernel6, frame_kernel6_ideal, frame_reference6,
  preserves, algebraic, trivial, algebraic2, trivial, algebraic3, trivial, algebraic4, trivial, algebraic5, trivial, algebraic6⟩

end Cert.Proof

end
